-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FirstKernel (m : (ℓ : Loc Cert.FirstKernel.nD Cert.FirstKernel.τ Cert.FirstKernel.sig) → Buf (Elt Bits) ℓ) : Prop :=
  True

def Pre_FirstKernelIdeal (m : (ℓ : Loc Cert.FirstKernelIdeal.nD Cert.FirstKernelIdeal.τ Cert.FirstKernelIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleReferenceIdeal (m : (ℓ : Loc Cert.SampleReferenceIdeal.nD Cert.SampleReferenceIdeal.τ Cert.SampleReferenceIdeal.sig) → Buf (Elt Ideal) ℓ) : Prop :=
  True

def Pre_SampleFirst (m : (ℓ : Loc Cert.SampleFirst.nD Cert.SampleFirst.τ Cert.SampleFirst.sig) → Buf (Elt Bits) ℓ) : Prop :=
  True

def Pre_SampleFirstIdeal (m : (ℓ : Loc Cert.SampleFirstIdeal.nD Cert.SampleFirstIdeal.τ Cert.SampleFirstIdeal.sig) → Buf (Elt Ideal) ℓ) : Prop :=
  True

def Pre_SampleFirstReferenceIdeal (m : (ℓ : Loc Cert.SampleFirstReferenceIdeal.nD Cert.SampleFirstReferenceIdeal.τ Cert.SampleFirstReferenceIdeal.sig) → Buf (Elt Ideal) ℓ) : Prop :=
  True

def Pre_SampleProject (m : (ℓ : Loc Cert.SampleProject.nD Cert.SampleProject.τ Cert.SampleProject.sig) → Buf (Elt Bits) ℓ) : Prop :=
  True

def Pre_SampleProjectIdeal (m : (ℓ : Loc Cert.SampleProjectIdeal.nD Cert.SampleProjectIdeal.τ Cert.SampleProjectIdeal.sig) → Buf (Elt Ideal) ℓ) : Prop :=
  True

def Pre_SampleProjectReferenceIdeal (m : (ℓ : Loc Cert.SampleProjectReferenceIdeal.nD Cert.SampleProjectReferenceIdeal.τ Cert.SampleProjectReferenceIdeal.sig) → Buf (Elt Ideal) ℓ) : Prop :=
  True

def Pre_SamplePool (m : (ℓ : Loc Cert.SamplePool.nD Cert.SamplePool.τ Cert.SamplePool.sig) → Buf (Elt Bits) ℓ) : Prop :=
  True

def Pre_SamplePoolIdeal (m : (ℓ : Loc Cert.SamplePoolIdeal.nD Cert.SamplePoolIdeal.τ Cert.SamplePoolIdeal.sig) → Buf (Elt Ideal) ℓ) : Prop :=
  True

def Pre_SamplePoolReferenceIdeal (m : (ℓ : Loc Cert.SamplePoolReferenceIdeal.nD Cert.SamplePoolReferenceIdeal.τ Cert.SamplePoolReferenceIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolReferenceIdeal (m : (ℓ : Loc Cert.PoolReferenceIdeal.nD Cert.PoolReferenceIdeal.τ Cert.PoolReferenceIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_FirstKernel [hFirstKernel : Cert.FirstKernel.Facts] : Prop :=
  ∀ (m : (ℓ : Loc Cert.FirstKernel.nD Cert.FirstKernel.τ Cert.FirstKernel.sig) → Buf (Elt Bits) ℓ) (g : Dev Cert.FirstKernel.nD → PrngReg), Pre_FirstKernel m →
    θ_run (Cert.FirstKernel.defs (F := Bits)) (onTc (τ := Cert.FirstKernel.τ) (Cert.FirstKernel.main (F := Bits))) ⟨m, fun _ => 0, g⟩ (fun r => (∀ c : Dev Cert.FirstKernel.nD,
      r.2.mem ((c.tc : Thread Cert.FirstKernel.nD Cert.FirstKernel.τ).loc Cert.FirstKernel.main_arg0) = m ((c.tc : Thread Cert.FirstKernel.nD Cert.FirstKernel.τ).loc Cert.FirstKernel.main_arg0)
      ∧ r.2.mem ((c.tc : Thread Cert.FirstKernel.nD Cert.FirstKernel.τ).loc Cert.FirstKernel.main_arg1) = m ((c.tc : Thread Cert.FirstKernel.nD Cert.FirstKernel.τ).loc Cert.FirstKernel.main_arg1)
      ∧ r.2.mem ((c.tc : Thread Cert.FirstKernel.nD Cert.FirstKernel.τ).loc Cert.FirstKernel.main_arg2) = m ((c.tc : Thread Cert.FirstKernel.nD Cert.FirstKernel.τ).loc Cert.FirstKernel.main_arg2)
      ∧ r.2.mem ((c.tc : Thread Cert.FirstKernel.nD Cert.FirstKernel.τ).loc Cert.FirstKernel.main_arg3) = m ((c.tc : Thread Cert.FirstKernel.nD Cert.FirstKernel.τ).loc Cert.FirstKernel.main_arg3)
      ∧ r.2.mem ((c.tc : Thread Cert.FirstKernel.nD Cert.FirstKernel.τ).loc Cert.FirstKernel.main_arg4) = m ((c.tc : Thread Cert.FirstKernel.nD Cert.FirstKernel.τ).loc Cert.FirstKernel.main_arg4)
      ∧ r.2.mem ((c.tc : Thread Cert.FirstKernel.nD Cert.FirstKernel.τ).loc Cert.FirstKernel.main_arg5) = m ((c.tc : Thread Cert.FirstKernel.nD Cert.FirstKernel.τ).loc Cert.FirstKernel.main_arg5)
      ∧ r.2.mem ((c.tc : Thread Cert.FirstKernel.nD Cert.FirstKernel.τ).loc Cert.FirstKernel.main_arg6) = m ((c.tc : Thread Cert.FirstKernel.nD Cert.FirstKernel.τ).loc Cert.FirstKernel.main_arg6))
      ∧ r.2.sem = fun _ => 0)

def quiescent_FirstKernelIdeal [hFirstKernelIdeal : Cert.FirstKernelIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg), Pre_FirstKernelIdeal m →
    θ_run (Cert.FirstKernelIdeal.defs (F := Ideal)) (onTc (τ := Cert.FirstKernelIdeal.τ) (Cert.FirstKernelIdeal.main (F := Ideal))) ⟨m, fun _ => 0, g⟩ (fun r => (∀ c : Dev Cert.FirstKernelIdeal.nD,
      r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
      ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
      ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
      ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
      ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
      ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
      ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3)
      ∧ r.2.mem ((c.tc : Thread Cert.FirstReferenceIdeal.nD Cert.FirstReferenceIdeal.τ).loc Cert.FirstReferenceIdeal.main_arg4) = m ((c.tc : Thread Cert.FirstReferenceIdeal.nD Cert.FirstReferenceIdeal.τ).loc Cert.FirstReferenceIdeal.main_arg4)
      ∧ r.2.mem ((c.tc : Thread Cert.FirstReferenceIdeal.nD Cert.FirstReferenceIdeal.τ).loc Cert.FirstReferenceIdeal.main_arg5) = m ((c.tc : Thread Cert.FirstReferenceIdeal.nD Cert.FirstReferenceIdeal.τ).loc Cert.FirstReferenceIdeal.main_arg5)
      ∧ r.2.mem ((c.tc : Thread Cert.FirstReferenceIdeal.nD Cert.FirstReferenceIdeal.τ).loc Cert.FirstReferenceIdeal.main_arg6) = m ((c.tc : Thread Cert.FirstReferenceIdeal.nD Cert.FirstReferenceIdeal.τ).loc Cert.FirstReferenceIdeal.main_arg6))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3)
      ∧ r.2.mem ((c.tc : Thread Cert.Project.nD Cert.Project.τ).loc Cert.Project.main_arg4) = m ((c.tc : Thread Cert.Project.nD Cert.Project.τ).loc Cert.Project.main_arg4))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
      ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3)
      ∧ r.2.mem ((c.tc : Thread Cert.ProjectReferenceIdeal.nD Cert.ProjectReferenceIdeal.τ).loc Cert.ProjectReferenceIdeal.main_arg4) = m ((c.tc : Thread Cert.ProjectReferenceIdeal.nD Cert.ProjectReferenceIdeal.τ).loc Cert.ProjectReferenceIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ r.2.sem = fun _ => 0)

def quiescent_SampleReferenceIdeal [hSampleReferenceIdeal : Cert.SampleReferenceIdeal.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9)
      ∧ r.2.mem ((c.tc : Thread Cert.SampleReferenceIdeal.nD Cert.SampleReferenceIdeal.τ).loc Cert.SampleReferenceIdeal.main_arg10) = m ((c.tc : Thread Cert.SampleReferenceIdeal.nD Cert.SampleReferenceIdeal.τ).loc Cert.SampleReferenceIdeal.main_arg10))
      ∧ r.2.sem = fun _ => 0)

def quiescent_SampleFirst [hSampleFirst : Cert.SampleFirst.Facts] : Prop :=
  ∀ (m : (ℓ : Loc Cert.SampleFirst.nD Cert.SampleFirst.τ Cert.SampleFirst.sig) → Buf (Elt Bits) ℓ) (g : Dev Cert.SampleFirst.nD → PrngReg), Pre_SampleFirst m →
    θ_run (Cert.SampleFirst.defs (F := Bits)) (onTc (τ := Cert.SampleFirst.τ) (Cert.SampleFirst.main (F := Bits))) ⟨m, fun _ => 0, g⟩ (fun r => (∀ c : Dev Cert.SampleFirst.nD,
      r.2.mem ((c.tc : Thread Cert.SampleFirst.nD Cert.SampleFirst.τ).loc Cert.SampleFirst.main_arg0) = m ((c.tc : Thread Cert.SampleFirst.nD Cert.SampleFirst.τ).loc Cert.SampleFirst.main_arg0)
      ∧ r.2.mem ((c.tc : Thread Cert.SampleFirst.nD Cert.SampleFirst.τ).loc Cert.SampleFirst.main_arg1) = m ((c.tc : Thread Cert.SampleFirst.nD Cert.SampleFirst.τ).loc Cert.SampleFirst.main_arg1)
      ∧ r.2.mem ((c.tc : Thread Cert.SampleFirst.nD Cert.SampleFirst.τ).loc Cert.SampleFirst.main_arg2) = m ((c.tc : Thread Cert.SampleFirst.nD Cert.SampleFirst.τ).loc Cert.SampleFirst.main_arg2)
      ∧ r.2.mem ((c.tc : Thread Cert.SampleFirst.nD Cert.SampleFirst.τ).loc Cert.SampleFirst.main_arg3) = m ((c.tc : Thread Cert.SampleFirst.nD Cert.SampleFirst.τ).loc Cert.SampleFirst.main_arg3)
      ∧ r.2.mem ((c.tc : Thread Cert.SampleFirst.nD Cert.SampleFirst.τ).loc Cert.SampleFirst.main_arg4) = m ((c.tc : Thread Cert.SampleFirst.nD Cert.SampleFirst.τ).loc Cert.SampleFirst.main_arg4)
      ∧ r.2.mem ((c.tc : Thread Cert.SampleFirst.nD Cert.SampleFirst.τ).loc Cert.SampleFirst.main_arg5) = m ((c.tc : Thread Cert.SampleFirst.nD Cert.SampleFirst.τ).loc Cert.SampleFirst.main_arg5)
      ∧ r.2.mem ((c.tc : Thread Cert.SampleFirst.nD Cert.SampleFirst.τ).loc Cert.SampleFirst.main_arg6) = m ((c.tc : Thread Cert.SampleFirst.nD Cert.SampleFirst.τ).loc Cert.SampleFirst.main_arg6))
      ∧ r.2.sem = fun _ => 0)

def quiescent_SampleFirstIdeal [hSampleFirstIdeal : Cert.SampleFirstIdeal.Facts] : Prop :=
  ∀ (m : (ℓ : Loc Cert.SampleFirstIdeal.nD Cert.SampleFirstIdeal.τ Cert.SampleFirstIdeal.sig) → Buf (Elt Ideal) ℓ) (g : Dev Cert.SampleFirstIdeal.nD → PrngReg), Pre_SampleFirstIdeal m →
    θ_run (Cert.SampleFirstIdeal.defs (F := Ideal)) (onTc (τ := Cert.SampleFirstIdeal.τ) (Cert.SampleFirstIdeal.main (F := Ideal))) ⟨m, fun _ => 0, g⟩ (fun r => (∀ c : Dev Cert.SampleFirstIdeal.nD,
      r.2.mem ((c.tc : Thread Cert.SampleFirstIdeal.nD Cert.SampleFirstIdeal.τ).loc Cert.SampleFirstIdeal.main_arg0) = m ((c.tc : Thread Cert.SampleFirstIdeal.nD Cert.SampleFirstIdeal.τ).loc Cert.SampleFirstIdeal.main_arg0)
      ∧ r.2.mem ((c.tc : Thread Cert.SampleFirstIdeal.nD Cert.SampleFirstIdeal.τ).loc Cert.SampleFirstIdeal.main_arg1) = m ((c.tc : Thread Cert.SampleFirstIdeal.nD Cert.SampleFirstIdeal.τ).loc Cert.SampleFirstIdeal.main_arg1)
      ∧ r.2.mem ((c.tc : Thread Cert.SampleFirstIdeal.nD Cert.SampleFirstIdeal.τ).loc Cert.SampleFirstIdeal.main_arg2) = m ((c.tc : Thread Cert.SampleFirstIdeal.nD Cert.SampleFirstIdeal.τ).loc Cert.SampleFirstIdeal.main_arg2)
      ∧ r.2.mem ((c.tc : Thread Cert.SampleFirstIdeal.nD Cert.SampleFirstIdeal.τ).loc Cert.SampleFirstIdeal.main_arg3) = m ((c.tc : Thread Cert.SampleFirstIdeal.nD Cert.SampleFirstIdeal.τ).loc Cert.SampleFirstIdeal.main_arg3)
      ∧ r.2.mem ((c.tc : Thread Cert.SampleFirstIdeal.nD Cert.SampleFirstIdeal.τ).loc Cert.SampleFirstIdeal.main_arg4) = m ((c.tc : Thread Cert.SampleFirstIdeal.nD Cert.SampleFirstIdeal.τ).loc Cert.SampleFirstIdeal.main_arg4)
      ∧ r.2.mem ((c.tc : Thread Cert.SampleFirstIdeal.nD Cert.SampleFirstIdeal.τ).loc Cert.SampleFirstIdeal.main_arg5) = m ((c.tc : Thread Cert.SampleFirstIdeal.nD Cert.SampleFirstIdeal.τ).loc Cert.SampleFirstIdeal.main_arg5)
      ∧ r.2.mem ((c.tc : Thread Cert.SampleFirstIdeal.nD Cert.SampleFirstIdeal.τ).loc Cert.SampleFirstIdeal.main_arg6) = m ((c.tc : Thread Cert.SampleFirstIdeal.nD Cert.SampleFirstIdeal.τ).loc Cert.SampleFirstIdeal.main_arg6))
      ∧ r.2.sem = fun _ => 0)

def quiescent_SampleFirstReferenceIdeal [hSampleFirstReferenceIdeal : Cert.SampleFirstReferenceIdeal.Facts] : Prop :=
  ∀ (m : (ℓ : Loc Cert.SampleFirstReferenceIdeal.nD Cert.SampleFirstReferenceIdeal.τ Cert.SampleFirstReferenceIdeal.sig) → Buf (Elt Ideal) ℓ) (g : Dev Cert.SampleFirstReferenceIdeal.nD → PrngReg), Pre_SampleFirstReferenceIdeal m →
    θ_run (Cert.SampleFirstReferenceIdeal.defs (F := Ideal)) (onTc (τ := Cert.SampleFirstReferenceIdeal.τ) (Cert.SampleFirstReferenceIdeal.main (F := Ideal))) ⟨m, fun _ => 0, g⟩ (fun r => (∀ c : Dev Cert.SampleFirstReferenceIdeal.nD,
      r.2.mem ((c.tc : Thread Cert.SampleFirstReferenceIdeal.nD Cert.SampleFirstReferenceIdeal.τ).loc Cert.SampleFirstReferenceIdeal.main_arg0) = m ((c.tc : Thread Cert.SampleFirstReferenceIdeal.nD Cert.SampleFirstReferenceIdeal.τ).loc Cert.SampleFirstReferenceIdeal.main_arg0)
      ∧ r.2.mem ((c.tc : Thread Cert.SampleFirstReferenceIdeal.nD Cert.SampleFirstReferenceIdeal.τ).loc Cert.SampleFirstReferenceIdeal.main_arg1) = m ((c.tc : Thread Cert.SampleFirstReferenceIdeal.nD Cert.SampleFirstReferenceIdeal.τ).loc Cert.SampleFirstReferenceIdeal.main_arg1)
      ∧ r.2.mem ((c.tc : Thread Cert.SampleFirstReferenceIdeal.nD Cert.SampleFirstReferenceIdeal.τ).loc Cert.SampleFirstReferenceIdeal.main_arg2) = m ((c.tc : Thread Cert.SampleFirstReferenceIdeal.nD Cert.SampleFirstReferenceIdeal.τ).loc Cert.SampleFirstReferenceIdeal.main_arg2)
      ∧ r.2.mem ((c.tc : Thread Cert.SampleFirstReferenceIdeal.nD Cert.SampleFirstReferenceIdeal.τ).loc Cert.SampleFirstReferenceIdeal.main_arg3) = m ((c.tc : Thread Cert.SampleFirstReferenceIdeal.nD Cert.SampleFirstReferenceIdeal.τ).loc Cert.SampleFirstReferenceIdeal.main_arg3)
      ∧ r.2.mem ((c.tc : Thread Cert.SampleFirstReferenceIdeal.nD Cert.SampleFirstReferenceIdeal.τ).loc Cert.SampleFirstReferenceIdeal.main_arg4) = m ((c.tc : Thread Cert.SampleFirstReferenceIdeal.nD Cert.SampleFirstReferenceIdeal.τ).loc Cert.SampleFirstReferenceIdeal.main_arg4)
      ∧ r.2.mem ((c.tc : Thread Cert.SampleFirstReferenceIdeal.nD Cert.SampleFirstReferenceIdeal.τ).loc Cert.SampleFirstReferenceIdeal.main_arg5) = m ((c.tc : Thread Cert.SampleFirstReferenceIdeal.nD Cert.SampleFirstReferenceIdeal.τ).loc Cert.SampleFirstReferenceIdeal.main_arg5)
      ∧ r.2.mem ((c.tc : Thread Cert.SampleFirstReferenceIdeal.nD Cert.SampleFirstReferenceIdeal.τ).loc Cert.SampleFirstReferenceIdeal.main_arg6) = m ((c.tc : Thread Cert.SampleFirstReferenceIdeal.nD Cert.SampleFirstReferenceIdeal.τ).loc Cert.SampleFirstReferenceIdeal.main_arg6))
      ∧ r.2.sem = fun _ => 0)

def quiescent_SampleProject [hSampleProject : Cert.SampleProject.Facts] : Prop :=
  ∀ (m : (ℓ : Loc Cert.SampleProject.nD Cert.SampleProject.τ Cert.SampleProject.sig) → Buf (Elt Bits) ℓ) (g : Dev Cert.SampleProject.nD → PrngReg), Pre_SampleProject m →
    θ_run (Cert.SampleProject.defs (F := Bits)) (onTc (τ := Cert.SampleProject.τ) (Cert.SampleProject.main (F := Bits))) ⟨m, fun _ => 0, g⟩ (fun r => (∀ c : Dev Cert.SampleProject.nD,
      r.2.mem ((c.tc : Thread Cert.SampleProject.nD Cert.SampleProject.τ).loc Cert.SampleProject.main_arg0) = m ((c.tc : Thread Cert.SampleProject.nD Cert.SampleProject.τ).loc Cert.SampleProject.main_arg0)
      ∧ r.2.mem ((c.tc : Thread Cert.SampleProject.nD Cert.SampleProject.τ).loc Cert.SampleProject.main_arg1) = m ((c.tc : Thread Cert.SampleProject.nD Cert.SampleProject.τ).loc Cert.SampleProject.main_arg1)
      ∧ r.2.mem ((c.tc : Thread Cert.SampleProject.nD Cert.SampleProject.τ).loc Cert.SampleProject.main_arg2) = m ((c.tc : Thread Cert.SampleProject.nD Cert.SampleProject.τ).loc Cert.SampleProject.main_arg2)
      ∧ r.2.mem ((c.tc : Thread Cert.SampleProject.nD Cert.SampleProject.τ).loc Cert.SampleProject.main_arg3) = m ((c.tc : Thread Cert.SampleProject.nD Cert.SampleProject.τ).loc Cert.SampleProject.main_arg3)
      ∧ r.2.mem ((c.tc : Thread Cert.SampleProject.nD Cert.SampleProject.τ).loc Cert.SampleProject.main_arg4) = m ((c.tc : Thread Cert.SampleProject.nD Cert.SampleProject.τ).loc Cert.SampleProject.main_arg4))
      ∧ r.2.sem = fun _ => 0)

def quiescent_SampleProjectIdeal [hSampleProjectIdeal : Cert.SampleProjectIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg), Pre_SampleProjectIdeal m →
    θ_run (Cert.SampleProjectIdeal.defs (F := Ideal)) (onTc (τ := Cert.SampleProjectIdeal.τ) (Cert.SampleProjectIdeal.main (F := Ideal))) ⟨m, fun _ => 0, g⟩ (fun r => (∀ c : Dev Cert.SampleProjectIdeal.nD,
      r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
      ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
      ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2)
      ∧ r.2.mem ((c.tc : Thread Cert.SampleProjectIdeal.nD Cert.SampleProjectIdeal.τ).loc Cert.SampleProjectIdeal.main_arg3) = m ((c.tc : Thread Cert.SampleProjectIdeal.nD Cert.SampleProjectIdeal.τ).loc Cert.SampleProjectIdeal.main_arg3)
      ∧ r.2.mem ((c.tc : Thread Cert.SampleProjectIdeal.nD Cert.SampleProjectIdeal.τ).loc Cert.SampleProjectIdeal.main_arg4) = m ((c.tc : Thread Cert.SampleProjectIdeal.nD Cert.SampleProjectIdeal.τ).loc Cert.SampleProjectIdeal.main_arg4))
      ∧ r.2.sem = fun _ => 0)

def quiescent_SampleProjectReferenceIdeal [hSampleProjectReferenceIdeal : Cert.SampleProjectReferenceIdeal.Facts] : Prop :=
  ∀ (m : (ℓ : Loc Cert.SampleProjectReferenceIdeal.nD Cert.SampleProjectReferenceIdeal.τ Cert.SampleProjectReferenceIdeal.sig) → Buf (Elt Ideal) ℓ) (g : Dev Cert.SampleProjectReferenceIdeal.nD → PrngReg), Pre_SampleProjectReferenceIdeal m →
    θ_run (Cert.SampleProjectReferenceIdeal.defs (F := Ideal)) (onTc (τ := Cert.SampleProjectReferenceIdeal.τ) (Cert.SampleProjectReferenceIdeal.main (F := Ideal))) ⟨m, fun _ => 0, g⟩ (fun r => (∀ c : Dev Cert.SampleProjectReferenceIdeal.nD,
      r.2.mem ((c.tc : Thread Cert.SampleProjectReferenceIdeal.nD Cert.SampleProjectReferenceIdeal.τ).loc Cert.SampleProjectReferenceIdeal.main_arg0) = m ((c.tc : Thread Cert.SampleProjectReferenceIdeal.nD Cert.SampleProjectReferenceIdeal.τ).loc Cert.SampleProjectReferenceIdeal.main_arg0)
      ∧ r.2.mem ((c.tc : Thread Cert.SampleProjectReferenceIdeal.nD Cert.SampleProjectReferenceIdeal.τ).loc Cert.SampleProjectReferenceIdeal.main_arg1) = m ((c.tc : Thread Cert.SampleProjectReferenceIdeal.nD Cert.SampleProjectReferenceIdeal.τ).loc Cert.SampleProjectReferenceIdeal.main_arg1)
      ∧ r.2.mem ((c.tc : Thread Cert.SampleProjectReferenceIdeal.nD Cert.SampleProjectReferenceIdeal.τ).loc Cert.SampleProjectReferenceIdeal.main_arg2) = m ((c.tc : Thread Cert.SampleProjectReferenceIdeal.nD Cert.SampleProjectReferenceIdeal.τ).loc Cert.SampleProjectReferenceIdeal.main_arg2)
      ∧ r.2.mem ((c.tc : Thread Cert.SampleProjectReferenceIdeal.nD Cert.SampleProjectReferenceIdeal.τ).loc Cert.SampleProjectReferenceIdeal.main_arg3) = m ((c.tc : Thread Cert.SampleProjectReferenceIdeal.nD Cert.SampleProjectReferenceIdeal.τ).loc Cert.SampleProjectReferenceIdeal.main_arg3)
      ∧ r.2.mem ((c.tc : Thread Cert.SampleProjectReferenceIdeal.nD Cert.SampleProjectReferenceIdeal.τ).loc Cert.SampleProjectReferenceIdeal.main_arg4) = m ((c.tc : Thread Cert.SampleProjectReferenceIdeal.nD Cert.SampleProjectReferenceIdeal.τ).loc Cert.SampleProjectReferenceIdeal.main_arg4))
      ∧ r.2.sem = fun _ => 0)

def quiescent_SamplePool [hSamplePool : Cert.SamplePool.Facts] : Prop :=
  ∀ (m : (ℓ : Loc Cert.SamplePool.nD Cert.SamplePool.τ Cert.SamplePool.sig) → Buf (Elt Bits) ℓ) (g : Dev Cert.SamplePool.nD → PrngReg), Pre_SamplePool m →
    θ_run (Cert.SamplePool.defs (F := Bits)) (onTc (τ := Cert.SamplePool.τ) (Cert.SamplePool.main (F := Bits))) ⟨m, fun _ => 0, g⟩ (fun r => (∀ c : Dev Cert.SamplePool.nD,
      r.2.mem ((c.tc : Thread Cert.SamplePool.nD Cert.SamplePool.τ).loc Cert.SamplePool.main_arg0) = m ((c.tc : Thread Cert.SamplePool.nD Cert.SamplePool.τ).loc Cert.SamplePool.main_arg0)
      ∧ r.2.mem ((c.tc : Thread Cert.SamplePool.nD Cert.SamplePool.τ).loc Cert.SamplePool.main_arg1) = m ((c.tc : Thread Cert.SamplePool.nD Cert.SamplePool.τ).loc Cert.SamplePool.main_arg1)
      ∧ r.2.mem ((c.tc : Thread Cert.SamplePool.nD Cert.SamplePool.τ).loc Cert.SamplePool.main_arg2) = m ((c.tc : Thread Cert.SamplePool.nD Cert.SamplePool.τ).loc Cert.SamplePool.main_arg2)
      ∧ r.2.mem ((c.tc : Thread Cert.SamplePool.nD Cert.SamplePool.τ).loc Cert.SamplePool.main_arg3) = m ((c.tc : Thread Cert.SamplePool.nD Cert.SamplePool.τ).loc Cert.SamplePool.main_arg3)
      ∧ r.2.mem ((c.tc : Thread Cert.SamplePool.nD Cert.SamplePool.τ).loc Cert.SamplePool.main_arg4) = m ((c.tc : Thread Cert.SamplePool.nD Cert.SamplePool.τ).loc Cert.SamplePool.main_arg4)
      ∧ r.2.mem ((c.tc : Thread Cert.SamplePool.nD Cert.SamplePool.τ).loc Cert.SamplePool.main_arg5) = m ((c.tc : Thread Cert.SamplePool.nD Cert.SamplePool.τ).loc Cert.SamplePool.main_arg5)
      ∧ r.2.mem ((c.tc : Thread Cert.SamplePool.nD Cert.SamplePool.τ).loc Cert.SamplePool.main_arg6) = m ((c.tc : Thread Cert.SamplePool.nD Cert.SamplePool.τ).loc Cert.SamplePool.main_arg6)
      ∧ r.2.mem ((c.tc : Thread Cert.SamplePool.nD Cert.SamplePool.τ).loc Cert.SamplePool.main_arg7) = m ((c.tc : Thread Cert.SamplePool.nD Cert.SamplePool.τ).loc Cert.SamplePool.main_arg7))
      ∧ r.2.sem = fun _ => 0)

def quiescent_SamplePoolIdeal [hSamplePoolIdeal : Cert.SamplePoolIdeal.Facts] : Prop :=
  ∀ (m : (ℓ : Loc Cert.SamplePoolIdeal.nD Cert.SamplePoolIdeal.τ Cert.SamplePoolIdeal.sig) → Buf (Elt Ideal) ℓ) (g : Dev Cert.SamplePoolIdeal.nD → PrngReg), Pre_SamplePoolIdeal m →
    θ_run (Cert.SamplePoolIdeal.defs (F := Ideal)) (onTc (τ := Cert.SamplePoolIdeal.τ) (Cert.SamplePoolIdeal.main (F := Ideal))) ⟨m, fun _ => 0, g⟩ (fun r => (∀ c : Dev Cert.SamplePoolIdeal.nD,
      r.2.mem ((c.tc : Thread Cert.SamplePoolIdeal.nD Cert.SamplePoolIdeal.τ).loc Cert.SamplePoolIdeal.main_arg0) = m ((c.tc : Thread Cert.SamplePoolIdeal.nD Cert.SamplePoolIdeal.τ).loc Cert.SamplePoolIdeal.main_arg0)
      ∧ r.2.mem ((c.tc : Thread Cert.SamplePoolIdeal.nD Cert.SamplePoolIdeal.τ).loc Cert.SamplePoolIdeal.main_arg1) = m ((c.tc : Thread Cert.SamplePoolIdeal.nD Cert.SamplePoolIdeal.τ).loc Cert.SamplePoolIdeal.main_arg1)
      ∧ r.2.mem ((c.tc : Thread Cert.SamplePoolIdeal.nD Cert.SamplePoolIdeal.τ).loc Cert.SamplePoolIdeal.main_arg2) = m ((c.tc : Thread Cert.SamplePoolIdeal.nD Cert.SamplePoolIdeal.τ).loc Cert.SamplePoolIdeal.main_arg2)
      ∧ r.2.mem ((c.tc : Thread Cert.SamplePoolIdeal.nD Cert.SamplePoolIdeal.τ).loc Cert.SamplePoolIdeal.main_arg3) = m ((c.tc : Thread Cert.SamplePoolIdeal.nD Cert.SamplePoolIdeal.τ).loc Cert.SamplePoolIdeal.main_arg3)
      ∧ r.2.mem ((c.tc : Thread Cert.SamplePoolIdeal.nD Cert.SamplePoolIdeal.τ).loc Cert.SamplePoolIdeal.main_arg4) = m ((c.tc : Thread Cert.SamplePoolIdeal.nD Cert.SamplePoolIdeal.τ).loc Cert.SamplePoolIdeal.main_arg4)
      ∧ r.2.mem ((c.tc : Thread Cert.SamplePoolIdeal.nD Cert.SamplePoolIdeal.τ).loc Cert.SamplePoolIdeal.main_arg5) = m ((c.tc : Thread Cert.SamplePoolIdeal.nD Cert.SamplePoolIdeal.τ).loc Cert.SamplePoolIdeal.main_arg5)
      ∧ r.2.mem ((c.tc : Thread Cert.SamplePoolIdeal.nD Cert.SamplePoolIdeal.τ).loc Cert.SamplePoolIdeal.main_arg6) = m ((c.tc : Thread Cert.SamplePoolIdeal.nD Cert.SamplePoolIdeal.τ).loc Cert.SamplePoolIdeal.main_arg6)
      ∧ r.2.mem ((c.tc : Thread Cert.SamplePoolIdeal.nD Cert.SamplePoolIdeal.τ).loc Cert.SamplePoolIdeal.main_arg7) = m ((c.tc : Thread Cert.SamplePoolIdeal.nD Cert.SamplePoolIdeal.τ).loc Cert.SamplePoolIdeal.main_arg7))
      ∧ r.2.sem = fun _ => 0)

def quiescent_SamplePoolReferenceIdeal [hSamplePoolReferenceIdeal : Cert.SamplePoolReferenceIdeal.Facts] : Prop :=
  ∀ (m : (ℓ : Loc Cert.SamplePoolReferenceIdeal.nD Cert.SamplePoolReferenceIdeal.τ Cert.SamplePoolReferenceIdeal.sig) → Buf (Elt Ideal) ℓ) (g : Dev Cert.SamplePoolReferenceIdeal.nD → PrngReg), Pre_SamplePoolReferenceIdeal m →
    θ_run (Cert.SamplePoolReferenceIdeal.defs (F := Ideal)) (onTc (τ := Cert.SamplePoolReferenceIdeal.τ) (Cert.SamplePoolReferenceIdeal.main (F := Ideal))) ⟨m, fun _ => 0, g⟩ (fun r => (∀ c : Dev Cert.SamplePoolReferenceIdeal.nD,
      r.2.mem ((c.tc : Thread Cert.SamplePoolReferenceIdeal.nD Cert.SamplePoolReferenceIdeal.τ).loc Cert.SamplePoolReferenceIdeal.main_arg0) = m ((c.tc : Thread Cert.SamplePoolReferenceIdeal.nD Cert.SamplePoolReferenceIdeal.τ).loc Cert.SamplePoolReferenceIdeal.main_arg0)
      ∧ r.2.mem ((c.tc : Thread Cert.SamplePoolReferenceIdeal.nD Cert.SamplePoolReferenceIdeal.τ).loc Cert.SamplePoolReferenceIdeal.main_arg1) = m ((c.tc : Thread Cert.SamplePoolReferenceIdeal.nD Cert.SamplePoolReferenceIdeal.τ).loc Cert.SamplePoolReferenceIdeal.main_arg1)
      ∧ r.2.mem ((c.tc : Thread Cert.SamplePoolReferenceIdeal.nD Cert.SamplePoolReferenceIdeal.τ).loc Cert.SamplePoolReferenceIdeal.main_arg2) = m ((c.tc : Thread Cert.SamplePoolReferenceIdeal.nD Cert.SamplePoolReferenceIdeal.τ).loc Cert.SamplePoolReferenceIdeal.main_arg2)
      ∧ r.2.mem ((c.tc : Thread Cert.SamplePoolReferenceIdeal.nD Cert.SamplePoolReferenceIdeal.τ).loc Cert.SamplePoolReferenceIdeal.main_arg3) = m ((c.tc : Thread Cert.SamplePoolReferenceIdeal.nD Cert.SamplePoolReferenceIdeal.τ).loc Cert.SamplePoolReferenceIdeal.main_arg3)
      ∧ r.2.mem ((c.tc : Thread Cert.SamplePoolReferenceIdeal.nD Cert.SamplePoolReferenceIdeal.τ).loc Cert.SamplePoolReferenceIdeal.main_arg4) = m ((c.tc : Thread Cert.SamplePoolReferenceIdeal.nD Cert.SamplePoolReferenceIdeal.τ).loc Cert.SamplePoolReferenceIdeal.main_arg4)
      ∧ r.2.mem ((c.tc : Thread Cert.SamplePoolReferenceIdeal.nD Cert.SamplePoolReferenceIdeal.τ).loc Cert.SamplePoolReferenceIdeal.main_arg5) = m ((c.tc : Thread Cert.SamplePoolReferenceIdeal.nD Cert.SamplePoolReferenceIdeal.τ).loc Cert.SamplePoolReferenceIdeal.main_arg5)
      ∧ r.2.mem ((c.tc : Thread Cert.SamplePoolReferenceIdeal.nD Cert.SamplePoolReferenceIdeal.τ).loc Cert.SamplePoolReferenceIdeal.main_arg6) = m ((c.tc : Thread Cert.SamplePoolReferenceIdeal.nD Cert.SamplePoolReferenceIdeal.τ).loc Cert.SamplePoolReferenceIdeal.main_arg6)
      ∧ r.2.mem ((c.tc : Thread Cert.SamplePoolReferenceIdeal.nD Cert.SamplePoolReferenceIdeal.τ).loc Cert.SamplePoolReferenceIdeal.main_arg7) = m ((c.tc : Thread Cert.SamplePoolReferenceIdeal.nD Cert.SamplePoolReferenceIdeal.τ).loc Cert.SamplePoolReferenceIdeal.main_arg7))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3)
      ∧ r.2.mem ((c.tc : Thread Cert.Pool.nD Cert.Pool.τ).loc Cert.Pool.main_arg4) = m ((c.tc : Thread Cert.Pool.nD Cert.Pool.τ).loc Cert.Pool.main_arg4)
      ∧ r.2.mem ((c.tc : Thread Cert.Pool.nD Cert.Pool.τ).loc Cert.Pool.main_arg5) = m ((c.tc : Thread Cert.Pool.nD Cert.Pool.τ).loc Cert.Pool.main_arg5)
      ∧ r.2.mem ((c.tc : Thread Cert.Pool.nD Cert.Pool.τ).loc Cert.Pool.main_arg6) = m ((c.tc : Thread Cert.Pool.nD Cert.Pool.τ).loc Cert.Pool.main_arg6))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0)

def quiescent_PoolReferenceIdeal [hPoolReferenceIdeal : Cert.PoolReferenceIdeal.Facts] : Prop :=
  ∀ (m : (ℓ : Loc Cert.PoolReferenceIdeal.nD Cert.PoolReferenceIdeal.τ Cert.PoolReferenceIdeal.sig) → Buf (Elt Ideal) ℓ) (g : Dev Cert.PoolReferenceIdeal.nD → PrngReg), Pre_PoolReferenceIdeal m →
    θ_run (Cert.PoolReferenceIdeal.defs (F := Ideal)) (onTc (τ := Cert.PoolReferenceIdeal.τ) (Cert.PoolReferenceIdeal.main (F := Ideal))) ⟨m, fun _ => 0, g⟩ (fun r => (∀ c : Dev Cert.PoolReferenceIdeal.nD,
      r.2.mem ((c.tc : Thread Cert.PoolReferenceIdeal.nD Cert.PoolReferenceIdeal.τ).loc Cert.PoolReferenceIdeal.main_arg0) = m ((c.tc : Thread Cert.PoolReferenceIdeal.nD Cert.PoolReferenceIdeal.τ).loc Cert.PoolReferenceIdeal.main_arg0)
      ∧ r.2.mem ((c.tc : Thread Cert.PoolReferenceIdeal.nD Cert.PoolReferenceIdeal.τ).loc Cert.PoolReferenceIdeal.main_arg1) = m ((c.tc : Thread Cert.PoolReferenceIdeal.nD Cert.PoolReferenceIdeal.τ).loc Cert.PoolReferenceIdeal.main_arg1)
      ∧ r.2.mem ((c.tc : Thread Cert.PoolReferenceIdeal.nD Cert.PoolReferenceIdeal.τ).loc Cert.PoolReferenceIdeal.main_arg2) = m ((c.tc : Thread Cert.PoolReferenceIdeal.nD Cert.PoolReferenceIdeal.τ).loc Cert.PoolReferenceIdeal.main_arg2)
      ∧ r.2.mem ((c.tc : Thread Cert.PoolReferenceIdeal.nD Cert.PoolReferenceIdeal.τ).loc Cert.PoolReferenceIdeal.main_arg3) = m ((c.tc : Thread Cert.PoolReferenceIdeal.nD Cert.PoolReferenceIdeal.τ).loc Cert.PoolReferenceIdeal.main_arg3)
      ∧ r.2.mem ((c.tc : Thread Cert.PoolReferenceIdeal.nD Cert.PoolReferenceIdeal.τ).loc Cert.PoolReferenceIdeal.main_arg4) = m ((c.tc : Thread Cert.PoolReferenceIdeal.nD Cert.PoolReferenceIdeal.τ).loc Cert.PoolReferenceIdeal.main_arg4)
      ∧ r.2.mem ((c.tc : Thread Cert.PoolReferenceIdeal.nD Cert.PoolReferenceIdeal.τ).loc Cert.PoolReferenceIdeal.main_arg5) = m ((c.tc : Thread Cert.PoolReferenceIdeal.nD Cert.PoolReferenceIdeal.τ).loc Cert.PoolReferenceIdeal.main_arg5)
      ∧ r.2.mem ((c.tc : Thread Cert.PoolReferenceIdeal.nD Cert.PoolReferenceIdeal.τ).loc Cert.PoolReferenceIdeal.main_arg6) = m ((c.tc : Thread Cert.PoolReferenceIdeal.nD Cert.PoolReferenceIdeal.τ).loc Cert.PoolReferenceIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2)
      ∧ r.2.mem ((c.tc : Thread Cert.ModReferenceIdeal.nD Cert.ModReferenceIdeal.τ).loc Cert.ModReferenceIdeal.main_arg3) = m ((c.tc : Thread Cert.ModReferenceIdeal.nD Cert.ModReferenceIdeal.τ).loc Cert.ModReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_FirstKernel_FirstKernelIdeal : Prop :=
  True

def algebraic_FirstKernelIdeal_FirstReferenceIdeal [hFirstKernelIdeal : Cert.FirstKernelIdeal.Facts] [hFirstReferenceIdeal : Cert.FirstReferenceIdeal.Facts] : Prop :=
  ∀ (m : (ℓ : Loc Cert.FirstKernelIdeal.nD Cert.FirstKernelIdeal.τ Cert.FirstKernelIdeal.sig) → Buf (Elt Ideal) ℓ) (g : Dev Cert.FirstKernelIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstKernelIdeal m →
    (∀ c : Dev Cert.FirstKernelIdeal.nD,
      m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)) →
    ∃ (v0 : (c : Dev Cert.FirstKernelIdeal.nD) → Buf (Elt Ideal) ((c.tc : Thread Cert.FirstKernelIdeal.nD Cert.FirstKernelIdeal.τ).loc Cert.FirstKernelIdeal.main_v3)),
      θ_run (Cert.FirstKernelIdeal.defs (F := Ideal)) (onTc (τ := Cert.FirstKernelIdeal.τ) (Cert.FirstKernelIdeal.main (F := Ideal))) ⟨m, fun _ => 0, g⟩ (fun r => ∀ c : Dev Cert.FirstKernelIdeal.nD,
          r.2.mem ((c.tc : Thread Cert.FirstKernelIdeal.nD Cert.FirstKernelIdeal.τ).loc Cert.FirstKernelIdeal.main_v3) = v0 c
          ∧ r.2.mem ((c.tc : Thread Cert.FirstKernelIdeal.nD Cert.FirstKernelIdeal.τ).loc Cert.FirstKernelIdeal.main_arg0) = m ((c.tc : Thread Cert.FirstKernelIdeal.nD Cert.FirstKernelIdeal.τ).loc Cert.FirstKernelIdeal.main_arg0)
          ∧ r.2.mem ((c.tc : Thread Cert.FirstKernelIdeal.nD Cert.FirstKernelIdeal.τ).loc Cert.FirstKernelIdeal.main_arg1) = m ((c.tc : Thread Cert.FirstKernelIdeal.nD Cert.FirstKernelIdeal.τ).loc Cert.FirstKernelIdeal.main_arg1)
          ∧ r.2.mem ((c.tc : Thread Cert.FirstKernelIdeal.nD Cert.FirstKernelIdeal.τ).loc Cert.FirstKernelIdeal.main_arg2) = m ((c.tc : Thread Cert.FirstKernelIdeal.nD Cert.FirstKernelIdeal.τ).loc Cert.FirstKernelIdeal.main_arg2)
          ∧ r.2.mem ((c.tc : Thread Cert.FirstKernelIdeal.nD Cert.FirstKernelIdeal.τ).loc Cert.FirstKernelIdeal.main_arg3) = m ((c.tc : Thread Cert.FirstKernelIdeal.nD Cert.FirstKernelIdeal.τ).loc Cert.FirstKernelIdeal.main_arg3)
          ∧ r.2.mem ((c.tc : Thread Cert.FirstKernelIdeal.nD Cert.FirstKernelIdeal.τ).loc Cert.FirstKernelIdeal.main_arg4) = m ((c.tc : Thread Cert.FirstKernelIdeal.nD Cert.FirstKernelIdeal.τ).loc Cert.FirstKernelIdeal.main_arg4)
          ∧ r.2.mem ((c.tc : Thread Cert.FirstKernelIdeal.nD Cert.FirstKernelIdeal.τ).loc Cert.FirstKernelIdeal.main_arg5) = m ((c.tc : Thread Cert.FirstKernelIdeal.nD Cert.FirstKernelIdeal.τ).loc Cert.FirstKernelIdeal.main_arg5)
          ∧ r.2.mem ((c.tc : Thread Cert.FirstKernelIdeal.nD Cert.FirstKernelIdeal.τ).loc Cert.FirstKernelIdeal.main_arg6) = m ((c.tc : Thread Cert.FirstKernelIdeal.nD Cert.FirstKernelIdeal.τ).loc Cert.FirstKernelIdeal.main_arg6))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v27) = v0 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3)
          ∧ r.2.mem ((c.tc : Thread Cert.FirstReferenceIdeal.nD Cert.FirstReferenceIdeal.τ).loc Cert.FirstReferenceIdeal.main_arg4) = m' ((c.tc : Thread Cert.FirstReferenceIdeal.nD Cert.FirstReferenceIdeal.τ).loc Cert.FirstReferenceIdeal.main_arg4)
          ∧ r.2.mem ((c.tc : Thread Cert.FirstReferenceIdeal.nD Cert.FirstReferenceIdeal.τ).loc Cert.FirstReferenceIdeal.main_arg5) = m' ((c.tc : Thread Cert.FirstReferenceIdeal.nD Cert.FirstReferenceIdeal.τ).loc Cert.FirstReferenceIdeal.main_arg5)
          ∧ r.2.mem ((c.tc : Thread Cert.FirstReferenceIdeal.nD Cert.FirstReferenceIdeal.τ).loc Cert.FirstReferenceIdeal.main_arg6) = m' ((c.tc : Thread Cert.FirstReferenceIdeal.nD Cert.FirstReferenceIdeal.τ).loc Cert.FirstReferenceIdeal.main_arg6))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)) →
    ∃ (v0 : (c : Dev Cert.ProjectIdeal.nD) → Buf (Elt Ideal) ((c.tc : Thread Cert.ProjectIdeal.nD Cert.ProjectIdeal.τ).loc Cert.ProjectIdeal.main_v3_0)) (v1 : (c : Dev Cert.ProjectIdeal.nD) → Buf (Elt Ideal) ((c.tc : Thread Cert.ProjectIdeal.nD Cert.ProjectIdeal.τ).loc Cert.ProjectIdeal.main_v3_1)) (v2 : (c : Dev Cert.ProjectIdeal.nD) → Buf (Elt Ideal) ((c.tc : Thread Cert.ProjectIdeal.nD Cert.ProjectIdeal.τ).loc Cert.ProjectIdeal.main_v3_2)) (v3 : (c : Dev Cert.ProjectIdeal.nD) → Buf (Elt Ideal) ((c.tc : Thread Cert.ProjectIdeal.nD Cert.ProjectIdeal.τ).loc Cert.ProjectIdeal.main_v3_3)) (v4 : (c : Dev Cert.ProjectIdeal.nD) → Buf (Elt Ideal) ((c.tc : Thread Cert.ProjectIdeal.nD Cert.ProjectIdeal.τ).loc Cert.ProjectIdeal.main_v3_4)) (v5 : (c : Dev Cert.ProjectIdeal.nD) → Buf (Elt Ideal) ((c.tc : Thread Cert.ProjectIdeal.nD Cert.ProjectIdeal.τ).loc Cert.ProjectIdeal.main_v3_5)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v3_0) = v0 c
          ∧ r.2.mem ((c.tc : Thread Cert.ProjectIdeal.nD Cert.ProjectIdeal.τ).loc Cert.ProjectIdeal.main_v3_1) = v1 c
          ∧ r.2.mem ((c.tc : Thread Cert.ProjectIdeal.nD Cert.ProjectIdeal.τ).loc Cert.ProjectIdeal.main_v3_2) = v2 c
          ∧ r.2.mem ((c.tc : Thread Cert.ProjectIdeal.nD Cert.ProjectIdeal.τ).loc Cert.ProjectIdeal.main_v3_3) = v3 c
          ∧ r.2.mem ((c.tc : Thread Cert.ProjectIdeal.nD Cert.ProjectIdeal.τ).loc Cert.ProjectIdeal.main_v3_4) = v4 c
          ∧ r.2.mem ((c.tc : Thread Cert.ProjectIdeal.nD Cert.ProjectIdeal.τ).loc Cert.ProjectIdeal.main_v3_5) = v5 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3)
          ∧ r.2.mem ((c.tc : Thread Cert.ProjectIdeal.nD Cert.ProjectIdeal.τ).loc Cert.ProjectIdeal.main_arg4) = m ((c.tc : Thread Cert.ProjectIdeal.nD Cert.ProjectIdeal.τ).loc Cert.ProjectIdeal.main_arg4))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v36) = v0 c
          ∧ r.2.mem ((c.tc : Thread Cert.ProjectReferenceIdeal.nD Cert.ProjectReferenceIdeal.τ).loc Cert.ProjectReferenceIdeal.main_v38) = v1 c
          ∧ r.2.mem ((c.tc : Thread Cert.ProjectReferenceIdeal.nD Cert.ProjectReferenceIdeal.τ).loc Cert.ProjectReferenceIdeal.main_v39) = v2 c
          ∧ r.2.mem ((c.tc : Thread Cert.ProjectReferenceIdeal.nD Cert.ProjectReferenceIdeal.τ).loc Cert.ProjectReferenceIdeal.main_v40) = v3 c
          ∧ r.2.mem ((c.tc : Thread Cert.ProjectReferenceIdeal.nD Cert.ProjectReferenceIdeal.τ).loc Cert.ProjectReferenceIdeal.main_v42) = v4 c
          ∧ r.2.mem ((c.tc : Thread Cert.ProjectReferenceIdeal.nD Cert.ProjectReferenceIdeal.τ).loc Cert.ProjectReferenceIdeal.main_v44) = v5 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3)
          ∧ r.2.mem ((c.tc : Thread Cert.ProjectReferenceIdeal.nD Cert.ProjectReferenceIdeal.τ).loc Cert.ProjectReferenceIdeal.main_arg4) = m' ((c.tc : Thread Cert.ProjectReferenceIdeal.nD Cert.ProjectReferenceIdeal.τ).loc Cert.ProjectReferenceIdeal.main_arg4))

def preserves_Sample_SampleIdeal : Prop :=
  True

def algebraic_SampleIdeal_SampleReferenceIdeal [hSampleIdeal : Cert.SampleIdeal.Facts] [hSampleReferenceIdeal : Cert.SampleReferenceIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)) →
    ∃ (v0 : (c : Dev Cert.SampleIdeal.nD) → Buf (Elt Ideal) ((c.tc : Thread Cert.SampleIdeal.nD Cert.SampleIdeal.τ).loc Cert.SampleIdeal.main_v16)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v16) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v45) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9)
          ∧ r.2.mem ((c.tc : Thread Cert.SampleReferenceIdeal.nD Cert.SampleReferenceIdeal.τ).loc Cert.SampleReferenceIdeal.main_arg10) = m' ((c.tc : Thread Cert.SampleReferenceIdeal.nD Cert.SampleReferenceIdeal.τ).loc Cert.SampleReferenceIdeal.main_arg10))

def preserves_SampleFirst_SampleFirstIdeal : Prop :=
  True

def algebraic_SampleFirstIdeal_SampleFirstReferenceIdeal [hSampleFirstIdeal : Cert.SampleFirstIdeal.Facts] [hSampleFirstReferenceIdeal : Cert.SampleFirstReferenceIdeal.Facts] : Prop :=
  ∀ (m : (ℓ : Loc Cert.SampleFirstIdeal.nD Cert.SampleFirstIdeal.τ Cert.SampleFirstIdeal.sig) → Buf (Elt Ideal) ℓ) (g : Dev Cert.SampleFirstIdeal.nD → PrngReg)
    (m' : (ℓ : Loc Cert.SampleFirstReferenceIdeal.nD Cert.SampleFirstReferenceIdeal.τ Cert.SampleFirstReferenceIdeal.sig) → Buf (Elt Ideal) ℓ) (g' : Dev Cert.SampleFirstReferenceIdeal.nD → PrngReg), Pre_SampleFirstIdeal m →
    (∀ c : Dev Cert.SampleFirstIdeal.nD,
      m' ((c.tc : Thread Cert.SampleFirstReferenceIdeal.nD Cert.SampleFirstReferenceIdeal.τ).loc Cert.SampleFirstReferenceIdeal.main_arg0) = m ((c.tc : Thread Cert.SampleFirstIdeal.nD Cert.SampleFirstIdeal.τ).loc Cert.SampleFirstIdeal.main_arg0)
      ∧ m' ((c.tc : Thread Cert.SampleFirstReferenceIdeal.nD Cert.SampleFirstReferenceIdeal.τ).loc Cert.SampleFirstReferenceIdeal.main_arg1) = m ((c.tc : Thread Cert.SampleFirstIdeal.nD Cert.SampleFirstIdeal.τ).loc Cert.SampleFirstIdeal.main_arg1)
      ∧ m' ((c.tc : Thread Cert.SampleFirstReferenceIdeal.nD Cert.SampleFirstReferenceIdeal.τ).loc Cert.SampleFirstReferenceIdeal.main_arg2) = m ((c.tc : Thread Cert.SampleFirstIdeal.nD Cert.SampleFirstIdeal.τ).loc Cert.SampleFirstIdeal.main_arg2)
      ∧ m' ((c.tc : Thread Cert.SampleFirstReferenceIdeal.nD Cert.SampleFirstReferenceIdeal.τ).loc Cert.SampleFirstReferenceIdeal.main_arg3) = m ((c.tc : Thread Cert.SampleFirstIdeal.nD Cert.SampleFirstIdeal.τ).loc Cert.SampleFirstIdeal.main_arg3)
      ∧ m' ((c.tc : Thread Cert.SampleFirstReferenceIdeal.nD Cert.SampleFirstReferenceIdeal.τ).loc Cert.SampleFirstReferenceIdeal.main_arg4) = m ((c.tc : Thread Cert.SampleFirstIdeal.nD Cert.SampleFirstIdeal.τ).loc Cert.SampleFirstIdeal.main_arg4)
      ∧ m' ((c.tc : Thread Cert.SampleFirstReferenceIdeal.nD Cert.SampleFirstReferenceIdeal.τ).loc Cert.SampleFirstReferenceIdeal.main_arg5) = m ((c.tc : Thread Cert.SampleFirstIdeal.nD Cert.SampleFirstIdeal.τ).loc Cert.SampleFirstIdeal.main_arg5)
      ∧ m' ((c.tc : Thread Cert.SampleFirstReferenceIdeal.nD Cert.SampleFirstReferenceIdeal.τ).loc Cert.SampleFirstReferenceIdeal.main_arg6) = m ((c.tc : Thread Cert.SampleFirstIdeal.nD Cert.SampleFirstIdeal.τ).loc Cert.SampleFirstIdeal.main_arg6)) →
    ∃ (v0 : (c : Dev Cert.SampleFirstIdeal.nD) → Buf (Elt Ideal) ((c.tc : Thread Cert.SampleFirstIdeal.nD Cert.SampleFirstIdeal.τ).loc Cert.SampleFirstIdeal.main_v10)),
      θ_run (Cert.SampleFirstIdeal.defs (F := Ideal)) (onTc (τ := Cert.SampleFirstIdeal.τ) (Cert.SampleFirstIdeal.main (F := Ideal))) ⟨m, fun _ => 0, g⟩ (fun r => ∀ c : Dev Cert.SampleFirstIdeal.nD,
          r.2.mem ((c.tc : Thread Cert.SampleFirstIdeal.nD Cert.SampleFirstIdeal.τ).loc Cert.SampleFirstIdeal.main_v10) = v0 c
          ∧ r.2.mem ((c.tc : Thread Cert.SampleFirstIdeal.nD Cert.SampleFirstIdeal.τ).loc Cert.SampleFirstIdeal.main_arg0) = m ((c.tc : Thread Cert.SampleFirstIdeal.nD Cert.SampleFirstIdeal.τ).loc Cert.SampleFirstIdeal.main_arg0)
          ∧ r.2.mem ((c.tc : Thread Cert.SampleFirstIdeal.nD Cert.SampleFirstIdeal.τ).loc Cert.SampleFirstIdeal.main_arg1) = m ((c.tc : Thread Cert.SampleFirstIdeal.nD Cert.SampleFirstIdeal.τ).loc Cert.SampleFirstIdeal.main_arg1)
          ∧ r.2.mem ((c.tc : Thread Cert.SampleFirstIdeal.nD Cert.SampleFirstIdeal.τ).loc Cert.SampleFirstIdeal.main_arg2) = m ((c.tc : Thread Cert.SampleFirstIdeal.nD Cert.SampleFirstIdeal.τ).loc Cert.SampleFirstIdeal.main_arg2)
          ∧ r.2.mem ((c.tc : Thread Cert.SampleFirstIdeal.nD Cert.SampleFirstIdeal.τ).loc Cert.SampleFirstIdeal.main_arg3) = m ((c.tc : Thread Cert.SampleFirstIdeal.nD Cert.SampleFirstIdeal.τ).loc Cert.SampleFirstIdeal.main_arg3)
          ∧ r.2.mem ((c.tc : Thread Cert.SampleFirstIdeal.nD Cert.SampleFirstIdeal.τ).loc Cert.SampleFirstIdeal.main_arg4) = m ((c.tc : Thread Cert.SampleFirstIdeal.nD Cert.SampleFirstIdeal.τ).loc Cert.SampleFirstIdeal.main_arg4)
          ∧ r.2.mem ((c.tc : Thread Cert.SampleFirstIdeal.nD Cert.SampleFirstIdeal.τ).loc Cert.SampleFirstIdeal.main_arg5) = m ((c.tc : Thread Cert.SampleFirstIdeal.nD Cert.SampleFirstIdeal.τ).loc Cert.SampleFirstIdeal.main_arg5)
          ∧ r.2.mem ((c.tc : Thread Cert.SampleFirstIdeal.nD Cert.SampleFirstIdeal.τ).loc Cert.SampleFirstIdeal.main_arg6) = m ((c.tc : Thread Cert.SampleFirstIdeal.nD Cert.SampleFirstIdeal.τ).loc Cert.SampleFirstIdeal.main_arg6))
      ∧ θ_run (Cert.SampleFirstReferenceIdeal.defs (F := Ideal)) (onTc (τ := Cert.SampleFirstReferenceIdeal.τ) (Cert.SampleFirstReferenceIdeal.main (F := Ideal))) ⟨m', fun _ => 0, g'⟩ (fun r => ∀ c : Dev Cert.SampleFirstReferenceIdeal.nD,
          r.2.mem ((c.tc : Thread Cert.SampleFirstReferenceIdeal.nD Cert.SampleFirstReferenceIdeal.τ).loc Cert.SampleFirstReferenceIdeal.main_v28) = v0 c
          ∧ r.2.mem ((c.tc : Thread Cert.SampleFirstReferenceIdeal.nD Cert.SampleFirstReferenceIdeal.τ).loc Cert.SampleFirstReferenceIdeal.main_arg0) = m' ((c.tc : Thread Cert.SampleFirstReferenceIdeal.nD Cert.SampleFirstReferenceIdeal.τ).loc Cert.SampleFirstReferenceIdeal.main_arg0)
          ∧ r.2.mem ((c.tc : Thread Cert.SampleFirstReferenceIdeal.nD Cert.SampleFirstReferenceIdeal.τ).loc Cert.SampleFirstReferenceIdeal.main_arg1) = m' ((c.tc : Thread Cert.SampleFirstReferenceIdeal.nD Cert.SampleFirstReferenceIdeal.τ).loc Cert.SampleFirstReferenceIdeal.main_arg1)
          ∧ r.2.mem ((c.tc : Thread Cert.SampleFirstReferenceIdeal.nD Cert.SampleFirstReferenceIdeal.τ).loc Cert.SampleFirstReferenceIdeal.main_arg2) = m' ((c.tc : Thread Cert.SampleFirstReferenceIdeal.nD Cert.SampleFirstReferenceIdeal.τ).loc Cert.SampleFirstReferenceIdeal.main_arg2)
          ∧ r.2.mem ((c.tc : Thread Cert.SampleFirstReferenceIdeal.nD Cert.SampleFirstReferenceIdeal.τ).loc Cert.SampleFirstReferenceIdeal.main_arg3) = m' ((c.tc : Thread Cert.SampleFirstReferenceIdeal.nD Cert.SampleFirstReferenceIdeal.τ).loc Cert.SampleFirstReferenceIdeal.main_arg3)
          ∧ r.2.mem ((c.tc : Thread Cert.SampleFirstReferenceIdeal.nD Cert.SampleFirstReferenceIdeal.τ).loc Cert.SampleFirstReferenceIdeal.main_arg4) = m' ((c.tc : Thread Cert.SampleFirstReferenceIdeal.nD Cert.SampleFirstReferenceIdeal.τ).loc Cert.SampleFirstReferenceIdeal.main_arg4)
          ∧ r.2.mem ((c.tc : Thread Cert.SampleFirstReferenceIdeal.nD Cert.SampleFirstReferenceIdeal.τ).loc Cert.SampleFirstReferenceIdeal.main_arg5) = m' ((c.tc : Thread Cert.SampleFirstReferenceIdeal.nD Cert.SampleFirstReferenceIdeal.τ).loc Cert.SampleFirstReferenceIdeal.main_arg5)
          ∧ r.2.mem ((c.tc : Thread Cert.SampleFirstReferenceIdeal.nD Cert.SampleFirstReferenceIdeal.τ).loc Cert.SampleFirstReferenceIdeal.main_arg6) = m' ((c.tc : Thread Cert.SampleFirstReferenceIdeal.nD Cert.SampleFirstReferenceIdeal.τ).loc Cert.SampleFirstReferenceIdeal.main_arg6))

def preserves_SampleProject_SampleProjectIdeal : Prop :=
  True

def algebraic_SampleProjectIdeal_SampleProjectReferenceIdeal [hSampleProjectIdeal : Cert.SampleProjectIdeal.Facts] [hSampleProjectReferenceIdeal : Cert.SampleProjectReferenceIdeal.Facts] : Prop :=
  ∀ (m : (ℓ : Loc Cert.SampleProjectIdeal.nD Cert.SampleProjectIdeal.τ Cert.SampleProjectIdeal.sig) → Buf (Elt Ideal) ℓ) (g : Dev Cert.SampleProjectIdeal.nD → PrngReg)
    (m' : (ℓ : Loc Cert.SampleProjectReferenceIdeal.nD Cert.SampleProjectReferenceIdeal.τ Cert.SampleProjectReferenceIdeal.sig) → Buf (Elt Ideal) ℓ) (g' : Dev Cert.SampleProjectReferenceIdeal.nD → PrngReg), Pre_SampleProjectIdeal m →
    (∀ c : Dev Cert.SampleProjectIdeal.nD,
      m' ((c.tc : Thread Cert.SampleProjectReferenceIdeal.nD Cert.SampleProjectReferenceIdeal.τ).loc Cert.SampleProjectReferenceIdeal.main_arg0) = m ((c.tc : Thread Cert.SampleProjectIdeal.nD Cert.SampleProjectIdeal.τ).loc Cert.SampleProjectIdeal.main_arg0)
      ∧ m' ((c.tc : Thread Cert.SampleProjectReferenceIdeal.nD Cert.SampleProjectReferenceIdeal.τ).loc Cert.SampleProjectReferenceIdeal.main_arg1) = m ((c.tc : Thread Cert.SampleProjectIdeal.nD Cert.SampleProjectIdeal.τ).loc Cert.SampleProjectIdeal.main_arg1)
      ∧ m' ((c.tc : Thread Cert.SampleProjectReferenceIdeal.nD Cert.SampleProjectReferenceIdeal.τ).loc Cert.SampleProjectReferenceIdeal.main_arg2) = m ((c.tc : Thread Cert.SampleProjectIdeal.nD Cert.SampleProjectIdeal.τ).loc Cert.SampleProjectIdeal.main_arg2)
      ∧ m' ((c.tc : Thread Cert.SampleProjectReferenceIdeal.nD Cert.SampleProjectReferenceIdeal.τ).loc Cert.SampleProjectReferenceIdeal.main_arg3) = m ((c.tc : Thread Cert.SampleProjectIdeal.nD Cert.SampleProjectIdeal.τ).loc Cert.SampleProjectIdeal.main_arg3)
      ∧ m' ((c.tc : Thread Cert.SampleProjectReferenceIdeal.nD Cert.SampleProjectReferenceIdeal.τ).loc Cert.SampleProjectReferenceIdeal.main_arg4) = m ((c.tc : Thread Cert.SampleProjectIdeal.nD Cert.SampleProjectIdeal.τ).loc Cert.SampleProjectIdeal.main_arg4)) →
    ∃ (v0 : (c : Dev Cert.SampleProjectIdeal.nD) → Buf (Elt Ideal) ((c.tc : Thread Cert.SampleProjectIdeal.nD Cert.SampleProjectIdeal.τ).loc Cert.SampleProjectIdeal.main_v8_0)) (v1 : (c : Dev Cert.SampleProjectIdeal.nD) → Buf (Elt Ideal) ((c.tc : Thread Cert.SampleProjectIdeal.nD Cert.SampleProjectIdeal.τ).loc Cert.SampleProjectIdeal.main_v8_1)) (v2 : (c : Dev Cert.SampleProjectIdeal.nD) → Buf (Elt Ideal) ((c.tc : Thread Cert.SampleProjectIdeal.nD Cert.SampleProjectIdeal.τ).loc Cert.SampleProjectIdeal.main_v8_2)) (v3 : (c : Dev Cert.SampleProjectIdeal.nD) → Buf (Elt Ideal) ((c.tc : Thread Cert.SampleProjectIdeal.nD Cert.SampleProjectIdeal.τ).loc Cert.SampleProjectIdeal.main_v8_3)) (v4 : (c : Dev Cert.SampleProjectIdeal.nD) → Buf (Elt Ideal) ((c.tc : Thread Cert.SampleProjectIdeal.nD Cert.SampleProjectIdeal.τ).loc Cert.SampleProjectIdeal.main_v8_4)) (v5 : (c : Dev Cert.SampleProjectIdeal.nD) → Buf (Elt Ideal) ((c.tc : Thread Cert.SampleProjectIdeal.nD Cert.SampleProjectIdeal.τ).loc Cert.SampleProjectIdeal.main_v8_5)),
      θ_run (Cert.SampleProjectIdeal.defs (F := Ideal)) (onTc (τ := Cert.SampleProjectIdeal.τ) (Cert.SampleProjectIdeal.main (F := Ideal))) ⟨m, fun _ => 0, g⟩ (fun r => ∀ c : Dev Cert.SampleProjectIdeal.nD,
          r.2.mem ((c.tc : Thread Cert.SampleProjectIdeal.nD Cert.SampleProjectIdeal.τ).loc Cert.SampleProjectIdeal.main_v8_0) = v0 c
          ∧ r.2.mem ((c.tc : Thread Cert.SampleProjectIdeal.nD Cert.SampleProjectIdeal.τ).loc Cert.SampleProjectIdeal.main_v8_1) = v1 c
          ∧ r.2.mem ((c.tc : Thread Cert.SampleProjectIdeal.nD Cert.SampleProjectIdeal.τ).loc Cert.SampleProjectIdeal.main_v8_2) = v2 c
          ∧ r.2.mem ((c.tc : Thread Cert.SampleProjectIdeal.nD Cert.SampleProjectIdeal.τ).loc Cert.SampleProjectIdeal.main_v8_3) = v3 c
          ∧ r.2.mem ((c.tc : Thread Cert.SampleProjectIdeal.nD Cert.SampleProjectIdeal.τ).loc Cert.SampleProjectIdeal.main_v8_4) = v4 c
          ∧ r.2.mem ((c.tc : Thread Cert.SampleProjectIdeal.nD Cert.SampleProjectIdeal.τ).loc Cert.SampleProjectIdeal.main_v8_5) = v5 c
          ∧ r.2.mem ((c.tc : Thread Cert.SampleProjectIdeal.nD Cert.SampleProjectIdeal.τ).loc Cert.SampleProjectIdeal.main_arg0) = m ((c.tc : Thread Cert.SampleProjectIdeal.nD Cert.SampleProjectIdeal.τ).loc Cert.SampleProjectIdeal.main_arg0)
          ∧ r.2.mem ((c.tc : Thread Cert.SampleProjectIdeal.nD Cert.SampleProjectIdeal.τ).loc Cert.SampleProjectIdeal.main_arg1) = m ((c.tc : Thread Cert.SampleProjectIdeal.nD Cert.SampleProjectIdeal.τ).loc Cert.SampleProjectIdeal.main_arg1)
          ∧ r.2.mem ((c.tc : Thread Cert.SampleProjectIdeal.nD Cert.SampleProjectIdeal.τ).loc Cert.SampleProjectIdeal.main_arg2) = m ((c.tc : Thread Cert.SampleProjectIdeal.nD Cert.SampleProjectIdeal.τ).loc Cert.SampleProjectIdeal.main_arg2)
          ∧ r.2.mem ((c.tc : Thread Cert.SampleProjectIdeal.nD Cert.SampleProjectIdeal.τ).loc Cert.SampleProjectIdeal.main_arg3) = m ((c.tc : Thread Cert.SampleProjectIdeal.nD Cert.SampleProjectIdeal.τ).loc Cert.SampleProjectIdeal.main_arg3)
          ∧ r.2.mem ((c.tc : Thread Cert.SampleProjectIdeal.nD Cert.SampleProjectIdeal.τ).loc Cert.SampleProjectIdeal.main_arg4) = m ((c.tc : Thread Cert.SampleProjectIdeal.nD Cert.SampleProjectIdeal.τ).loc Cert.SampleProjectIdeal.main_arg4))
      ∧ θ_run (Cert.SampleProjectReferenceIdeal.defs (F := Ideal)) (onTc (τ := Cert.SampleProjectReferenceIdeal.τ) (Cert.SampleProjectReferenceIdeal.main (F := Ideal))) ⟨m', fun _ => 0, g'⟩ (fun r => ∀ c : Dev Cert.SampleProjectReferenceIdeal.nD,
          r.2.mem ((c.tc : Thread Cert.SampleProjectReferenceIdeal.nD Cert.SampleProjectReferenceIdeal.τ).loc Cert.SampleProjectReferenceIdeal.main_v37) = v0 c
          ∧ r.2.mem ((c.tc : Thread Cert.SampleProjectReferenceIdeal.nD Cert.SampleProjectReferenceIdeal.τ).loc Cert.SampleProjectReferenceIdeal.main_v39) = v1 c
          ∧ r.2.mem ((c.tc : Thread Cert.SampleProjectReferenceIdeal.nD Cert.SampleProjectReferenceIdeal.τ).loc Cert.SampleProjectReferenceIdeal.main_v41) = v2 c
          ∧ r.2.mem ((c.tc : Thread Cert.SampleProjectReferenceIdeal.nD Cert.SampleProjectReferenceIdeal.τ).loc Cert.SampleProjectReferenceIdeal.main_v43) = v3 c
          ∧ r.2.mem ((c.tc : Thread Cert.SampleProjectReferenceIdeal.nD Cert.SampleProjectReferenceIdeal.τ).loc Cert.SampleProjectReferenceIdeal.main_v45) = v4 c
          ∧ r.2.mem ((c.tc : Thread Cert.SampleProjectReferenceIdeal.nD Cert.SampleProjectReferenceIdeal.τ).loc Cert.SampleProjectReferenceIdeal.main_v47) = v5 c
          ∧ r.2.mem ((c.tc : Thread Cert.SampleProjectReferenceIdeal.nD Cert.SampleProjectReferenceIdeal.τ).loc Cert.SampleProjectReferenceIdeal.main_arg0) = m' ((c.tc : Thread Cert.SampleProjectReferenceIdeal.nD Cert.SampleProjectReferenceIdeal.τ).loc Cert.SampleProjectReferenceIdeal.main_arg0)
          ∧ r.2.mem ((c.tc : Thread Cert.SampleProjectReferenceIdeal.nD Cert.SampleProjectReferenceIdeal.τ).loc Cert.SampleProjectReferenceIdeal.main_arg1) = m' ((c.tc : Thread Cert.SampleProjectReferenceIdeal.nD Cert.SampleProjectReferenceIdeal.τ).loc Cert.SampleProjectReferenceIdeal.main_arg1)
          ∧ r.2.mem ((c.tc : Thread Cert.SampleProjectReferenceIdeal.nD Cert.SampleProjectReferenceIdeal.τ).loc Cert.SampleProjectReferenceIdeal.main_arg2) = m' ((c.tc : Thread Cert.SampleProjectReferenceIdeal.nD Cert.SampleProjectReferenceIdeal.τ).loc Cert.SampleProjectReferenceIdeal.main_arg2)
          ∧ r.2.mem ((c.tc : Thread Cert.SampleProjectReferenceIdeal.nD Cert.SampleProjectReferenceIdeal.τ).loc Cert.SampleProjectReferenceIdeal.main_arg3) = m' ((c.tc : Thread Cert.SampleProjectReferenceIdeal.nD Cert.SampleProjectReferenceIdeal.τ).loc Cert.SampleProjectReferenceIdeal.main_arg3)
          ∧ r.2.mem ((c.tc : Thread Cert.SampleProjectReferenceIdeal.nD Cert.SampleProjectReferenceIdeal.τ).loc Cert.SampleProjectReferenceIdeal.main_arg4) = m' ((c.tc : Thread Cert.SampleProjectReferenceIdeal.nD Cert.SampleProjectReferenceIdeal.τ).loc Cert.SampleProjectReferenceIdeal.main_arg4))

def preserves_SamplePool_SamplePoolIdeal : Prop :=
  True

def algebraic_SamplePoolIdeal_SamplePoolReferenceIdeal [hSamplePoolIdeal : Cert.SamplePoolIdeal.Facts] [hSamplePoolReferenceIdeal : Cert.SamplePoolReferenceIdeal.Facts] : Prop :=
  ∀ (m : (ℓ : Loc Cert.SamplePoolIdeal.nD Cert.SamplePoolIdeal.τ Cert.SamplePoolIdeal.sig) → Buf (Elt Ideal) ℓ) (g : Dev Cert.SamplePoolIdeal.nD → PrngReg)
    (m' : (ℓ : Loc Cert.SamplePoolReferenceIdeal.nD Cert.SamplePoolReferenceIdeal.τ Cert.SamplePoolReferenceIdeal.sig) → Buf (Elt Ideal) ℓ) (g' : Dev Cert.SamplePoolReferenceIdeal.nD → PrngReg), Pre_SamplePoolIdeal m →
    (∀ c : Dev Cert.SamplePoolIdeal.nD,
      m' ((c.tc : Thread Cert.SamplePoolReferenceIdeal.nD Cert.SamplePoolReferenceIdeal.τ).loc Cert.SamplePoolReferenceIdeal.main_arg0) = m ((c.tc : Thread Cert.SamplePoolIdeal.nD Cert.SamplePoolIdeal.τ).loc Cert.SamplePoolIdeal.main_arg0)
      ∧ m' ((c.tc : Thread Cert.SamplePoolReferenceIdeal.nD Cert.SamplePoolReferenceIdeal.τ).loc Cert.SamplePoolReferenceIdeal.main_arg1) = m ((c.tc : Thread Cert.SamplePoolIdeal.nD Cert.SamplePoolIdeal.τ).loc Cert.SamplePoolIdeal.main_arg1)
      ∧ m' ((c.tc : Thread Cert.SamplePoolReferenceIdeal.nD Cert.SamplePoolReferenceIdeal.τ).loc Cert.SamplePoolReferenceIdeal.main_arg2) = m ((c.tc : Thread Cert.SamplePoolIdeal.nD Cert.SamplePoolIdeal.τ).loc Cert.SamplePoolIdeal.main_arg2)
      ∧ m' ((c.tc : Thread Cert.SamplePoolReferenceIdeal.nD Cert.SamplePoolReferenceIdeal.τ).loc Cert.SamplePoolReferenceIdeal.main_arg3) = m ((c.tc : Thread Cert.SamplePoolIdeal.nD Cert.SamplePoolIdeal.τ).loc Cert.SamplePoolIdeal.main_arg3)
      ∧ m' ((c.tc : Thread Cert.SamplePoolReferenceIdeal.nD Cert.SamplePoolReferenceIdeal.τ).loc Cert.SamplePoolReferenceIdeal.main_arg4) = m ((c.tc : Thread Cert.SamplePoolIdeal.nD Cert.SamplePoolIdeal.τ).loc Cert.SamplePoolIdeal.main_arg4)
      ∧ m' ((c.tc : Thread Cert.SamplePoolReferenceIdeal.nD Cert.SamplePoolReferenceIdeal.τ).loc Cert.SamplePoolReferenceIdeal.main_arg5) = m ((c.tc : Thread Cert.SamplePoolIdeal.nD Cert.SamplePoolIdeal.τ).loc Cert.SamplePoolIdeal.main_arg5)
      ∧ m' ((c.tc : Thread Cert.SamplePoolReferenceIdeal.nD Cert.SamplePoolReferenceIdeal.τ).loc Cert.SamplePoolReferenceIdeal.main_arg6) = m ((c.tc : Thread Cert.SamplePoolIdeal.nD Cert.SamplePoolIdeal.τ).loc Cert.SamplePoolIdeal.main_arg6)
      ∧ m' ((c.tc : Thread Cert.SamplePoolReferenceIdeal.nD Cert.SamplePoolReferenceIdeal.τ).loc Cert.SamplePoolReferenceIdeal.main_arg7) = m ((c.tc : Thread Cert.SamplePoolIdeal.nD Cert.SamplePoolIdeal.τ).loc Cert.SamplePoolIdeal.main_arg7)) →
    ∃ (v0 : (c : Dev Cert.SamplePoolIdeal.nD) → Buf (Elt Ideal) ((c.tc : Thread Cert.SamplePoolIdeal.nD Cert.SamplePoolIdeal.τ).loc Cert.SamplePoolIdeal.main_v5_1)),
      θ_run (Cert.SamplePoolIdeal.defs (F := Ideal)) (onTc (τ := Cert.SamplePoolIdeal.τ) (Cert.SamplePoolIdeal.main (F := Ideal))) ⟨m, fun _ => 0, g⟩ (fun r => ∀ c : Dev Cert.SamplePoolIdeal.nD,
          r.2.mem ((c.tc : Thread Cert.SamplePoolIdeal.nD Cert.SamplePoolIdeal.τ).loc Cert.SamplePoolIdeal.main_v5_1) = v0 c
          ∧ r.2.mem ((c.tc : Thread Cert.SamplePoolIdeal.nD Cert.SamplePoolIdeal.τ).loc Cert.SamplePoolIdeal.main_arg0) = m ((c.tc : Thread Cert.SamplePoolIdeal.nD Cert.SamplePoolIdeal.τ).loc Cert.SamplePoolIdeal.main_arg0)
          ∧ r.2.mem ((c.tc : Thread Cert.SamplePoolIdeal.nD Cert.SamplePoolIdeal.τ).loc Cert.SamplePoolIdeal.main_arg1) = m ((c.tc : Thread Cert.SamplePoolIdeal.nD Cert.SamplePoolIdeal.τ).loc Cert.SamplePoolIdeal.main_arg1)
          ∧ r.2.mem ((c.tc : Thread Cert.SamplePoolIdeal.nD Cert.SamplePoolIdeal.τ).loc Cert.SamplePoolIdeal.main_arg2) = m ((c.tc : Thread Cert.SamplePoolIdeal.nD Cert.SamplePoolIdeal.τ).loc Cert.SamplePoolIdeal.main_arg2)
          ∧ r.2.mem ((c.tc : Thread Cert.SamplePoolIdeal.nD Cert.SamplePoolIdeal.τ).loc Cert.SamplePoolIdeal.main_arg3) = m ((c.tc : Thread Cert.SamplePoolIdeal.nD Cert.SamplePoolIdeal.τ).loc Cert.SamplePoolIdeal.main_arg3)
          ∧ r.2.mem ((c.tc : Thread Cert.SamplePoolIdeal.nD Cert.SamplePoolIdeal.τ).loc Cert.SamplePoolIdeal.main_arg4) = m ((c.tc : Thread Cert.SamplePoolIdeal.nD Cert.SamplePoolIdeal.τ).loc Cert.SamplePoolIdeal.main_arg4)
          ∧ r.2.mem ((c.tc : Thread Cert.SamplePoolIdeal.nD Cert.SamplePoolIdeal.τ).loc Cert.SamplePoolIdeal.main_arg5) = m ((c.tc : Thread Cert.SamplePoolIdeal.nD Cert.SamplePoolIdeal.τ).loc Cert.SamplePoolIdeal.main_arg5)
          ∧ r.2.mem ((c.tc : Thread Cert.SamplePoolIdeal.nD Cert.SamplePoolIdeal.τ).loc Cert.SamplePoolIdeal.main_arg6) = m ((c.tc : Thread Cert.SamplePoolIdeal.nD Cert.SamplePoolIdeal.τ).loc Cert.SamplePoolIdeal.main_arg6)
          ∧ r.2.mem ((c.tc : Thread Cert.SamplePoolIdeal.nD Cert.SamplePoolIdeal.τ).loc Cert.SamplePoolIdeal.main_arg7) = m ((c.tc : Thread Cert.SamplePoolIdeal.nD Cert.SamplePoolIdeal.τ).loc Cert.SamplePoolIdeal.main_arg7))
      ∧ θ_run (Cert.SamplePoolReferenceIdeal.defs (F := Ideal)) (onTc (τ := Cert.SamplePoolReferenceIdeal.τ) (Cert.SamplePoolReferenceIdeal.main (F := Ideal))) ⟨m', fun _ => 0, g'⟩ (fun r => ∀ c : Dev Cert.SamplePoolReferenceIdeal.nD,
          r.2.mem ((c.tc : Thread Cert.SamplePoolReferenceIdeal.nD Cert.SamplePoolReferenceIdeal.τ).loc Cert.SamplePoolReferenceIdeal.main_v20) = v0 c
          ∧ r.2.mem ((c.tc : Thread Cert.SamplePoolReferenceIdeal.nD Cert.SamplePoolReferenceIdeal.τ).loc Cert.SamplePoolReferenceIdeal.main_arg0) = m' ((c.tc : Thread Cert.SamplePoolReferenceIdeal.nD Cert.SamplePoolReferenceIdeal.τ).loc Cert.SamplePoolReferenceIdeal.main_arg0)
          ∧ r.2.mem ((c.tc : Thread Cert.SamplePoolReferenceIdeal.nD Cert.SamplePoolReferenceIdeal.τ).loc Cert.SamplePoolReferenceIdeal.main_arg1) = m' ((c.tc : Thread Cert.SamplePoolReferenceIdeal.nD Cert.SamplePoolReferenceIdeal.τ).loc Cert.SamplePoolReferenceIdeal.main_arg1)
          ∧ r.2.mem ((c.tc : Thread Cert.SamplePoolReferenceIdeal.nD Cert.SamplePoolReferenceIdeal.τ).loc Cert.SamplePoolReferenceIdeal.main_arg2) = m' ((c.tc : Thread Cert.SamplePoolReferenceIdeal.nD Cert.SamplePoolReferenceIdeal.τ).loc Cert.SamplePoolReferenceIdeal.main_arg2)
          ∧ r.2.mem ((c.tc : Thread Cert.SamplePoolReferenceIdeal.nD Cert.SamplePoolReferenceIdeal.τ).loc Cert.SamplePoolReferenceIdeal.main_arg3) = m' ((c.tc : Thread Cert.SamplePoolReferenceIdeal.nD Cert.SamplePoolReferenceIdeal.τ).loc Cert.SamplePoolReferenceIdeal.main_arg3)
          ∧ r.2.mem ((c.tc : Thread Cert.SamplePoolReferenceIdeal.nD Cert.SamplePoolReferenceIdeal.τ).loc Cert.SamplePoolReferenceIdeal.main_arg4) = m' ((c.tc : Thread Cert.SamplePoolReferenceIdeal.nD Cert.SamplePoolReferenceIdeal.τ).loc Cert.SamplePoolReferenceIdeal.main_arg4)
          ∧ r.2.mem ((c.tc : Thread Cert.SamplePoolReferenceIdeal.nD Cert.SamplePoolReferenceIdeal.τ).loc Cert.SamplePoolReferenceIdeal.main_arg5) = m' ((c.tc : Thread Cert.SamplePoolReferenceIdeal.nD Cert.SamplePoolReferenceIdeal.τ).loc Cert.SamplePoolReferenceIdeal.main_arg5)
          ∧ r.2.mem ((c.tc : Thread Cert.SamplePoolReferenceIdeal.nD Cert.SamplePoolReferenceIdeal.τ).loc Cert.SamplePoolReferenceIdeal.main_arg6) = m' ((c.tc : Thread Cert.SamplePoolReferenceIdeal.nD Cert.SamplePoolReferenceIdeal.τ).loc Cert.SamplePoolReferenceIdeal.main_arg6)
          ∧ r.2.mem ((c.tc : Thread Cert.SamplePoolReferenceIdeal.nD Cert.SamplePoolReferenceIdeal.τ).loc Cert.SamplePoolReferenceIdeal.main_arg7) = m' ((c.tc : Thread Cert.SamplePoolReferenceIdeal.nD Cert.SamplePoolReferenceIdeal.τ).loc Cert.SamplePoolReferenceIdeal.main_arg7))

def preserves_Pool_PoolIdeal : Prop :=
  True

def algebraic_PoolIdeal_PoolReferenceIdeal [hPoolIdeal : Cert.PoolIdeal.Facts] [hPoolReferenceIdeal : Cert.PoolReferenceIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolReferenceIdeal.nD Cert.PoolReferenceIdeal.τ Cert.PoolReferenceIdeal.sig) → Buf (Elt Ideal) ℓ) (g' : Dev Cert.PoolReferenceIdeal.nD → PrngReg), Pre_PoolIdeal m →
    (∀ c : Dev Cert.PoolIdeal.nD,
      m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)) →
    ∃ (v0 : (c : Dev Cert.PoolIdeal.nD) → Buf (Elt Ideal) ((c.tc : Thread Cert.PoolIdeal.nD Cert.PoolIdeal.τ).loc Cert.PoolIdeal.main_v4_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v4_1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
          ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
          ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
          ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ θ_run (Cert.PoolReferenceIdeal.defs (F := Ideal)) (onTc (τ := Cert.PoolReferenceIdeal.τ) (Cert.PoolReferenceIdeal.main (F := Ideal))) ⟨m', fun _ => 0, g'⟩ (fun r => ∀ c : Dev Cert.PoolReferenceIdeal.nD,
          r.2.mem ((c.tc : Thread Cert.PoolReferenceIdeal.nD Cert.PoolReferenceIdeal.τ).loc Cert.PoolReferenceIdeal.main_v21) = v0 c
          ∧ r.2.mem ((c.tc : Thread Cert.PoolReferenceIdeal.nD Cert.PoolReferenceIdeal.τ).loc Cert.PoolReferenceIdeal.main_arg0) = m' ((c.tc : Thread Cert.PoolReferenceIdeal.nD Cert.PoolReferenceIdeal.τ).loc Cert.PoolReferenceIdeal.main_arg0)
          ∧ r.2.mem ((c.tc : Thread Cert.PoolReferenceIdeal.nD Cert.PoolReferenceIdeal.τ).loc Cert.PoolReferenceIdeal.main_arg1) = m' ((c.tc : Thread Cert.PoolReferenceIdeal.nD Cert.PoolReferenceIdeal.τ).loc Cert.PoolReferenceIdeal.main_arg1)
          ∧ r.2.mem ((c.tc : Thread Cert.PoolReferenceIdeal.nD Cert.PoolReferenceIdeal.τ).loc Cert.PoolReferenceIdeal.main_arg2) = m' ((c.tc : Thread Cert.PoolReferenceIdeal.nD Cert.PoolReferenceIdeal.τ).loc Cert.PoolReferenceIdeal.main_arg2)
          ∧ r.2.mem ((c.tc : Thread Cert.PoolReferenceIdeal.nD Cert.PoolReferenceIdeal.τ).loc Cert.PoolReferenceIdeal.main_arg3) = m' ((c.tc : Thread Cert.PoolReferenceIdeal.nD Cert.PoolReferenceIdeal.τ).loc Cert.PoolReferenceIdeal.main_arg3)
          ∧ r.2.mem ((c.tc : Thread Cert.PoolReferenceIdeal.nD Cert.PoolReferenceIdeal.τ).loc Cert.PoolReferenceIdeal.main_arg4) = m' ((c.tc : Thread Cert.PoolReferenceIdeal.nD Cert.PoolReferenceIdeal.τ).loc Cert.PoolReferenceIdeal.main_arg4)
          ∧ r.2.mem ((c.tc : Thread Cert.PoolReferenceIdeal.nD Cert.PoolReferenceIdeal.τ).loc Cert.PoolReferenceIdeal.main_arg5) = m' ((c.tc : Thread Cert.PoolReferenceIdeal.nD Cert.PoolReferenceIdeal.τ).loc Cert.PoolReferenceIdeal.main_arg5)
          ∧ r.2.mem ((c.tc : Thread Cert.PoolReferenceIdeal.nD Cert.PoolReferenceIdeal.τ).loc Cert.PoolReferenceIdeal.main_arg6) = m' ((c.tc : Thread Cert.PoolReferenceIdeal.nD Cert.PoolReferenceIdeal.τ).loc Cert.PoolReferenceIdeal.main_arg6))

def preserves_Mod_ModIdeal : Prop :=
  True

def algebraic_ModIdeal_ModReferenceIdeal [hModIdeal : Cert.ModIdeal.Facts] [hModReferenceIdeal : Cert.ModReferenceIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModIdeal m →
    (∀ c : Dev Cert.ModIdeal.nD,
      m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v5)) (v1 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v5) = v0 c
          ∧ r.2.mem ((c.tc : Thread Cert.ModIdeal.nD Cert.ModIdeal.τ).loc Cert.ModIdeal.main_v6) = v1 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v40) = v0 c
          ∧ r.2.mem ((c.tc : Thread Cert.ModReferenceIdeal.nD Cert.ModReferenceIdeal.τ).loc Cert.ModReferenceIdeal.main_v81) = v1 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2)
          ∧ r.2.mem ((c.tc : Thread Cert.ModReferenceIdeal.nD Cert.ModReferenceIdeal.τ).loc Cert.ModReferenceIdeal.main_arg3) = m' ((c.tc : Thread Cert.ModReferenceIdeal.nD Cert.ModReferenceIdeal.τ).loc Cert.ModReferenceIdeal.main_arg3))

def Claim : Prop :=
  ∃ (hKernel : Cert.Kernel.Facts) (hKernelIdeal : Cert.KernelIdeal.Facts) (hReferenceIdeal : Cert.ReferenceIdeal.Facts) (hFirstKernel : Cert.FirstKernel.Facts) (hFirstKernelIdeal : Cert.FirstKernelIdeal.Facts) (hFirstReferenceIdeal : Cert.FirstReferenceIdeal.Facts) (hProject : Cert.Project.Facts) (hProjectIdeal : Cert.ProjectIdeal.Facts) (hProjectReferenceIdeal : Cert.ProjectReferenceIdeal.Facts) (hSample : Cert.Sample.Facts) (hSampleIdeal : Cert.SampleIdeal.Facts) (hSampleReferenceIdeal : Cert.SampleReferenceIdeal.Facts) (hSampleFirst : Cert.SampleFirst.Facts) (hSampleFirstIdeal : Cert.SampleFirstIdeal.Facts) (hSampleFirstReferenceIdeal : Cert.SampleFirstReferenceIdeal.Facts) (hSampleProject : Cert.SampleProject.Facts) (hSampleProjectIdeal : Cert.SampleProjectIdeal.Facts) (hSampleProjectReferenceIdeal : Cert.SampleProjectReferenceIdeal.Facts) (hSamplePool : Cert.SamplePool.Facts) (hSamplePoolIdeal : Cert.SamplePoolIdeal.Facts) (hSamplePoolReferenceIdeal : Cert.SamplePoolReferenceIdeal.Facts) (hPool : Cert.Pool.Facts) (hPoolIdeal : Cert.PoolIdeal.Facts) (hPoolReferenceIdeal : Cert.PoolReferenceIdeal.Facts) (hMod : Cert.Mod.Facts) (hModIdeal : Cert.ModIdeal.Facts) (hModReferenceIdeal : Cert.ModReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FirstKernel (hFirstKernel := hFirstKernel)
    ∧ quiescent_FirstKernelIdeal (hFirstKernelIdeal := hFirstKernelIdeal)
    ∧ quiescent_FirstReferenceIdeal (hFirstReferenceIdeal := hFirstReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Sample (hSample := hSample)
    ∧ quiescent_SampleIdeal (hSampleIdeal := hSampleIdeal)
    ∧ quiescent_SampleReferenceIdeal (hSampleReferenceIdeal := hSampleReferenceIdeal)
    ∧ quiescent_SampleFirst (hSampleFirst := hSampleFirst)
    ∧ quiescent_SampleFirstIdeal (hSampleFirstIdeal := hSampleFirstIdeal)
    ∧ quiescent_SampleFirstReferenceIdeal (hSampleFirstReferenceIdeal := hSampleFirstReferenceIdeal)
    ∧ quiescent_SampleProject (hSampleProject := hSampleProject)
    ∧ quiescent_SampleProjectIdeal (hSampleProjectIdeal := hSampleProjectIdeal)
    ∧ quiescent_SampleProjectReferenceIdeal (hSampleProjectReferenceIdeal := hSampleProjectReferenceIdeal)
    ∧ quiescent_SamplePool (hSamplePool := hSamplePool)
    ∧ quiescent_SamplePoolIdeal (hSamplePoolIdeal := hSamplePoolIdeal)
    ∧ quiescent_SamplePoolReferenceIdeal (hSamplePoolReferenceIdeal := hSamplePoolReferenceIdeal)
    ∧ quiescent_Pool (hPool := hPool)
    ∧ quiescent_PoolIdeal (hPoolIdeal := hPoolIdeal)
    ∧ quiescent_PoolReferenceIdeal (hPoolReferenceIdeal := hPoolReferenceIdeal)
    ∧ quiescent_Mod (hMod := hMod)
    ∧ quiescent_ModIdeal (hModIdeal := hModIdeal)
    ∧ quiescent_ModReferenceIdeal (hModReferenceIdeal := hModReferenceIdeal)
    ∧ preserves_Kernel_KernelIdeal
    ∧ algebraic_KernelIdeal_ReferenceIdeal (hKernelIdeal := hKernelIdeal) (hReferenceIdeal := hReferenceIdeal)
    ∧ preserves_FirstKernel_FirstKernelIdeal
    ∧ algebraic_FirstKernelIdeal_FirstReferenceIdeal (hFirstKernelIdeal := hFirstKernelIdeal) (hFirstReferenceIdeal := hFirstReferenceIdeal)
    ∧ preserves_Project_ProjectIdeal
    ∧ algebraic_ProjectIdeal_ProjectReferenceIdeal (hProjectIdeal := hProjectIdeal) (hProjectReferenceIdeal := hProjectReferenceIdeal)
    ∧ preserves_Sample_SampleIdeal
    ∧ algebraic_SampleIdeal_SampleReferenceIdeal (hSampleIdeal := hSampleIdeal) (hSampleReferenceIdeal := hSampleReferenceIdeal)
    ∧ preserves_SampleFirst_SampleFirstIdeal
    ∧ algebraic_SampleFirstIdeal_SampleFirstReferenceIdeal (hSampleFirstIdeal := hSampleFirstIdeal) (hSampleFirstReferenceIdeal := hSampleFirstReferenceIdeal)
    ∧ preserves_SampleProject_SampleProjectIdeal
    ∧ algebraic_SampleProjectIdeal_SampleProjectReferenceIdeal (hSampleProjectIdeal := hSampleProjectIdeal) (hSampleProjectReferenceIdeal := hSampleProjectReferenceIdeal)
    ∧ preserves_SamplePool_SamplePoolIdeal
    ∧ algebraic_SamplePoolIdeal_SamplePoolReferenceIdeal (hSamplePoolIdeal := hSamplePoolIdeal) (hSamplePoolReferenceIdeal := hSamplePoolReferenceIdeal)
    ∧ preserves_Pool_PoolIdeal
    ∧ algebraic_PoolIdeal_PoolReferenceIdeal (hPoolIdeal := hPoolIdeal) (hPoolReferenceIdeal := hPoolReferenceIdeal)
    ∧ preserves_Mod_ModIdeal
    ∧ algebraic_ModIdeal_ModReferenceIdeal (hModIdeal := hModIdeal) (hModReferenceIdeal := hModReferenceIdeal)
-- ==== Kernel.lean ====
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 18
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1024x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S2x8192x1024, .bf16⟩
  | .hbm, ⟨15, _⟩ => ⟨S1024x1024, .bf16⟩
  | .hbm, ⟨16, _⟩ => ⟨S1x1024, .f32⟩
  | .hbm, ⟨17, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024, .f32⟩
  | .local _ .vmem, ⟨14, _⟩ => ⟨S1024x5632, .bf16⟩
  | .local _ .vmem, ⟨15, _⟩ => ⟨S2816x1024, .bf16⟩
  | .local _ .vmem, ⟨16, _⟩ => ⟨S1x1024, .f32⟩
  | .local _ .vmem, ⟨17, _⟩ => ⟨S1x512x1024, .f32⟩
  | .local _ .vmem, ⟨18, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S2x8192x1024 : Shape := ⟨3, ![2, 8192, 1024]⟩
abbrev S2x1x1024 : Shape := ⟨3, ![2, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 71
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x1x1024, .f32⟩
  | .hbm, ⟨3, _⟩ => ⟨S1024x1024, .f32⟩
  | .hbm, ⟨4, _⟩ => ⟨S2x1x1024, .f32⟩
  | .hbm, ⟨5, _⟩ => ⟨S2x1x1024, .f32⟩
  | .hbm, ⟨6, _⟩ => ⟨S2x1x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S2x8192x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x5632, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S_, .f32⟩
  | .hbm, ⟨44, _⟩ => ⟨S2x8192x2816, .f32⟩
  | .hbm, ⟨45, _⟩ => ⟨S2x8192x2816, .f32⟩
  | .hbm, ⟨46, _⟩ => ⟨S_, .f32⟩
  | .hbm, ⟨47, _⟩ => ⟨S2x8192x2816, .f32⟩
  | .hbm, ⟨48, _⟩ => ⟨S2x8192x2816, .f32⟩
  | .hbm, ⟨49, _⟩ => ⟨S2x8192x2816, .f32⟩
  | .hbm, ⟨50, _⟩ => ⟨S2x8192x2816, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S1x1x1024, .f32⟩
  | .hbm, ⟨69, _⟩ => ⟨S2x8192x1024, .f32⟩
  | .hbm, ⟨70, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]
-- ==== FirstKernel.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S1x1024, .f32⟩
  | .hbm, ⟨8, _⟩ => ⟨S1024x5632, .bf16⟩
  | .hbm, ⟨9, _⟩ => ⟨S2816x1024, .bf16⟩
  | .hbm, ⟨10, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x512x1024, .f32⟩
  | .local _ .vmem, ⟨12, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FirstReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x5632, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S_, .f32⟩
  | .hbm, ⟨36, _⟩ => ⟨S2x8192x2816, .f32⟩
  | .hbm, ⟨37, _⟩ => ⟨S2x8192x2816, .f32⟩
  | .hbm, ⟨38, _⟩ => ⟨S_, .f32⟩
  | .hbm, ⟨39, _⟩ => ⟨S2x8192x2816, .f32⟩
  | .hbm, ⟨40, _⟩ => ⟨S2x8192x2816, .f32⟩
  | .hbm, ⟨41, _⟩ => ⟨S2x8192x2816, .f32⟩
  | .hbm, ⟨42, _⟩ => ⟨S2x8192x2816, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== Project.lean ====
abbrev S2x8192x1024 : Shape := ⟨3, ![2, 8192, 1024]⟩
abbrev S2x1x1024 : Shape := ⟨3, ![2, 1, 1024]⟩
abbrev S1024 : Shape := ⟨1, ![1024]⟩
abbrev S1024x2120 : Shape := ⟨2, ![1024, 2120]⟩
abbrev S_ : Shape := ⟨0, ![]⟩
abbrev S1024x2176 : Shape := ⟨2, ![1024, 2176]⟩
abbrev S1x1024 : Shape := ⟨2, ![1, 1024]⟩
abbrev S2x256x8192 : Shape := ⟨3, ![2, 256, 8192]⟩
abbrev S2x64x8192 : Shape := ⟨3, ![2, 64, 8192]⟩
abbrev S2x8x8192 : Shape := ⟨3, ![2, 8, 8192]⟩
abbrev S2x16x8192x64 : Shape := ⟨4, ![2, 16, 8192, 64]⟩
abbrev S2x8x8192x64 : Shape := ⟨4, ![2, 8, 8192, 64]⟩
abbrev S2x4x8192x64 : Shape := ⟨4, ![2, 4, 8192, 64]⟩
abbrev S2x4x80x8192 : Shape := ⟨4, ![2, 4, 80, 8192]⟩
abbrev S2x8192x64 : Shape := ⟨3, ![2, 8192, 64]⟩
abbrev S1x512x1024 : Shape := ⟨3, ![1, 512, 1024]⟩
abbrev S1x1x1024 : Shape := ⟨3, ![1, 1, 1024]⟩
abbrev S1x256x512 : Shape := ⟨3, ![1, 256, 512]⟩
abbrev S1x64x512 : Shape := ⟨3, ![1, 64, 512]⟩
abbrev S1x8x512 : Shape := ⟨3, ![1, 8, 512]⟩
abbrev S1x16x512x64 : Shape := ⟨4, ![1, 16, 512, 64]⟩
abbrev S1x8x512x64 : Shape := ⟨4, ![1, 8, 512, 64]⟩
abbrev S1x4x512x64 : Shape := ⟨4, ![1, 4, 512, 64]⟩
abbrev S1x4x80x512 : Shape := ⟨4, ![1, 4, 80, 512]⟩
abbrev S1x512x64 : Shape := ⟨3, ![1, 512, 64]⟩
abbrev S512x1024 : Shape := ⟨2, ![512, 1024]⟩
abbrev S512 : Shape := ⟨1, ![512]⟩
abbrev S512x1 : Shape := ⟨2, ![512, 1]⟩
abbrev S512x2176 : Shape := ⟨2, ![512, 2176]⟩
abbrev S512x128 : Shape := ⟨2, ![512, 128]⟩
abbrev S128x512 : Shape := ⟨2, ![128, 512]⟩
abbrev S1x128x512 : Shape := ⟨3, ![1, 128, 512]⟩
abbrev S512x64 : Shape := ⟨2, ![512, 64]⟩
abbrev S64x512 : Shape := ⟨2, ![64, 512]⟩
abbrev S8x512 : Shape := ⟨2, ![8, 512]⟩
abbrev S1x1x512x64 : Shape := ⟨4, ![1, 1, 512, 64]⟩
abbrev S80x512 : Shape := ⟨2, ![80, 512]⟩
abbrev S1x1x80x512 : Shape := ⟨4, ![1, 1, 80, 512]⟩

abbrev nBuf : Space → Nat
  | .hbm => 19
  | .vmem => 26
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x2120, .f32⟩
  | .hbm, ⟨5, _⟩ => ⟨S_, .f32⟩
  | .hbm, ⟨6, _⟩ => ⟨S_, .f32⟩
  | .hbm, ⟨7, _⟩ => ⟨S1024x2176, .f32⟩
  | .hbm, ⟨8, _⟩ => ⟨S1024x2176, .bf16⟩
  | .hbm, ⟨9, _⟩ => ⟨S1x1024, .f32⟩
  | .hbm, ⟨10, _⟩ => ⟨S2x256x8192, .f32⟩
  | .hbm, ⟨11, _⟩ => ⟨S2x256x8192, .f32⟩
  | .hbm, ⟨12, _⟩ => ⟨S2x64x8192, .f32⟩
  | .hbm, ⟨13, _⟩ => ⟨S2x8x8192, .f32⟩
  | .hbm, ⟨14, _⟩ => ⟨S2x16x8192x64, .bf16⟩
  | .hbm, ⟨15, _⟩ => ⟨S2x8x8192x64, .bf16⟩
  | .hbm, ⟨16, _⟩ => ⟨S2x4x8192x64, .bf16⟩
  | .hbm, ⟨17, _⟩ => ⟨S2x4x80x8192, .bf16⟩
  | .hbm, ⟨18, _⟩ => ⟨S2x8192x64, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x64x512, .f32⟩
  | .local _ .vmem, ⟨13, _⟩ => ⟨S1x64x512, .f32⟩
  | .local _ .vmem, ⟨14, _⟩ => ⟨S1x8x512, .f32⟩
  | .local _ .vmem, ⟨15, _⟩ => ⟨S1x8x512, .f32⟩
  | .local _ .vmem, ⟨16, _⟩ => ⟨S1x16x512x64, .bf16⟩
  | .local _ .vmem, ⟨17, _⟩ => ⟨S1x16x512x64, .bf16⟩
  | .local _ .vmem, ⟨18, _⟩ => ⟨S1x8x512x64, .bf16⟩
  | .local _ .vmem, ⟨19, _⟩ => ⟨S1x8x512x64, .bf16⟩
  | .local _ .vmem, ⟨20, _⟩ => ⟨S1x4x512x64, .bf16⟩
  | .local _ .vmem, ⟨21, _⟩ => ⟨S1x4x512x64, .bf16⟩
  | .local _ .vmem, ⟨22, _⟩ => ⟨S1x4x80x512, .bf16⟩
  | .local _ .vmem, ⟨23, _⟩ => ⟨S1x4x80x512, .bf16⟩
  | .local _ .vmem, ⟨24, _⟩ => ⟨S1x512x64, .bf16⟩
  | .local _ .vmem, ⟨25, _⟩ => ⟨S1x512x64, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev main_v3_5 : Ref sig .tc := ⟨.hbm, 15, rfl⟩
abbrev main_v3_6 : Ref sig .tc := ⟨.hbm, 16, rfl⟩
abbrev main_v3_7 : Ref sig .tc := ⟨.hbm, 17, rfl⟩
abbrev main_v3_8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x80x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ProjectReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S1024x2120 : Shape := ⟨2, ![1024, 2120]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2120 : Shape := ⟨3, ![2, 8192, 2120]⟩
abbrev S2x8192x256 : Shape := ⟨3, ![2, 8192, 256]⟩
abbrev S2x8192x512 : Shape := ⟨3, ![2, 8192, 512]⟩
abbrev S2x8192x64 : Shape := ⟨3, ![2, 8192, 64]⟩
abbrev S2x8192x8 : Shape := ⟨3, ![2, 8192, 8]⟩
abbrev S2x8192x4x4x64 : Shape := ⟨5, ![2, 8192, 4, 4, 64]⟩
abbrev S2x8192x4x64 : Shape := ⟨4, ![2, 8192, 4, 64]⟩
abbrev S2x8192x8x64 : Shape := ⟨4, ![2, 8192, 8, 64]⟩
abbrev S2x8192x16x64 : Shape := ⟨4, ![2, 8192, 16, 64]⟩
abbrev S2x256x8192 : Shape := ⟨3, ![2, 256, 8192]⟩
abbrev S2x64x8192 : Shape := ⟨3, ![2, 64, 8192]⟩
abbrev S2x8x8192 : Shape := ⟨3, ![2, 8, 8192]⟩
abbrev S2x16x8192x64 : Shape := ⟨4, ![2, 16, 8192, 64]⟩
abbrev S2x8x8192x64 : Shape := ⟨4, ![2, 8, 8192, 64]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S1024, .f32⟩
  | .hbm, ⟨4, _⟩ => ⟨S1024x2120, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S_, .f32⟩
  | .hbm, ⟨22, _⟩ => ⟨S2x1x1024, .f32⟩
  | .hbm, ⟨23, _⟩ => ⟨S2x1x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x2120, .f32⟩
  | .hbm, ⟨29, _⟩ => ⟨S2x8192x1024, .f32⟩
  | .hbm, ⟨30, _⟩ => ⟨S2x8192x256, .f32⟩
  | .hbm, ⟨31, _⟩ => ⟨S2x8192x256, .f32⟩
  | .hbm, ⟨32, _⟩ => ⟨S2x8192x512, .f32⟩
  | .hbm, ⟨33, _⟩ => ⟨S2x8192x64, .f32⟩
  | .hbm, ⟨34, _⟩ => ⟨S2x8192x8, .f32⟩
  | .hbm, ⟨35, _⟩ => ⟨S2x8192x4x4x64, .f32⟩
  | .hbm, ⟨36, _⟩ => ⟨S2x8192x4x64, .f32⟩
  | .hbm, ⟨37, _⟩ => ⟨S2x8192x4x64, .f32⟩
  | .hbm, ⟨38, _⟩ => ⟨S2x8192x8x64, .f32⟩
  | .hbm, ⟨39, _⟩ => ⟨S_, .f32⟩
  | .hbm, ⟨40, _⟩ => ⟨S2x8192x8, .f32⟩
  | .hbm, ⟨41, _⟩ => ⟨S2x8192x8, .f32⟩
  | .hbm, ⟨42, _⟩ => ⟨S2x8192x16x64, .f32⟩
  | .hbm, ⟨43, _⟩ => ⟨S_, .f32⟩
  | .hbm, ⟨44, _⟩ => ⟨S2x8192x16x64, .f32⟩
  | .hbm, ⟨45, _⟩ => ⟨S2x8192x16x64, .f32⟩
  | .hbm, ⟨46, _⟩ => ⟨S2x8192x256, .f32⟩
  | .hbm, ⟨47, _⟩ => ⟨S2x256x8192, .f32⟩
  | .hbm, ⟨48, _⟩ => ⟨S2x8192x256, .f32⟩
  | .hbm, ⟨49, _⟩ => ⟨S2x256x8192, .f32⟩
  | .hbm, ⟨50, _⟩ => ⟨S2x64x8192, .f32⟩
  | .hbm, ⟨51, _⟩ => ⟨S2x8x8192, .f32⟩
  | .hbm, ⟨52, _⟩ => ⟨S2x16x8192x64, .f32⟩
  | .hbm, ⟨53, _⟩ => ⟨S2x16x8192x64, .bf16⟩
  | .hbm, ⟨54, _⟩ => ⟨S2x8x8192x64, .f32⟩
  | .hbm, ⟨55, _⟩ => ⟨S2x8x8192x64, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Sample.lean ====
abbrev S32x4x1024 : Shape := ⟨3, ![32, 4, 1024]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1x128x1024 : Shape := ⟨3, ![1, 128, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024x1536 : Shape := ⟨2, ![1024, 1536]⟩
abbrev S128x1536 : Shape := ⟨2, ![128, 1536]⟩
abbrev S1536x1024 : Shape := ⟨2, ![1536, 1024]⟩
abbrev S1024x1280 : Shape := ⟨2, ![1024, 1280]⟩
abbrev S128x1280 : Shape := ⟨2, ![128, 1280]⟩
abbrev S1280x1024 : Shape := ⟨2, ![1280, 1024]⟩

abbrev nBuf : Space → Nat
  | .hbm => 28
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x1x1024, .f32⟩
  | .hbm, ⟨3, _⟩ => ⟨S1024x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S32x4x1024, .f32⟩
  | .hbm, ⟨12, _⟩ => ⟨S1x128x1024, .f32⟩
  | .hbm, ⟨13, _⟩ => ⟨S32x4x1024, .f32⟩
  | .hbm, ⟨14, _⟩ => ⟨S1x128x1024, .f32⟩
  | .hbm, ⟨15, _⟩ => ⟨S32x4x1024, .f32⟩
  | .hbm, ⟨16, _⟩ => ⟨S1x128x1024, .f32⟩
  | .hbm, ⟨17, _⟩ => ⟨S32x4x1024, .f32⟩
  | .hbm, ⟨18, _⟩ => ⟨S1x128x1024, .f32⟩
  | .hbm, ⟨19, _⟩ => ⟨S1x128x1024, .f32⟩
  | .hbm, ⟨20, _⟩ => ⟨S1x1024, .f32⟩
  | .hbm, ⟨21, _⟩ => ⟨S1024x5632, .bf16⟩
  | .hbm, ⟨22, _⟩ => ⟨S2816x1024, .bf16⟩
  | .hbm, ⟨23, _⟩ => ⟨S1x128x1024, .f32⟩
  | .hbm, ⟨24, _⟩ => ⟨S1x128x1024, .bf16⟩
  | .hbm, ⟨25, _⟩ => ⟨S1024x1024, .bf16⟩
  | .hbm, ⟨26, _⟩ => ⟨S1x1024, .f32⟩
  | .hbm, ⟨27, _⟩ => ⟨S1x128x1024, .f32⟩
  | .local _ .vmem, ⟨0, _⟩ => ⟨S1x128x1024, .f32⟩
  | .local _ .vmem, ⟨1, _⟩ => ⟨S1x128x1024, .bf16⟩
  | .local _ .vmem, ⟨2, _⟩ => ⟨S1x128x1024, .f32⟩
  | .local _ .vmem, ⟨3, _⟩ => ⟨S1024x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x1024, .f32⟩
  | .local _ .vmem, ⟨11, _⟩ => ⟨S1x128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== SampleReferenceIdeal.lean ====
abbrev S32x4x1024 : Shape := ⟨3, ![32, 4, 1024]⟩
abbrev S32x1x1024 : Shape := ⟨3, ![32, 1, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x4x2816 : Shape := ⟨3, ![32, 4, 2816]⟩
abbrev S1x128x1024 : Shape := ⟨3, ![1, 128, 1024]⟩

abbrev nBuf : Space → Nat
  | .hbm => 72
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x1024, .f32⟩
  | .hbm, ⟨2, _⟩ => ⟨S32x1x1024, .f32⟩
  | .hbm, ⟨3, _⟩ => ⟨S1024x1024, .f32⟩
  | .hbm, ⟨4, _⟩ => ⟨S32x1x1024, .f32⟩
  | .hbm, ⟨5, _⟩ => ⟨S32x1x1024, .f32⟩
  | .hbm, ⟨6, _⟩ => ⟨S32x1x1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S32x4x1024, .f32⟩
  | .hbm, ⟨12, _⟩ => ⟨S32x4x1024, .f32⟩
  | .hbm, ⟨13, _⟩ => ⟨S32x4x1024, .f32⟩
  | .hbm, ⟨14, _⟩ => ⟨S32x4x1024, .f32⟩
  | .hbm, ⟨15, _⟩ => ⟨S32x4x1024, .f32⟩
  | .hbm, ⟨16, _⟩ => ⟨S_, .f32⟩
  | .hbm, ⟨17, _⟩ => ⟨S32x4, .f32⟩
  | .hbm, ⟨18, _⟩ => ⟨S32x4x1, .f32⟩
  | .hbm, ⟨19, _⟩ => ⟨S_, .f32⟩
  | .hbm, ⟨20, _⟩ => ⟨S32x4x1, .f32⟩
  | .hbm, ⟨21, _⟩ => ⟨S32x4x1, .f32⟩
  | .hbm, ⟨22, _⟩ => ⟨S_, .f32⟩
  | .hbm, ⟨23, _⟩ => ⟨S32x4x1, .f32⟩
  | .hbm, ⟨24, _⟩ => ⟨S32x4x1, .f32⟩
  | .hbm, ⟨25, _⟩ => ⟨S32x4x1, .f32⟩
  | .hbm, ⟨26, _⟩ => ⟨S32x4x1024, .f32⟩
  | .hbm, ⟨27, _⟩ => ⟨S32x4x1024, .f32⟩
  | .hbm, ⟨28, _⟩ => ⟨S1x1x1024, .f32⟩
  | .hbm, ⟨29, _⟩ => ⟨S32x4x1024, .f32⟩
  | .hbm, ⟨30, _⟩ => ⟨S32x4x1024, .f32⟩
  | .hbm, ⟨31, _⟩ => ⟨S_, .f32⟩
  | .hbm, ⟨32, _⟩ => ⟨S32x1x1024, .f32⟩
  | .hbm, ⟨33, _⟩ => ⟨S32x1x1024, .f32⟩
  | .hbm, ⟨34, _⟩ => ⟨S32x4x1024, .f32⟩
  | .hbm, ⟨35, _⟩ => ⟨S32x4x1024, .f32⟩
  | .hbm, ⟨36, _⟩ => ⟨S32x4x1024, .f32⟩
  | .hbm, ⟨37, _⟩ => ⟨S32x4x1024, .f32⟩
  | .hbm, ⟨38, _⟩ => ⟨S32x4x5632, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S32x4x2816, .f32⟩
  | .hbm, ⟨43, _⟩ => ⟨S_, .f32⟩
  | .hbm, ⟨44, _⟩ => ⟨S32x4x2816, .f32⟩
  | .hbm, ⟨45, _⟩ => ⟨S32x4x2816, .f32⟩
  | .hbm, ⟨46, _⟩ => ⟨S_, .f32⟩
  | .hbm, ⟨47, _⟩ => ⟨S32x4x2816, .f32⟩
  | .hbm, ⟨48, _⟩ => ⟨S32x4x2816, .f32⟩
  | .hbm, ⟨49, _⟩ => ⟨S32x4x2816, .f32⟩
  | .hbm, ⟨50, _⟩ => ⟨S32x4x2816, .f32⟩
  | .hbm, ⟨51, _⟩ => ⟨S32x4x1024, .f32⟩
  | .hbm, ⟨52, _⟩ => ⟨S32x4x1024, .f32⟩
  | .hbm, ⟨53, _⟩ => ⟨S32x4x1024, .f32⟩
  | .hbm, ⟨54, _⟩ => ⟨S32x4x1024, .f32⟩
  | .hbm, ⟨55, _⟩ => ⟨S32x4x1024, .f32⟩
  | .hbm, ⟨56, _⟩ => ⟨S_, .f32⟩
  | .hbm, ⟨57, _⟩ => ⟨S32x4, .f32⟩
  | .hbm, ⟨58, _⟩ => ⟨S32x4x1, .f32⟩
  | .hbm, ⟨59, _⟩ => ⟨S_, .f32⟩
  | .hbm, ⟨60, _⟩ => ⟨S32x4x1, .f32⟩
  | .hbm, ⟨61, _⟩ => ⟨S32x4x1, .f32⟩
  | .hbm, ⟨62, _⟩ => ⟨S_, .f32⟩
  | .hbm, ⟨63, _⟩ => ⟨S32x4x1, .f32⟩
  | .hbm, ⟨64, _⟩ => ⟨S32x4x1, .f32⟩
  | .hbm, ⟨65, _⟩ => ⟨S32x4x1, .f32⟩
  | .hbm, ⟨66, _⟩ => ⟨S32x4x1024, .f32⟩
  | .hbm, ⟨67, _⟩ => ⟨S32x4x1024, .f32⟩
  | .hbm, ⟨68, _⟩ => ⟨S1x1x1024, .f32⟩
  | .hbm, ⟨69, _⟩ => ⟨S32x4x1024, .f32⟩
  | .hbm, ⟨70, _⟩ => ⟨S32x4x1024, .f32⟩
  | .hbm, ⟨71, _⟩ => ⟨S1x128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_3 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_cst_5 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩

abbrev nD : Nat := 1
abbrev τ : Topo := Topo.v7x

variable {F : FTy → Type} [FloatOps F]
-- ==== SampleFirst.lean ====
abbrev S32x4x1024 : Shape := ⟨3, ![32, 4, 1024]⟩
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S1x128x1024 : Shape := ⟨3, ![1, 128, 1024]⟩
abbrev S1x1024 : Shape := ⟨2, ![1, 1024]⟩
abbrev S128x1024 : Shape := ⟨2, ![128, 1024]⟩
abbrev S128 : Shape := ⟨1, ![128]⟩
abbrev S128x1 : Shape := ⟨2, ![128, 1]⟩
abbrev S1024x1536 : Shape := ⟨2, ![1024, 1536]⟩
abbrev S128x1536 : Shape := ⟨2, ![128, 1536]⟩
abbrev S1536x1024 : Shape := ⟨2, ![1536, 1024]⟩
abbrev S1024x1280 : Shape := ⟨2, ![1024, 1280]⟩
abbrev S128x1280 : Shape := ⟨2, ![128, 1280]⟩
abbrev S1280x1024 : Shape := ⟨2, ![1280, 1024]⟩

abbrev nBuf : Space → Nat
  | .hbm => 18
  | .vmem => 8
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S32x4x1024, .f32⟩
  | .hbm, ⟨8, _⟩ => ⟨S1x128x1024, .f32⟩
  | .hbm, ⟨9, _⟩ => ⟨S32x4x1024, .f32⟩
  | .hbm, ⟨10, _⟩ => ⟨S1x128x1024, .f32⟩
  | .hbm, ⟨11, _⟩ => ⟨S32x4x1024, .f32⟩
  | .hbm, ⟨12, _⟩ => ⟨S1x128x1024, .f32⟩
  | .hbm, ⟨13, _⟩ => ⟨S1x128x1024, .f32⟩
  | .hbm, ⟨14, _⟩ => ⟨S1x1024, .f32⟩
  | .hbm, ⟨15, _⟩ => ⟨S1024x5632, .bf16⟩
  | .hbm, ⟨16, _⟩ => ⟨S2816x1024, .bf16⟩
  | .hbm, ⟨17, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== SampleFirstReferenceIdeal.lean ====
abbrev S32x4x1024 : Shape := ⟨3, ![32, 4, 1024]⟩
abbrev S32x1x1024 : Shape := ⟨3, ![32, 1, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x5632 : Shape := ⟨3, ![32, 4, 5632]⟩
abbrev S32x4x2816 : Shape := ⟨3, ![32, 4, 2816]⟩
abbrev S1x128x1024 : Shape := ⟨3, ![1, 128, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S32x1x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S32x4x1024, .f32⟩
  | .hbm, ⟨8, _⟩ => ⟨S_, .f32⟩
  | .hbm, ⟨9, _⟩ => ⟨S32x4, .f32⟩
  | .hbm, ⟨10, _⟩ => ⟨S32x4x1, .f32⟩
  | .hbm, ⟨11, _⟩ => ⟨S_, .f32⟩
  | .hbm, ⟨12, _⟩ => ⟨S32x4x1, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x1, .f32⟩
  | .hbm, ⟨18, _⟩ => ⟨S32x4x1024, .f32⟩
  | .hbm, ⟨19, _⟩ => ⟨S32x4x1024, .f32⟩
  | .hbm, ⟨20, _⟩ => ⟨S1x1x1024, .f32⟩
  | .hbm, ⟨21, _⟩ => ⟨S32x4x1024, .f32⟩
  | .hbm, ⟨22, _⟩ => ⟨S32x4x1024, .f32⟩
  | .hbm, ⟨23, _⟩ => ⟨S_, .f32⟩
  | .hbm, ⟨24, _⟩ => ⟨S32x1x1024, .f32⟩
  | .hbm, ⟨25, _⟩ => ⟨S32x1x1024, .f32⟩
  | .hbm, ⟨26, _⟩ => ⟨S32x4x1024, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S32x4x5632, .f32⟩
  | .hbm, ⟨31, _⟩ => ⟨S32x4x2816, .f32⟩
  | .hbm, ⟨32, _⟩ => ⟨S32x4x2816, .f32⟩
  | .hbm, ⟨33, _⟩ => ⟨S32x4x2816, .f32⟩
  | .hbm, ⟨34, _⟩ => ⟨S32x4x2816, .f32⟩
  | .hbm, ⟨35, _⟩ => ⟨S_, .f32⟩
  | .hbm, ⟨36, _⟩ => ⟨S32x4x2816, .f32⟩
  | .hbm, ⟨37, _⟩ => ⟨S32x4x2816, .f32⟩
  | .hbm, ⟨38, _⟩ => ⟨S_, .f32⟩
  | .hbm, ⟨39, _⟩ => ⟨S32x4x2816, .f32⟩
  | .hbm, ⟨40, _⟩ => ⟨S32x4x2816, .f32⟩
  | .hbm, ⟨41, _⟩ => ⟨S32x4x2816, .f32⟩
  | .hbm, ⟨42, _⟩ => ⟨S32x4x2816, .f32⟩
  | .hbm, ⟨43, _⟩ => ⟨S32x4x1024, .f32⟩
  | .hbm, ⟨44, _⟩ => ⟨S32x4x1024, .f32⟩
  | .hbm, ⟨45, _⟩ => ⟨S32x4x1024, .f32⟩
  | .hbm, ⟨46, _⟩ => ⟨S32x4x1024, .f32⟩
  | .hbm, ⟨47, _⟩ => ⟨S1x128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩

abbrev nD : Nat := 1
abbrev τ : Topo := Topo.v7x

variable {F : FTy → Type} [FloatOps F]
-- ==== SampleProject.lean ====
abbrev S32x4x1024 : Shape := ⟨3, ![32, 4, 1024]⟩
abbrev S32x1x1024 : Shape := ⟨3, ![32, 1, 1024]⟩
abbrev S1024 : Shape := ⟨1, ![1024]⟩
abbrev S1024x2120 : Shape := ⟨2, ![1024, 2120]⟩
abbrev S_ : Shape := ⟨0, ![]⟩
abbrev S1024x2176 : Shape := ⟨2, ![1024, 2176]⟩
abbrev S1x128x1024 : Shape := ⟨3, ![1, 128, 1024]⟩
abbrev S1x1024 : Shape := ⟨2, ![1, 1024]⟩
abbrev S1x256x128 : Shape := ⟨3, ![1, 256, 128]⟩
abbrev S1x64x128 : Shape := ⟨3, ![1, 64, 128]⟩
abbrev S1x8x128 : Shape := ⟨3, ![1, 8, 128]⟩
abbrev S1x16x128x64 : Shape := ⟨4, ![1, 16, 128, 64]⟩
abbrev S1x8x128x64 : Shape := ⟨4, ![1, 8, 128, 64]⟩
abbrev S1x4x128x64 : Shape := ⟨4, ![1, 4, 128, 64]⟩
abbrev S1x4x80x128 : Shape := ⟨4, ![1, 4, 80, 128]⟩
abbrev S1x128x64 : Shape := ⟨3, ![1, 128, 64]⟩
abbrev S128x1024 : Shape := ⟨2, ![128, 1024]⟩
abbrev S128 : Shape := ⟨1, ![128]⟩
abbrev S128x1 : Shape := ⟨2, ![128, 1]⟩
abbrev S128x2176 : Shape := ⟨2, ![128, 2176]⟩
abbrev S128x128 : Shape := ⟨2, ![128, 128]⟩
abbrev S1x128x128 : Shape := ⟨3, ![1, 128, 128]⟩
abbrev S128x64 : Shape := ⟨2, ![128, 64]⟩
abbrev S64x128 : Shape := ⟨2, ![64, 128]⟩
abbrev S8x128 : Shape := ⟨2, ![8, 128]⟩
abbrev S1x1x128x64 : Shape := ⟨4, ![1, 1, 128, 64]⟩
abbrev S80x128 : Shape := ⟨2, ![80, 128]⟩
abbrev S1x1x80x128 : Shape := ⟨4, ![1, 1, 80, 128]⟩

abbrev nBuf : Space → Nat
  | .hbm => 24
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2120, .f32⟩
  | .hbm, ⟨5, _⟩ => ⟨S_, .f32⟩
  | .hbm, ⟨6, _⟩ => ⟨S_, .f32⟩
  | .hbm, ⟨7, _⟩ => ⟨S1024x2176, .f32⟩
  | .hbm, ⟨8, _⟩ => ⟨S1024x2176, .bf16⟩
  | .hbm, ⟨9, _⟩ => ⟨S32x4x1024, .f32⟩
  | .hbm, ⟨10, _⟩ => ⟨S1x128x1024, .f32⟩
  | .hbm, ⟨11, _⟩ => ⟨S32x4x1024, .f32⟩
  | .hbm, ⟨12, _⟩ => ⟨S1x128x1024, .f32⟩
  | .hbm, ⟨13, _⟩ => ⟨S1x128x1024, .f32⟩
  | .hbm, ⟨14, _⟩ => ⟨S1x1024, .f32⟩
  | .hbm, ⟨15, _⟩ => ⟨S1x256x128, .f32⟩
  | .hbm, ⟨16, _⟩ => ⟨S1x256x128, .f32⟩
  | .hbm, ⟨17, _⟩ => ⟨S1x64x128, .f32⟩
  | .hbm, ⟨18, _⟩ => ⟨S1x8x128, .f32⟩
  | .hbm, ⟨19, _⟩ => ⟨S1x16x128x64, .bf16⟩
  | .hbm, ⟨20, _⟩ => ⟨S1x8x128x64, .bf16⟩
  | .hbm, ⟨21, _⟩ => ⟨S1x4x128x64, .bf16⟩
  | .hbm, ⟨22, _⟩ => ⟨S1x4x80x128, .bf16⟩
  | .hbm, ⟨23, _⟩ => ⟨S1x128x64, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x2176, .bf16⟩
  | .local _ .vmem, ⟨5, _⟩ => ⟨S1x256x128, .f32⟩
  | .local _ .vmem, ⟨6, _⟩ => ⟨S1x256x128, .f32⟩
  | .local _ .vmem, ⟨7, _⟩ => ⟨S1x64x128, .f32⟩
  | .local _ .vmem, ⟨8, _⟩ => ⟨S1x8x128, .f32⟩
  | .local _ .vmem, ⟨9, _⟩ => ⟨S1x16x128x64, .bf16⟩
  | .local _ .vmem, ⟨10, _⟩ => ⟨S1x8x128x64, .bf16⟩
  | .local _ .vmem, ⟨11, _⟩ => ⟨S1x4x128x64, .bf16⟩
  | .local _ .vmem, ⟨12, _⟩ => ⟨S1x4x80x128, .bf16⟩
  | .local _ .vmem, ⟨13, _⟩ => ⟨S1x128x64, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v8_5 : Ref sig .tc := ⟨.hbm, 20, rfl⟩
abbrev main_v8_6 : Ref sig .tc := ⟨.hbm, 21, rfl⟩
abbrev main_v8_7 : Ref sig .tc := ⟨.hbm, 22, rfl⟩
abbrev main_v8_8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x16x128x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x8x128x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x4x128x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x4x80x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]
-- ==== SampleProjectReferenceIdeal.lean ====
abbrev S32x4x1024 : Shape := ⟨3, ![32, 4, 1024]⟩
abbrev S32x1x1024 : Shape := ⟨3, ![32, 1, 1024]⟩
abbrev S1024 : Shape := ⟨1, ![1024]⟩
abbrev S1024x2120 : Shape := ⟨2, ![1024, 2120]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2120 : Shape := ⟨3, ![32, 4, 2120]⟩
abbrev S32x4x256 : Shape := ⟨3, ![32, 4, 256]⟩
abbrev S32x4x512 : Shape := ⟨3, ![32, 4, 512]⟩
abbrev S32x4x64 : Shape := ⟨3, ![32, 4, 64]⟩
abbrev S32x4x8 : Shape := ⟨3, ![32, 4, 8]⟩
abbrev S32x4x4x4x64 : Shape := ⟨5, ![32, 4, 4, 4, 64]⟩
abbrev S32x4x4x64 : Shape := ⟨4, ![32, 4, 4, 64]⟩
abbrev S32x4x8x64 : Shape := ⟨4, ![32, 4, 8, 64]⟩
abbrev S1x128x16x64 : Shape := ⟨4, ![1, 128, 16, 64]⟩
abbrev S1x128x8x64 : Shape := ⟨4, ![1, 128, 8, 64]⟩
abbrev S1x128x256 : Shape := ⟨3, ![1, 128, 256]⟩
abbrev S1x256x128 : Shape := ⟨3, ![1, 256, 128]⟩
abbrev S1x128x64 : Shape := ⟨3, ![1, 128, 64]⟩
abbrev S1x64x128 : Shape := ⟨3, ![1, 64, 128]⟩
abbrev S1x128x8 : Shape := ⟨3, ![1, 128, 8]⟩
abbrev S1x8x128 : Shape := ⟨3, ![1, 8, 128]⟩
abbrev S1x16x128x64 : Shape := ⟨4, ![1, 16, 128, 64]⟩
abbrev S1x8x128x64 : Shape := ⟨4, ![1, 8, 128, 64]⟩

abbrev nBuf : Space → Nat
  | .hbm => 59
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x1x1024, .f32⟩
  | .hbm, ⟨2, _⟩ => ⟨S32x1x1024, .f32⟩
  | .hbm, ⟨3, _⟩ => ⟨S1024, .f32⟩
  | .hbm, ⟨4, _⟩ => ⟨S1024x2120, .f32⟩
  | .hbm, ⟨5, _⟩ => ⟨S32x4x1024, .f32⟩
  | .hbm, ⟨6, _⟩ => ⟨S_, .f32⟩
  | .hbm, ⟨7, _⟩ => ⟨S32x4, .f32⟩
  | .hbm, ⟨8, _⟩ => ⟨S32x4x1, .f32⟩
  | .hbm, ⟨9, _⟩ => ⟨S_, .f32⟩
  | .hbm, ⟨10, _⟩ => ⟨S32x4x1, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S32x4x1, .f32⟩
  | .hbm, ⟨16, _⟩ => ⟨S32x4x1024, .f32⟩
  | .hbm, ⟨17, _⟩ => ⟨S32x4x1024, .f32⟩
  | .hbm, ⟨18, _⟩ => ⟨S1x1x1024, .f32⟩
  | .hbm, ⟨19, _⟩ => ⟨S32x4x1024, .f32⟩
  | .hbm, ⟨20, _⟩ => ⟨S32x4x1024, .f32⟩
  | .hbm, ⟨21, _⟩ => ⟨S_, .f32⟩
  | .hbm, ⟨22, _⟩ => ⟨S32x1x1024, .f32⟩
  | .hbm, ⟨23, _⟩ => ⟨S32x1x1024, .f32⟩
  | .hbm, ⟨24, _⟩ => ⟨S32x4x1024, .f32⟩
  | .hbm, ⟨25, _⟩ => ⟨S32x4x1024, .f32⟩
  | .hbm, ⟨26, _⟩ => ⟨S32x4x1024, .f32⟩
  | .hbm, ⟨27, _⟩ => ⟨S32x4x1024, .f32⟩
  | .hbm, ⟨28, _⟩ => ⟨S32x4x2120, .f32⟩
  | .hbm, ⟨29, _⟩ => ⟨S32x4x1024, .f32⟩
  | .hbm, ⟨30, _⟩ => ⟨S32x4x256, .f32⟩
  | .hbm, ⟨31, _⟩ => ⟨S32x4x256, .f32⟩
  | .hbm, ⟨32, _⟩ => ⟨S32x4x512, .f32⟩
  | .hbm, ⟨33, _⟩ => ⟨S32x4x64, .f32⟩
  | .hbm, ⟨34, _⟩ => ⟨S32x4x8, .f32⟩
  | .hbm, ⟨35, _⟩ => ⟨S32x4x4x4x64, .f32⟩
  | .hbm, ⟨36, _⟩ => ⟨S32x4x4x64, .f32⟩
  | .hbm, ⟨37, _⟩ => ⟨S32x4x4x64, .f32⟩
  | .hbm, ⟨38, _⟩ => ⟨S32x4x8x64, .f32⟩
  | .hbm, ⟨39, _⟩ => ⟨S_, .f32⟩
  | .hbm, ⟨40, _⟩ => ⟨S32x4x8, .f32⟩
  | .hbm, ⟨41, _⟩ => ⟨S32x4x8, .f32⟩
  | .hbm, ⟨42, _⟩ => ⟨S1x128x16x64, .f32⟩
  | .hbm, ⟨43, _⟩ => ⟨S_, .f32⟩
  | .hbm, ⟨44, _⟩ => ⟨S1x128x16x64, .f32⟩
  | .hbm, ⟨45, _⟩ => ⟨S1x128x16x64, .f32⟩
  | .hbm, ⟨46, _⟩ => ⟨S1x128x8x64, .f32⟩
  | .hbm, ⟨47, _⟩ => ⟨S1x128x256, .f32⟩
  | .hbm, ⟨48, _⟩ => ⟨S1x256x128, .f32⟩
  | .hbm, ⟨49, _⟩ => ⟨S1x128x256, .f32⟩
  | .hbm, ⟨50, _⟩ => ⟨S1x256x128, .f32⟩
  | .hbm, ⟨51, _⟩ => ⟨S1x128x64, .f32⟩
  | .hbm, ⟨52, _⟩ => ⟨S1x64x128, .f32⟩
  | .hbm, ⟨53, _⟩ => ⟨S1x128x8, .f32⟩
  | .hbm, ⟨54, _⟩ => ⟨S1x8x128, .f32⟩
  | .hbm, ⟨55, _⟩ => ⟨S1x16x128x64, .f32⟩
  | .hbm, ⟨56, _⟩ => ⟨S1x16x128x64, .bf16⟩
  | .hbm, ⟨57, _⟩ => ⟨S1x8x128x64, .f32⟩
  | .hbm, ⟨58, _⟩ => ⟨S1x8x128x64, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== SamplePool.lean ====
abbrev S32x4x1024 : Shape := ⟨3, ![32, 4, 1024]⟩
abbrev S32x15x1024 : Shape := ⟨3, ![32, 15, 1024]⟩
abbrev S32x1x1024 : Shape := ⟨3, ![32, 1, 1024]⟩
abbrev S1024 : Shape := ⟨1, ![1024]⟩
abbrev S4x256x256 : Shape := ⟨3, ![4, 256, 256]⟩
abbrev S_ : Shape := ⟨0, ![]⟩
abbrev S32x16x1024 : Shape := ⟨3, ![32, 16, 1024]⟩
abbrev S32x8x1024 : Shape := ⟨3, ![32, 8, 1024]⟩
abbrev S1x1024 : Shape := ⟨2, ![1, 1024]⟩
abbrev S1x8x1024 : Shape := ⟨3, ![1, 8, 1024]⟩
abbrev S1x16x1024 : Shape := ⟨3, ![1, 16, 1024]⟩
abbrev S1x1x1024 : Shape := ⟨3, ![1, 1, 1024]⟩
abbrev S1x15x1024 : Shape := ⟨3, ![1, 15, 1024]⟩
abbrev S32x1024 : Shape := ⟨2, ![32, 1024]⟩
abbrev S8x1024 : Shape := ⟨2, ![8, 1024]⟩
abbrev S16x1024 : Shape := ⟨2, ![16, 1024]⟩
abbrev S8 : Shape := ⟨1, ![8]⟩
abbrev S8x1 : Shape := ⟨2, ![8, 1]⟩
abbrev S24x1024 : Shape := ⟨2, ![24, 1024]⟩
abbrev S24x768 : Shape := ⟨2, ![24, 768]⟩
abbrev S24x512 : Shape := ⟨2, ![24, 512]⟩
abbrev S8x256 : Shape := ⟨2, ![8, 256]⟩
abbrev S1x256x256 : Shape := ⟨3, ![1, 256, 256]⟩
abbrev S256x256 : Shape := ⟨2, ![256, 256]⟩
abbrev S15x1024 : Shape := ⟨2, ![15, 1024]⟩

abbrev nBuf : Space → Nat
  | .hbm => 19
  | .vmem => 21
  | .smem => 0
  | _ => 0

abbrev bufTy : (tb : Table) → Fin (tcTables nBuf tb) → BufTy
  | .hbm, ⟨0, _⟩ => ⟨S32x4x1024, .f32⟩
  | .hbm, ⟨1, _⟩ => ⟨S32x15x1024, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S_, .i32⟩
  | .hbm, ⟨9, _⟩ => ⟨S_, .f32⟩
  | .hbm, ⟨10, _⟩ => ⟨S32x16x1024, .f32⟩
  | .hbm, ⟨11, _⟩ => ⟨S_, .f32⟩
  | .hbm, ⟨12, _⟩ => ⟨S_, .f32⟩
  | .hbm, ⟨13, _⟩ => ⟨S32x8x1024, .f32⟩
  | .hbm, ⟨14, _⟩ => ⟨S1x1024, .f32⟩
  | .hbm, ⟨15, _⟩ => ⟨S4x256x256, .bf16⟩
  | .hbm, ⟨16, _⟩ => ⟨S1x1024, .f32⟩
  | .hbm, ⟨17, _⟩ => ⟨S32x8x1024, .f32⟩
  | .hbm, ⟨18, _⟩ => ⟨S32x15x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S4x256x256, .bf16⟩
  | .local _ .vmem, ⟨12, _⟩ => ⟨S1x1024, .f32⟩
  | .local _ .vmem, ⟨13, _⟩ => ⟨S1x8x1024, .f32⟩
  | .local _ .vmem, ⟨14, _⟩ => ⟨S1x8x1024, .f32⟩
  | .local _ .vmem, ⟨15, _⟩ => ⟨S1x15x1024, .f32⟩
  | .local _ .vmem, ⟨16, _⟩ => ⟨S1x15x1024, .f32⟩
  | .local _ .vmem, ⟨17, _⟩ => ⟨S32x1024, .f32⟩
  | .local _ .vmem, ⟨18, _⟩ => ⟨S32x1024, .f32⟩
  | .local _ .vmem, ⟨19, _⟩ => ⟨S32x1024, .f32⟩
  | .local _ .vmem, ⟨20, _⟩ => ⟨S32x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x15x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== SamplePoolReferenceIdeal.lean ====
abbrev S32x4x1024 : Shape := ⟨3, ![32, 4, 1024]⟩
abbrev S32x15x1024 : Shape := ⟨3, ![32, 15, 1024]⟩
abbrev S32x1x1024 : Shape := ⟨3, ![32, 1, 1024]⟩
abbrev S1024 : Shape := ⟨1, ![1024]⟩
abbrev S4x256x256 : Shape := ⟨3, ![4, 256, 256]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x19x1024 : Shape := ⟨3, ![32, 19, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x15x1024, .f32⟩
  | .hbm, ⟨2, _⟩ => ⟨S32x1x1024, .f32⟩
  | .hbm, ⟨3, _⟩ => ⟨S32x1x1024, .f32⟩
  | .hbm, ⟨4, _⟩ => ⟨S32x1x1024, .f32⟩
  | .hbm, ⟨5, _⟩ => ⟨S1024, .f32⟩
  | .hbm, ⟨6, _⟩ => ⟨S4x256x256, .f32⟩
  | .hbm, ⟨7, _⟩ => ⟨S1024, .f32⟩
  | .hbm, ⟨8, _⟩ => ⟨S32x4x1024, .f32⟩
  | .hbm, ⟨9, _⟩ => ⟨S_, .f32⟩
  | .hbm, ⟨10, _⟩ => ⟨S32x4, .f32⟩
  | .hbm, ⟨11, _⟩ => ⟨S32x4x1, .f32⟩
  | .hbm, ⟨12, _⟩ => ⟨S_, .f32⟩
  | .hbm, ⟨13, _⟩ => ⟨S32x4x1, .f32⟩
  | .hbm, ⟨14, _⟩ => ⟨S32x4x1, .f32⟩
  | .hbm, ⟨15, _⟩ => ⟨S_, .f32⟩
  | .hbm, ⟨16, _⟩ => ⟨S32x4x1, .f32⟩
  | .hbm, ⟨17, _⟩ => ⟨S32x4x1, .f32⟩
  | .hbm, ⟨18, _⟩ => ⟨S32x4x1, .f32⟩
  | .hbm, ⟨19, _⟩ => ⟨S32x4x1024, .f32⟩
  | .hbm, ⟨20, _⟩ => ⟨S32x4x1024, .f32⟩
  | .hbm, ⟨21, _⟩ => ⟨S1x1x1024, .f32⟩
  | .hbm, ⟨22, _⟩ => ⟨S32x4x1024, .f32⟩
  | .hbm, ⟨23, _⟩ => ⟨S32x4x1024, .f32⟩
  | .hbm, ⟨24, _⟩ => ⟨S_, .f32⟩
  | .hbm, ⟨25, _⟩ => ⟨S32x1x1024, .f32⟩
  | .hbm, ⟨26, _⟩ => ⟨S32x1x1024, .f32⟩
  | .hbm, ⟨27, _⟩ => ⟨S32x4x1024, .f32⟩
  | .hbm, ⟨28, _⟩ => ⟨S32x4x1024, .f32⟩
  | .hbm, ⟨29, _⟩ => ⟨S32x4x1024, .f32⟩
  | .hbm, ⟨30, _⟩ => ⟨S32x4x1024, .f32⟩
  | .hbm, ⟨31, _⟩ => ⟨S32x19x1024, .f32⟩
  | .hbm, ⟨32, _⟩ => ⟨S32x15x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Pool.lean ====
abbrev S2x8192x1024 : Shape := ⟨3, ![2, 8192, 1024]⟩
abbrev S2x1x1024 : Shape := ⟨3, ![2, 1, 1024]⟩
abbrev S1024 : Shape := ⟨1, ![1024]⟩
abbrev S4x256x256 : Shape := ⟨3, ![4, 256, 256]⟩
abbrev S_ : Shape := ⟨0, ![]⟩
abbrev S2x16x1024 : Shape := ⟨3, ![2, 16, 1024]⟩
abbrev S1x1024 : Shape := ⟨2, ![1, 1024]⟩
abbrev S2x15x1024 : Shape := ⟨3, ![2, 15, 1024]⟩
abbrev S1x512x1024 : Shape := ⟨3, ![1, 512, 1024]⟩
abbrev S1x16x1024 : Shape := ⟨3, ![1, 16, 1024]⟩
abbrev S1x1x1024 : Shape := ⟨3, ![1, 1, 1024]⟩
abbrev S1x15x1024 : Shape := ⟨3, ![1, 15, 1024]⟩
abbrev S536x1024 : Shape := ⟨2, ![536, 1024]⟩
abbrev S8x1024 : Shape := ⟨2, ![8, 1024]⟩
abbrev S16x1024 : Shape := ⟨2, ![16, 1024]⟩
abbrev S512x1024 : Shape := ⟨2, ![512, 1024]⟩
abbrev S512 : Shape := ⟨1, ![512]⟩
abbrev S512x1 : Shape := ⟨2, ![512, 1]⟩
abbrev S528x1024 : Shape := ⟨2, ![528, 1024]⟩
abbrev S528x768 : Shape := ⟨2, ![528, 768]⟩
abbrev S528x512 : Shape := ⟨2, ![528, 512]⟩
abbrev S512x256 : Shape := ⟨2, ![512, 256]⟩
abbrev S1x256x256 : Shape := ⟨3, ![1, 256, 256]⟩
abbrev S256x256 : Shape := ⟨2, ![256, 256]⟩
abbrev S15x1024 : Shape := ⟨2, ![15, 1024]⟩

abbrev nBuf : Space → Nat
  | .hbm => 14
  | .vmem => 21
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S_, .f32⟩
  | .hbm, ⟨8, _⟩ => ⟨S2x16x1024, .f32⟩
  | .hbm, ⟨9, _⟩ => ⟨S1x1024, .f32⟩
  | .hbm, ⟨10, _⟩ => ⟨S4x256x256, .bf16⟩
  | .hbm, ⟨11, _⟩ => ⟨S1x1024, .f32⟩
  | .hbm, ⟨12, _⟩ => ⟨S2x8192x1024, .f32⟩
  | .hbm, ⟨13, _⟩ => ⟨S2x15x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S4x256x256, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x15x1024, .f32⟩
  | .local _ .vmem, ⟨16, _⟩ => ⟨S1x15x1024, .f32⟩
  | .local _ .vmem, ⟨17, _⟩ => ⟨S536x1024, .f32⟩
  | .local _ .vmem, ⟨18, _⟩ => ⟨S536x1024, .f32⟩
  | .local _ .vmem, ⟨19, _⟩ => ⟨S536x1024, .f32⟩
  | .local _ .vmem, ⟨20, _⟩ => ⟨S536x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x15x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== PoolReferenceIdeal.lean ====
abbrev S2x8192x1024 : Shape := ⟨3, ![2, 8192, 1024]⟩
abbrev S2x1x1024 : Shape := ⟨3, ![2, 1, 1024]⟩
abbrev S1024 : Shape := ⟨1, ![1024]⟩
abbrev S4x256x256 : Shape := ⟨3, ![4, 256, 256]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x15x1024 : Shape := ⟨3, ![2, 15, 1024]⟩
abbrev S2x8207x1024 : Shape := ⟨3, ![2, 8207, 1024]⟩

abbrev nBuf : Space → Nat
  | .hbm => 34
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x1024, .f32⟩
  | .hbm, ⟨2, _⟩ => ⟨S2x1x1024, .f32⟩
  | .hbm, ⟨3, _⟩ => ⟨S2x1x1024, .f32⟩
  | .hbm, ⟨4, _⟩ => ⟨S1024, .f32⟩
  | .hbm, ⟨5, _⟩ => ⟨S4x256x256, .f32⟩
  | .hbm, ⟨6, _⟩ => ⟨S1024, .f32⟩
  | .hbm, ⟨7, _⟩ => ⟨S2x8192x1024, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x1024, .f32⟩
  | .hbm, ⟨19, _⟩ => ⟨S2x8192x1024, .f32⟩
  | .hbm, ⟨20, _⟩ => ⟨S1x1x1024, .f32⟩
  | .hbm, ⟨21, _⟩ => ⟨S2x8192x1024, .f32⟩
  | .hbm, ⟨22, _⟩ => ⟨S2x8192x1024, .f32⟩
  | .hbm, ⟨23, _⟩ => ⟨S_, .f32⟩
  | .hbm, ⟨24, _⟩ => ⟨S2x1x1024, .f32⟩
  | .hbm, ⟨25, _⟩ => ⟨S2x1x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S_, .f32⟩
  | .hbm, ⟨31, _⟩ => ⟨S2x15x1024, .f32⟩
  | .hbm, ⟨32, _⟩ => ⟨S2x8207x1024, .f32⟩
  | .hbm, ⟨33, _⟩ => ⟨S2x15x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Mod.lean ====
abbrev S2x1024 : Shape := ⟨2, ![2, 1024]⟩
abbrev S32x1024 : Shape := ⟨2, ![32, 1024]⟩
abbrev S2x2x1024x3072 : Shape := ⟨4, ![2, 2, 1024, 3072]⟩
abbrev S2x2x3072 : Shape := ⟨3, ![2, 2, 3072]⟩
abbrev S34x1024 : Shape := ⟨2, ![34, 1024]⟩
abbrev S_ : Shape := ⟨0, ![]⟩
abbrev S40x1024 : Shape := ⟨2, ![40, 1024]⟩
abbrev S4x1024x3072 : Shape := ⟨3, ![4, 1024, 3072]⟩
abbrev S4x1x3072 : Shape := ⟨3, ![4, 1, 3072]⟩
abbrev S4x40x3072 : Shape := ⟨3, ![4, 40, 3072]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩
abbrev S4x2x3072 : Shape := ⟨3, ![4, 2, 3072]⟩
abbrev S4x32x3072 : Shape := ⟨3, ![4, 32, 3072]⟩

abbrev nBuf : Space → Nat
  | .hbm => 13
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S32x1024, .f32⟩
  | .hbm, ⟨2, _⟩ => ⟨S2x2x1024x3072, .f32⟩
  | .hbm, ⟨3, _⟩ => ⟨S2x2x3072, .f32⟩
  | .hbm, ⟨4, _⟩ => ⟨S34x1024, .f32⟩
  | .hbm, ⟨5, _⟩ => ⟨S_, .f32⟩
  | .hbm, ⟨6, _⟩ => ⟨S_, .f32⟩
  | .hbm, ⟨7, _⟩ => ⟨S40x1024, .f32⟩
  | .hbm, ⟨8, _⟩ => ⟨S4x1024x3072, .f32⟩
  | .hbm, ⟨9, _⟩ => ⟨S4x1x3072, .f32⟩
  | .hbm, ⟨10, _⟩ => ⟨S4x40x3072, .f32⟩
  | .hbm, ⟨11, _⟩ => ⟨S4x2x3072, .f32⟩
  | .hbm, ⟨12, _⟩ => ⟨S4x32x3072, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModReferenceIdeal.lean ====
abbrev S2x1024 : Shape := ⟨2, ![2, 1024]⟩
abbrev S32x1024 : Shape := ⟨2, ![32, 1024]⟩
abbrev S2x2x1024x3072 : Shape := ⟨4, ![2, 2, 1024, 3072]⟩
abbrev S2x2x3072 : Shape := ⟨3, ![2, 2, 3072]⟩
abbrev S1x1x1024x3072 : Shape := ⟨4, ![1, 1, 1024, 3072]⟩
abbrev S1024x3072 : Shape := ⟨2, ![1024, 3072]⟩
abbrev S1x1x3072 : Shape := ⟨3, ![1, 1, 3072]⟩
abbrev S3072 : Shape := ⟨1, ![3072]⟩
abbrev S_ : Shape := ⟨0, ![]⟩
abbrev S2x3072 : Shape := ⟨2, ![2, 3072]⟩
abbrev S1x3072 : Shape := ⟨2, ![1, 3072]⟩
abbrev S1x2x3072 : Shape := ⟨3, ![1, 2, 3072]⟩
abbrev S4x2x3072 : Shape := ⟨3, ![4, 2, 3072]⟩
abbrev S32x3072 : Shape := ⟨2, ![32, 3072]⟩
abbrev S1x32x3072 : Shape := ⟨3, ![1, 32, 3072]⟩
abbrev S4x32x3072 : Shape := ⟨3, ![4, 32, 3072]⟩

abbrev nBuf : Space → Nat
  | .hbm => 150
  | .vmem => 0
  | .smem => 0
  | _ => 0

abbrev hbmTy0_0 (i : Nat) : BufTy := match i % 128 with
  | 0 => ⟨S2x1024, .f32⟩
  | 1 => ⟨S32x1024, .f32⟩
  | 2 => ⟨S2x2x1024x3072, .f32⟩
  | 3 => ⟨S2x2x3072, .f32⟩
  | 4 => ⟨S1x1x1024x3072, .f32⟩
  | 5 => ⟨S1024x3072, .f32⟩
  | 6 => ⟨S1x1x3072, .f32⟩
  | 7 => ⟨S3072, .f32⟩
  | 8 => ⟨S2x1024, .f32⟩
  | 9 => ⟨S2x1024, .f32⟩
  | 10 => ⟨S_, .f32⟩
  | 11 => ⟨S2x1024, .f32⟩
  | 12 => ⟨S2x1024, .f32⟩
  | 13 => ⟨S_, .f32⟩
  | 14 => ⟨S2x1024, .f32⟩
  | 15 => ⟨S2x1024, .f32⟩
  | 16 => ⟨S2x1024, .f32⟩
  | 17 => ⟨S2x3072, .f32⟩
  | 18 => ⟨S1x3072, .f32⟩
  | 19 => ⟨S2x3072, .f32⟩
  | 20 => ⟨S2x3072, .f32⟩
  | 21 => ⟨S1x1x1024x3072, .f32⟩
  | 22 => ⟨S1024x3072, .f32⟩
  | 23 => ⟨S1x1x3072, .f32⟩
  | 24 => ⟨S3072, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S2x3072, .f32⟩
  | 35 => ⟨S1x3072, .f32⟩
  | 36 => ⟨S2x3072, .f32⟩
  | 37 => ⟨S2x3072, .f32⟩
  | 38 => ⟨S1x1x1024x3072, .f32⟩
  | 39 => ⟨S1024x3072, .f32⟩
  | 40 => ⟨S1x1x3072, .f32⟩
  | 41 => ⟨S3072, .f32⟩
  | 42 => ⟨S2x1024, .f32⟩
  | 43 => ⟨S2x1024, .f32⟩
  | 44 => ⟨S_, .f32⟩
  | 45 => ⟨S2x1024, .f32⟩
  | 46 => ⟨S2x1024, .f32⟩
  | 47 => ⟨S_, .f32⟩
  | 48 => ⟨S2x1024, .f32⟩
  | 49 => ⟨S2x1024, .f32⟩
  | 50 => ⟨S2x1024, .f32⟩
  | 51 => ⟨S2x3072, .f32⟩
  | 52 => ⟨S1x3072, .f32⟩
  | 53 => ⟨S2x3072, .f32⟩
  | 54 => ⟨S2x3072, .f32⟩
  | 55 => ⟨S1x1x1024x3072, .f32⟩
  | 56 => ⟨S1024x3072, .f32⟩
  | 57 => ⟨S1x1x3072, .f32⟩
  | 58 => ⟨S3072, .f32⟩
  | 59 => ⟨S2x1024, .f32⟩
  | 60 => ⟨S2x1024, .f32⟩
  | 61 => ⟨S_, .f32⟩
  | 62 => ⟨S2x1024, .f32⟩
  | 63 => ⟨S2x1024, .f32⟩
  | 64 => ⟨S_, .f32⟩
  | 65 => ⟨S2x1024, .f32⟩
  | 66 => ⟨S2x1024, .f32⟩
  | 67 => ⟨S2x1024, .f32⟩
  | 68 => ⟨S2x3072, .f32⟩
  | 69 => ⟨S1x3072, .f32⟩
  | 70 => ⟨S2x3072, .f32⟩
  | 71 => ⟨S2x3072, .f32⟩
  | 72 => ⟨S1x2x3072, .f32⟩
  | 73 => ⟨S1x2x3072, .f32⟩
  | 74 => ⟨S1x2x3072, .f32⟩
  | 75 => ⟨S1x2x3072, .f32⟩
  | 76 => ⟨S4x2x3072, .f32⟩
  | 77 => ⟨S1x1x1024x3072, .f32⟩
  | 78 => ⟨S1024x3072, .f32⟩
  | 79 => ⟨S1x1x3072, .f32⟩
  | 80 => ⟨S3072, .f32⟩
  | 81 => ⟨S32x1024, .f32⟩
  | 82 => ⟨S32x1024, .f32⟩
  | 83 => ⟨S_, .f32⟩
  | 84 => ⟨S32x1024, .f32⟩
  | 85 => ⟨S32x1024, .f32⟩
  | 86 => ⟨S_, .f32⟩
  | 87 => ⟨S32x1024, .f32⟩
  | 88 => ⟨S32x1024, .f32⟩
  | 89 => ⟨S32x1024, .f32⟩
  | 90 => ⟨S32x3072, .f32⟩
  | 91 => ⟨S1x3072, .f32⟩
  | 92 => ⟨S32x3072, .f32⟩
  | 93 => ⟨S32x3072, .f32⟩
  | 94 => ⟨S1x1x1024x3072, .f32⟩
  | 95 => ⟨S1024x3072, .f32⟩
  | 96 => ⟨S1x1x3072, .f32⟩
  | 97 => ⟨S3072, .f32⟩
  | 98 => ⟨S32x1024, .f32⟩
  | 99 => ⟨S32x1024, .f32⟩
  | 100 => ⟨S_, .f32⟩
  | 101 => ⟨S32x1024, .f32⟩
  | 102 => ⟨S32x1024, .f32⟩
  | 103 => ⟨S_, .f32⟩
  | 104 => ⟨S32x1024, .f32⟩
  | 105 => ⟨S32x1024, .f32⟩
  | 106 => ⟨S32x1024, .f32⟩
  | 107 => ⟨S32x3072, .f32⟩
  | 108 => ⟨S1x3072, .f32⟩
  | 109 => ⟨S32x3072, .f32⟩
  | 110 => ⟨S32x3072, .f32⟩
  | 111 => ⟨S1x1x1024x3072, .f32⟩
  | 112 => ⟨S1024x3072, .f32⟩
  | 113 => ⟨S1x1x3072, .f32⟩
  | 114 => ⟨S3072, .f32⟩
  | 115 => ⟨S32x1024, .f32⟩
  | 116 => ⟨S32x1024, .f32⟩
  | 117 => ⟨S_, .f32⟩
  | 118 => ⟨S32x1024, .f32⟩
  | 119 => ⟨S32x1024, .f32⟩
  | 120 => ⟨S_, .f32⟩
  | 121 => ⟨S32x1024, .f32⟩
  | 122 => ⟨S32x1024, .f32⟩
  | 123 => ⟨S32x1024, .f32⟩
  | 124 => ⟨S32x3072, .f32⟩
  | 125 => ⟨S1x3072, .f32⟩
  | 126 => ⟨S32x3072, .f32⟩
  | 127 => ⟨S32x3072, .f32⟩
  | _ => ⟨S2x1024, .f32⟩

abbrev hbmTy0_1 (i : Nat) : BufTy := match i % 128 with
  | 0 => ⟨S1x1x1024x3072, .f32⟩
  | 1 => ⟨S1024x3072, .f32⟩
  | 2 => ⟨S1x1x3072, .f32⟩
  | 3 => ⟨S3072, .f32⟩
  | 4 => ⟨S32x1024, .f32⟩
  | 5 => ⟨S32x1024, .f32⟩
  | 6 => ⟨S_, .f32⟩
  | 7 => ⟨S32x1024, .f32⟩
  | 8 => ⟨S32x1024, .f32⟩
  | 9 => ⟨S_, .f32⟩
  | 10 => ⟨S32x1024, .f32⟩
  | 11 => ⟨S32x1024, .f32⟩
  | 12 => ⟨S32x1024, .f32⟩
  | 13 => ⟨S32x3072, .f32⟩
  | 14 => ⟨S1x3072, .f32⟩
  | 15 => ⟨S32x3072, .f32⟩
  | 16 => ⟨S32x3072, .f32⟩
  | 17 => ⟨S1x32x3072, .f32⟩
  | 18 => ⟨S1x32x3072, .f32⟩
  | 19 => ⟨S1x32x3072, .f32⟩
  | 20 => ⟨S1x32x3072, .f32⟩
  | 21 => ⟨S4x32x3072, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call4_v0 : Ref sig .tc := ⟨.hbm, 81, rfl⟩
abbrev main_call4_v1 : Ref sig .tc := ⟨.hbm, 82, rfl⟩
abbrev main_call4_cst : Ref sig .tc := ⟨.hbm, 83, rfl⟩
abbrev main_call4_v2 : Ref sig .tc := ⟨.hbm, 84, rfl⟩
abbrev main_call4_v3 : Ref sig .tc := ⟨.hbm, 85, rfl⟩
abbrev main_call4_cst_0 : Ref sig .tc := ⟨.hbm, 86, rfl⟩
abbrev main_call4_v4 : Ref sig .tc := ⟨.hbm, 87, rfl⟩
abbrev main_call4_v5 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_call5_v0 : Ref sig .tc := ⟨.hbm, 98, rfl⟩
abbrev main_call5_v1 : Ref sig .tc := ⟨.hbm, 99, rfl⟩
abbrev main_call5_cst : Ref sig .tc := ⟨.hbm, 100, rfl⟩
abbrev main_call5_v2 : Ref sig .tc := ⟨.hbm, 101, rfl⟩
abbrev main_call5_v3 : Ref sig .tc := ⟨.hbm, 102, rfl⟩
abbrev main_call5_cst_0 : Ref sig .tc := ⟨.hbm, 103, rfl⟩
abbrev main_call5_v4 : Ref sig .tc := ⟨.hbm, 104, rfl⟩
abbrev main_call5_v5 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call6_v0 : Ref sig .tc := ⟨.hbm, 115, rfl⟩
abbrev main_call6_v1 : Ref sig .tc := ⟨.hbm, 116, rfl⟩
abbrev main_call6_cst : Ref sig .tc := ⟨.hbm, 117, rfl⟩
abbrev main_call6_v2 : Ref sig .tc := ⟨.hbm, 118, rfl⟩
abbrev main_call6_v3 : Ref sig .tc := ⟨.hbm, 119, rfl⟩
abbrev main_call6_cst_0 : Ref sig .tc := ⟨.hbm, 120, rfl⟩
abbrev main_call6_v4 : Ref sig .tc := ⟨.hbm, 121, rfl⟩
abbrev main_call6_v5 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call7_v0 : Ref sig .tc := ⟨.hbm, 132, rfl⟩
abbrev main_call7_v1 : Ref sig .tc := ⟨.hbm, 133, rfl⟩
abbrev main_call7_cst : Ref sig .tc := ⟨.hbm, 134, rfl⟩
abbrev main_call7_v2 : Ref sig .tc := ⟨.hbm, 135, rfl⟩
abbrev main_call7_v3 : Ref sig .tc := ⟨.hbm, 136, rfl⟩
abbrev main_call7_cst_0 : Ref sig .tc := ⟨.hbm, 137, rfl⟩
abbrev main_call7_v4 : Ref sig .tc := ⟨.hbm, 138, rfl⟩
abbrev main_call7_v5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩

abbrev nD : Nat := 1
abbrev τ : Topo := Topo.v7x

variable {F : FTy → Type} [FloatOps F]
-- ==== Proof.Row.lean ====
/-
  One row of the feed-forward sub-layer, as a function of that row and of the weights: the output projection of the
  attention added to the residual, the root-mean-square normalisation with its modulation, and the gated product.
-/
module

public import proofs.«01_k».proof.Proof.Gen.KernelIdeal.Value
public import Idealize.ShloMosaic.Lib.Pointwise
public import Idealize.ShloMosaic.Lib.ValueIdxCore

@[expose] public section

noncomputable section

namespace Cert.Row

open Idealize.ShloMosaic Finset

/-- A row of the residual after the attention: its output projection, gated, added. -/
def mixed (x a gta : Fin 1024 → EReal) (wo : Fin 1024 → Fin 1024 → EReal) (d : Fin 1024) : EReal :=
  x d + gta d * ∑ k, a k * wo k d

/-- A row over its root mean square, scaled by the norm's weights. -/
def normed (x g : Fin 1024 → EReal) (d : Fin 1024) : EReal :=
  x d * Ideal.rsqrt (Ideal.div (∑ k, x k * x k) (Ideal.ofBits .f32 0x44800000#32) + Ideal.ofBits .f32 0x358637BD#32) * g d

/-- The normalised row with its scale and shift. -/
def hidden (x g sc sh : Fin 1024 → EReal) (d : Fin 1024) : EReal :=
  normed x g d * (Ideal.ofBits .f32 0x3F800000#32 + sc d) + sh d

/-- One column of the gated product: the gate's silu times the other half. -/
def gated (h u w : Fin 1024 → EReal) : EReal :=
  ((∑ k, h k * u k) * Ideal.logistic (∑ k, h k * u k)) * ∑ k, h k * w k

/-- The feed-forward's row added to the residual. -/
def fed (x h gt : Fin 1024 → EReal) (win : Fin 1024 → Fin 5632 → EReal) (wout : Fin 2816 → Fin 1024 → EReal) (d : Fin 1024) : EReal :=
  x d + gt d * ∑ f : Fin 2816, gated h (fun k => win k ⟨f, by omega⟩) (fun k => win k ⟨2816 + f, by omega⟩) * wout f d

/-- A sum over the columns is the sum over the first 1536 plus the sum over the other 1280. -/
theorem sum_split (p : Fin 2816 → EReal) :
    ∑ f, p f = (0 + ∑ f : Fin 1536, p ⟨f, by omega⟩) + ∑ f : Fin 1280, p ⟨1536 + f, by omega⟩ := by
  rw [zero_add]
  exact Fin.sum_univ_add (a := 1536) (b := 1280) p

end Cert.Row

end
-- ==== Proof.KernelRow.lean ====
/-
  The kernel's block read at a row: the row function of that row's inputs.
-/
module

public import proofs.«01_k».proof.Proof.Row

@[expose] public section

set_option maxRecDepth 16384

noncomputable section

namespace Cert.KernelRow

open Idealize.ShloMosaic Cert.KernelIdeal Cert.KernelIdeal.Gen Cert.Row Finset

theorem pay2_apply (x : Vec Ideal S1x512x1024 .f32) (gta : Vec Ideal S1x1x1024 .f32) (a : Vec Ideal S1x512x1024 .bf16) (wo : Vec Ideal S1024x1024 .bf16)
    (r : Fin 512) (d : Fin 1024) :
    k0_pay2 x gta a wo (ix2 r d)
      = mixed (fun k => x (ix3 0 r k)) (fun k => a (ix3 0 r k)) (fun k => gta (ix3 0 0 k)) (fun k e => wo (ix2 k e)) d := by
  unfold k0_pay2 mixed
  pointwise

theorem pay4_apply (x : Vec Ideal S1x512x1024 .f32) (gta : Vec Ideal S1x1x1024 .f32) (a : Vec Ideal S1x512x1024 .bf16) (wo : Vec Ideal S1024x1024 .bf16)
    (g : Vec Ideal S1x1024 .f32) (sc : Vec Ideal S1x1x1024 .f32) (r : Fin 512) (d : Fin 1024) :
    k0_pay4 x gta a wo g sc (ix2 r d)
      = normed (fun k => k0_pay2 x gta a wo (ix2 r k)) (fun k => g (ix2 0 k)) d * (Ideal.ofBits .f32 0x3F800000#32 + sc (ix3 0 0 d)) := by
  unfold k0_pay4 normed
  generalize k0_pay2 x gta a wo = y
  pointwise

theorem pay5_apply (x : FVec Ideal S512x1024 .f32) (sh : FVec Ideal S1x1024 .f32) (h : FVec Ideal S512x1024 .f32)
    (u1 w1 : Vec Ideal S1024x1536 .bf16) (o1 : Vec Ideal S1536x1024 .bf16) (u2 w2 : Vec Ideal S1024x1280 .bf16) (o2 : Vec Ideal S1280x1024 .bf16)
    (gt : Vec Ideal S1x1x1024 .f32) (r : Fin 512) (d : Fin 1024) :
    k0_pay5 x sh h u1 w1 o1 u2 w2 o2 gt (ix2 r d)
      = x (ix2 r d) + gt (ix3 0 0 d) * ((0 + ∑ f : Fin 1536, gated (fun k => h (ix2 r k) + sh (ix2 0 k)) (fun k => u1 (ix2 k f)) (fun k => w1 (ix2 k f)) * o1 (ix2 f d))
          + ∑ f : Fin 1280, gated (fun k => h (ix2 r k) + sh (ix2 0 k)) (fun k => u2 (ix2 k f)) (fun k => w2 (ix2 k f)) * o2 (ix2 f d)) := by
  unfold k0_pay5 gated
  pointwise

theorem pay1_apply (y y2 : FVec Ideal S512x1024 .f32) (fg : Vec Ideal S1x1024 .f32) (hy : y2 = mulf y y) (r : Fin 512) (d : Fin 1024) :
    k0_pay1 y y2 fg (ix3 0 r d) = normed (fun k => y (ix2 r k)) (fun k => fg (ix2 0 k)) d := by
  subst hy
  unfold k0_pay1 normed
  pointwise

theorem pay3_apply (sh : Vec Ideal S1x1x1024 .f32) (k : Fin 1024) : k0_pay3 sh (ix2 0 k) = sh (ix3 0 0 k) := by
  unfold k0_pay3
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x512x1024 e) : View.ld v r0_0 = v := View.ld_unit_zero zeros3 _ v
theorem ld_1 {e : EltTy} (v : Vec Ideal S1x1x1024 e) : View.ld v r0_1 = v := View.ld_unit_zero zeros3 _ v
theorem ld_2 {e : EltTy} (v : Vec Ideal S1024x1024 e) : View.ld v r0_2 = v := View.ld_unit_zero zeros2 _ v
theorem ld_3 {e : EltTy} (v : Vec Ideal S1x1024 e) : View.ld v r0_3 = v := View.ld_unit_zero zeros2 _ v

theorem ld_4 {e : EltTy} (v : Vec Ideal S1024x5632 e) (k : Fin 1024) (f : Fin 1536) :
    View.ld v r0_4 (ix2 k f) = v (ix2 k ⟨f, by omega⟩) := by
  refine congrArg v ?_
  funext a; refine Fin.ext ?_
  fin_cases a <;> simp [Rect.emb, r0_4, ix2]

theorem ld_5 {e : EltTy} (v : Vec Ideal S1024x5632 e) (k : Fin 1024) (f : Fin 1536) :
    View.ld v r0_5 (ix2 k f) = v (ix2 k ⟨2816 + f, by omega⟩) := by
  refine congrArg v ?_
  funext a; refine Fin.ext ?_
  fin_cases a <;> simp [Rect.emb, r0_5, ix2]

theorem ld_6 {e : EltTy} (v : Vec Ideal S2816x1024 e) (k : Fin 1536) (f : Fin 1024) :
    View.ld v r0_6 (ix2 k f) = v (ix2 ⟨k, by omega⟩ f) := by
  refine congrArg v ?_
  funext a; refine Fin.ext ?_
  fin_cases a <;> simp [Rect.emb, r0_6, ix2]

theorem ld_7 {e : EltTy} (v : Vec Ideal S1024x5632 e) (k : Fin 1024) (f : Fin 1280) :
    View.ld v r0_7 (ix2 k f) = v (ix2 k ⟨1536 + f, by omega⟩) := by
  refine congrArg v ?_
  funext a; refine Fin.ext ?_
  fin_cases a <;> simp [Rect.emb, r0_7, ix2]

theorem ld_8 {e : EltTy} (v : Vec Ideal S1024x5632 e) (k : Fin 1024) (f : Fin 1280) :
    View.ld v r0_8 (ix2 k f) = v (ix2 k ⟨4352 + f, by omega⟩) := by
  refine congrArg v ?_
  funext a; refine Fin.ext ?_
  fin_cases a <;> simp [Rect.emb, r0_8, ix2]

theorem ld_9 {e : EltTy} (v : Vec Ideal S2816x1024 e) (k : Fin 1280) (f : Fin 1024) :
    View.ld v r0_9 (ix2 k f) = v (ix2 ⟨1536 + k, by omega⟩ f) := by
  refine congrArg v ?_
  funext a; refine Fin.ext ?_
  fin_cases a <;> simp [Rect.emb, r0_9, ix2]

/-- The block the body leaves, read at a row. -/
theorem out_apply (x : Vec Ideal S1x512x1024 .f32) (a : Vec Ideal S1x512x1024 .bf16) (gta : Vec Ideal S1x1x1024 .f32) (wo : Vec Ideal S1024x1024 .bf16)
    (sh sc gt : Vec Ideal S1x1x1024 .f32) (g : Vec Ideal S1x1024 .f32) (win : Vec Ideal S1024x5632 .bf16) (wout : Vec Ideal S2816x1024 .bf16)
    (fg : Vec Ideal S1x1024 .f32) (r : Fin 512) (d : Fin 1024) (X H : Fin 1024 → EReal)
    (hX : X = mixed (fun k => x (ix3 0 r k)) (fun k => a (ix3 0 r k)) (fun k => gta (ix3 0 0 k)) (fun k e => wo (ix2 k e)))
    (hH : H = hidden X (fun k => g (ix2 0 k)) (fun k => sc (ix3 0 0 k)) (fun k => sh (ix3 0 0 k))) :
    out0_11 x a gta wo sh sc gt g win wout fg (ix3 0 r d)
      = normed (fed X H (fun k => gt (ix3 0 0 k)) (fun k f => win (ix2 k f)) (fun f k => wout (ix2 f k))) (fun k => fg (ix2 0 k)) d := by
  unfold out0_11 k0_pay7 k0_pay8 k0_pay9
  rw [View.canon_unit_zero zeros3]
  simp only [ld_0, ld_1, ld_2, ld_3]
  rw [pay1_apply _ _ _ (by rfl)]
  congr 1
  funext e
  simp only [pay5_apply, pay4_apply, pay3_apply]
  have hx (k : Fin 1024) : k0_pay2 x gta a wo (ix2 r k) = X k := by rw [pay2_apply, hX]
  simp only [hx]
  have hh : (fun k => normed X (fun k => g (ix2 0 k)) k * (Ideal.ofBits .f32 0x3F800000#32 + sc (ix3 0 0 k)) + sh (ix3 0 0 k)) = H := hH.symm
  simp only [hh]
  unfold fed
  rw [sum_split]
  refine congrArg (fun z => X e + gt (ix3 0 0 e) * z) (congrArg₂ (fun p q => (0 + p) + q) ?_ ?_)
  · refine Finset.sum_congr rfl fun f _ => ?_
    exact congrArg₂ (· * ·) (congrArg₂ (gated H) (funext fun k => ld_4 win k f) (funext fun k => ld_5 win k f)) (ld_6 wout f e)
  · refine Finset.sum_congr rfl fun f _ => ?_
    refine congrArg₂ (· * ·) (congrArg₂ (gated H) (funext fun k => ld_7 win k f) (funext fun k => (ld_8 win k f).trans ?_)) (ld_9 wout f e)
    exact congrArg (fun i => win (ix2 k i)) (Fin.ext (by show 4352 + f.val = 2816 + (1536 + f.val); omega))

end Cert.KernelRow

end
-- ==== Proof.KernelArray.lean ====
/-
  The last layer's kernel: the result array after the run, as one function of the argument arrays.
-/
module

public import proofs.«01_k».proof.Proof.KernelRow
public import Idealize.ShloMosaic.Lib.Pipeline.Value

@[expose] public section

set_option maxRecDepth 16384

noncomputable section

namespace Cert.KernelArray

open Idealize.ShloMosaic Idealize.ShloMosaic.TcCoe Cert.KernelIdeal Cert.KernelIdeal.Gen Cert.Row

variable (m : (ℓ : Loc nD τ sig) → Buf (Elt Ideal) ℓ) (c : Dev nD)

/-- The batch a grid point works on. -/
def batch (t : Fin cfg0.N) : Fin 2 := ⟨t.val / 16, by have h : t.val < 32 := N_0 ▸ t.isLt; omega⟩

/-- The row of the array that is row `r` of a grid point's block. -/
def row (t : Fin cfg0.N) (r : Fin 512) : Fin 8192 := ⟨(t.val % 16) * 512 + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (d : Fin 1024) :
    ((cfg0.win 0).blk t).view.emb (ix3 0 r d : S1x512x1024.Idx) = (ix3 (batch t) (row t r) d : S2x8192x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = (t.val % 16) * 512 + r.val; omega
  | ⟨2, _⟩ => show win0_0.index t (2 : Fin 3) * 1024 + 1 * d.val = d.val; omega

theorem idx1 : ∀ t : Fin cfg0.N, win0_1.index t (0 : Fin 3) = t.val / 16 ∧ win0_1.index t (1 : Fin 3) = t.val % 16 ∧ win0_1.index t (2 : Fin 3) = 0 :=
  (by decide +kernel : ∀ t : Fin grid0.N, _)

theorem emb1 (t : Fin cfg0.N) (r : Fin 512) (d : Fin 1024) :
    ((cfg0.win 1).blk t).view.emb (ix3 0 r d : S1x512x1024.Idx) = (ix3 (batch t) (row t r) d : S2x8192x1024.Idx) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 512 + 1 * r.val = (t.val % 16) * 512 + r.val; omega
  | ⟨2, _⟩ => show win0_1.index t (2 : Fin 3) * 1024 + 1 * d.val = d.val; omega

theorem idx11 : ∀ t : Fin cfg0.N, win0_11.index t (0 : Fin 3) = t.val / 16 ∧ win0_11.index t (1 : Fin 3) = t.val % 16 ∧ win0_11.index t (2 : Fin 3) = 0 :=
  (by decide +kernel : ∀ t : Fin grid0.N, _)

theorem emb11 (t : Fin cfg0.N) (r : Fin 512) (d : Fin 1024) :
    ((cfg0.win 11).blk t).view.emb (ix3 0 r d : S1x512x1024.Idx) = (ix3 (batch t) (row t r) d : S2x8192x1024.Idx) := by
  obtain ⟨e0, e1, e2⟩ := idx11 t
  funext a; apply Fin.ext
  match a with
  | ⟨0, _⟩ => show win0_11.index t (0 : Fin 3) * 1 + 1 * 0 = t.val / 16; omega
  | ⟨1, _⟩ => show win0_11.index t (1 : Fin 3) * 512 + 1 * r.val = (t.val % 16) * 512 + r.val; omega
  | ⟨2, _⟩ => show win0_11.index t (2 : Fin 3) * 1024 + 1 * d.val = d.val; omega

theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem emb2 (t : Fin cfg0.N) (d : Fin 1024) :
    ((cfg0.win 2).blk t).view.emb (ix3 0 0 d : S1x1x1024.Idx) = (ix3 (batch t) 0 d : S2x1x1024.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * d.val = d.val; omega

theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

theorem emb4 (t : Fin cfg0.N) (d : Fin 1024) :
    ((cfg0.win 4).blk t).view.emb (ix3 0 0 d : S1x1x1024.Idx) = (ix3 (batch t) 0 d : S2x1x1024.Idx) := by
  obtain ⟨e0, e1, e2⟩ := idx4 t
  funext a; apply Fin.ext
  match a with
  | ⟨0, _⟩ => show win0_4.index t (0 : Fin 3) * 1 + 1 * 0 = t.val / 16; omega
  | ⟨1, _⟩ => show win0_4.index t (1 : Fin 3) * 1 + 1 * 0 = 0; omega
  | ⟨2, _⟩ => show win0_4.index t (2 : Fin 3) * 1024 + 1 * d.val = d.val; omega

theorem idx5 : ∀ t : Fin cfg0.N, win0_5.index t (0 : Fin 3) = t.val / 16 ∧ win0_5.index t (1 : Fin 3) = 0 ∧ win0_5.index t (2 : Fin 3) = 0 :=
  (by decide +kernel : ∀ t : Fin grid0.N, _)

theorem emb5 (t : Fin cfg0.N) (d : Fin 1024) :
    ((cfg0.win 5).blk t).view.emb (ix3 0 0 d : S1x1x1024.Idx) = (ix3 (batch t) 0 d : S2x1x1024.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 1 + 1 * 0 = 0; omega
  | ⟨2, _⟩ => show win0_5.index t (2 : Fin 3) * 1024 + 1 * d.val = d.val; omega

theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, _)

theorem emb6 (t : Fin cfg0.N) (d : Fin 1024) :
    ((cfg0.win 6).blk t).view.emb (ix3 0 0 d : S1x1x1024.Idx) = (ix3 (batch t) 0 d : S2x1x1024.Idx) := by
  obtain ⟨e0, e1, e2⟩ := idx6 t
  funext a; apply Fin.ext
  match a with
  | ⟨0, _⟩ => show win0_6.index t (0 : Fin 3) * 1 + 1 * 0 = t.val / 16; omega
  | ⟨1, _⟩ => show win0_6.index t (1 : Fin 3) * 1 + 1 * 0 = 0; omega
  | ⟨2, _⟩ => show win0_6.index t (2 : Fin 3) * 1024 + 1 * d.val = d.val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (k : Fin 1024) (d : Fin 1024) :
    ((cfg0.win 3).blk t).view.emb (ix2 k d : S1024x1024.Idx) = (ix2 k d : S1024x1024.Idx) := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 1024 + 1 * d.val = d.val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (k : Fin 1) (d : Fin 1024) :
    ((cfg0.win 7).blk t).view.emb (ix2 k d : S1x1024.Idx) = (ix2 k d : S1x1024.Idx) := by
  obtain ⟨e0, e1⟩ := idx7 t
  funext a; apply Fin.ext
  match a with
  | ⟨0, _⟩ => show win0_7.index t (0 : Fin 2) * 1 + 1 * k.val = k.val; omega
  | ⟨1, _⟩ => show win0_7.index t (1 : Fin 2) * 1024 + 1 * d.val = d.val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (k : Fin 1024) (d : Fin 5632) :
    ((cfg0.win 8).blk t).view.emb (ix2 k d : S1024x5632.Idx) = (ix2 k d : S1024x5632.Idx) := by
  obtain ⟨e0, e1⟩ := idx8 t
  funext a; apply Fin.ext
  match a with
  | ⟨0, _⟩ => show win0_8.index t (0 : Fin 2) * 1024 + 1 * k.val = k.val; omega
  | ⟨1, _⟩ => show win0_8.index t (1 : Fin 2) * 5632 + 1 * d.val = d.val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (k : Fin 2816) (d : Fin 1024) :
    ((cfg0.win 9).blk t).view.emb (ix2 k d : S2816x1024.Idx) = (ix2 k d : S2816x1024.Idx) := by
  obtain ⟨e0, e1⟩ := idx9 t
  funext a; apply Fin.ext
  match a with
  | ⟨0, _⟩ => show win0_9.index t (0 : Fin 2) * 2816 + 1 * k.val = k.val; omega
  | ⟨1, _⟩ => show win0_9.index t (1 : Fin 2) * 1024 + 1 * d.val = d.val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (k : Fin 1) (d : Fin 1024) :
    ((cfg0.win 10).blk t).view.emb (ix2 k d : S1x1024.Idx) = (ix2 k d : S1x1024.Idx) := by
  obtain ⟨e0, e1⟩ := idx10 t
  funext a; apply Fin.ext
  match a with
  | ⟨0, _⟩ => show win0_10.index t (0 : Fin 2) * 1 + 1 * k.val = k.val; omega
  | ⟨1, _⟩ => show win0_10.index t (1 : Fin 2) * 1024 + 1 * d.val = d.val; omega

/-! The arrays the host code prepares. -/

theorem main_v4_eq : V m c main_v4 = truncf (F := Ideal) .bf16 (m ((c : Thread nD τ).loc main_arg3)) bitsLt_bf16_f32 := by
  show StableHlo.after hostOps0 _ _ = _
  after_results

theorem main_v0_eq : V m c main_v0 = shapeCast S1x1024 (m ((c : Thread nD τ).loc main_arg7)) shapeCasts_S1024_S1x1024 := by
  show StableHlo.after hostOps0 _ _ = _
  after_results
  rfl

theorem main_v1_eq : V m c main_v1 = truncf (F := Ideal) .bf16 (m ((c : Thread nD τ).loc main_arg8)) bitsLt_bf16_f32 := by
  show StableHlo.after hostOps0 _ _ = _
  after_results

theorem main_v2_eq : V m c main_v2 = truncf (F := Ideal) .bf16 (m ((c : Thread nD τ).loc main_arg9)) bitsLt_bf16_f32 := by
  show StableHlo.after hostOps0 _ _ = _
  after_results

theorem main_v5_eq : V m c main_v5 = shapeCast S1x1024 (m ((c : Thread nD τ).loc main_arg10)) shapeCasts_S1024_S1x1024 := by
  show StableHlo.after hostOps0 _ _ = _
  after_results
  rfl

theorem main_v3_eq : V m c main_v3 = truncf (F := Ideal) .bf16 (m ((c : Thread nD τ).loc main_arg1)) bitsLt_bf16_f32 := by
  show StableHlo.after hostOps0 _ _ = _
  after_results

/-! A block's entries are the arguments'. -/

theorem blk0 (t : Fin cfg0.N) (r : Fin 512) (d : Fin 1024) :
    (iblk m c 0 t : S1x512x1024.Idx → EReal) (ix3 0 r d) = (m ((c : Thread nD τ).loc main_arg0) : S2x8192x1024.Idx → EReal) (ix3 (batch t) (row t r) d) := by
  show V m c main_arg0 (((cfg0.win 0).blk t).view.emb (ix3 0 r d : S1x512x1024.Idx)) = _
  rw [emb0, V_main_arg0]

theorem blk1 (t : Fin cfg0.N) (r : Fin 512) (d : Fin 1024) :
    (iblk m c 1 t : S1x512x1024.Idx → EReal) (ix3 0 r d) = (m ((c : Thread nD τ).loc main_arg1) : S2x8192x1024.Idx → EReal) (ix3 (batch t) (row t r) d) := by
  show V m c main_v3 (((cfg0.win 1).blk t).view.emb (ix3 0 r d : S1x512x1024.Idx)) = _
  rw [emb1, main_v3_eq]; rfl

theorem blk2 (t : Fin cfg0.N) (d : Fin 1024) :
    (iblk m c 2 t : S1x1x1024.Idx → EReal) (ix3 0 0 d) = (m ((c : Thread nD τ).loc main_arg2) : S2x1x1024.Idx → EReal) (ix3 (batch t) 0 d) := by
  show V m c main_arg2 (((cfg0.win 2).blk t).view.emb (ix3 0 0 d : S1x1x1024.Idx)) = _
  rw [emb2, V_main_arg2]

theorem blk4 (t : Fin cfg0.N) (d : Fin 1024) :
    (iblk m c 4 t : S1x1x1024.Idx → EReal) (ix3 0 0 d) = (m ((c : Thread nD τ).loc main_arg4) : S2x1x1024.Idx → EReal) (ix3 (batch t) 0 d) := by
  show V m c main_arg4 (((cfg0.win 4).blk t).view.emb (ix3 0 0 d : S1x1x1024.Idx)) = _
  rw [emb4, V_main_arg4]

theorem blk5 (t : Fin cfg0.N) (d : Fin 1024) :
    (iblk m c 5 t : S1x1x1024.Idx → EReal) (ix3 0 0 d) = (m ((c : Thread nD τ).loc main_arg5) : S2x1x1024.Idx → EReal) (ix3 (batch t) 0 d) := by
  show V m c main_arg5 (((cfg0.win 5).blk t).view.emb (ix3 0 0 d : S1x1x1024.Idx)) = _
  rw [emb5, V_main_arg5]

theorem blk6 (t : Fin cfg0.N) (d : Fin 1024) :
    (iblk m c 6 t : S1x1x1024.Idx → EReal) (ix3 0 0 d) = (m ((c : Thread nD τ).loc main_arg6) : S2x1x1024.Idx → EReal) (ix3 (batch t) 0 d) := by
  show V m c main_arg6 (((cfg0.win 6).blk t).view.emb (ix3 0 0 d : S1x1x1024.Idx)) = _
  rw [emb6, V_main_arg6]

theorem blk3 (t : Fin cfg0.N) (k : Fin 1024) (d : Fin 1024) :
    (iblk m c 3 t : S1024x1024.Idx → EReal) (ix2 k d) = (m ((c : Thread nD τ).loc main_arg3) : S1024x1024.Idx → EReal) (ix2 k d) := by
  show V m c main_v4 (((cfg0.win 3).blk t).view.emb (ix2 k d : S1024x1024.Idx)) = _
  rw [emb3, main_v4_eq]; rfl

theorem blk7 (t : Fin cfg0.N) (d : Fin 1024) :
    (iblk m c 7 t : S1x1024.Idx → EReal) (ix2 0 d) = (m ((c : Thread nD τ).loc main_arg7) : S1024.Idx → EReal) (ix1 d) := by
  show V m c main_v0 (((cfg0.win 7).blk t).view.emb (ix2 0 d : S1x1024.Idx)) = _
  rw [emb7, main_v0_eq]
  pointwise

theorem blk8 (t : Fin cfg0.N) (k : Fin 1024) (d : Fin 5632) :
    (iblk m c 8 t : S1024x5632.Idx → EReal) (ix2 k d) = (m ((c : Thread nD τ).loc main_arg8) : S1024x5632.Idx → EReal) (ix2 k d) := by
  show V m c main_v1 (((cfg0.win 8).blk t).view.emb (ix2 k d : S1024x5632.Idx)) = _
  rw [emb8, main_v1_eq]; rfl

theorem blk9 (t : Fin cfg0.N) (k : Fin 2816) (d : Fin 1024) :
    (iblk m c 9 t : S2816x1024.Idx → EReal) (ix2 k d) = (m ((c : Thread nD τ).loc main_arg9) : S2816x1024.Idx → EReal) (ix2 k d) := by
  show V m c main_v2 (((cfg0.win 9).blk t).view.emb (ix2 k d : S2816x1024.Idx)) = _
  rw [emb9, main_v2_eq]; rfl

theorem blk10 (t : Fin cfg0.N) (d : Fin 1024) :
    (iblk m c 10 t : S1x1024.Idx → EReal) (ix2 0 d) = (m ((c : Thread nD τ).loc main_arg10) : S1024.Idx → EReal) (ix1 d) := by
  show V m c main_v5 (((cfg0.win 10).blk t).view.emb (ix2 0 d : S1x1024.Idx)) = _
  rw [emb10, main_v5_eq]
  pointwise

/-- The residual's row after the attention. -/
def mixedRow (b : Fin 2) (s : Fin 8192) : Fin 1024 → EReal :=
  mixed (fun k => (m ((c : Thread nD τ).loc main_arg0) : S2x8192x1024.Idx → EReal) (ix3 b s k)) (fun k => (m ((c : Thread nD τ).loc main_arg1) : S2x8192x1024.Idx → EReal) (ix3 b s k))
    (fun k => (m ((c : Thread nD τ).loc main_arg2) : S2x1x1024.Idx → EReal) (ix3 b 0 k)) (fun k e => (m ((c : Thread nD τ).loc main_arg3) : S1024x1024.Idx → EReal) (ix2 k e))

/-- The hidden row. -/
def hiddenRow (b : Fin 2) (s : Fin 8192) : Fin 1024 → EReal :=
  Row.hidden (mixedRow m c b s) (fun k => (m ((c : Thread nD τ).loc main_arg7) : S1024.Idx → EReal) (ix1 k))
    (fun k => (m ((c : Thread nD τ).loc main_arg5) : S2x1x1024.Idx → EReal) (ix3 b 0 k)) (fun k => (m ((c : Thread nD τ).loc main_arg4) : S2x1x1024.Idx → EReal) (ix3 b 0 k))

/-- The result array as one function of the arguments. -/
def result : S2x8192x1024.Idx → EReal := fun i =>
  normed (fed (mixedRow m c (i 0) (i 1)) (hiddenRow m c (i 0) (i 1)) (fun k => (m ((c : Thread nD τ).loc main_arg6) : S2x1x1024.Idx → EReal) (ix3 (i 0) 0 k))
    (fun k f => (m ((c : Thread nD τ).loc main_arg8) : S1024x5632.Idx → EReal) (ix2 k f)) (fun f k => (m ((c : Thread nD τ).loc main_arg9) : S2816x1024.Idx → EReal) (ix2 f k)))
    (fun k => (m ((c : Thread nD τ).loc main_arg10) : S1024.Idx → EReal) (ix1 k)) (i 2)

/-- What a grid point writes back is its block of that array. -/
theorem flushed_eq (t : Fin cfg0.N) :
    (dats m 0 c).flushed 11 t = ((cfg0.win 11).blk t).view.read (Elt Ideal) (result m c) := by
  rw [Value.flushed11]
  funext j
  obtain ⟨z, r, d, rfl⟩ : ∃ z r d, j = (ix3 z r d : S1x512x1024.Idx) := ⟨j 0, j 1, j 2, by funext a; match a with | ⟨0, _⟩ => rfl | ⟨1, _⟩ => rfl | ⟨2, _⟩ => rfl⟩
  obtain rfl : z = 0 := Subsingleton.elim _ _
  show Gen.out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r d)
    = result m c (((cfg0.win 11).blk t).view.emb (ix3 0 r d : S1x512x1024.Idx))
  rw [emb11, KernelRow.out_apply (X := _) (H := _) (hX := rfl) (hH := rfl)]
  simp only [blk0, blk1, blk2, blk3, blk4, blk5, blk6, blk7, blk8, blk9, blk10]
  rfl

/-- Every index is in some grid point's block. -/
theorem covered (i : S2x8192x1024.Idx) :
    ∃ t : Fin cfg0.N, (cfg0.win 11).flush t = true ∧ i ∈ ((cfg0.win 11).blk t).view.set := by
  have h0 : (i 0).val < 2 := (i 0).isLt
  have h1 : (i 1).val < 8192 := (i 1).isLt
  let t : Fin cfg0.N := ⟨(i 0).val * 16 + (i 1).val / 512, by rw [show cfg0.N = 32 from N_0]; omega⟩
  refine ⟨t, flush0_11 t, ?_⟩
  have e : (ix3 (batch t) (row t ⟨(i 1).val % 512, Nat.mod_lt _ (by decide)⟩) (i 2) : S2x8192x1024.Idx) = i := by
    funext a; apply Fin.ext
    match a with
    | ⟨0, _⟩ => show ((i 0).val * 16 + (i 1).val / 512) / 16 = (i 0).val; omega
    | ⟨1, _⟩ => show ((i 0).val * 16 + (i 1).val / 512) % 16 * 512 + (i 1).val % 512 = (i 1).val; omega
    | ⟨2, _⟩ => rfl
  exact (congrArg (· ∈ ((cfg0.win 11).blk t).view.set) ((emb11 t ⟨(i 1).val % 512, Nat.mod_lt _ (by decide)⟩ (i 2)).trans e)).mp
    (((cfg0.win 11).blk t).view.emb_mem_set _)

/-- The result array after the run. -/
theorem final : (dats m 0 c).arrAt 11 cfg0.N = result m c :=
  (dats m 0 c).arrAt_eq_of_cover 11 (result m c) (fun t _ => flushed_eq m c t) covered

end Cert.KernelArray

end
-- ==== Proof.FirstKernelRow.lean ====
/-
  The first layer's block read at a row: the row function of that row's inputs.
-/
module

public import proofs.«01_k».proof.Proof.Row
public import proofs.«01_k».proof.Proof.Gen.FirstKernelIdeal.Value

@[expose] public section

set_option maxRecDepth 16384

noncomputable section

namespace Cert.FirstKernelRow

open Idealize.ShloMosaic Cert.FirstKernelIdeal Cert.FirstKernelIdeal.Gen Cert.Row Finset

theorem pay2_apply (x : Vec Ideal S1x512x1024 .f32) (r : Fin 512) (d : Fin 1024) : k0_pay2 x (ix2 r d) = x (ix3 0 r d) := by
  unfold k0_pay2
  pointwise

theorem pay3_apply (x : Vec Ideal S1x512x1024 .f32) (g : Vec Ideal S1x1024 .f32) (sc sh : Vec Ideal S1x1x1024 .f32) (r : Fin 512) (d : Fin 1024) :
    k0_pay3 x g sc sh (ix2 r d)
      = Row.hidden (fun k => k0_pay2 x (ix2 r k)) (fun k => g (ix2 0 k)) (fun k => sc (ix3 0 0 k)) (fun k => sh (ix3 0 0 k)) d := by
  unfold k0_pay3 Row.hidden normed
  generalize k0_pay2 x = y
  pointwise

theorem pay5_apply (x : Vec Ideal S1x512x1024 .f32) (g : Vec Ideal S1x1024 .f32) (sc sh : Vec Ideal S1x1x1024 .f32) (w : Vec Ideal S1024x1536 .bf16)
    (r : Fin 512) (f : Fin 1536) :
    k0_pay5 x g sc sh w (ix2 r f) = ∑ k, k0_pay3 x g sc sh (ix2 r k) * w (ix2 k f) := by
  unfold k0_pay5
  generalize k0_pay3 x g sc sh = y
  pointwise

theorem pay6_apply (x : Vec Ideal S1x512x1024 .f32) (g : Vec Ideal S1x1024 .f32) (sc sh : Vec Ideal S1x1x1024 .f32) (u : Vec Ideal S1024x1536 .bf16)
    (r : Fin 512) (f : Fin 1536) :
    k0_pay6 x g sc sh u (ix2 r f)
      = (∑ k, k0_pay3 x g sc sh (ix2 r k) * u (ix2 k f)) * Ideal.logistic (∑ k, k0_pay3 x g sc sh (ix2 r k) * u (ix2 k f)) := by
  unfold k0_pay6
  generalize k0_pay3 x g sc sh = y
  pointwise

theorem pay4_apply (r : Fin 512) (d : Fin 1024) : k0_pay4 (F := Ideal) (ix2 r d) = 0 := by
  unfold k0_pay4
  pointwise

theorem pay1_apply (x : FVec Ideal S512x1024 .f32) (h : FVec Ideal S512x1024 .bf16) (z : FVec Ideal S512x1024 .f32) (v a : FVec Ideal S512x1536 .f32)
    (o1 : Vec Ideal S1536x1024 .bf16) (u2 w2 : Vec Ideal S1024x1280 .bf16) (o2 : Vec Ideal S1280x1024 .bf16)
    (gt : Vec Ideal S1x1x1024 .f32) (r : Fin 512) (d : Fin 1024) :
    k0_pay1 x h z v a o1 u2 w2 o2 gt (ix3 0 r d)
      = x (ix2 r d) + gt (ix3 0 0 d) * ((z (ix2 r d) + ∑ f : Fin 1536, a (ix2 r f) * v (ix2 r f) * o1 (ix2 f d))
          + ∑ f : Fin 1280, gated (fun k => h (ix2 r k)) (fun k => u2 (ix2 k f)) (fun k => w2 (ix2 k f)) * o2 (ix2 f d)) := by
  unfold k0_pay1 gated
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x512x1024 e) : View.ld v r0_0 = v := View.ld_unit_zero zeros3 _ v
theorem ld_2 {e : EltTy} (v : Vec Ideal S1x1x1024 e) : View.ld v r0_2 = v := View.ld_unit_zero zeros3 _ v
theorem ld_1 {e : EltTy} (v : Vec Ideal S1x1024 e) : View.ld v r0_1 = v := View.ld_unit_zero zeros2 _ v

theorem ld_3 {e : EltTy} (v : Vec Ideal S1024x5632 e) (k : Fin 1024) (f : Fin 1536) :
    View.ld v r0_3 (ix2 k f) = v (ix2 k ⟨f, by omega⟩) := by
  refine congrArg v ?_
  funext a; refine Fin.ext ?_
  fin_cases a <;> simp [Rect.emb, r0_3, ix2]

theorem ld_4 {e : EltTy} (v : Vec Ideal S1024x5632 e) (k : Fin 1024) (f : Fin 1536) :
    View.ld v r0_4 (ix2 k f) = v (ix2 k ⟨2816 + f, by omega⟩) := by
  refine congrArg v ?_
  funext a; refine Fin.ext ?_
  fin_cases a <;> simp [Rect.emb, r0_4, ix2]

theorem ld_5 {e : EltTy} (v : Vec Ideal S2816x1024 e) (k : Fin 1536) (f : Fin 1024) :
    View.ld v r0_5 (ix2 k f) = v (ix2 ⟨k, by omega⟩ f) := by
  refine congrArg v ?_
  funext a; refine Fin.ext ?_
  fin_cases a <;> simp [Rect.emb, r0_5, ix2]

theorem ld_6 {e : EltTy} (v : Vec Ideal S1024x5632 e) (k : Fin 1024) (f : Fin 1280) :
    View.ld v r0_6 (ix2 k f) = v (ix2 k ⟨1536 + f, by omega⟩) := by
  refine congrArg v ?_
  funext a; refine Fin.ext ?_
  fin_cases a <;> simp [Rect.emb, r0_6, ix2]

theorem ld_7 {e : EltTy} (v : Vec Ideal S1024x5632 e) (k : Fin 1024) (f : Fin 1280) :
    View.ld v r0_7 (ix2 k f) = v (ix2 k ⟨4352 + f, by omega⟩) := by
  refine congrArg v ?_
  funext a; refine Fin.ext ?_
  fin_cases a <;> simp [Rect.emb, r0_7, ix2]

theorem ld_8 {e : EltTy} (v : Vec Ideal S2816x1024 e) (k : Fin 1280) (f : Fin 1024) :
    View.ld v r0_8 (ix2 k f) = v (ix2 ⟨1536 + k, by omega⟩ f) := by
  refine congrArg v ?_
  funext a; refine Fin.ext ?_
  fin_cases a <;> simp [Rect.emb, r0_8, ix2]

/-- The block the body leaves, read at a row. -/
theorem out_apply (x : Vec Ideal S1x512x1024 .f32) (sh sc gt : Vec Ideal S1x1x1024 .f32) (g : Vec Ideal S1x1024 .f32) (win : Vec Ideal S1024x5632 .bf16)
    (wout : Vec Ideal S2816x1024 .bf16) (r : Fin 512) (d : Fin 1024) (X H : Fin 1024 → EReal) (hX : X = fun k => x (ix3 0 r k))
    (hH : H = Row.hidden X (fun k => g (ix2 0 k)) (fun k => sc (ix3 0 0 k)) (fun k => sh (ix3 0 0 k))) :
    out0_7 x sh sc gt g win wout (ix3 0 r d)
      = fed X H (fun k => gt (ix3 0 0 k)) (fun k f => win (ix2 k f)) (fun f k => wout (ix2 f k)) d := by
  unfold out0_7
  rw [View.canon_unit_zero zeros3]
  simp only [ld_0, ld_1, ld_2]
  rw [pay1_apply]
  have hx (k : Fin 1024) : k0_pay2 x (ix2 r k) = X k := by rw [pay2_apply, hX]
  have hh (k : Fin 1024) : k0_pay3 x g sc sh (ix2 r k) = H k := by
    rw [pay3_apply, hH]
    simp only [hx]
  simp only [pay5_apply, pay6_apply, pay4_apply, hx, hh]
  unfold fed
  rw [sum_split]
  refine congrArg (fun z => X d + gt (ix3 0 0 d) * z) (congrArg₂ (fun p q => (0 + p) + q) ?_ ?_)
  · refine Finset.sum_congr rfl fun f _ => ?_
    exact congrArg₂ (· * ·) (congrArg₂ (gated H) (funext fun k => ld_3 win k f) (funext fun k => ld_4 win k f)) (ld_5 wout f d)
  · refine Finset.sum_congr rfl fun f _ => ?_
    refine congrArg₂ (· * ·) (congrArg₂ (gated H) (funext fun k => ld_6 win k f) (funext fun k => (ld_7 win k f).trans ?_)) (ld_8 wout f d)
    exact congrArg (fun i => win (ix2 k i)) (Fin.ext (by show 4352 + f.val = 2816 + (1536 + f.val); omega))

end Cert.FirstKernelRow

end
-- ==== Proof.FirstKernelArray.lean ====
/-
  The first layer's kernel: the result array after the run, as one function of the argument arrays.
-/
module

public import proofs.«01_k».proof.Proof.FirstKernelRow
public import Idealize.ShloMosaic.Lib.Pipeline.Value

@[expose] public section

set_option maxRecDepth 16384

noncomputable section

namespace Cert.FirstKernelArray

open Idealize.ShloMosaic Idealize.ShloMosaic.TcCoe Cert.FirstKernelIdeal Cert.FirstKernelIdeal.Gen Cert.Row

variable (m : (ℓ : Loc nD τ sig) → Buf (Elt Ideal) ℓ) (c : Dev nD)

/-- The batch a grid point works on. -/
def batch (t : Fin cfg0.N) : Fin 2 := ⟨t.val / 16, by have h : t.val < 32 := N_0 ▸ t.isLt; omega⟩

/-- The row of the array that is row `r` of a grid point's block. -/
def row (t : Fin cfg0.N) (r : Fin 512) : Fin 8192 := ⟨(t.val % 16) * 512 + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (d : Fin 1024) :
    ((cfg0.win 0).blk t).view.emb (ix3 0 r d : S1x512x1024.Idx) = (ix3 (batch t) (row t r) d : S2x8192x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = (t.val % 16) * 512 + r.val; omega
  | ⟨2, _⟩ => show win0_0.index t (2 : Fin 3) * 1024 + 1 * d.val = d.val; omega

theorem idx7 : ∀ t : Fin cfg0.N, win0_7.index t (0 : Fin 3) = t.val / 16 ∧ win0_7.index t (1 : Fin 3) = t.val % 16 ∧ win0_7.index t (2 : Fin 3) = 0 :=
  (by decide +kernel : ∀ t : Fin grid0.N, _)

theorem emb7 (t : Fin cfg0.N) (r : Fin 512) (d : Fin 1024) :
    ((cfg0.win 7).blk t).view.emb (ix3 0 r d : S1x512x1024.Idx) = (ix3 (batch t) (row t r) d : S2x8192x1024.Idx) := by
  obtain ⟨e0, e1, e2⟩ := idx7 t
  funext a; apply Fin.ext
  match a with
  | ⟨0, _⟩ => show win0_7.index t (0 : Fin 3) * 1 + 1 * 0 = t.val / 16; omega
  | ⟨1, _⟩ => show win0_7.index t (1 : Fin 3) * 512 + 1 * r.val = (t.val % 16) * 512 + r.val; omega
  | ⟨2, _⟩ => show win0_7.index t (2 : Fin 3) * 1024 + 1 * d.val = d.val; omega

theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)

theorem emb1 (t : Fin cfg0.N) (d : Fin 1024) :
    ((cfg0.win 1).blk t).view.emb (ix3 0 0 d : S1x1x1024.Idx) = (ix3 (batch t) 0 d : S2x1x1024.Idx) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 1024 + 1 * d.val = d.val; omega

theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem emb2 (t : Fin cfg0.N) (d : Fin 1024) :
    ((cfg0.win 2).blk t).view.emb (ix3 0 0 d : S1x1x1024.Idx) = (ix3 (batch t) 0 d : S2x1x1024.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * d.val = d.val; omega

theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

theorem emb3 (t : Fin cfg0.N) (d : Fin 1024) :
    ((cfg0.win 3).blk t).view.emb (ix3 0 0 d : S1x1x1024.Idx) = (ix3 (batch t) 0 d : S2x1x1024.Idx) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 1 + 1 * 0 = 0; omega
  | ⟨2, _⟩ => show win0_3.index t (2 : Fin 3) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (k : Fin 1) (d : Fin 1024) :
    ((cfg0.win 4).blk t).view.emb (ix2 k d : S1x1024.Idx) = (ix2 k d : S1x1024.Idx) := by
  obtain ⟨e0, e1⟩ := idx4 t
  funext a; apply Fin.ext
  match a with
  | ⟨0, _⟩ => show win0_4.index t (0 : Fin 2) * 1 + 1 * k.val = k.val; omega
  | ⟨1, _⟩ => show win0_4.index t (1 : Fin 2) * 1024 + 1 * d.val = d.val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (k : Fin 1024) (d : Fin 5632) :
    ((cfg0.win 5).blk t).view.emb (ix2 k d : S1024x5632.Idx) = (ix2 k d : S1024x5632.Idx) := by
  obtain ⟨e0, e1⟩ := idx5 t
  funext a; apply Fin.ext
  match a with
  | ⟨0, _⟩ => show win0_5.index t (0 : Fin 2) * 1024 + 1 * k.val = k.val; omega
  | ⟨1, _⟩ => show win0_5.index t (1 : Fin 2) * 5632 + 1 * d.val = d.val; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (k : Fin 2816) (d : Fin 1024) :
    ((cfg0.win 6).blk t).view.emb (ix2 k d : S2816x1024.Idx) = (ix2 k d : S2816x1024.Idx) := by
  obtain ⟨e0, e1⟩ := idx6 t
  funext a; apply Fin.ext
  match a with
  | ⟨0, _⟩ => show win0_6.index t (0 : Fin 2) * 2816 + 1 * k.val = k.val; omega
  | ⟨1, _⟩ => show win0_6.index t (1 : Fin 2) * 1024 + 1 * d.val = d.val; omega

/-! The arrays the host code prepares. -/

theorem main_v0_eq : V m c main_v0 = shapeCast S1x1024 (m ((c : Thread nD τ).loc main_arg4)) shapeCasts_S1024_S1x1024 := by
  show StableHlo.after hostOps0 _ _ = _
  after_results
  rfl

theorem main_v1_eq : V m c main_v1 = truncf (F := Ideal) .bf16 (m ((c : Thread nD τ).loc main_arg5)) bitsLt_bf16_f32 := by
  show StableHlo.after hostOps0 _ _ = _
  after_results

theorem main_v2_eq : V m c main_v2 = truncf (F := Ideal) .bf16 (m ((c : Thread nD τ).loc main_arg6)) bitsLt_bf16_f32 := by
  show StableHlo.after hostOps0 _ _ = _
  after_results

/-! A block's entries are the arguments'. -/

theorem blk0 (t : Fin cfg0.N) (r : Fin 512) (d : Fin 1024) :
    (iblk m c 0 t : S1x512x1024.Idx → EReal) (ix3 0 r d) = (m ((c : Thread nD τ).loc main_arg0) : S2x8192x1024.Idx → EReal) (ix3 (batch t) (row t r) d) := by
  show V m c main_arg0 (((cfg0.win 0).blk t).view.emb (ix3 0 r d : S1x512x1024.Idx)) = _
  rw [emb0, V_main_arg0]

theorem blk1 (t : Fin cfg0.N) (d : Fin 1024) :
    (iblk m c 1 t : S1x1x1024.Idx → EReal) (ix3 0 0 d) = (m ((c : Thread nD τ).loc main_arg1) : S2x1x1024.Idx → EReal) (ix3 (batch t) 0 d) := by
  show V m c main_arg1 (((cfg0.win 1).blk t).view.emb (ix3 0 0 d : S1x1x1024.Idx)) = _
  rw [emb1, V_main_arg1]

theorem blk2 (t : Fin cfg0.N) (d : Fin 1024) :
    (iblk m c 2 t : S1x1x1024.Idx → EReal) (ix3 0 0 d) = (m ((c : Thread nD τ).loc main_arg2) : S2x1x1024.Idx → EReal) (ix3 (batch t) 0 d) := by
  show V m c main_arg2 (((cfg0.win 2).blk t).view.emb (ix3 0 0 d : S1x1x1024.Idx)) = _
  rw [emb2, V_main_arg2]

theorem blk3 (t : Fin cfg0.N) (d : Fin 1024) :
    (iblk m c 3 t : S1x1x1024.Idx → EReal) (ix3 0 0 d) = (m ((c : Thread nD τ).loc main_arg3) : S2x1x1024.Idx → EReal) (ix3 (batch t) 0 d) := by
  show V m c main_arg3 (((cfg0.win 3).blk t).view.emb (ix3 0 0 d : S1x1x1024.Idx)) = _
  rw [emb3, V_main_arg3]

theorem blk4 (t : Fin cfg0.N) (d : Fin 1024) :
    (iblk m c 4 t : S1x1024.Idx → EReal) (ix2 0 d) = (m ((c : Thread nD τ).loc main_arg4) : S1024.Idx → EReal) (ix1 d) := by
  show V m c main_v0 (((cfg0.win 4).blk t).view.emb (ix2 0 d : S1x1024.Idx)) = _
  rw [emb4, main_v0_eq]
  pointwise

theorem blk5 (t : Fin cfg0.N) (k : Fin 1024) (d : Fin 5632) :
    (iblk m c 5 t : S1024x5632.Idx → EReal) (ix2 k d) = (m ((c : Thread nD τ).loc main_arg5) : S1024x5632.Idx → EReal) (ix2 k d) := by
  show V m c main_v1 (((cfg0.win 5).blk t).view.emb (ix2 k d : S1024x5632.Idx)) = _
  rw [emb5, main_v1_eq]; rfl

theorem blk6 (t : Fin cfg0.N) (k : Fin 2816) (d : Fin 1024) :
    (iblk m c 6 t : S2816x1024.Idx → EReal) (ix2 k d) = (m ((c : Thread nD τ).loc main_arg6) : S2816x1024.Idx → EReal) (ix2 k d) := by
  show V m c main_v2 (((cfg0.win 6).blk t).view.emb (ix2 k d : S2816x1024.Idx)) = _
  rw [emb6, main_v2_eq]; rfl

/-- The residual's row. -/
def inRow (b : Fin 2) (s : Fin 8192) : Fin 1024 → EReal := fun k => (m ((c : Thread nD τ).loc main_arg0) : S2x8192x1024.Idx → EReal) (ix3 b s k)

/-- The hidden row. -/
def hiddenRow (b : Fin 2) (s : Fin 8192) : Fin 1024 → EReal :=
  Row.hidden (inRow m c b s) (fun k => (m ((c : Thread nD τ).loc main_arg4) : S1024.Idx → EReal) (ix1 k))
    (fun k => (m ((c : Thread nD τ).loc main_arg2) : S2x1x1024.Idx → EReal) (ix3 b 0 k)) (fun k => (m ((c : Thread nD τ).loc main_arg1) : S2x1x1024.Idx → EReal) (ix3 b 0 k))

/-- The result array as one function of the arguments. -/
def result : S2x8192x1024.Idx → EReal := fun i =>
  fed (inRow m c (i 0) (i 1)) (hiddenRow m c (i 0) (i 1)) (fun k => (m ((c : Thread nD τ).loc main_arg3) : S2x1x1024.Idx → EReal) (ix3 (i 0) 0 k))
    (fun k f => (m ((c : Thread nD τ).loc main_arg5) : S1024x5632.Idx → EReal) (ix2 k f)) (fun f k => (m ((c : Thread nD τ).loc main_arg6) : S2816x1024.Idx → EReal) (ix2 f k)) (i 2)

/-- What a grid point writes back is its block of that array. -/
theorem flushed_eq (t : Fin cfg0.N) :
    (dats m 0 c).flushed 7 t = ((cfg0.win 7).blk t).view.read (Elt Ideal) (result m c) := by
  rw [Value.flushed7]
  funext j
  obtain ⟨z, r, d, rfl⟩ : ∃ z r d, j = (ix3 z r d : S1x512x1024.Idx) := ⟨j 0, j 1, j 2, by funext a; match a with | ⟨0, _⟩ => rfl | ⟨1, _⟩ => rfl | ⟨2, _⟩ => rfl⟩
  obtain rfl : z = 0 := Subsingleton.elim _ _
  show Gen.out0_7 (iblk m c 0 t) (iblk m c 1 t) (iblk m c 2 t) (iblk m c 3 t) (iblk m c 4 t) (iblk m c 5 t) (iblk m c 6 t) (ix3 0 r d)
    = result m c (((cfg0.win 7).blk t).view.emb (ix3 0 r d : S1x512x1024.Idx))
  rw [emb7, FirstKernelRow.out_apply (X := _) (H := _) (hX := rfl) (hH := rfl)]
  simp only [blk0, blk1, blk2, blk3, blk4, blk5, blk6]
  rfl

/-- Every index is in some grid point's block. -/
theorem covered (i : S2x8192x1024.Idx) :
    ∃ t : Fin cfg0.N, (cfg0.win 7).flush t = true ∧ i ∈ ((cfg0.win 7).blk t).view.set := by
  have h0 : (i 0).val < 2 := (i 0).isLt
  have h1 : (i 1).val < 8192 := (i 1).isLt
  let t : Fin cfg0.N := ⟨(i 0).val * 16 + (i 1).val / 512, by rw [show cfg0.N = 32 from N_0]; omega⟩
  refine ⟨t, flush0_7 t, ?_⟩
  have e : (ix3 (batch t) (row t ⟨(i 1).val % 512, Nat.mod_lt _ (by decide)⟩) (i 2) : S2x8192x1024.Idx) = i := by
    funext a; apply Fin.ext
    match a with
    | ⟨0, _⟩ => show ((i 0).val * 16 + (i 1).val / 512) / 16 = (i 0).val; omega
    | ⟨1, _⟩ => show ((i 0).val * 16 + (i 1).val / 512) % 16 * 512 + (i 1).val % 512 = (i 1).val; omega
    | ⟨2, _⟩ => rfl
  exact (congrArg (· ∈ ((cfg0.win 7).blk t).view.set) ((emb7 t ⟨(i 1).val % 512, Nat.mod_lt _ (by decide)⟩ (i 2)).trans e)).mp
    (((cfg0.win 7).blk t).view.emb_mem_set _)

/-- The result array after the run. -/
theorem final : (dats m 0 c).arrAt 7 cfg0.N = result m c :=
  (dats m 0 c).arrAt_eq_of_cover 7 (result m c) (fun t _ => flushed_eq m c t) covered

end Cert.FirstKernelArray

end
-- ==== Proof.RefRow.lean ====
/-
  The reference's result read at an index: the same row function, of the argument arrays' rows.
-/
module

public import proofs.«01_k».proof.Proof.Row
public import proofs.«01_k».proof.Proof.Gen.ReferenceIdeal.Run
public import proofs.«01_k».proof.Proof.Gen.FirstReferenceIdeal.Run

@[expose] public section

set_option maxRecDepth 16384

noncomputable section

namespace Cert.RefRow

open Idealize.ShloMosaic Cert.ReferenceIdeal Cert.ReferenceIdeal.Gen Cert.Row Finset

/-- The residual after the attention's output projection. -/
def mixR (x a : FVec Ideal S2x8192x1024 .f32) (gta : FVec Ideal S2x1x1024 .f32) (wo : FVec Ideal S1024x1024 .f32) : FVec Ideal S2x8192x1024 .f32 :=
  addf x (mulf (broadcastInDim S2x8192x1024 ![0, 1, 2] bcast_S2x1x1024_S2x8192x1024_0_1_2 gta)
    (Host.dotGeneral dot_S2x8192x1024_S1024x1024_S2x8192x1024_2_0_01_1_n_n none a wo))

/-- The root-mean-square normalisation. -/
def normR (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2
      (Host.rsqrt (addf (Host.divf (broadcastInDim S2x8192x1 ![0, 1] bcast_S2x8192_S2x8192x1_0_1
          (Host.reduceAdd (mulf x x) (constant S_ .f32 0x00000000#32) reducesTo_S2x8192x1024_S2x8192_d2 h_S_))
          (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The normalised rows with their scale and shift. -/
def hidR (x : FVec Ideal S2x8192x1024 .f32) (g : FVec Ideal S1024 .f32) (sc sh : FVec Ideal S2x1x1024 .f32) : FVec Ideal S2x8192x1024 .f32 :=
  addf (mulf (normR x g) (broadcastInDim S2x8192x1024 ![0, 1, 2] bcast_S2x1x1024_S2x8192x1024_0_1_2
      (addf (broadcastInDim S2x1x1024 ![] bcast_S_S2x1x1024 (constant S_ .f32 0x3F800000#32)) sc)))
    (broadcastInDim S2x8192x1024 ![0, 1, 2] bcast_S2x1x1024_S2x8192x1024_0_1_2 sh)

/-- The products with the joined gate and value weights. -/
def bothR (h : FVec Ideal S2x8192x1024 .f32) (win : FVec Ideal S1024x5632 .f32) : FVec Ideal S2x8192x5632 .f32 :=
  Host.dotGeneral dot_S2x8192x1024_S1024x5632_S2x8192x5632_2_0_01_1_n_n none h win

/-- The gated product. -/
def actR (u : FVec Ideal S2x8192x5632 .f32) : FVec Ideal S2x8192x2816 .f32 :=
  mulf (mulf (extractStridedSlice S2x8192x2816 ![0, 0, 0] u slices_S2x8192x5632_S2x8192x2816_0_0_0)
      (Host.divf (broadcastInDim S2x8192x2816 ![] bcast_S_S2x8192x2816 (constant S_ .f32 0x3F800000#32))
        (addf (broadcastInDim S2x8192x2816 ![] bcast_S_S2x8192x2816 (constant S_ .f32 0x3F800000#32))
          (Host.exp (Host.negf (extractStridedSlice S2x8192x2816 ![0, 0, 0] u slices_S2x8192x5632_S2x8192x2816_0_0_0))))))
    (extractStridedSlice S2x8192x2816 ![0, 0, 2816] u slices_S2x8192x5632_S2x8192x2816_0_0_2816)

/-- The feed-forward added to the residual. -/
def fedR (x : FVec Ideal S2x8192x1024 .f32) (u : FVec Ideal S2x8192x2816 .f32) (gt : FVec Ideal S2x1x1024 .f32) (wout : FVec Ideal S2816x1024 .f32) :
    FVec Ideal S2x8192x1024 .f32 :=
  addf x (mulf (broadcastInDim S2x8192x1024 ![0, 1, 2] bcast_S2x1x1024_S2x8192x1024_0_1_2 gt)
    (Host.dotGeneral dot_S2x8192x2816_S2816x1024_S2x8192x1024_2_0_01_1_n_n none u wout))

theorem mixR_apply (x a : FVec Ideal S2x8192x1024 .f32) (gta : FVec Ideal S2x1x1024 .f32) (wo : FVec Ideal S1024x1024 .f32) (b : Fin 2) (r : Fin 8192) (d : Fin 1024) :
    mixR x a gta wo (ix3 b r d) = mixed (fun k => x (ix3 b r k)) (fun k => a (ix3 b r k)) (fun k => gta (ix3 b 0 k)) (fun k e => wo (ix2 k e)) d := by
  unfold mixR mixed
  pointwise

theorem normR_apply (x : FVec Ideal S2x8192x1024 .f32) (g : FVec Ideal S1024 .f32) (b : Fin 2) (r : Fin 8192) (d : Fin 1024) :
    normR x g (ix3 b r d) = normed (fun k => x (ix3 b r k)) (fun k => g (ix1 k)) d := by
  unfold normR normed
  pointwise

theorem hidR_apply (x : FVec Ideal S2x8192x1024 .f32) (g : FVec Ideal S1024 .f32) (sc sh : FVec Ideal S2x1x1024 .f32) (b : Fin 2) (r : Fin 8192) (d : Fin 1024) :
    hidR x g sc sh (ix3 b r d) = Row.hidden (fun k => x (ix3 b r k)) (fun k => g (ix1 k)) (fun k => sc (ix3 b 0 k)) (fun k => sh (ix3 b 0 k)) d := by
  unfold hidR Row.hidden
  rw [← normR_apply x g b r d]
  generalize normR x g = y
  pointwise

theorem bothR_apply (h : FVec Ideal S2x8192x1024 .f32) (win : FVec Ideal S1024x5632 .f32) (b : Fin 2) (r : Fin 8192) (f : Fin 5632) :
    bothR h win (ix3 b r f) = ∑ k, h (ix3 b r k) * win (ix2 k f) := by
  unfold bothR
  pointwise

theorem actR_apply (u : FVec Ideal S2x8192x5632 .f32) (b : Fin 2) (r : Fin 8192) (f : Fin 2816) :
    actR u (ix3 b r f) = (u (ix3 b r ⟨f, by omega⟩) * Ideal.logistic (u (ix3 b r ⟨f, by omega⟩))) * u (ix3 b r ⟨2816 + f, by omega⟩) := by
  unfold actR Ideal.logistic
  pointwise

theorem fedR_apply (x : FVec Ideal S2x8192x1024 .f32) (u : FVec Ideal S2x8192x2816 .f32) (gt : FVec Ideal S2x1x1024 .f32) (wout : FVec Ideal S2816x1024 .f32)
    (b : Fin 2) (r : Fin 8192) (d : Fin 1024) :
    fedR x u gt wout (ix3 b r d) = x (ix3 b r d) + gt (ix3 b 0 d) * ∑ f, u (ix3 b r f) * wout (ix2 f d) := by
  unfold fedR
  pointwise

/-- The feed-forward after hidden rows `h`, at a row. -/
theorem fed_apply (x h : FVec Ideal S2x8192x1024 .f32) (gt : FVec Ideal S2x1x1024 .f32) (win : FVec Ideal S1024x5632 .f32) (wout : FVec Ideal S2816x1024 .f32)
    (b : Fin 2) (r : Fin 8192) (d : Fin 1024) :
    fedR x (actR (bothR h win)) gt wout (ix3 b r d)
      = fed (fun k => x (ix3 b r k)) (fun k => h (ix3 b r k)) (fun k => gt (ix3 b 0 k)) (fun k f => win (ix2 k f)) (fun f k => wout (ix2 f k)) d := by
  rw [fedR_apply]
  simp only [actR_apply, bothR_apply]
  rfl

/-- The last layer's reference is the composition of these. -/
theorem res_eq (m : (ℓ : Loc nD τ sig) → Buf (Elt Ideal) ℓ) (c : Dev nD) :
    Value.res_out0 m c = normR (fedR (mixR (m ((c.tc : Thread nD τ).loc main_arg0)) (m ((c.tc : Thread nD τ).loc main_arg1)) (m ((c.tc : Thread nD τ).loc main_arg2)) (m ((c.tc : Thread nD τ).loc main_arg3)))
      (actR (bothR (hidR (mixR (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg7)) (m ((c.tc : Thread nD τ).loc main_arg5)) (m ((c.tc : Thread nD τ).loc main_arg4))) (m ((c.tc : Thread nD τ).loc main_arg8)))) (m ((c.tc : Thread nD τ).loc main_arg6)) (m ((c.tc : Thread nD τ).loc main_arg9))) (m ((c.tc : Thread nD τ).loc main_arg10)) := rfl

end Cert.RefRow

namespace Cert.RefRow

open Idealize.ShloMosaic Cert.FirstReferenceIdeal Cert.FirstReferenceIdeal.Gen Cert.Row

/-- The first layer's reference, by the same functions. -/
theorem first_res_eq (m : (ℓ : Loc nD τ sig) → Buf (Elt Ideal) ℓ) (c : Dev nD) :
    Value.res_out0 m c = fedR (m ((c.tc : Thread nD τ).loc main_arg0)) (actR (bothR (hidR (m ((c.tc : Thread nD τ).loc main_arg0)) (m ((c.tc : Thread nD τ).loc main_arg4)) (m ((c.tc : Thread nD τ).loc main_arg2)) (m ((c.tc : Thread nD τ).loc main_arg1))) (m ((c.tc : Thread nD τ).loc main_arg5))))
      (m ((c.tc : Thread nD τ).loc main_arg3)) (m ((c.tc : Thread nD τ).loc main_arg6)) := rfl

end Cert.RefRow

end
-- ==== Proof.Agree.lean ====
/-
  The kernels' results are the references': the two claims on values.
-/
module

public import proofs.«01_k».proof.Defs
public import proofs.«01_k».proof.Proof.KernelArray
public import proofs.«01_k».proof.Proof.FirstKernelArray
public import proofs.«01_k».proof.Proof.RefRow

@[expose] public section

set_option maxRecDepth 16384

noncomputable section

namespace Cert.Agree

open Idealize.ShloMosaic Idealize.ShloMosaic.TcCoe Idealize.SL.Sem

/-- With the arguments agreeing, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_out0 m' c = Cert.KernelArray.result m c := by
  obtain ⟨h0, h1, h2, h3, h4, h5, h6, h7, h8, h9, h10⟩ := h
  rw [Cert.RefRow.res_eq, h0, h1, h2, h3, h4, h5, h6, h7, h8, h9, h10]
  funext i
  obtain ⟨b, r, d, rfl⟩ : ∃ b r d, i = (ix3 b r d : Cert.KernelIdeal.S2x8192x1024.Idx) :=
    ⟨i 0, i 1, i 2, by funext a; match a with | ⟨0, _⟩ => rfl | ⟨1, _⟩ => rfl | ⟨2, _⟩ => rfl⟩
  rw [Cert.RefRow.normR_apply]
  simp only [Cert.RefRow.fed_apply, Cert.RefRow.hidR_apply, Cert.RefRow.mixR_apply]
  rfl

/-- Every run of the kernel and every run of the reference leave the same result. -/
theorem algebraic : Cert.algebraic_KernelIdeal_ReferenceIdeal := fun m g m' g' _ hag =>
  ⟨fun c => Cert.KernelArray.result m c,
    (θ_run _ _ _).mono (fun _ h c => ⟨(h c).1.trans (Cert.KernelArray.final m c), (h c).2⟩) (Cert.KernelIdeal.Value.run_blocks m g),
    (θ_run _ _ _).mono (fun _ h c => ⟨(h c).1.trans (result_eq m m' c (hag c)), (h c).2⟩) (Cert.ReferenceIdeal.Value.run m' g')⟩

/-- With the arguments agreeing, the reference's result is the kernel's. -/
theorem first_result_eq (m : (ℓ : Loc Cert.FirstKernelIdeal.nD Cert.FirstKernelIdeal.τ Cert.FirstKernelIdeal.sig) → Buf (Elt Ideal) ℓ)
    (m' : (ℓ : Loc Cert.FirstReferenceIdeal.nD Cert.FirstReferenceIdeal.τ Cert.FirstReferenceIdeal.sig) → Buf (Elt Ideal) ℓ) (c : Dev Cert.FirstKernelIdeal.nD)
    (h : m' ((c.tc : Thread Cert.FirstReferenceIdeal.nD Cert.FirstReferenceIdeal.τ).loc Cert.FirstReferenceIdeal.main_arg0) = m ((c.tc : Thread Cert.FirstKernelIdeal.nD Cert.FirstKernelIdeal.τ).loc Cert.FirstKernelIdeal.main_arg0)
      ∧ m' ((c.tc : Thread Cert.FirstReferenceIdeal.nD Cert.FirstReferenceIdeal.τ).loc Cert.FirstReferenceIdeal.main_arg1) = m ((c.tc : Thread Cert.FirstKernelIdeal.nD Cert.FirstKernelIdeal.τ).loc Cert.FirstKernelIdeal.main_arg1)
      ∧ m' ((c.tc : Thread Cert.FirstReferenceIdeal.nD Cert.FirstReferenceIdeal.τ).loc Cert.FirstReferenceIdeal.main_arg2) = m ((c.tc : Thread Cert.FirstKernelIdeal.nD Cert.FirstKernelIdeal.τ).loc Cert.FirstKernelIdeal.main_arg2)
      ∧ m' ((c.tc : Thread Cert.FirstReferenceIdeal.nD Cert.FirstReferenceIdeal.τ).loc Cert.FirstReferenceIdeal.main_arg3) = m ((c.tc : Thread Cert.FirstKernelIdeal.nD Cert.FirstKernelIdeal.τ).loc Cert.FirstKernelIdeal.main_arg3)
      ∧ m' ((c.tc : Thread Cert.FirstReferenceIdeal.nD Cert.FirstReferenceIdeal.τ).loc Cert.FirstReferenceIdeal.main_arg4) = m ((c.tc : Thread Cert.FirstKernelIdeal.nD Cert.FirstKernelIdeal.τ).loc Cert.FirstKernelIdeal.main_arg4)
      ∧ m' ((c.tc : Thread Cert.FirstReferenceIdeal.nD Cert.FirstReferenceIdeal.τ).loc Cert.FirstReferenceIdeal.main_arg5) = m ((c.tc : Thread Cert.FirstKernelIdeal.nD Cert.FirstKernelIdeal.τ).loc Cert.FirstKernelIdeal.main_arg5)
      ∧ m' ((c.tc : Thread Cert.FirstReferenceIdeal.nD Cert.FirstReferenceIdeal.τ).loc Cert.FirstReferenceIdeal.main_arg6) = m ((c.tc : Thread Cert.FirstKernelIdeal.nD Cert.FirstKernelIdeal.τ).loc Cert.FirstKernelIdeal.main_arg6)) :
    Cert.FirstReferenceIdeal.Value.res_out0 m' c = Cert.FirstKernelArray.result m c := by
  obtain ⟨h0, h1, h2, h3, h4, h5, h6⟩ := h
  rw [Cert.RefRow.first_res_eq, h0, h1, h2, h3, h4, h5, h6]
  funext i
  obtain ⟨b, r, d, rfl⟩ : ∃ b r d, i = (ix3 b r d : Cert.FirstKernelIdeal.S2x8192x1024.Idx) :=
    ⟨i 0, i 1, i 2, by funext a; match a with | ⟨0, _⟩ => rfl | ⟨1, _⟩ => rfl | ⟨2, _⟩ => rfl⟩
  rw [Cert.RefRow.fed_apply]
  simp only [Cert.RefRow.hidR_apply]
  rfl

/-- Every run of the kernel and every run of the reference leave the same result. -/
theorem first_algebraic : Cert.algebraic_FirstKernelIdeal_FirstReferenceIdeal := fun m g m' g' _ hag =>
  ⟨fun c => Cert.FirstKernelArray.result m c,
    (θ_run _ _ _).mono (fun _ h c => ⟨(h c).1.trans (Cert.FirstKernelArray.final m c), (h c).2⟩) (Cert.FirstKernelIdeal.Value.run_blocks m g),
    (θ_run _ _ _).mono (fun _ h c => ⟨(h c).1.trans (first_result_eq m m' c (hag c)), (h c).2⟩) (Cert.FirstReferenceIdeal.Value.run m' g')⟩

end Cert.Agree

end
-- ==== Proof.ProjectRow.lean ====
/-
  The attention's projections, a block of the kernel read at an index: one column of the row's product.
-/
module

public import proofs.«01_k».proof.Proof.Row
public import proofs.«01_k».proof.Proof.Gen.ProjectIdeal.Value

@[expose] public section

set_option maxRecDepth 16384

noncomputable section

namespace Cert.ProjectRow

open Idealize.ShloMosaic Cert.ProjectIdeal Cert.ProjectIdeal.Gen Cert.Row Finset

/-- The product of the normalised rows with the joined weights, read at an index. -/
theorem pay3_apply (x : Vec Ideal S1x512x1024 .f32) (g : Vec Ideal S1x1024 .f32) (sc sh : Vec Ideal S1x1x1024 .f32) (w : Vec Ideal S1024x2176 .bf16)
    (r : Fin 512) (f : Fin 2176) :
    k0_pay3 x g sc sh w (ix2 r f)
      = ∑ d, Row.hidden (fun k => x (ix3 0 r k)) (fun k => g (ix2 0 k)) (fun k => sc (ix3 0 0 k)) (fun k => sh (ix3 0 0 k)) d * w (ix2 d f) := by
  unfold k0_pay3 Row.hidden normed
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x512x1024 e) : View.ld v r0_0 = v := View.ld_unit_zero zeros3 _ v
theorem ld_1 {e : EltTy} (v : Vec Ideal S1x1024 e) : View.ld v r0_1 = v := View.ld_unit_zero zeros2 _ v
theorem ld_2 {e : EltTy} (v : Vec Ideal S1x1x1024 e) : View.ld v r0_2 = v := View.ld_unit_zero zeros3 _ v
theorem ld_3 {e : EltTy} (v : Vec Ideal S1024x2176 e) : View.ld v r0_3 = v := View.ld_unit_zero zeros2 _ v

/-- One head's slice of the product, scaled. -/
def scaled (v : FVec Ideal S512x2176 .f32) : S1x16x512x64.Idx → EReal := fun y =>
  v (ix2 (y 2 : Fin 512) (⟨(y 1).val * 64 + (y 3).val, by have h1 : (y 1).val < 16 := (y 1).isLt; have h3 : (y 3).val < 64 := (y 3).isLt; omega⟩ : Fin 2176))
    * Ideal.ofBits .f32 0x3E38AA3B#32

theorem head_0 (v : FVec Ideal S512x2176 .f32) (r : Fin 512) (d : Fin 64) :
    k0_pay14 (k0_pay13 v) (ix4 0 0 r d) = v (ix2 r ⟨0 + d, by omega⟩) * Ideal.ofBits .f32 0x3E38AA3B#32 := by
  unfold k0_pay14 k0_pay13
  pointwise

theorem piece_0 (v : FVec Ideal S512x2176 .f32) (x : S1x1x512x64.Idx) : (k0_pay14 (k0_pay13 v)) x = scaled v (r0_9.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_0]
  unfold scaled
  refine congrArg (fun i => v i * Ideal.ofBits .f32 0x3E38AA3B#32) ?_
  funext a; apply Fin.ext
  match a with
  | ⟨0, _⟩ => show r.val = 0 + 1 * r.val; omega
  | ⟨1, _⟩ => show 0 + d.val = (0 + 1 * 0) * 64 + (0 + 1 * d.val); omega

theorem head_1 (v : FVec Ideal S512x2176 .f32) (r : Fin 512) (d : Fin 64) :
    k0_pay15 v (ix4 0 0 r d) = v (ix2 r ⟨64 + d, by omega⟩) * Ideal.ofBits .f32 0x3E38AA3B#32 := by
  unfold k0_pay15
  pointwise

theorem piece_1 (v : FVec Ideal S512x2176 .f32) (x : S1x1x512x64.Idx) : (k0_pay15 v) x = scaled v (r0_10.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_1]
  unfold scaled
  refine congrArg (fun i => v i * Ideal.ofBits .f32 0x3E38AA3B#32) ?_
  funext a; apply Fin.ext
  match a with
  | ⟨0, _⟩ => show r.val = 0 + 1 * r.val; omega
  | ⟨1, _⟩ => show 64 + d.val = (1 + 1 * 0) * 64 + (0 + 1 * d.val); omega

theorem head_2 (v : FVec Ideal S512x2176 .f32) (r : Fin 512) (d : Fin 64) :
    k0_pay16 v (ix4 0 0 r d) = v (ix2 r ⟨128 + d, by omega⟩) * Ideal.ofBits .f32 0x3E38AA3B#32 := by
  unfold k0_pay16
  pointwise

theorem piece_2 (v : FVec Ideal S512x2176 .f32) (x : S1x1x512x64.Idx) : (k0_pay16 v) x = scaled v (r0_11.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_2]
  unfold scaled
  refine congrArg (fun i => v i * Ideal.ofBits .f32 0x3E38AA3B#32) ?_
  funext a; apply Fin.ext
  match a with
  | ⟨0, _⟩ => show r.val = 0 + 1 * r.val; omega
  | ⟨1, _⟩ => show 128 + d.val = (2 + 1 * 0) * 64 + (0 + 1 * d.val); omega

theorem head_3 (v : FVec Ideal S512x2176 .f32) (r : Fin 512) (d : Fin 64) :
    k0_pay17 v (ix4 0 0 r d) = v (ix2 r ⟨192 + d, by omega⟩) * Ideal.ofBits .f32 0x3E38AA3B#32 := by
  unfold k0_pay17
  pointwise

theorem piece_3 (v : FVec Ideal S512x2176 .f32) (x : S1x1x512x64.Idx) : (k0_pay17 v) x = scaled v (r0_12.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_3]
  unfold scaled
  refine congrArg (fun i => v i * Ideal.ofBits .f32 0x3E38AA3B#32) ?_
  funext a; apply Fin.ext
  match a with
  | ⟨0, _⟩ => show r.val = 0 + 1 * r.val; omega
  | ⟨1, _⟩ => show 192 + d.val = (3 + 1 * 0) * 64 + (0 + 1 * d.val); omega

theorem head_4 (v : FVec Ideal S512x2176 .f32) (r : Fin 512) (d : Fin 64) :
    k0_pay18 v (ix4 0 0 r d) = v (ix2 r ⟨256 + d, by omega⟩) * Ideal.ofBits .f32 0x3E38AA3B#32 := by
  unfold k0_pay18
  pointwise

theorem piece_4 (v : FVec Ideal S512x2176 .f32) (x : S1x1x512x64.Idx) : (k0_pay18 v) x = scaled v (r0_13.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_4]
  unfold scaled
  refine congrArg (fun i => v i * Ideal.ofBits .f32 0x3E38AA3B#32) ?_
  funext a; apply Fin.ext
  match a with
  | ⟨0, _⟩ => show r.val = 0 + 1 * r.val; omega
  | ⟨1, _⟩ => show 256 + d.val = (4 + 1 * 0) * 64 + (0 + 1 * d.val); omega

theorem head_5 (v : FVec Ideal S512x2176 .f32) (r : Fin 512) (d : Fin 64) :
    k0_pay19 v (ix4 0 0 r d) = v (ix2 r ⟨320 + d, by omega⟩) * Ideal.ofBits .f32 0x3E38AA3B#32 := by
  unfold k0_pay19
  pointwise

theorem piece_5 (v : FVec Ideal S512x2176 .f32) (x : S1x1x512x64.Idx) : (k0_pay19 v) x = scaled v (r0_14.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_5]
  unfold scaled
  refine congrArg (fun i => v i * Ideal.ofBits .f32 0x3E38AA3B#32) ?_
  funext a; apply Fin.ext
  match a with
  | ⟨0, _⟩ => show r.val = 0 + 1 * r.val; omega
  | ⟨1, _⟩ => show 320 + d.val = (5 + 1 * 0) * 64 + (0 + 1 * d.val); omega

theorem head_6 (v : FVec Ideal S512x2176 .f32) (r : Fin 512) (d : Fin 64) :
    k0_pay20 v (ix4 0 0 r d) = v (ix2 r ⟨384 + d, by omega⟩) * Ideal.ofBits .f32 0x3E38AA3B#32 := by
  unfold k0_pay20
  pointwise

theorem piece_6 (v : FVec Ideal S512x2176 .f32) (x : S1x1x512x64.Idx) : (k0_pay20 v) x = scaled v (r0_15.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_6]
  unfold scaled
  refine congrArg (fun i => v i * Ideal.ofBits .f32 0x3E38AA3B#32) ?_
  funext a; apply Fin.ext
  match a with
  | ⟨0, _⟩ => show r.val = 0 + 1 * r.val; omega
  | ⟨1, _⟩ => show 384 + d.val = (6 + 1 * 0) * 64 + (0 + 1 * d.val); omega

theorem head_7 (v : FVec Ideal S512x2176 .f32) (r : Fin 512) (d : Fin 64) :
    k0_pay21 v (ix4 0 0 r d) = v (ix2 r ⟨448 + d, by omega⟩) * Ideal.ofBits .f32 0x3E38AA3B#32 := by
  unfold k0_pay21
  pointwise

theorem piece_7 (v : FVec Ideal S512x2176 .f32) (x : S1x1x512x64.Idx) : (k0_pay21 v) x = scaled v (r0_16.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_7]
  unfold scaled
  refine congrArg (fun i => v i * Ideal.ofBits .f32 0x3E38AA3B#32) ?_
  funext a; apply Fin.ext
  match a with
  | ⟨0, _⟩ => show r.val = 0 + 1 * r.val; omega
  | ⟨1, _⟩ => show 448 + d.val = (7 + 1 * 0) * 64 + (0 + 1 * d.val); omega

theorem head_8 (v : FVec Ideal S512x2176 .f32) (r : Fin 512) (d : Fin 64) :
    k0_pay22 v (ix4 0 0 r d) = v (ix2 r ⟨512 + d, by omega⟩) * Ideal.ofBits .f32 0x3E38AA3B#32 := by
  unfold k0_pay22
  pointwise

theorem piece_8 (v : FVec Ideal S512x2176 .f32) (x : S1x1x512x64.Idx) : (k0_pay22 v) x = scaled v (r0_17.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_8]
  unfold scaled
  refine congrArg (fun i => v i * Ideal.ofBits .f32 0x3E38AA3B#32) ?_
  funext a; apply Fin.ext
  match a with
  | ⟨0, _⟩ => show r.val = 0 + 1 * r.val; omega
  | ⟨1, _⟩ => show 512 + d.val = (8 + 1 * 0) * 64 + (0 + 1 * d.val); omega

theorem head_9 (v : FVec Ideal S512x2176 .f32) (r : Fin 512) (d : Fin 64) :
    k0_pay24 (k0_pay23 v) (ix4 0 0 r d) = v (ix2 r ⟨576 + d, by omega⟩) * Ideal.ofBits .f32 0x3E38AA3B#32 := by
  unfold k0_pay24 k0_pay23
  pointwise

theorem piece_9 (v : FVec Ideal S512x2176 .f32) (x : S1x1x512x64.Idx) : (k0_pay24 (k0_pay23 v)) x = scaled v (r0_18.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_9]
  unfold scaled
  refine congrArg (fun i => v i * Ideal.ofBits .f32 0x3E38AA3B#32) ?_
  funext a; apply Fin.ext
  match a with
  | ⟨0, _⟩ => show r.val = 0 + 1 * r.val; omega
  | ⟨1, _⟩ => show 576 + d.val = (9 + 1 * 0) * 64 + (0 + 1 * d.val); omega

theorem head_10 (v : FVec Ideal S512x2176 .f32) (r : Fin 512) (d : Fin 64) :
    k0_pay25 v (ix4 0 0 r d) = v (ix2 r ⟨640 + d, by omega⟩) * Ideal.ofBits .f32 0x3E38AA3B#32 := by
  unfold k0_pay25
  pointwise

theorem piece_10 (v : FVec Ideal S512x2176 .f32) (x : S1x1x512x64.Idx) : (k0_pay25 v) x = scaled v (r0_19.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_10]
  unfold scaled
  refine congrArg (fun i => v i * Ideal.ofBits .f32 0x3E38AA3B#32) ?_
  funext a; apply Fin.ext
  match a with
  | ⟨0, _⟩ => show r.val = 0 + 1 * r.val; omega
  | ⟨1, _⟩ => show 640 + d.val = (10 + 1 * 0) * 64 + (0 + 1 * d.val); omega

theorem head_11 (v : FVec Ideal S512x2176 .f32) (r : Fin 512) (d : Fin 64) :
    k0_pay26 v (ix4 0 0 r d) = v (ix2 r ⟨704 + d, by omega⟩) * Ideal.ofBits .f32 0x3E38AA3B#32 := by
  unfold k0_pay26
  pointwise

theorem piece_11 (v : FVec Ideal S512x2176 .f32) (x : S1x1x512x64.Idx) : (k0_pay26 v) x = scaled v (r0_20.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_11]
  unfold scaled
  refine congrArg (fun i => v i * Ideal.ofBits .f32 0x3E38AA3B#32) ?_
  funext a; apply Fin.ext
  match a with
  | ⟨0, _⟩ => show r.val = 0 + 1 * r.val; omega
  | ⟨1, _⟩ => show 704 + d.val = (11 + 1 * 0) * 64 + (0 + 1 * d.val); omega

theorem head_12 (v : FVec Ideal S512x2176 .f32) (r : Fin 512) (d : Fin 64) :
    k0_pay27 v (ix4 0 0 r d) = v (ix2 r ⟨768 + d, by omega⟩) * Ideal.ofBits .f32 0x3E38AA3B#32 := by
  unfold k0_pay27
  pointwise

theorem piece_12 (v : FVec Ideal S512x2176 .f32) (x : S1x1x512x64.Idx) : (k0_pay27 v) x = scaled v (r0_21.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_12]
  unfold scaled
  refine congrArg (fun i => v i * Ideal.ofBits .f32 0x3E38AA3B#32) ?_
  funext a; apply Fin.ext
  match a with
  | ⟨0, _⟩ => show r.val = 0 + 1 * r.val; omega
  | ⟨1, _⟩ => show 768 + d.val = (12 + 1 * 0) * 64 + (0 + 1 * d.val); omega

theorem head_13 (v : FVec Ideal S512x2176 .f32) (r : Fin 512) (d : Fin 64) :
    k0_pay28 v (ix4 0 0 r d) = v (ix2 r ⟨832 + d, by omega⟩) * Ideal.ofBits .f32 0x3E38AA3B#32 := by
  unfold k0_pay28
  pointwise

theorem piece_13 (v : FVec Ideal S512x2176 .f32) (x : S1x1x512x64.Idx) : (k0_pay28 v) x = scaled v (r0_22.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_13]
  unfold scaled
  refine congrArg (fun i => v i * Ideal.ofBits .f32 0x3E38AA3B#32) ?_
  funext a; apply Fin.ext
  match a with
  | ⟨0, _⟩ => show r.val = 0 + 1 * r.val; omega
  | ⟨1, _⟩ => show 832 + d.val = (13 + 1 * 0) * 64 + (0 + 1 * d.val); omega

theorem head_14 (v : FVec Ideal S512x2176 .f32) (r : Fin 512) (d : Fin 64) :
    k0_pay30 (k0_pay29 v) (Scalar.ofBits .f32 0x3E38AA3B#32) (ix4 0 0 r d) = v (ix2 r ⟨896 + d, by omega⟩) * Ideal.ofBits .f32 0x3E38AA3B#32 := by
  unfold k0_pay30 k0_pay29
  pointwise

theorem piece_14 (v : FVec Ideal S512x2176 .f32) (x : S1x1x512x64.Idx) : (k0_pay30 (k0_pay29 v) (Scalar.ofBits .f32 0x3E38AA3B#32)) x = scaled v (r0_23.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_14]
  unfold scaled
  refine congrArg (fun i => v i * Ideal.ofBits .f32 0x3E38AA3B#32) ?_
  funext a; apply Fin.ext
  match a with
  | ⟨0, _⟩ => show r.val = 0 + 1 * r.val; omega
  | ⟨1, _⟩ => show 896 + d.val = (14 + 1 * 0) * 64 + (0 + 1 * d.val); omega

theorem head_15 (v : FVec Ideal S512x2176 .f32) (r : Fin 512) (d : Fin 64) :
    k0_pay31 v (ix4 0 0 r d) = v (ix2 r ⟨960 + d, by omega⟩) * Ideal.ofBits .f32 0x3E38AA3B#32 := by
  unfold k0_pay31
  pointwise

theorem piece_15 (v : FVec Ideal S512x2176 .f32) (x : S1x1x512x64.Idx) : (k0_pay31 v) x = scaled v (r0_24.emb x) := by
  obtain ⟨z, z', r, d, rfl⟩ : ∃ z z' r d, x = (ix4 z z' r d : S1x1x512x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_15]
  unfold scaled
  refine congrArg (fun i => v i * Ideal.ofBits .f32 0x3E38AA3B#32) ?_
  funext a; apply Fin.ext
  match a with
  | ⟨0, _⟩ => show r.val = 0 + 1 * r.val; omega
  | ⟨1, _⟩ => show 960 + d.val = (15 + 1 * 0) * 64 + (0 + 1 * d.val); omega

/-- The sixteen heads' stores together. -/
theorem canon9 (v : FVec Ideal S512x2176 .f32) (y : S1x16x512x64.Idx) :
    (View.canon [⟨r0_24, k0_pay31 v⟩, ⟨r0_23, k0_pay30 (k0_pay29 v) (Scalar.ofBits .f32 0x3E38AA3B#32)⟩, ⟨r0_22, k0_pay28 v⟩, ⟨r0_21, k0_pay27 v⟩, ⟨r0_20, k0_pay26 v⟩, ⟨r0_19, k0_pay25 v⟩, ⟨r0_18, k0_pay24 (k0_pay23 v)⟩, ⟨r0_17, k0_pay22 v⟩, ⟨r0_16, k0_pay21 v⟩, ⟨r0_15, k0_pay20 v⟩, ⟨r0_14, k0_pay19 v⟩, ⟨r0_13, k0_pay18 v⟩, ⟨r0_12, k0_pay17 v⟩, ⟨r0_11, k0_pay16 v⟩, ⟨r0_10, k0_pay15 v⟩, ⟨r0_9, k0_pay14 (k0_pay13 v)⟩] : Vec Ideal S1x16x512x64 .bf16) y = scaled v y := by
  refine View.canon_apply_of_pieces (Val := Elt Ideal) (scaled v) _ ?_ y (cover0_9 _ _ _ _ _ _ _ _ _ _ _ _ _ _ _ _ y)
  intro pc hpc
  rcases List.mem_cons.mp hpc with rfl | hpc
  · exact fun x => piece_15 v x
  rcases List.mem_cons.mp hpc with rfl | hpc
  · exact fun x => piece_14 v x
  rcases List.mem_cons.mp hpc with rfl | hpc
  · exact fun x => piece_13 v x
  rcases List.mem_cons.mp hpc with rfl | hpc
  · exact fun x => piece_12 v x
  rcases List.mem_cons.mp hpc with rfl | hpc
  · exact fun x => piece_11 v x
  rcases List.mem_cons.mp hpc with rfl | hpc
  · exact fun x => piece_10 v x
  rcases List.mem_cons.mp hpc with rfl | hpc
  · exact fun x => piece_9 v x
  rcases List.mem_cons.mp hpc with rfl | hpc
  · exact fun x => piece_8 v x
  rcases List.mem_cons.mp hpc with rfl | hpc
  · exact fun x => piece_7 v x
  rcases List.mem_cons.mp hpc with rfl | hpc
  · exact fun x => piece_6 v x
  rcases List.mem_cons.mp hpc with rfl | hpc
  · exact fun x => piece_5 v x
  rcases List.mem_cons.mp hpc with rfl | hpc
  · exact fun x => piece_4 v x
  rcases List.mem_cons.mp hpc with rfl | hpc
  · exact fun x => piece_3 v x
  rcases List.mem_cons.mp hpc with rfl | hpc
  · exact fun x => piece_2 v x
  rcases List.mem_cons.mp hpc with rfl | hpc
  · exact fun x => piece_1 v x
  rcases List.mem_cons.mp hpc with rfl | hpc
  · exact fun x => piece_0 v x
  nomatch hpc

/-! The blocks the body leaves. -/

variable (x : Vec Ideal S1x512x1024 .f32) (sh sc : Vec Ideal S1x1x1024 .f32) (g : Vec Ideal S1x1024 .f32) (w : Vec Ideal S1024x2176 .bf16)

theorem out5_apply (e : Fin 256) (r : Fin 512) :
    out0_5 x sh sc g w (ix3 0 e r) = k0_pay3 x g sc sh w (ix2 r ⟨e.val + 1024, by omega⟩) := by
  unfold_out out0_5
  rw [ld_0, ld_1, ld_2, ld_2, ld_3]
  refine (Value.canon5_eq x g sc sh w _).trans ?_
  refine congrArg (k0_pay3 x g sc sh w) ?_
  funext a
  match a with | ⟨0, _⟩ => rfl | ⟨1, _⟩ => rfl

theorem out6_apply (e : Fin 256) (r : Fin 512) :
    out0_6 x sh sc g w (ix3 0 e r) = k0_pay3 x g sc sh w (ix2 r ⟨e.val + 1280, by omega⟩) := by
  unfold_out out0_6
  rw [ld_0, ld_1, ld_2, ld_2, ld_3]
  refine (Value.canon6_eq x g sc sh w _).trans ?_
  refine congrArg (k0_pay3 x g sc sh w) ?_
  funext a
  match a with | ⟨0, _⟩ => rfl | ⟨1, _⟩ => rfl

theorem out7_apply (e : Fin 64) (r : Fin 512) :
    out0_7 x sh sc g w (ix3 0 e r) = k0_pay3 x g sc sh w (ix2 r ⟨e.val + 2048, by omega⟩) := by
  unfold_out out0_7
  rw [ld_0, ld_1, ld_2, ld_2, ld_3]
  refine (Value.canon7_eq x g sc sh w _).trans ?_
  refine congrArg (k0_pay3 x g sc sh w) ?_
  funext a
  match a with | ⟨0, _⟩ => rfl | ⟨1, _⟩ => rfl

theorem out8_apply (e : Fin 8) (r : Fin 512) :
    out0_8 x sh sc g w (ix3 0 e r) = k0_pay3 x g sc sh w (ix2 r ⟨e.val + 2112, by omega⟩) * Ideal.ofBits .f32 0x3D3504F3#32 := by
  unfold_out out0_8
  rw [ld_0, ld_1, ld_2, ld_2, ld_3]
  refine (Value.canon8_eq x g sc sh w _).trans ?_
  refine congrArg (fun i => k0_pay3 x g sc sh w i * Ideal.ofBits .f32 0x3D3504F3#32) ?_
  funext a
  match a with | ⟨0, _⟩ => rfl | ⟨1, _⟩ => rfl

theorem out9_apply (h : Fin 16) (r : Fin 512) (d : Fin 64) :
    out0_9 x sh sc g w (ix4 0 h r d) = k0_pay3 x g sc sh w (ix2 r ⟨h.val * 64 + d.val, by omega⟩) * Ideal.ofBits .f32 0x3E38AA3B#32 := by
  unfold_out out0_9
  rw [ld_0, ld_1, ld_2, ld_2, ld_3]
  exact canon9 (k0_pay3 x g sc sh w) _

theorem out10_apply (h : Fin 8) (r : Fin 512) (d : Fin 64) :
    out0_10 x sh sc g w (ix4 0 h r d) = k0_pay3 x g sc sh w (ix2 r ⟨h.val * 64 + d.val + 1536, by omega⟩) := by
  unfold_out out0_10
  rw [ld_0, ld_1, ld_2, ld_2, ld_3]
  refine (Value.canon10_eq x g sc sh w _).trans ?_
  refine congrArg (k0_pay3 x g sc sh w) ?_
  funext a
  match a with | ⟨0, _⟩ => rfl | ⟨1, _⟩ => rfl

end Cert.ProjectRow

end
-- ==== Proof.ProjectArray.lean ====
/-
  The attention's projections: the kernel's result arrays after the run, each as one function of the argument arrays.
-/
module

public import proofs.«01_k».proof.Proof.ProjectRow
public import Idealize.ShloMosaic.Lib.Pipeline.Value

@[expose] public section

set_option maxRecDepth 16384

noncomputable section

namespace Cert.ProjectArray

open Idealize.ShloMosaic Idealize.ShloMosaic.TcCoe Cert.ProjectIdeal Cert.ProjectIdeal.Gen Cert.Row

variable (m : (ℓ : Loc nD τ sig) → Buf (Elt Ideal) ℓ) (c : Dev nD)

/-- The batch a grid point works on. -/
def batch (t : Fin cfg0.N) : Fin 2 := ⟨t.val / 16, by have h : t.val < 32 := N_0 ▸ t.isLt; omega⟩

/-- The row of the array that is row `r` of a grid point's block. -/
def row (t : Fin cfg0.N) (r : Fin 512) : Fin 8192 := ⟨(t.val % 16) * 512 + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (d : Fin 1024) :
    ((cfg0.win 0).blk t).view.emb (ix3 0 r d : S1x512x1024.Idx) = (ix3 (batch t) (row t r) d : S2x8192x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = (t.val % 16) * 512 + r.val; omega
  | ⟨2, _⟩ => show win0_0.index t (2 : Fin 3) * 1024 + 1 * d.val = d.val; omega

theorem idx1 : ∀ t : Fin cfg0.N, win0_1.index t (0 : Fin 3) = t.val / 16 ∧ win0_1.index t (1 : Fin 3) = 0 ∧ win0_1.index t (2 : Fin 3) = 0 :=
  (by decide +kernel : ∀ t : Fin grid0.N, _)

theorem emb1 (t : Fin cfg0.N) (d : Fin 1024) :
    ((cfg0.win 1).blk t).view.emb (ix3 0 0 d : S1x1x1024.Idx) = (ix3 (batch t) 0 d : S2x1x1024.Idx) := by
  obtain ⟨e0, e1, e2⟩ := idx1 t
  funext a; apply Fin.ext
  match a with
  | ⟨0, _⟩ => show win0_1.index t (0 : Fin 3) * 1 + 1 * 0 = t.val / 16; omega
  | ⟨1, _⟩ => show win0_1.index t (1 : Fin 3) * 1 + 1 * 0 = 0; omega
  | ⟨2, _⟩ => show win0_1.index t (2 : Fin 3) * 1024 + 1 * d.val = d.val; omega

theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem emb2 (t : Fin cfg0.N) (d : Fin 1024) :
    ((cfg0.win 2).blk t).view.emb (ix3 0 0 d : S1x1x1024.Idx) = (ix3 (batch t) 0 d : S2x1x1024.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * 0 = 0; omega
  | ⟨2, _⟩ => show win0_2.index t (2 : Fin 3) * 1024 + 1 * d.val = d.val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (k : Fin 1) (d : Fin 1024) :
    ((cfg0.win 3).blk t).view.emb (ix2 k d : S1x1024.Idx) = (ix2 k d : S1x1024.Idx) := by
  obtain ⟨e0, e1⟩ := idx3 t
  funext a; apply Fin.ext
  match a with
  | ⟨0, _⟩ => show win0_3.index t (0 : Fin 2) * 1 + 1 * k.val = k.val; omega
  | ⟨1, _⟩ => show win0_3.index t (1 : Fin 2) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (k : Fin 1024) (d : Fin 2176) :
    ((cfg0.win 4).blk t).view.emb (ix2 k d : S1024x2176.Idx) = (ix2 k d : S1024x2176.Idx) := by
  obtain ⟨e0, e1⟩ := idx4 t
  funext a; apply Fin.ext
  match a with
  | ⟨0, _⟩ => show win0_4.index t (0 : Fin 2) * 1024 + 1 * k.val = k.val; omega
  | ⟨1, _⟩ => show win0_4.index t (1 : Fin 2) * 2176 + 1 * d.val = d.val; omega

/-! The arrays the host code prepares. -/

/-- The weights' columns made up to a whole number of lanes. -/
def padded (w : FVec Ideal S1024x2120 .f32) : FVec Ideal S1024x2176 .f32 :=
  pad S1024x2176 ![0, 0] ![0, 56] ![0, 0] w (constant S_ .f32 0x00000000#32) pads_S1024x2120_S1024x2176_000_0560 h_S_

theorem main_v1_eq : V m c main_v1 = truncf (F := Ideal) .bf16 (padded (m ((c : Thread nD τ).loc main_arg4))) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem main_v2_eq : V m c main_v2 = shapeCast S1x1024 (m ((c : Thread nD τ).loc main_arg3)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem padded_apply (w : FVec Ideal S1024x2120 .f32) (k : Fin 1024) (f : Fin 2120) : padded w (ix2 k ⟨f.val, by omega⟩) = w (ix2 k f) := by
  unfold padded
  pointwise

/-! A block's entries are the arguments'. -/

theorem blk0 (t : Fin cfg0.N) (r : Fin 512) (d : Fin 1024) :
    (iblk m c 0 t : S1x512x1024.Idx → EReal) (ix3 0 r d) = (m ((c : Thread nD τ).loc main_arg0) : S2x8192x1024.Idx → EReal) (ix3 (batch t) (row t r) d) := by
  show V m c main_arg0 (((cfg0.win 0).blk t).view.emb (ix3 0 r d : S1x512x1024.Idx)) = _
  rw [emb0, V_main_arg0]

theorem blk1 (t : Fin cfg0.N) (d : Fin 1024) :
    (iblk m c 1 t : S1x1x1024.Idx → EReal) (ix3 0 0 d) = (m ((c : Thread nD τ).loc main_arg1) : S2x1x1024.Idx → EReal) (ix3 (batch t) 0 d) := by
  show V m c main_arg1 (((cfg0.win 1).blk t).view.emb (ix3 0 0 d : S1x1x1024.Idx)) = _
  rw [emb1, V_main_arg1]

theorem blk2 (t : Fin cfg0.N) (d : Fin 1024) :
    (iblk m c 2 t : S1x1x1024.Idx → EReal) (ix3 0 0 d) = (m ((c : Thread nD τ).loc main_arg2) : S2x1x1024.Idx → EReal) (ix3 (batch t) 0 d) := by
  show V m c main_arg2 (((cfg0.win 2).blk t).view.emb (ix3 0 0 d : S1x1x1024.Idx)) = _
  rw [emb2, V_main_arg2]

theorem blk3 (t : Fin cfg0.N) (d : Fin 1024) :
    (iblk m c 3 t : S1x1024.Idx → EReal) (ix2 0 d) = (m ((c : Thread nD τ).loc main_arg3) : S1024.Idx → EReal) (ix1 d) := by
  show V m c main_v2 (((cfg0.win 3).blk t).view.emb (ix2 0 d : S1x1024.Idx)) = _
  rw [emb3, main_v2_eq]
  pointwise

theorem blk4 (t : Fin cfg0.N) (k : Fin 1024) (f : Fin 2120) :
    (iblk m c 4 t : S1024x2176.Idx → EReal) (ix2 k ⟨f.val, by omega⟩) = (m ((c : Thread nD τ).loc main_arg4) : S1024x2120.Idx → EReal) (ix2 k f) := by
  show V m c main_v1 (((cfg0.win 4).blk t).view.emb (ix2 k ⟨f.val, by omega⟩ : S1024x2176.Idx)) = _
  rw [emb4, main_v1_eq]
  exact padded_apply _ k f

/-- A column of the product of a normalised row with the joined weights. -/
def column (b : Fin 2) (s : Fin 8192) (f : Fin 2120) : EReal :=
  ∑ d, Row.hidden (fun k => (m ((c : Thread nD τ).loc main_arg0) : S2x8192x1024.Idx → EReal) (ix3 b s k)) (fun k => (m ((c : Thread nD τ).loc main_arg3) : S1024.Idx → EReal) (ix1 k))
    (fun k => (m ((c : Thread nD τ).loc main_arg2) : S2x1x1024.Idx → EReal) (ix3 b 0 k)) (fun k => (m ((c : Thread nD τ).loc main_arg1) : S2x1x1024.Idx → EReal) (ix3 b 0 k)) d
    * (m ((c : Thread nD τ).loc main_arg4) : S1024x2120.Idx → EReal) (ix2 d f)

theorem column_eq (t : Fin cfg0.N) (r : Fin 512) (f : Fin 2120) :
    k0_pay3 (iblk m c 0 t) (iblk m c 3 t) (iblk m c 2 t) (iblk m c 1 t) (iblk m c 4 t) (ix2 r (⟨f.val, by omega⟩ : Fin 2176)) = column m c (batch t) (row t r) f := by
  rw [ProjectRow.pay3_apply]
  simp only [blk0, blk1, blk2, blk3, blk4]
  rfl

/-! The keys. -/

theorem idx5 : ∀ t : Fin cfg0.N, win0_5.index t (0 : Fin 3) = t.val / 16 ∧ win0_5.index t (1 : Fin 3) = 0 ∧ win0_5.index t (2 : Fin 3) = t.val % 16 :=
  (by decide +kernel : ∀ t : Fin grid0.N, _)

theorem emb5 (t : Fin cfg0.N) (e : Fin 256) (r : Fin 512) :
    ((cfg0.win 5).blk t).view.emb (ix3 0 e r : S1x256x512.Idx) = (ix3 (batch t) e (row t r) : S2x256x8192.Idx) := by
  obtain ⟨e0, e1, e2⟩ := idx5 t
  funext a; apply Fin.ext
  match a with
  | ⟨0, _⟩ => show win0_5.index t (0 : Fin 3) * 1 + 1 * 0 = t.val / 16; omega
  | ⟨1, _⟩ => show win0_5.index t (1 : Fin 3) * 256 + 1 * e.val = e.val; omega
  | ⟨2, _⟩ => show win0_5.index t (2 : Fin 3) * 512 + 1 * r.val = (t.val % 16) * 512 + r.val; omega

def result5 : S2x256x8192.Idx → EReal := fun i =>
  column m c (i 0) (i 2) ⟨(i 1).val + 1024, by have h : (i 1).val < 256 := (i 1).isLt; omega⟩

theorem flushed_eq5 (t : Fin cfg0.N) :
    (dats m 0 c).flushed 5 t = ((cfg0.win 5).blk t).view.read (Elt Ideal) (result5 m c) := by
  rw [Value.flushed5]
  funext j
  obtain ⟨z, e, r, rfl⟩ : ∃ z e r, j = (ix3 z e r : S1x256x512.Idx) := ⟨j 0, j 1, j 2, by funext a; match a with | ⟨0, _⟩ => rfl | ⟨1, _⟩ => rfl | ⟨2, _⟩ => rfl⟩
  obtain rfl : z = 0 := Subsingleton.elim _ _
  show Gen.out0_5 (iblk m c 0 t) (iblk m c 1 t) (iblk m c 2 t) (iblk m c 3 t) (iblk m c 4 t) (ix3 0 e r)
    = result5 m c (((cfg0.win 5).blk t).view.emb (ix3 0 e r : S1x256x512.Idx))
  rw [emb5, ProjectRow.out5_apply]
  exact column_eq m c t r ⟨e.val + 1024, by omega⟩

theorem covered5 (i : S2x256x8192.Idx) :
    ∃ t : Fin cfg0.N, (cfg0.win 5).flush t = true ∧ i ∈ ((cfg0.win 5).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_5 t, ?_⟩
  have e : (ix3 (batch t) (i 1) (row t ⟨(i 2).val % 512, Nat.mod_lt _ (by decide)⟩) : S2x256x8192.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
  exact (congrArg (· ∈ ((cfg0.win 5).blk t).view.set) ((emb5 t (i 1) ⟨(i 2).val % 512, Nat.mod_lt _ (by decide)⟩).trans e)).mp
    (((cfg0.win 5).blk t).view.emb_mem_set _)

theorem final5 : (dats m 0 c).arrAt 5 cfg0.N = result5 m c :=
  (dats m 0 c).arrAt_eq_of_cover 5 (result5 m c) (fun t _ => flushed_eq5 m c t) covered5

/-! The values. -/

theorem idx6 : ∀ t : Fin cfg0.N, win0_6.index t (0 : Fin 3) = t.val / 16 ∧ win0_6.index t (1 : Fin 3) = 0 ∧ win0_6.index t (2 : Fin 3) = t.val % 16 :=
  (by decide +kernel : ∀ t : Fin grid0.N, _)

theorem emb6 (t : Fin cfg0.N) (e : Fin 256) (r : Fin 512) :
    ((cfg0.win 6).blk t).view.emb (ix3 0 e r : S1x256x512.Idx) = (ix3 (batch t) e (row t r) : S2x256x8192.Idx) := by
  obtain ⟨e0, e1, e2⟩ := idx6 t
  funext a; apply Fin.ext
  match a with
  | ⟨0, _⟩ => show win0_6.index t (0 : Fin 3) * 1 + 1 * 0 = t.val / 16; omega
  | ⟨1, _⟩ => show win0_6.index t (1 : Fin 3) * 256 + 1 * e.val = e.val; omega
  | ⟨2, _⟩ => show win0_6.index t (2 : Fin 3) * 512 + 1 * r.val = (t.val % 16) * 512 + r.val; omega

def result6 : S2x256x8192.Idx → EReal := fun i =>
  column m c (i 0) (i 2) ⟨(i 1).val + 1280, by have h : (i 1).val < 256 := (i 1).isLt; omega⟩

theorem flushed_eq6 (t : Fin cfg0.N) :
    (dats m 0 c).flushed 6 t = ((cfg0.win 6).blk t).view.read (Elt Ideal) (result6 m c) := by
  rw [Value.flushed6]
  funext j
  obtain ⟨z, e, r, rfl⟩ : ∃ z e r, j = (ix3 z e r : S1x256x512.Idx) := ⟨j 0, j 1, j 2, by funext a; match a with | ⟨0, _⟩ => rfl | ⟨1, _⟩ => rfl | ⟨2, _⟩ => rfl⟩
  obtain rfl : z = 0 := Subsingleton.elim _ _
  show Gen.out0_6 (iblk m c 0 t) (iblk m c 1 t) (iblk m c 2 t) (iblk m c 3 t) (iblk m c 4 t) (ix3 0 e r)
    = result6 m c (((cfg0.win 6).blk t).view.emb (ix3 0 e r : S1x256x512.Idx))
  rw [emb6, ProjectRow.out6_apply]
  exact column_eq m c t r ⟨e.val + 1280, by omega⟩

theorem covered6 (i : S2x256x8192.Idx) :
    ∃ t : Fin cfg0.N, (cfg0.win 6).flush t = true ∧ i ∈ ((cfg0.win 6).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_6 t, ?_⟩
  have e : (ix3 (batch t) (i 1) (row t ⟨(i 2).val % 512, Nat.mod_lt _ (by decide)⟩) : S2x256x8192.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
  exact (congrArg (· ∈ ((cfg0.win 6).blk t).view.set) ((emb6 t (i 1) ⟨(i 2).val % 512, Nat.mod_lt _ (by decide)⟩).trans e)).mp
    (((cfg0.win 6).blk t).view.emb_mem_set _)

theorem final6 : (dats m 0 c).arrAt 6 cfg0.N = result6 m c :=
  (dats m 0 c).arrAt_eq_of_cover 6 (result6 m c) (fun t _ => flushed_eq6 m c t) covered6

/-! The indexer's keys. -/

theorem idx7 : ∀ t : Fin cfg0.N, win0_7.index t (0 : Fin 3) = t.val / 16 ∧ win0_7.index t (1 : Fin 3) = 0 ∧ win0_7.index t (2 : Fin 3) = t.val % 16 :=
  (by decide +kernel : ∀ t : Fin grid0.N, _)

theorem emb7 (t : Fin cfg0.N) (e : Fin 64) (r : Fin 512) :
    ((cfg0.win 7).blk t).view.emb (ix3 0 e r : S1x64x512.Idx) = (ix3 (batch t) e (row t r) : S2x64x8192.Idx) := by
  obtain ⟨e0, e1, e2⟩ := idx7 t
  funext a; apply Fin.ext
  match a with
  | ⟨0, _⟩ => show win0_7.index t (0 : Fin 3) * 1 + 1 * 0 = t.val / 16; omega
  | ⟨1, _⟩ => show win0_7.index t (1 : Fin 3) * 64 + 1 * e.val = e.val; omega
  | ⟨2, _⟩ => show win0_7.index t (2 : Fin 3) * 512 + 1 * r.val = (t.val % 16) * 512 + r.val; omega

def result7 : S2x64x8192.Idx → EReal := fun i =>
  column m c (i 0) (i 2) ⟨(i 1).val + 2048, by have h : (i 1).val < 64 := (i 1).isLt; omega⟩

theorem flushed_eq7 (t : Fin cfg0.N) :
    (dats m 0 c).flushed 7 t = ((cfg0.win 7).blk t).view.read (Elt Ideal) (result7 m c) := by
  rw [Value.flushed7]
  funext j
  obtain ⟨z, e, r, rfl⟩ : ∃ z e r, j = (ix3 z e r : S1x64x512.Idx) := ⟨j 0, j 1, j 2, by funext a; match a with | ⟨0, _⟩ => rfl | ⟨1, _⟩ => rfl | ⟨2, _⟩ => rfl⟩
  obtain rfl : z = 0 := Subsingleton.elim _ _
  show Gen.out0_7 (iblk m c 0 t) (iblk m c 1 t) (iblk m c 2 t) (iblk m c 3 t) (iblk m c 4 t) (ix3 0 e r)
    = result7 m c (((cfg0.win 7).blk t).view.emb (ix3 0 e r : S1x64x512.Idx))
  rw [emb7, ProjectRow.out7_apply]
  exact column_eq m c t r ⟨e.val + 2048, by omega⟩

theorem covered7 (i : S2x64x8192.Idx) :
    ∃ t : Fin cfg0.N, (cfg0.win 7).flush t = true ∧ i ∈ ((cfg0.win 7).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_7 t, ?_⟩
  have e : (ix3 (batch t) (i 1) (row t ⟨(i 2).val % 512, Nat.mod_lt _ (by decide)⟩) : S2x64x8192.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
  exact (congrArg (· ∈ ((cfg0.win 7).blk t).view.set) ((emb7 t (i 1) ⟨(i 2).val % 512, Nat.mod_lt _ (by decide)⟩).trans e)).mp
    (((cfg0.win 7).blk t).view.emb_mem_set _)

theorem final7 : (dats m 0 c).arrAt 7 cfg0.N = result7 m c :=
  (dats m 0 c).arrAt_eq_of_cover 7 (result7 m c) (fun t _ => flushed_eq7 m c t) covered7

/-! The indexer's weights. -/

theorem idx8 : ∀ t : Fin cfg0.N, win0_8.index t (0 : Fin 3) = t.val / 16 ∧ win0_8.index t (1 : Fin 3) = 0 ∧ win0_8.index t (2 : Fin 3) = t.val % 16 :=
  (by decide +kernel : ∀ t : Fin grid0.N, _)

theorem emb8 (t : Fin cfg0.N) (e : Fin 8) (r : Fin 512) :
    ((cfg0.win 8).blk t).view.emb (ix3 0 e r : S1x8x512.Idx) = (ix3 (batch t) e (row t r) : S2x8x8192.Idx) := by
  obtain ⟨e0, e1, e2⟩ := idx8 t
  funext a; apply Fin.ext
  match a with
  | ⟨0, _⟩ => show win0_8.index t (0 : Fin 3) * 1 + 1 * 0 = t.val / 16; omega
  | ⟨1, _⟩ => show win0_8.index t (1 : Fin 3) * 8 + 1 * e.val = e.val; omega
  | ⟨2, _⟩ => show win0_8.index t (2 : Fin 3) * 512 + 1 * r.val = (t.val % 16) * 512 + r.val; omega

def result8 : S2x8x8192.Idx → EReal := fun i =>
  column m c (i 0) (i 2) ⟨(i 1).val + 2112, by have h : (i 1).val < 8 := (i 1).isLt; omega⟩ * Ideal.ofBits .f32 0x3D3504F3#32

theorem flushed_eq8 (t : Fin cfg0.N) :
    (dats m 0 c).flushed 8 t = ((cfg0.win 8).blk t).view.read (Elt Ideal) (result8 m c) := by
  rw [Value.flushed8]
  funext j
  obtain ⟨z, e, r, rfl⟩ : ∃ z e r, j = (ix3 z e r : S1x8x512.Idx) := ⟨j 0, j 1, j 2, by funext a; match a with | ⟨0, _⟩ => rfl | ⟨1, _⟩ => rfl | ⟨2, _⟩ => rfl⟩
  obtain rfl : z = 0 := Subsingleton.elim _ _
  show Gen.out0_8 (iblk m c 0 t) (iblk m c 1 t) (iblk m c 2 t) (iblk m c 3 t) (iblk m c 4 t) (ix3 0 e r)
    = result8 m c (((cfg0.win 8).blk t).view.emb (ix3 0 e r : S1x8x512.Idx))
  rw [emb8, ProjectRow.out8_apply]
  exact congrArg (· * Ideal.ofBits .f32 0x3D3504F3#32) (column_eq m c t r ⟨e.val + 2112, by omega⟩)

theorem covered8 (i : S2x8x8192.Idx) :
    ∃ t : Fin cfg0.N, (cfg0.win 8).flush t = true ∧ i ∈ ((cfg0.win 8).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_8 t, ?_⟩
  have e : (ix3 (batch t) (i 1) (row t ⟨(i 2).val % 512, Nat.mod_lt _ (by decide)⟩) : S2x8x8192.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
  exact (congrArg (· ∈ ((cfg0.win 8).blk t).view.set) ((emb8 t (i 1) ⟨(i 2).val % 512, Nat.mod_lt _ (by decide)⟩).trans e)).mp
    (((cfg0.win 8).blk t).view.emb_mem_set _)

theorem final8 : (dats m 0 c).arrAt 8 cfg0.N = result8 m c :=
  (dats m 0 c).arrAt_eq_of_cover 8 (result8 m c) (fun t _ => flushed_eq8 m c t) covered8

/-! The queries. -/

theorem idx9 : ∀ t : Fin cfg0.N, win0_9.index t (0 : Fin 4) = t.val / 16 ∧ win0_9.index t (1 : Fin 4) = 0 ∧ win0_9.index t (2 : Fin 4) = t.val % 16 ∧ win0_9.index t (3 : Fin 4) = 0 :=
  (by decide +kernel : ∀ t : Fin grid0.N, _)

theorem emb9 (t : Fin cfg0.N) (h : Fin 16) (r : Fin 512) (d : Fin 64) :
    ((cfg0.win 9).blk t).view.emb (ix4 0 h r d : S1x16x512x64.Idx) = (ix4 (batch t) h (row t r) d : S2x16x8192x64.Idx) := by
  obtain ⟨e0, e1, e2, e3⟩ := idx9 t
  funext a; apply Fin.ext
  match a with
  | ⟨0, _⟩ => show win0_9.index t (0 : Fin 4) * 1 + 1 * 0 = t.val / 16; omega
  | ⟨1, _⟩ => show win0_9.index t (1 : Fin 4) * 16 + 1 * h.val = h.val; omega
  | ⟨2, _⟩ => show win0_9.index t (2 : Fin 4) * 512 + 1 * r.val = (t.val % 16) * 512 + r.val; omega
  | ⟨3, _⟩ => show win0_9.index t (3 : Fin 4) * 64 + 1 * d.val = d.val; omega

def result9 : S2x16x8192x64.Idx → EReal := fun i =>
  column m c (i 0) (i 2) ⟨(i 1).val * 64 + (i 3).val, by have h : (i 1).val < 16 := (i 1).isLt; have h' : (i 3).val < 64 := (i 3).isLt; omega⟩ * Ideal.ofBits .f32 0x3E38AA3B#32

theorem flushed_eq9 (t : Fin cfg0.N) :
    (dats m 0 c).flushed 9 t = ((cfg0.win 9).blk t).view.read (Elt Ideal) (result9 m c) := by
  rw [Value.flushed9]
  funext j
  obtain ⟨z, h, r, d, rfl⟩ : ∃ z h r d, j = (ix4 z h r d : S1x16x512x64.Idx) := ⟨j 0, j 1, j 2, j 3, by funext a; match a with | ⟨0, _⟩ => rfl | ⟨1, _⟩ => rfl | ⟨2, _⟩ => rfl | ⟨3, _⟩ => rfl⟩
  obtain rfl : z = 0 := Subsingleton.elim _ _
  show Gen.out0_9 (iblk m c 0 t) (iblk m c 1 t) (iblk m c 2 t) (iblk m c 3 t) (iblk m c 4 t) (ix4 0 h r d)
    = result9 m c (((cfg0.win 9).blk t).view.emb (ix4 0 h r d : S1x16x512x64.Idx))
  rw [emb9, ProjectRow.out9_apply]
  exact congrArg (· * Ideal.ofBits .f32 0x3E38AA3B#32) (column_eq m c t r ⟨h.val * 64 + d.val, by omega⟩)

theorem covered9 (i : S2x16x8192x64.Idx) :
    ∃ t : Fin cfg0.N, (cfg0.win 9).flush t = true ∧ i ∈ ((cfg0.win 9).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_9 t, ?_⟩
  have e : (ix4 (batch t) (i 1) (row t ⟨(i 2).val % 512, Nat.mod_lt _ (by decide)⟩) (i 3) : S2x16x8192x64.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
    | ⟨3, _⟩ => rfl
  exact (congrArg (· ∈ ((cfg0.win 9).blk t).view.set) ((emb9 t (i 1) ⟨(i 2).val % 512, Nat.mod_lt _ (by decide)⟩ (i 3)).trans e)).mp
    (((cfg0.win 9).blk t).view.emb_mem_set _)

theorem final9 : (dats m 0 c).arrAt 9 cfg0.N = result9 m c :=
  (dats m 0 c).arrAt_eq_of_cover 9 (result9 m c) (fun t _ => flushed_eq9 m c t) covered9

/-! The indexer's queries. -/

theorem idx10 : ∀ t : Fin cfg0.N, win0_10.index t (0 : Fin 4) = t.val / 16 ∧ win0_10.index t (1 : Fin 4) = 0 ∧ win0_10.index t (2 : Fin 4) = t.val % 16 ∧ win0_10.index t (3 : Fin 4) = 0 :=
  (by decide +kernel : ∀ t : Fin grid0.N, _)

theorem emb10 (t : Fin cfg0.N) (h : Fin 8) (r : Fin 512) (d : Fin 64) :
    ((cfg0.win 10).blk t).view.emb (ix4 0 h r d : S1x8x512x64.Idx) = (ix4 (batch t) h (row t r) d : S2x8x8192x64.Idx) := by
  obtain ⟨e0, e1, e2, e3⟩ := idx10 t
  funext a; apply Fin.ext
  match a with
  | ⟨0, _⟩ => show win0_10.index t (0 : Fin 4) * 1 + 1 * 0 = t.val / 16; omega
  | ⟨1, _⟩ => show win0_10.index t (1 : Fin 4) * 8 + 1 * h.val = h.val; omega
  | ⟨2, _⟩ => show win0_10.index t (2 : Fin 4) * 512 + 1 * r.val = (t.val % 16) * 512 + r.val; omega
  | ⟨3, _⟩ => show win0_10.index t (3 : Fin 4) * 64 + 1 * d.val = d.val; omega

def result10 : S2x8x8192x64.Idx → EReal := fun i =>
  column m c (i 0) (i 2) ⟨(i 1).val * 64 + (i 3).val + 1536, by have h : (i 1).val < 8 := (i 1).isLt; have h' : (i 3).val < 64 := (i 3).isLt; omega⟩

theorem flushed_eq10 (t : Fin cfg0.N) :
    (dats m 0 c).flushed 10 t = ((cfg0.win 10).blk t).view.read (Elt Ideal) (result10 m c) := by
  rw [Value.flushed10]
  funext j
  obtain ⟨z, h, r, d, rfl⟩ : ∃ z h r d, j = (ix4 z h r d : S1x8x512x64.Idx) := ⟨j 0, j 1, j 2, j 3, by funext a; match a with | ⟨0, _⟩ => rfl | ⟨1, _⟩ => rfl | ⟨2, _⟩ => rfl | ⟨3, _⟩ => rfl⟩
  obtain rfl : z = 0 := Subsingleton.elim _ _
  show Gen.out0_10 (iblk m c 0 t) (iblk m c 1 t) (iblk m c 2 t) (iblk m c 3 t) (iblk m c 4 t) (ix4 0 h r d)
    = result10 m c (((cfg0.win 10).blk t).view.emb (ix4 0 h r d : S1x8x512x64.Idx))
  rw [emb10, ProjectRow.out10_apply]
  exact column_eq m c t r ⟨h.val * 64 + d.val + 1536, by omega⟩

theorem covered10 (i : S2x8x8192x64.Idx) :
    ∃ t : Fin cfg0.N, (cfg0.win 10).flush t = true ∧ i ∈ ((cfg0.win 10).blk t).view.set := by
  have h0 : (i 0).val < 2 := (i 0).isLt
  have h2 : (i 2).val < 8192 := (i 2).isLt
  let t : Fin cfg0.N := ⟨(i 0).val * 16 + (i 2).val / 512, by rw [show cfg0.N = 32 from N_0]; omega⟩
  refine ⟨t, flush0_10 t, ?_⟩
  have e : (ix4 (batch t) (i 1) (row t ⟨(i 2).val % 512, Nat.mod_lt _ (by decide)⟩) (i 3) : S2x8x8192x64.Idx) = i := by
    funext a; apply Fin.ext
    match a with
    | ⟨0, _⟩ => show ((i 0).val * 16 + (i 2).val / 512) / 16 = (i 0).val; omega
    | ⟨1, _⟩ => rfl
    | ⟨2, _⟩ => show ((i 0).val * 16 + (i 2).val / 512) % 16 * 512 + (i 2).val % 512 = (i 2).val; omega
    | ⟨3, _⟩ => rfl
  exact (congrArg (· ∈ ((cfg0.win 10).blk t).view.set) ((emb10 t (i 1) ⟨(i 2).val % 512, Nat.mod_lt _ (by decide)⟩ (i 3)).trans e)).mp
    (((cfg0.win 10).blk t).view.emb_mem_set _)

theorem final10 : (dats m 0 c).arrAt 10 cfg0.N = result10 m c :=
  (dats m 0 c).arrAt_eq_of_cover 10 (result10 m c) (fun t _ => flushed_eq10 m c t) covered10

end Cert.ProjectArray

end
-- ==== Proof.ProjectRefRow.lean ====
/-
  The projections' reference, read at an index: columns of the same product, of the argument arrays' rows.
-/
module

public import proofs.«01_k».proof.Proof.RefRow
public import proofs.«01_k».proof.Proof.Gen.ProjectReferenceIdeal.Run

@[expose] public section

set_option maxRecDepth 16384

noncomputable section

namespace Cert.ProjectRefRow

open Idealize.ShloMosaic Cert.ProjectReferenceIdeal Cert.ProjectReferenceIdeal.Gen Cert.Row Finset

/-- The product of the normalised rows with the joined weights. -/
def prodR (h : FVec Ideal S2x8192x1024 .f32) (w : FVec Ideal S1024x2120 .f32) : FVec Ideal S2x8192x2120 .f32 :=
  Host.dotGeneral dot_S2x8192x1024_S1024x2120_S2x8192x2120_2_0_01_1_n_n none h w

def keysR (p : FVec Ideal S2x8192x2120 .f32) : FVec Ideal S2x256x8192 .f32 :=
  transpose S2x256x8192 [0, 2, 1] (shapeCast _ (shapeCast _ (extractStridedSlice S2x8192x256 ![0, 0, 1024] p slices_S2x8192x2120_S2x8192x256_0_0_1024)
    shapeCasts_S2x8192x256_S2x8192x4x64) shapeCasts_S2x8192x4x64_S2x8192x256) transposes_S2x8192x256_S2x256x8192_0_2_1

def valuesR (p : FVec Ideal S2x8192x2120 .f32) : FVec Ideal S2x256x8192 .f32 :=
  transpose S2x256x8192 [0, 2, 1] (shapeCast _ (shapeCast _ (extractStridedSlice S2x8192x256 ![0, 0, 1280] p slices_S2x8192x2120_S2x8192x256_0_0_1280)
    shapeCasts_S2x8192x256_S2x8192x4x64) shapeCasts_S2x8192x4x64_S2x8192x256) transposes_S2x8192x256_S2x256x8192_0_2_1

def ikeysR (p : FVec Ideal S2x8192x2120 .f32) : FVec Ideal S2x64x8192 .f32 :=
  transpose S2x64x8192 [0, 2, 1] (extractStridedSlice S2x8192x64 ![0, 0, 2048] p slices_S2x8192x2120_S2x8192x64_0_0_2048) transposes_S2x8192x64_S2x64x8192_0_2_1

def iweightsR (p : FVec Ideal S2x8192x2120 .f32) : FVec Ideal S2x8x8192 .f32 :=
  transpose S2x8x8192 [0, 2, 1] (mulf (extractStridedSlice S2x8192x8 ![0, 0, 2112] p slices_S2x8192x2120_S2x8192x8_0_0_2112)
    (broadcastInDim S2x8192x8 ![] bcast_S_S2x8192x8 (constant S_ .f32 0x3D3504F3#32))) transposes_S2x8192x8_S2x8x8192_0_2_1

def queriesR (p : FVec Ideal S2x8192x2120 .f32) : FVec Ideal S2x16x8192x64 .bf16 :=
  truncf .bf16 (transpose S2x16x8192x64 [0, 2, 1, 3] (mulf (shapeCast _ (shapeCast _ (extractStridedSlice S2x8192x1024 ![0, 0, 0] p slices_S2x8192x2120_S2x8192x1024_0_0_0)
    shapeCasts_S2x8192x1024_S2x8192x4x4x64) shapeCasts_S2x8192x4x4x64_S2x8192x16x64)
    (broadcastInDim S2x8192x16x64 ![] bcast_S_S2x8192x16x64 (constant S_ .f32 0x3E38AA3B#32))) transposes_S2x8192x16x64_S2x16x8192x64_0_2_1_3) bitsLt_bf16_f32

def iqueriesR (p : FVec Ideal S2x8192x2120 .f32) : FVec Ideal S2x8x8192x64 .bf16 :=
  truncf .bf16 (transpose S2x8x8192x64 [0, 2, 1, 3] (shapeCast _ (extractStridedSlice S2x8192x512 ![0, 0, 1536] p slices_S2x8192x2120_S2x8192x512_0_0_1536)
    shapeCasts_S2x8192x512_S2x8192x8x64) transposes_S2x8192x8x64_S2x8x8192x64_0_2_1_3) bitsLt_bf16_f32

theorem prodR_apply (h : FVec Ideal S2x8192x1024 .f32) (w : FVec Ideal S1024x2120 .f32) (b : Fin 2) (s : Fin 8192) (f : Fin 2120) :
    prodR h w (ix3 b s f) = ∑ k, h (ix3 b s k) * w (ix2 k f) := by
  unfold prodR
  pointwise

theorem keysR_apply (p : FVec Ideal S2x8192x2120 .f32) (b : Fin 2) (e : Fin 256) (s : Fin 8192) :
    keysR p (ix3 b e s) = p (ix3 b s ⟨e.val + 1024, by omega⟩) := by
  unfold keysR
  rw [shapeCast_shapeCast]
  pointwise
  exact congrArg (fun i => p (ix3 b s i)) (Fin.ext (Nat.add_comm _ _))

theorem valuesR_apply (p : FVec Ideal S2x8192x2120 .f32) (b : Fin 2) (e : Fin 256) (s : Fin 8192) :
    valuesR p (ix3 b e s) = p (ix3 b s ⟨e.val + 1280, by omega⟩) := by
  unfold valuesR
  pointwise
  exact congrArg (fun i => p (ix3 b s i)) (Fin.ext (Nat.add_comm _ _))

theorem ikeysR_apply (p : FVec Ideal S2x8192x2120 .f32) (b : Fin 2) (e : Fin 64) (s : Fin 8192) :
    ikeysR p (ix3 b e s) = p (ix3 b s ⟨e.val + 2048, by omega⟩) := by
  unfold ikeysR
  pointwise
  exact congrArg (fun i => p (ix3 b s i)) (Fin.ext (Nat.add_comm _ _))

theorem iweightsR_apply (p : FVec Ideal S2x8192x2120 .f32) (b : Fin 2) (e : Fin 8) (s : Fin 8192) :
    iweightsR p (ix3 b e s) = p (ix3 b s ⟨e.val + 2112, by omega⟩) * Ideal.ofBits .f32 0x3D3504F3#32 := by
  unfold iweightsR
  pointwise
  exact congrArg (fun i => p (ix3 b s i) * Ideal.ofBits .f32 0x3D3504F3#32) (Fin.ext (Nat.add_comm _ _))

theorem queriesR_apply (p : FVec Ideal S2x8192x2120 .f32) (b : Fin 2) (h : Fin 16) (s : Fin 8192) (d : Fin 64) :
    queriesR p (ix4 b h s d) = p (ix3 b s ⟨h.val * 64 + d.val, by omega⟩) * Ideal.ofBits .f32 0x3E38AA3B#32 := by
  unfold queriesR
  pointwise

theorem iqueriesR_apply (p : FVec Ideal S2x8192x2120 .f32) (b : Fin 2) (h : Fin 8) (s : Fin 8192) (d : Fin 64) :
    iqueriesR p (ix4 b h s d) = p (ix3 b s ⟨h.val * 64 + d.val + 1536, by omega⟩) := by
  unfold iqueriesR
  pointwise
  exact congrArg (fun i => p (ix3 b s i)) (Fin.ext (Nat.add_comm _ _))

end Cert.ProjectRefRow

end
-- ==== Proof.ProjectAgree.lean ====
/-
  The projections' kernel leaves what their reference leaves: the claim on values.
-/
module

public import proofs.«01_k».proof.Defs
public import proofs.«01_k».proof.Proof.ProjectArray
public import proofs.«01_k».proof.Proof.ProjectRefRow

@[expose] public section

set_option maxRecDepth 16384

noncomputable section

namespace Cert.ProjectAgree

open Idealize.ShloMosaic Idealize.ShloMosaic.TcCoe Idealize.SL.Sem

variable (m : (ℓ : Loc Cert.ProjectIdeal.nD Cert.ProjectIdeal.τ Cert.ProjectIdeal.sig) → Buf (Elt Ideal) ℓ)
  (m' : (ℓ : Loc Cert.ProjectReferenceIdeal.nD Cert.ProjectReferenceIdeal.τ Cert.ProjectReferenceIdeal.sig) → Buf (Elt Ideal) ℓ) (c : Dev Cert.ProjectIdeal.nD)

/-- The two programs' arguments agree on a device. -/
abbrev Same : Prop :=
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)
      ∧ m' ((c.tc : Thread Cert.ProjectReferenceIdeal.nD Cert.ProjectReferenceIdeal.τ).loc Cert.ProjectReferenceIdeal.main_arg4) = m ((c.tc : Thread Cert.ProjectIdeal.nD Cert.ProjectIdeal.τ).loc Cert.ProjectIdeal.main_arg4)

/-- The reference's product. -/
def product : FVec Ideal Cert.ProjectReferenceIdeal.S2x8192x2120 .f32 :=
  Cert.ProjectRefRow.prodR (Cert.RefRow.hidR (m' ((c.tc : Thread Cert.ProjectReferenceIdeal.nD Cert.ProjectReferenceIdeal.τ).loc Cert.ProjectReferenceIdeal.main_arg0)) (m' ((c.tc : Thread Cert.ProjectReferenceIdeal.nD Cert.ProjectReferenceIdeal.τ).loc Cert.ProjectReferenceIdeal.main_arg3))
    (m' ((c.tc : Thread Cert.ProjectReferenceIdeal.nD Cert.ProjectReferenceIdeal.τ).loc Cert.ProjectReferenceIdeal.main_arg2)) (m' ((c.tc : Thread Cert.ProjectReferenceIdeal.nD Cert.ProjectReferenceIdeal.τ).loc Cert.ProjectReferenceIdeal.main_arg1))) (m' ((c.tc : Thread Cert.ProjectReferenceIdeal.nD Cert.ProjectReferenceIdeal.τ).loc Cert.ProjectReferenceIdeal.main_arg4))

/-- With the arguments agreeing, a column of the reference's product is the kernel's. -/
theorem product_eq (h : Same m m' c) (b : Fin 2) (s : Fin 8192) (f : Fin 2120) :
    product m' c (ix3 b s f) = Cert.ProjectArray.column m c b s f := by
  obtain ⟨h0, h1, h2, h3, h4⟩ := h
  unfold product
  rw [h0, h1, h2, h3, h4, Cert.ProjectRefRow.prodR_apply]
  simp only [Cert.RefRow.hidR_apply]
  rfl

theorem keys_eq (h : Same m m' c) : Cert.ProjectRefRow.keysR (product m' c) = Cert.ProjectArray.result5 m c := by
  funext i
  obtain ⟨b, e, s, rfl⟩ : ∃ b e s, i = (ix3 b e s : Cert.ProjectIdeal.S2x256x8192.Idx) := ⟨i 0, i 1, i 2, by funext a; match a with | ⟨0, _⟩ => rfl | ⟨1, _⟩ => rfl | ⟨2, _⟩ => rfl⟩
  rw [Cert.ProjectRefRow.keysR_apply, product_eq m m' c h]
  rfl

theorem values_eq (h : Same m m' c) : Cert.ProjectRefRow.valuesR (product m' c) = Cert.ProjectArray.result6 m c := by
  funext i
  obtain ⟨b, e, s, rfl⟩ : ∃ b e s, i = (ix3 b e s : Cert.ProjectIdeal.S2x256x8192.Idx) := ⟨i 0, i 1, i 2, by funext a; match a with | ⟨0, _⟩ => rfl | ⟨1, _⟩ => rfl | ⟨2, _⟩ => rfl⟩
  rw [Cert.ProjectRefRow.valuesR_apply, product_eq m m' c h]
  rfl

theorem ikeys_eq (h : Same m m' c) : Cert.ProjectRefRow.ikeysR (product m' c) = Cert.ProjectArray.result7 m c := by
  funext i
  obtain ⟨b, e, s, rfl⟩ : ∃ b e s, i = (ix3 b e s : Cert.ProjectIdeal.S2x64x8192.Idx) := ⟨i 0, i 1, i 2, by funext a; match a with | ⟨0, _⟩ => rfl | ⟨1, _⟩ => rfl | ⟨2, _⟩ => rfl⟩
  rw [Cert.ProjectRefRow.ikeysR_apply, product_eq m m' c h]
  rfl

theorem iweights_eq (h : Same m m' c) : Cert.ProjectRefRow.iweightsR (product m' c) = Cert.ProjectArray.result8 m c := by
  funext i
  obtain ⟨b, e, s, rfl⟩ : ∃ b e s, i = (ix3 b e s : Cert.ProjectIdeal.S2x8x8192.Idx) := ⟨i 0, i 1, i 2, by funext a; match a with | ⟨0, _⟩ => rfl | ⟨1, _⟩ => rfl | ⟨2, _⟩ => rfl⟩
  rw [Cert.ProjectRefRow.iweightsR_apply, product_eq m m' c h]
  rfl

theorem queries_eq (h : Same m m' c) : Cert.ProjectRefRow.queriesR (product m' c) = Cert.ProjectArray.result9 m c := by
  funext i
  obtain ⟨b, a, s, d, rfl⟩ : ∃ b h s d, i = (ix4 b h s d : Cert.ProjectIdeal.S2x16x8192x64.Idx) := ⟨i 0, i 1, i 2, i 3, by funext a; match a with | ⟨0, _⟩ => rfl | ⟨1, _⟩ => rfl | ⟨2, _⟩ => rfl | ⟨3, _⟩ => rfl⟩
  rw [Cert.ProjectRefRow.queriesR_apply, product_eq m m' c h]
  rfl

theorem iqueries_eq (h : Same m m' c) : Cert.ProjectRefRow.iqueriesR (product m' c) = Cert.ProjectArray.result10 m c := by
  funext i
  obtain ⟨b, a, s, d, rfl⟩ : ∃ b h s d, i = (ix4 b h s d : Cert.ProjectIdeal.S2x8x8192x64.Idx) := ⟨i 0, i 1, i 2, i 3, by funext a; match a with | ⟨0, _⟩ => rfl | ⟨1, _⟩ => rfl | ⟨2, _⟩ => rfl | ⟨3, _⟩ => rfl⟩
  rw [Cert.ProjectRefRow.iqueriesR_apply, product_eq m m' c h]
  rfl

/-- Every run of the kernel and every run of the reference leave the same results. -/
theorem algebraic : Cert.algebraic_ProjectIdeal_ProjectReferenceIdeal := fun m g m' g' _ hag =>
  ⟨fun c => Cert.ProjectArray.result5 m c, fun c => Cert.ProjectArray.result6 m c, fun c => Cert.ProjectArray.result7 m c, fun c => Cert.ProjectArray.result8 m c, fun c => Cert.ProjectArray.result9 m c, fun c => Cert.ProjectArray.result10 m c,
    (θ_run _ _ _).mono (fun _ h c => ⟨
        (h c).1.trans (Cert.ProjectArray.final5 m c),
        (h c).2.1.trans (Cert.ProjectArray.final6 m c),
        (h c).2.2.1.trans (Cert.ProjectArray.final7 m c),
        (h c).2.2.2.1.trans (Cert.ProjectArray.final8 m c),
        (h c).2.2.2.2.1.trans (Cert.ProjectArray.final9 m c),
        (h c).2.2.2.2.2.1.trans (Cert.ProjectArray.final10 m c),
        (h c).2.2.2.2.2.2.2.2.2⟩) (Cert.ProjectIdeal.Value.run_blocks m g),
    (θ_run _ _ _).mono (fun _ h c => ⟨
        (h c).1.trans (keys_eq m m' c (hag c)),
        (h c).2.1.trans (values_eq m m' c (hag c)),
        (h c).2.2.1.trans (ikeys_eq m m' c (hag c)),
        (h c).2.2.2.1.trans (iweights_eq m m' c (hag c)),
        (h c).2.2.2.2.1.trans (queries_eq m m' c (hag c)),
        (h c).2.2.2.2.2.1.trans (iqueries_eq m m' c (hag c)),
        (h c).2.2.2.2.2.2⟩) (Cert.ProjectReferenceIdeal.Value.run m' g')⟩

end Cert.ProjectAgree

end
-- ==== Proof.SampleShape.lean ====
/-
  The sample's 32 groups of 4 rows laid out as 128 rows.
-/
module

public import proofs.«01_k».proof.Proof.Row
public import proofs.«01_k».proof.Proof.Gen.SampleIdeal.Value

@[expose] public section

set_option maxRecDepth 16384

noncomputable section

namespace Cert.SampleShape

open Idealize.ShloMosaic Cert.SampleIdeal Cert.SampleIdeal.Gen

/-- The group a row is in. -/
def grp (r : Fin 128) : Fin 32 := ⟨r.val / 4, by omega⟩

/-- The place of a row in its group. -/
def pos (r : Fin 128) : Fin 4 := ⟨r.val % 4, by omega⟩

/-- The reshaped array at a row. -/
theorem rows_apply {e : FTy} (v : FVec Ideal S32x4x1024 e) (h : S32x4x1024.ShapeCasts S1x128x1024) (r : Fin 128) (d : Fin 1024) :
    shapeCast S1x128x1024 v h (ix3 0 r d) = v (ix3 (grp r) (pos r) d) := by
  pointwise
  rfl

/-- A group's modulation, repeated over the group's rows, at a row. -/
theorem mod_apply (v : FVec Ideal S32x1x1024 .f32) (r : Fin 128) (d : Fin 1024) :
    shapeCast S1x128x1024 (broadcastInDim S32x4x1024 ![0, 1, 2] bcast_S32x1x1024_S32x4x1024_0_1_2 v) shapeCasts_S32x4x1024_S1x128x1024 (ix3 0 r d)
      = v (ix3 (grp r) 0 d) := by
  rw [rows_apply]
  pointwise

end Cert.SampleShape

end
-- ==== Proof.SampleRow.lean ====
/-
  The sample's last-layer block read at a row: the row function of that row's inputs.
-/
module

public import proofs.«01_k».proof.Proof.Row
public import proofs.«01_k».proof.Proof.Gen.SampleIdeal.Value

@[expose] public section

set_option maxRecDepth 16384

noncomputable section

namespace Cert.SampleRow

open Idealize.ShloMosaic Cert.SampleIdeal Cert.SampleIdeal.Gen Cert.Row Finset

theorem pay2_apply (x gta : Vec Ideal S1x128x1024 .f32) (a : Vec Ideal S1x128x1024 .bf16) (wo : Vec Ideal S1024x1024 .bf16)
    (r : Fin 128) (d : Fin 1024) :
    k0_pay2 x gta a wo (ix2 r d)
      = mixed (fun k => x (ix3 0 r k)) (fun k => a (ix3 0 r k)) (fun k => gta (ix3 0 r k)) (fun k e => wo (ix2 k e)) d := by
  unfold k0_pay2 mixed
  pointwise

theorem pay3_apply (x gta : Vec Ideal S1x128x1024 .f32) (a : Vec Ideal S1x128x1024 .bf16) (wo : Vec Ideal S1024x1024 .bf16)
    (g : Vec Ideal S1x1024 .f32) (sc sh : Vec Ideal S1x128x1024 .f32) (r : Fin 128) (d : Fin 1024) :
    k0_pay3 x gta a wo g sc sh (ix2 r d)
      = Row.hidden (fun k => k0_pay2 x gta a wo (ix2 r k)) (fun k => g (ix2 0 k)) (fun k => sc (ix3 0 r k)) (fun k => sh (ix3 0 r k)) d := by
  unfold k0_pay3 Row.hidden normed
  generalize k0_pay2 x gta a wo = y
  pointwise

theorem pay4_apply (x : FVec Ideal S128x1024 .f32) (h : FVec Ideal S128x1024 .bf16)
    (u1 w1 : Vec Ideal S1024x1536 .bf16) (o1 : Vec Ideal S1536x1024 .bf16) (u2 w2 : Vec Ideal S1024x1280 .bf16) (o2 : Vec Ideal S1280x1024 .bf16)
    (gt : Vec Ideal S1x128x1024 .f32) (r : Fin 128) (d : Fin 1024) :
    k0_pay4 x h u1 w1 o1 u2 w2 o2 gt (ix2 r d)
      = x (ix2 r d) + gt (ix3 0 r d) * ((0 + ∑ f : Fin 1536, gated (fun k => h (ix2 r k)) (fun k => u1 (ix2 k f)) (fun k => w1 (ix2 k f)) * o1 (ix2 f d))
          + ∑ f : Fin 1280, gated (fun k => h (ix2 r k)) (fun k => u2 (ix2 k f)) (fun k => w2 (ix2 k f)) * o2 (ix2 f d)) := by
  unfold k0_pay4 gated
  pointwise

theorem pay1_apply (x : FVec Ideal S128x1024 .f32) (h : FVec Ideal S128x1024 .bf16)
    (u1 w1 : Vec Ideal S1024x1536 .bf16) (o1 : Vec Ideal S1536x1024 .bf16) (u2 w2 : Vec Ideal S1024x1280 .bf16) (o2 : Vec Ideal S1280x1024 .bf16)
    (gt : Vec Ideal S1x128x1024 .f32) (fg : Vec Ideal S1x1024 .f32) (r : Fin 128) (d : Fin 1024) :
    k0_pay1 (k0_pay4 x h u1 w1 o1 u2 w2 o2 gt) (k0_pay5 x h u1 w1 o1 u2 w2 o2 gt) (Scalar.ofBits .f32 0x44800000#32) fg (ix3 0 r d)
      = normed (fun k => k0_pay4 x h u1 w1 o1 u2 w2 o2 gt (ix2 r k)) (fun k => fg (ix2 0 k)) d := by
  unfold k0_pay5 k0_pay1 normed
  generalize k0_pay4 x h u1 w1 o1 u2 w2 o2 gt = y
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x128x1024 e) : View.ld v r0_0 = v := View.ld_unit_zero zeros3 _ v
theorem ld_1 {e : EltTy} (v : Vec Ideal S1024x1024 e) : View.ld v r0_1 = v := View.ld_unit_zero zeros2 _ v
theorem ld_2 {e : EltTy} (v : Vec Ideal S1x1024 e) : View.ld v r0_2 = v := View.ld_unit_zero zeros2 _ v

theorem ld_3 {e : EltTy} (v : Vec Ideal S1024x5632 e) (k : Fin 1024) (f : Fin 1536) :
    View.ld v r0_3 (ix2 k f) = v (ix2 k ⟨f, by omega⟩) := by
  refine congrArg v ?_
  funext a; refine Fin.ext ?_
  fin_cases a <;> simp [Rect.emb, r0_3, ix2]

theorem ld_4 {e : EltTy} (v : Vec Ideal S1024x5632 e) (k : Fin 1024) (f : Fin 1536) :
    View.ld v r0_4 (ix2 k f) = v (ix2 k ⟨2816 + f, by omega⟩) := by
  refine congrArg v ?_
  funext a; refine Fin.ext ?_
  fin_cases a <;> simp [Rect.emb, r0_4, ix2]

theorem ld_5 {e : EltTy} (v : Vec Ideal S2816x1024 e) (k : Fin 1536) (f : Fin 1024) :
    View.ld v r0_5 (ix2 k f) = v (ix2 ⟨k, by omega⟩ f) := by
  refine congrArg v ?_
  funext a; refine Fin.ext ?_
  fin_cases a <;> simp [Rect.emb, r0_5, ix2]

theorem ld_6 {e : EltTy} (v : Vec Ideal S1024x5632 e) (k : Fin 1024) (f : Fin 1280) :
    View.ld v r0_6 (ix2 k f) = v (ix2 k ⟨1536 + f, by omega⟩) := by
  refine congrArg v ?_
  funext a; refine Fin.ext ?_
  fin_cases a <;> simp [Rect.emb, r0_6, ix2]

theorem ld_7 {e : EltTy} (v : Vec Ideal S1024x5632 e) (k : Fin 1024) (f : Fin 1280) :
    View.ld v r0_7 (ix2 k f) = v (ix2 k ⟨4352 + f, by omega⟩) := by
  refine congrArg v ?_
  funext a; refine Fin.ext ?_
  fin_cases a <;> simp [Rect.emb, r0_7, ix2]

theorem ld_8 {e : EltTy} (v : Vec Ideal S2816x1024 e) (k : Fin 1280) (f : Fin 1024) :
    View.ld v r0_8 (ix2 k f) = v (ix2 ⟨1536 + k, by omega⟩ f) := by
  refine congrArg v ?_
  funext a; refine Fin.ext ?_
  fin_cases a <;> simp [Rect.emb, r0_8, ix2]

/-- The block the body leaves, read at a row. -/
theorem out_apply (x : Vec Ideal S1x128x1024 .f32) (a : Vec Ideal S1x128x1024 .bf16) (gta : Vec Ideal S1x128x1024 .f32) (wo : Vec Ideal S1024x1024 .bf16)
    (sh sc gt : Vec Ideal S1x128x1024 .f32) (g : Vec Ideal S1x1024 .f32) (win : Vec Ideal S1024x5632 .bf16) (wout : Vec Ideal S2816x1024 .bf16)
    (fg : Vec Ideal S1x1024 .f32) (r : Fin 128) (d : Fin 1024) (X H : Fin 1024 → EReal)
    (hX : X = mixed (fun k => x (ix3 0 r k)) (fun k => a (ix3 0 r k)) (fun k => gta (ix3 0 r k)) (fun k e => wo (ix2 k e)))
    (hH : H = Row.hidden X (fun k => g (ix2 0 k)) (fun k => sc (ix3 0 r k)) (fun k => sh (ix3 0 r k))) :
    out0_11 x a gta wo sh sc gt g win wout fg (ix3 0 r d)
      = normed (fed X H (fun k => gt (ix3 0 r k)) (fun k f => win (ix2 k f)) (fun f k => wout (ix2 f k))) (fun k => fg (ix2 0 k)) d := by
  unfold out0_11 k0_pay7 k0_pay6
  rw [View.canon_unit_zero zeros3]
  simp only [ld_0, ld_1, ld_2]
  rw [pay1_apply]
  congr 1
  funext e
  have hx (k : Fin 1024) : k0_pay2 x gta a wo (ix2 r k) = X k := by rw [pay2_apply, hX]
  have hh (k : Fin 1024) : k0_pay3 x gta a wo g sc sh (ix2 r k) = H k := by
    rw [pay3_apply, hH]
    simp only [hx]
  simp only [pay4_apply, hx, hh]
  unfold fed
  rw [sum_split]
  refine congrArg (fun z => X e + gt (ix3 0 r e) * z) (congrArg₂ (fun p q => (0 + p) + q) ?_ ?_)
  · refine Finset.sum_congr rfl fun f _ => ?_
    exact congrArg₂ (· * ·) (congrArg₂ (gated H) (funext fun k => ld_3 win k f) (funext fun k => ld_4 win k f)) (ld_5 wout f e)
  · refine Finset.sum_congr rfl fun f _ => ?_
    refine congrArg₂ (· * ·) (congrArg₂ (gated H) (funext fun k => ld_6 win k f) (funext fun k => (ld_7 win k f).trans ?_)) (ld_8 wout f e)
    exact congrArg (fun i => win (ix2 k i)) (Fin.ext (by show 4352 + f.val = 2816 + (1536 + f.val); omega))

end Cert.SampleRow

end
-- ==== Proof.SampleArray.lean ====
/-
  The sample's last-layer call: the result array after the run, as one function of the argument arrays.
-/
module

public import proofs.«01_k».proof.Proof.SampleShape
public import proofs.«01_k».proof.Proof.SampleRow
public import Idealize.ShloMosaic.Lib.Pipeline.Value

@[expose] public section

set_option maxRecDepth 16384

noncomputable section

namespace Cert.SampleArray

open Idealize.ShloMosaic Idealize.ShloMosaic.TcCoe Cert.SampleIdeal Cert.SampleIdeal.Gen Cert.Row Cert.SampleShape

variable (m : (ℓ : Loc nD τ sig) → Buf (Elt Ideal) ℓ) (c : Dev nD)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (z : Fin 1) (r : Fin 128) (d : Fin 1024) :
    ((cfg0.win 0).blk t).view.emb (ix3 z r d : S1x128x1024.Idx) = (ix3 z r d : S1x128x1024.Idx) := by
  obtain ⟨e0, e1, e2⟩ := idx0 t
  funext a; apply Fin.ext
  match a with
  | ⟨0, _⟩ => show win0_0.index t (0 : Fin 3) * 1 + 1 * z.val = z.val; omega
  | ⟨1, _⟩ => show win0_0.index t (1 : Fin 3) * 128 + 1 * r.val = r.val; omega
  | ⟨2, _⟩ => show win0_0.index t (2 : Fin 3) * 1024 + 1 * d.val = d.val; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (z : Fin 1) (r : Fin 128) (d : Fin 1024) :
    ((cfg0.win 1).blk t).view.emb (ix3 z r d : S1x128x1024.Idx) = (ix3 z r d : S1x128x1024.Idx) := by
  obtain ⟨e0, e1, e2⟩ := idx1 t
  funext a; apply Fin.ext
  match a with
  | ⟨0, _⟩ => show win0_1.index t (0 : Fin 3) * 1 + 1 * z.val = z.val; omega
  | ⟨1, _⟩ => show win0_1.index t (1 : Fin 3) * 128 + 1 * r.val = r.val; omega
  | ⟨2, _⟩ => show win0_1.index t (2 : Fin 3) * 1024 + 1 * d.val = d.val; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (z : Fin 1) (r : Fin 128) (d : Fin 1024) :
    ((cfg0.win 2).blk t).view.emb (ix3 z r d : S1x128x1024.Idx) = (ix3 z r d : S1x128x1024.Idx) := by
  obtain ⟨e0, e1, e2⟩ := idx2 t
  funext a; apply Fin.ext
  match a with
  | ⟨0, _⟩ => show win0_2.index t (0 : Fin 3) * 1 + 1 * z.val = z.val; omega
  | ⟨1, _⟩ => show win0_2.index t (1 : Fin 3) * 128 + 1 * r.val = r.val; omega
  | ⟨2, _⟩ => show win0_2.index t (2 : Fin 3) * 1024 + 1 * d.val = d.val; omega

theorem idx4 : ∀ t : Fin cfg0.N, win0_4.index t (0 : Fin 3) = 0 ∧ win0_4.index t (1 : Fin 3) = 0 ∧ win0_4.index t (2 : Fin 3) = 0 :=
  (by decide +kernel : ∀ t : Fin grid0.N, _)

theorem emb4 (t : Fin cfg0.N) (z : Fin 1) (r : Fin 128) (d : Fin 1024) :
    ((cfg0.win 4).blk t).view.emb (ix3 z r d : S1x128x1024.Idx) = (ix3 z r d : S1x128x1024.Idx) := by
  obtain ⟨e0, e1, e2⟩ := idx4 t
  funext a; apply Fin.ext
  match a with
  | ⟨0, _⟩ => show win0_4.index t (0 : Fin 3) * 1 + 1 * z.val = z.val; omega
  | ⟨1, _⟩ => show win0_4.index t (1 : Fin 3) * 128 + 1 * r.val = r.val; omega
  | ⟨2, _⟩ => show win0_4.index t (2 : Fin 3) * 1024 + 1 * d.val = d.val; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (z : Fin 1) (r : Fin 128) (d : Fin 1024) :
    ((cfg0.win 5).blk t).view.emb (ix3 z r d : S1x128x1024.Idx) = (ix3 z r d : S1x128x1024.Idx) := by
  obtain ⟨e0, e1, e2⟩ := idx5 t
  funext a; apply Fin.ext
  match a with
  | ⟨0, _⟩ => show win0_5.index t (0 : Fin 3) * 1 + 1 * z.val = z.val; omega
  | ⟨1, _⟩ => show win0_5.index t (1 : Fin 3) * 128 + 1 * r.val = r.val; omega
  | ⟨2, _⟩ => show win0_5.index t (2 : Fin 3) * 1024 + 1 * d.val = d.val; omega

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (z : Fin 1) (r : Fin 128) (d : Fin 1024) :
    ((cfg0.win 6).blk t).view.emb (ix3 z r d : S1x128x1024.Idx) = (ix3 z r d : S1x128x1024.Idx) := by
  obtain ⟨e0, e1, e2⟩ := idx6 t
  funext a; apply Fin.ext
  match a with
  | ⟨0, _⟩ => show win0_6.index t (0 : Fin 3) * 1 + 1 * z.val = z.val; omega
  | ⟨1, _⟩ => show win0_6.index t (1 : Fin 3) * 128 + 1 * r.val = r.val; omega
  | ⟨2, _⟩ => show win0_6.index t (2 : Fin 3) * 1024 + 1 * d.val = d.val; omega

theorem idx11 : ∀ t : Fin cfg0.N, win0_11.index t (0 : Fin 3) = 0 ∧ win0_11.index t (1 : Fin 3) = 0 ∧ win0_11.index t (2 : Fin 3) = 0 :=
  (by decide +kernel : ∀ t : Fin grid0.N, _)

theorem emb11 (t : Fin cfg0.N) (z : Fin 1) (r : Fin 128) (d : Fin 1024) :
    ((cfg0.win 11).blk t).view.emb (ix3 z r d : S1x128x1024.Idx) = (ix3 z r d : S1x128x1024.Idx) := by
  obtain ⟨e0, e1, e2⟩ := idx11 t
  funext a; apply Fin.ext
  match a with
  | ⟨0, _⟩ => show win0_11.index t (0 : Fin 3) * 1 + 1 * z.val = z.val; omega
  | ⟨1, _⟩ => show win0_11.index t (1 : Fin 3) * 128 + 1 * r.val = r.val; omega
  | ⟨2, _⟩ => show win0_11.index t (2 : Fin 3) * 1024 + 1 * d.val = d.val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (r : Fin 1024) (d : Fin 1024) :
    ((cfg0.win 3).blk t).view.emb (ix2 r d : S1024x1024.Idx) = (ix2 r d : S1024x1024.Idx) := by
  obtain ⟨e0, e1⟩ := idx3 t
  funext a; apply Fin.ext
  match a with
  | ⟨0, _⟩ => show win0_3.index t (0 : Fin 2) * 1024 + 1 * r.val = r.val; omega
  | ⟨1, _⟩ => show win0_3.index t (1 : Fin 2) * 1024 + 1 * d.val = d.val; omega

theorem idx7 : ∀ t : Fin cfg0.N, win0_7.index t (0 : Fin 2) = 0 ∧ win0_7.index t (1 : Fin 2) = 0 :=
  (by decide +kernel : ∀ t : Fin grid0.N, _)

theorem emb7 (t : Fin cfg0.N) (r : Fin 1) (d : Fin 1024) :
    ((cfg0.win 7).blk t).view.emb (ix2 r d : S1x1024.Idx) = (ix2 r d : S1x1024.Idx) := by
  obtain ⟨e0, e1⟩ := idx7 t
  funext a; apply Fin.ext
  match a with
  | ⟨0, _⟩ => show win0_7.index t (0 : Fin 2) * 1 + 1 * r.val = r.val; omega
  | ⟨1, _⟩ => show win0_7.index t (1 : Fin 2) * 1024 + 1 * d.val = d.val; omega

theorem idx8 : ∀ t : Fin cfg0.N, win0_8.index t (0 : Fin 2) = 0 ∧ win0_8.index t (1 : Fin 2) = 0 :=
  (by decide +kernel : ∀ t : Fin grid0.N, _)

theorem emb8 (t : Fin cfg0.N) (r : Fin 1024) (d : Fin 5632) :
    ((cfg0.win 8).blk t).view.emb (ix2 r d : S1024x5632.Idx) = (ix2 r d : S1024x5632.Idx) := by
  obtain ⟨e0, e1⟩ := idx8 t
  funext a; apply Fin.ext
  match a with
  | ⟨0, _⟩ => show win0_8.index t (0 : Fin 2) * 1024 + 1 * r.val = r.val; omega
  | ⟨1, _⟩ => show win0_8.index t (1 : Fin 2) * 5632 + 1 * d.val = d.val; omega

theorem idx9 : ∀ t : Fin cfg0.N, win0_9.index t (0 : Fin 2) = 0 ∧ win0_9.index t (1 : Fin 2) = 0 :=
  (by decide +kernel : ∀ t : Fin grid0.N, _)

theorem emb9 (t : Fin cfg0.N) (r : Fin 2816) (d : Fin 1024) :
    ((cfg0.win 9).blk t).view.emb (ix2 r d : S2816x1024.Idx) = (ix2 r d : S2816x1024.Idx) := by
  obtain ⟨e0, e1⟩ := idx9 t
  funext a; apply Fin.ext
  match a with
  | ⟨0, _⟩ => show win0_9.index t (0 : Fin 2) * 2816 + 1 * r.val = r.val; omega
  | ⟨1, _⟩ => show win0_9.index t (1 : Fin 2) * 1024 + 1 * d.val = d.val; omega

theorem idx10 : ∀ t : Fin cfg0.N, win0_10.index t (0 : Fin 2) = 0 ∧ win0_10.index t (1 : Fin 2) = 0 :=
  (by decide +kernel : ∀ t : Fin grid0.N, _)

theorem emb10 (t : Fin cfg0.N) (r : Fin 1) (d : Fin 1024) :
    ((cfg0.win 10).blk t).view.emb (ix2 r d : S1x1024.Idx) = (ix2 r d : S1x1024.Idx) := by
  obtain ⟨e0, e1⟩ := idx10 t
  funext a; apply Fin.ext
  match a with
  | ⟨0, _⟩ => show win0_10.index t (0 : Fin 2) * 1 + 1 * r.val = r.val; omega
  | ⟨1, _⟩ => show win0_10.index t (1 : Fin 2) * 1024 + 1 * d.val = d.val; omega

/-! The arrays the host code prepares. -/

theorem main_v8_eq : V m c main_v8 = shapeCast S1x128x1024 (m ((c : Thread nD τ).loc main_arg0)) shapeCasts_S32x4x1024_S1x128x1024 := by
  show StableHlo.after hostOps0 _ _ = _
  after_results
  rfl

theorem main_v13_eq : V m c main_v13 = truncf (F := Ideal) .bf16 (shapeCast S1x128x1024 (m ((c : Thread nD τ).loc main_arg1)) shapeCasts_S32x4x1024_S1x128x1024 : FVec Ideal S1x128x1024 .f32) bitsLt_bf16_f32 := by
  show StableHlo.after hostOps0 _ _ = _
  after_results
  rfl

theorem main_v1_eq : V m c main_v1 = shapeCast S1x128x1024 (broadcastInDim S32x4x1024 ![0, 1, 2] bcast_S32x1x1024_S32x4x1024_0_1_2 (m ((c : Thread nD τ).loc main_arg2))) shapeCasts_S32x4x1024_S1x128x1024 := by
  show StableHlo.after hostOps0 _ _ = _
  after_results
  rfl

theorem main_v14_eq : V m c main_v14 = truncf (F := Ideal) .bf16 (m ((c : Thread nD τ).loc main_arg3)) bitsLt_bf16_f32 := by
  show StableHlo.after hostOps0 _ _ = _
  after_results

theorem main_v3_eq : V m c main_v3 = shapeCast S1x128x1024 (broadcastInDim S32x4x1024 ![0, 1, 2] bcast_S32x1x1024_S32x4x1024_0_1_2 (m ((c : Thread nD τ).loc main_arg4))) shapeCasts_S32x4x1024_S1x128x1024 := by
  show StableHlo.after hostOps0 _ _ = _
  after_results
  rfl

theorem main_v5_eq : V m c main_v5 = shapeCast S1x128x1024 (broadcastInDim S32x4x1024 ![0, 1, 2] bcast_S32x1x1024_S32x4x1024_0_1_2 (m ((c : Thread nD τ).loc main_arg5))) shapeCasts_S32x4x1024_S1x128x1024 := by
  show StableHlo.after hostOps0 _ _ = _
  after_results
  rfl

theorem main_v7_eq : V m c main_v7 = shapeCast S1x128x1024 (broadcastInDim S32x4x1024 ![0, 1, 2] bcast_S32x1x1024_S32x4x1024_0_1_2 (m ((c : Thread nD τ).loc main_arg6))) shapeCasts_S32x4x1024_S1x128x1024 := by
  show StableHlo.after hostOps0 _ _ = _
  after_results
  rfl

theorem main_v9_eq : V m c main_v9 = shapeCast S1x1024 (m ((c : Thread nD τ).loc main_arg7)) shapeCasts_S1024_S1x1024 := by
  show StableHlo.after hostOps0 _ _ = _
  after_results
  rfl

theorem main_v10_eq : V m c main_v10 = truncf (F := Ideal) .bf16 (m ((c : Thread nD τ).loc main_arg8)) bitsLt_bf16_f32 := by
  show StableHlo.after hostOps0 _ _ = _
  after_results

theorem main_v11_eq : V m c main_v11 = truncf (F := Ideal) .bf16 (m ((c : Thread nD τ).loc main_arg9)) bitsLt_bf16_f32 := by
  show StableHlo.after hostOps0 _ _ = _
  after_results

theorem main_v15_eq : V m c main_v15 = shapeCast S1x1024 (m ((c : Thread nD τ).loc main_arg10)) shapeCasts_S1024_S1x1024 := by
  show StableHlo.after hostOps0 _ _ = _
  after_results
  rfl

/-! A block's entries are the arguments'. -/

theorem blk0 (t : Fin cfg0.N) (r : Fin 128) (d : Fin 1024) :
    (iblk m c 0 t : S1x128x1024.Idx → EReal) (ix3 0 r d) = (m ((c : Thread nD τ).loc main_arg0) : S32x4x1024.Idx → EReal) (ix3 (grp r) (pos r) d) := by
  show V m c main_v8 (((cfg0.win 0).blk t).view.emb (ix3 0 r d : S1x128x1024.Idx)) = _
  rw [emb0, main_v8_eq]
  exact rows_apply (e := .f32) _ _ r d

theorem blk1 (t : Fin cfg0.N) (r : Fin 128) (d : Fin 1024) :
    (iblk m c 1 t : S1x128x1024.Idx → EReal) (ix3 0 r d) = (m ((c : Thread nD τ).loc main_arg1) : S32x4x1024.Idx → EReal) (ix3 (grp r) (pos r) d) := by
  show V m c main_v13 (((cfg0.win 1).blk t).view.emb (ix3 0 r d : S1x128x1024.Idx)) = _
  rw [emb1, main_v13_eq]
  exact rows_apply (e := .f32) _ _ r d

theorem blk2 (t : Fin cfg0.N) (r : Fin 128) (d : Fin 1024) :
    (iblk m c 2 t : S1x128x1024.Idx → EReal) (ix3 0 r d) = (m ((c : Thread nD τ).loc main_arg2) : S32x1x1024.Idx → EReal) (ix3 (grp r) 0 d) := by
  show V m c main_v1 (((cfg0.win 2).blk t).view.emb (ix3 0 r d : S1x128x1024.Idx)) = _
  rw [emb2, main_v1_eq]
  exact mod_apply _ r d

theorem blk3 (t : Fin cfg0.N) (k : Fin 1024) (d : Fin 1024) :
    (iblk m c 3 t : S1024x1024.Idx → EReal) (ix2 k d) = (m ((c : Thread nD τ).loc main_arg3) : S1024x1024.Idx → EReal) (ix2 k d) := by
  show V m c main_v14 (((cfg0.win 3).blk t).view.emb (ix2 k d : S1024x1024.Idx)) = _
  rw [emb3, main_v14_eq]; rfl

theorem blk4 (t : Fin cfg0.N) (r : Fin 128) (d : Fin 1024) :
    (iblk m c 4 t : S1x128x1024.Idx → EReal) (ix3 0 r d) = (m ((c : Thread nD τ).loc main_arg4) : S32x1x1024.Idx → EReal) (ix3 (grp r) 0 d) := by
  show V m c main_v3 (((cfg0.win 4).blk t).view.emb (ix3 0 r d : S1x128x1024.Idx)) = _
  rw [emb4, main_v3_eq]
  exact mod_apply _ r d

theorem blk5 (t : Fin cfg0.N) (r : Fin 128) (d : Fin 1024) :
    (iblk m c 5 t : S1x128x1024.Idx → EReal) (ix3 0 r d) = (m ((c : Thread nD τ).loc main_arg5) : S32x1x1024.Idx → EReal) (ix3 (grp r) 0 d) := by
  show V m c main_v5 (((cfg0.win 5).blk t).view.emb (ix3 0 r d : S1x128x1024.Idx)) = _
  rw [emb5, main_v5_eq]
  exact mod_apply _ r d

theorem blk6 (t : Fin cfg0.N) (r : Fin 128) (d : Fin 1024) :
    (iblk m c 6 t : S1x128x1024.Idx → EReal) (ix3 0 r d) = (m ((c : Thread nD τ).loc main_arg6) : S32x1x1024.Idx → EReal) (ix3 (grp r) 0 d) := by
  show V m c main_v7 (((cfg0.win 6).blk t).view.emb (ix3 0 r d : S1x128x1024.Idx)) = _
  rw [emb6, main_v7_eq]
  exact mod_apply _ r d

theorem blk7 (t : Fin cfg0.N) (d : Fin 1024) :
    (iblk m c 7 t : S1x1024.Idx → EReal) (ix2 0 d) = (m ((c : Thread nD τ).loc main_arg7) : S1024.Idx → EReal) (ix1 d) := by
  show V m c main_v9 (((cfg0.win 7).blk t).view.emb (ix2 0 d : S1x1024.Idx)) = _
  rw [emb7, main_v9_eq]
  pointwise

theorem blk8 (t : Fin cfg0.N) (k : Fin 1024) (d : Fin 5632) :
    (iblk m c 8 t : S1024x5632.Idx → EReal) (ix2 k d) = (m ((c : Thread nD τ).loc main_arg8) : S1024x5632.Idx → EReal) (ix2 k d) := by
  show V m c main_v10 (((cfg0.win 8).blk t).view.emb (ix2 k d : S1024x5632.Idx)) = _
  rw [emb8, main_v10_eq]; rfl

theorem blk9 (t : Fin cfg0.N) (k : Fin 2816) (d : Fin 1024) :
    (iblk m c 9 t : S2816x1024.Idx → EReal) (ix2 k d) = (m ((c : Thread nD τ).loc main_arg9) : S2816x1024.Idx → EReal) (ix2 k d) := by
  show V m c main_v11 (((cfg0.win 9).blk t).view.emb (ix2 k d : S2816x1024.Idx)) = _
  rw [emb9, main_v11_eq]; rfl

theorem blk10 (t : Fin cfg0.N) (d : Fin 1024) :
    (iblk m c 10 t : S1x1024.Idx → EReal) (ix2 0 d) = (m ((c : Thread nD τ).loc main_arg10) : S1024.Idx → EReal) (ix1 d) := by
  show V m c main_v15 (((cfg0.win 10).blk t).view.emb (ix2 0 d : S1x1024.Idx)) = _
  rw [emb10, main_v15_eq]
  pointwise

/-- The residual's row after the attention. -/
def mixedRow (s : Fin 128) : Fin 1024 → EReal :=
  mixed (fun k => (m ((c : Thread nD τ).loc main_arg0) : S32x4x1024.Idx → EReal) (ix3 (grp s) (pos s) k)) (fun k => (m ((c : Thread nD τ).loc main_arg1) : S32x4x1024.Idx → EReal) (ix3 (grp s) (pos s) k))
    (fun k => (m ((c : Thread nD τ).loc main_arg2) : S32x1x1024.Idx → EReal) (ix3 (grp s) 0 k)) (fun k e => (m ((c : Thread nD τ).loc main_arg3) : S1024x1024.Idx → EReal) (ix2 k e))

/-- The hidden row. -/
def hiddenRow (s : Fin 128) : Fin 1024 → EReal :=
  Row.hidden (mixedRow m c s) (fun k => (m ((c : Thread nD τ).loc main_arg7) : S1024.Idx → EReal) (ix1 k))
    (fun k => (m ((c : Thread nD τ).loc main_arg5) : S32x1x1024.Idx → EReal) (ix3 (grp s) 0 k)) (fun k => (m ((c : Thread nD τ).loc main_arg4) : S32x1x1024.Idx → EReal) (ix3 (grp s) 0 k))

/-- The result array as one function of the arguments. -/
def result : S1x128x1024.Idx → EReal := fun i =>
  normed (fed (mixedRow m c (i 1)) (hiddenRow m c (i 1)) (fun k => (m ((c : Thread nD τ).loc main_arg6) : S32x1x1024.Idx → EReal) (ix3 (grp (i 1)) 0 k))
    (fun k f => (m ((c : Thread nD τ).loc main_arg8) : S1024x5632.Idx → EReal) (ix2 k f)) (fun f k => (m ((c : Thread nD τ).loc main_arg9) : S2816x1024.Idx → EReal) (ix2 f k)))
    (fun k => (m ((c : Thread nD τ).loc main_arg10) : S1024.Idx → EReal) (ix1 k)) (i 2)

/-- What the grid point writes back is that array's block. -/
theorem flushed_eq (t : Fin cfg0.N) :
    (dats m 0 c).flushed 11 t = ((cfg0.win 11).blk t).view.read (Elt Ideal) (result m c) := by
  rw [Value.flushed11]
  funext j
  obtain ⟨z, r, d, rfl⟩ : ∃ z r d, j = (ix3 z r d : S1x128x1024.Idx) := ⟨j 0, j 1, j 2, by funext a; match a with | ⟨0, _⟩ => rfl | ⟨1, _⟩ => rfl | ⟨2, _⟩ => rfl⟩
  obtain rfl : z = 0 := Subsingleton.elim _ _
  show Gen.out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 0 r d)
    = result m c (((cfg0.win 11).blk t).view.emb (ix3 0 r d : S1x128x1024.Idx))
  rw [emb11, SampleRow.out_apply (X := _) (H := _) (hX := rfl) (hH := rfl)]
  simp only [blk0, blk1, blk2, blk3, blk4, blk5, blk6, blk7, blk8, blk9, blk10]
  rfl

/-- The grid's one point's block is the whole array. -/
theorem covered (i : S1x128x1024.Idx) :
    ∃ t : Fin cfg0.N, (cfg0.win 11).flush t = true ∧ i ∈ ((cfg0.win 11).blk t).view.set := by
  let t : Fin cfg0.N := ⟨0, by rw [show cfg0.N = 1 from N_0]; omega⟩
  refine ⟨t, flush0_11 t, ?_⟩
  have e : (ix3 (i 0) (i 1) (i 2) : S1x128x1024.Idx) = i := by
    funext a; match a with | ⟨0, _⟩ => rfl | ⟨1, _⟩ => rfl | ⟨2, _⟩ => rfl
  exact (congrArg (· ∈ ((cfg0.win 11).blk t).view.set) ((emb11 t (i 0) (i 1) (i 2)).trans e)).mp
    (((cfg0.win 11).blk t).view.emb_mem_set _)

/-- The result array after the run. -/
theorem final : (dats m 0 c).arrAt 11 cfg0.N = result m c :=
  (dats m 0 c).arrAt_eq_of_cover 11 (result m c) (fun t _ => flushed_eq m c t) covered

end Cert.SampleArray

end
-- ==== Proof.SampleFirstRow.lean ====
/-
  The sample's first-layer block read at a row: the row function of that row's inputs.
-/
module

public import proofs.«01_k».proof.Proof.Row
public import proofs.«01_k».proof.Proof.Gen.SampleFirstIdeal.Value

@[expose] public section

set_option maxRecDepth 16384

noncomputable section

namespace Cert.SampleFirstRow

open Idealize.ShloMosaic Cert.SampleFirstIdeal Cert.SampleFirstIdeal.Gen Cert.Row Finset

theorem pay2_apply (x : Vec Ideal S1x128x1024 .f32) (r : Fin 128) (d : Fin 1024) : k0_pay2 x (ix2 r d) = x (ix3 0 r d) := by
  unfold k0_pay2
  pointwise

theorem pay3_apply (x : Vec Ideal S1x128x1024 .f32) (g : Vec Ideal S1x1024 .f32) (sc sh : Vec Ideal S1x128x1024 .f32) (r : Fin 128) (d : Fin 1024) :
    k0_pay3 x g sc sh (ix2 r d)
      = Row.hidden (fun k => k0_pay2 x (ix2 r k)) (fun k => g (ix2 0 k)) (fun k => sc (ix3 0 r k)) (fun k => sh (ix3 0 r k)) d := by
  unfold k0_pay3 Row.hidden normed
  generalize k0_pay2 x = y
  pointwise

theorem pay5_apply (x : Vec Ideal S1x128x1024 .f32) (g : Vec Ideal S1x1024 .f32) (sc sh : Vec Ideal S1x128x1024 .f32) (u w : Vec Ideal S1024x1536 .bf16)
    (r : Fin 128) (f : Fin 1536) :
    k0_pay5 x g sc sh u w (ix2 r f) = gated (fun k => k0_pay3 x g sc sh (ix2 r k)) (fun k => u (ix2 k f)) (fun k => w (ix2 k f)) := by
  unfold k0_pay5 gated
  generalize k0_pay3 x g sc sh = y
  pointwise

theorem pay4_apply (r : Fin 128) (d : Fin 1024) : k0_pay4 (F := Ideal) (ix2 r d) = 0 := by
  unfold k0_pay4
  pointwise

theorem pay1_apply (x : FVec Ideal S128x1024 .f32) (h : FVec Ideal S128x1024 .bf16) (z : FVec Ideal S128x1024 .f32) (a : FVec Ideal S128x1536 .bf16)
    (o1 : Vec Ideal S1536x1024 .bf16) (u2 w2 : Vec Ideal S1024x1280 .bf16) (o2 : Vec Ideal S1280x1024 .bf16)
    (gt : Vec Ideal S1x128x1024 .f32) (r : Fin 128) (d : Fin 1024) :
    k0_pay1 x h z a o1 u2 w2 o2 gt (ix3 0 r d)
      = x (ix2 r d) + gt (ix3 0 r d) * ((z (ix2 r d) + ∑ f : Fin 1536, a (ix2 r f) * o1 (ix2 f d))
          + ∑ f : Fin 1280, gated (fun k => h (ix2 r k)) (fun k => u2 (ix2 k f)) (fun k => w2 (ix2 k f)) * o2 (ix2 f d)) := by
  unfold k0_pay1 gated
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x128x1024 e) : View.ld v r0_0 = v := View.ld_unit_zero zeros3 _ v
theorem ld_1 {e : EltTy} (v : Vec Ideal S1x1024 e) : View.ld v r0_1 = v := View.ld_unit_zero zeros2 _ v

theorem ld_2 {e : EltTy} (v : Vec Ideal S1024x5632 e) (k : Fin 1024) (f : Fin 1536) :
    View.ld v r0_2 (ix2 k f) = v (ix2 k ⟨f, by omega⟩) := by
  refine congrArg v ?_
  funext a; refine Fin.ext ?_
  fin_cases a <;> simp [Rect.emb, r0_2, ix2]

theorem ld_3 {e : EltTy} (v : Vec Ideal S1024x5632 e) (k : Fin 1024) (f : Fin 1536) :
    View.ld v r0_3 (ix2 k f) = v (ix2 k ⟨2816 + f, by omega⟩) := by
  refine congrArg v ?_
  funext a; refine Fin.ext ?_
  fin_cases a <;> simp [Rect.emb, r0_3, ix2]

theorem ld_4 {e : EltTy} (v : Vec Ideal S2816x1024 e) (k : Fin 1536) (f : Fin 1024) :
    View.ld v r0_4 (ix2 k f) = v (ix2 ⟨k, by omega⟩ f) := by
  refine congrArg v ?_
  funext a; refine Fin.ext ?_
  fin_cases a <;> simp [Rect.emb, r0_4, ix2]

theorem ld_5 {e : EltTy} (v : Vec Ideal S1024x5632 e) (k : Fin 1024) (f : Fin 1280) :
    View.ld v r0_5 (ix2 k f) = v (ix2 k ⟨1536 + f, by omega⟩) := by
  refine congrArg v ?_
  funext a; refine Fin.ext ?_
  fin_cases a <;> simp [Rect.emb, r0_5, ix2]

theorem ld_6 {e : EltTy} (v : Vec Ideal S1024x5632 e) (k : Fin 1024) (f : Fin 1280) :
    View.ld v r0_6 (ix2 k f) = v (ix2 k ⟨4352 + f, by omega⟩) := by
  refine congrArg v ?_
  funext a; refine Fin.ext ?_
  fin_cases a <;> simp [Rect.emb, r0_6, ix2]

theorem ld_7 {e : EltTy} (v : Vec Ideal S2816x1024 e) (k : Fin 1280) (f : Fin 1024) :
    View.ld v r0_7 (ix2 k f) = v (ix2 ⟨1536 + k, by omega⟩ f) := by
  refine congrArg v ?_
  funext a; refine Fin.ext ?_
  fin_cases a <;> simp [Rect.emb, r0_7, ix2]

/-- The block the body leaves, read at a row. -/
theorem out_apply (x : Vec Ideal S1x128x1024 .f32) (sh sc gt : Vec Ideal S1x128x1024 .f32) (g : Vec Ideal S1x1024 .f32) (win : Vec Ideal S1024x5632 .bf16)
    (wout : Vec Ideal S2816x1024 .bf16) (r : Fin 128) (d : Fin 1024) (X H : Fin 1024 → EReal) (hX : X = fun k => x (ix3 0 r k))
    (hH : H = Row.hidden X (fun k => g (ix2 0 k)) (fun k => sc (ix3 0 r k)) (fun k => sh (ix3 0 r k))) :
    out0_7 x sh sc gt g win wout (ix3 0 r d)
      = fed X H (fun k => gt (ix3 0 r k)) (fun k f => win (ix2 k f)) (fun f k => wout (ix2 f k)) d := by
  unfold out0_7
  rw [View.canon_unit_zero zeros3]
  simp only [ld_0, ld_1]
  rw [pay1_apply]
  have hx (k : Fin 1024) : k0_pay2 x (ix2 r k) = X k := by rw [pay2_apply, hX]
  have hh (k : Fin 1024) : k0_pay3 x g sc sh (ix2 r k) = H k := by
    rw [pay3_apply, hH]
    simp only [hx]
  simp only [pay5_apply, pay4_apply, hx, hh]
  unfold fed
  rw [sum_split]
  refine congrArg (fun z => X d + gt (ix3 0 r d) * z) (congrArg₂ (fun p q => (0 + p) + q) ?_ ?_)
  · refine Finset.sum_congr rfl fun f _ => ?_
    exact congrArg₂ (· * ·) (congrArg₂ (gated H) (funext fun k => ld_2 win k f) (funext fun k => ld_3 win k f)) (ld_4 wout f d)
  · refine Finset.sum_congr rfl fun f _ => ?_
    refine congrArg₂ (· * ·) (congrArg₂ (gated H) (funext fun k => ld_5 win k f) (funext fun k => (ld_6 win k f).trans ?_)) (ld_7 wout f d)
    exact congrArg (fun i => win (ix2 k i)) (Fin.ext (by show 4352 + f.val = 2816 + (1536 + f.val); omega))

end Cert.SampleFirstRow

end
-- ==== Proof.SampleFirstArray.lean ====
/-
  The sample's first-layer call: the result array after the run, as one function of the argument arrays.
-/
module

public import proofs.«01_k».proof.Proof.SampleShape
public import proofs.«01_k».proof.Proof.SampleFirstRow
public import Idealize.ShloMosaic.Lib.Pipeline.Value

@[expose] public section

set_option maxRecDepth 16384

noncomputable section

namespace Cert.SampleFirstArray

open Idealize.ShloMosaic Idealize.ShloMosaic.TcCoe Cert.SampleFirstIdeal Cert.SampleFirstIdeal.Gen Cert.Row Cert.SampleShape

variable (m : (ℓ : Loc nD τ sig) → Buf (Elt Ideal) ℓ) (c : Dev nD)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (z : Fin 1) (r : Fin 128) (d : Fin 1024) :
    ((cfg0.win 0).blk t).view.emb (ix3 z r d : S1x128x1024.Idx) = (ix3 z r d : S1x128x1024.Idx) := by
  obtain ⟨e0, e1, e2⟩ := idx0 t
  funext a; apply Fin.ext
  match a with
  | ⟨0, _⟩ => show win0_0.index t (0 : Fin 3) * 1 + 1 * z.val = z.val; omega
  | ⟨1, _⟩ => show win0_0.index t (1 : Fin 3) * 128 + 1 * r.val = r.val; omega
  | ⟨2, _⟩ => show win0_0.index t (2 : Fin 3) * 1024 + 1 * d.val = d.val; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (z : Fin 1) (r : Fin 128) (d : Fin 1024) :
    ((cfg0.win 1).blk t).view.emb (ix3 z r d : S1x128x1024.Idx) = (ix3 z r d : S1x128x1024.Idx) := by
  obtain ⟨e0, e1, e2⟩ := idx1 t
  funext a; apply Fin.ext
  match a with
  | ⟨0, _⟩ => show win0_1.index t (0 : Fin 3) * 1 + 1 * z.val = z.val; omega
  | ⟨1, _⟩ => show win0_1.index t (1 : Fin 3) * 128 + 1 * r.val = r.val; omega
  | ⟨2, _⟩ => show win0_1.index t (2 : Fin 3) * 1024 + 1 * d.val = d.val; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (z : Fin 1) (r : Fin 128) (d : Fin 1024) :
    ((cfg0.win 2).blk t).view.emb (ix3 z r d : S1x128x1024.Idx) = (ix3 z r d : S1x128x1024.Idx) := by
  obtain ⟨e0, e1, e2⟩ := idx2 t
  funext a; apply Fin.ext
  match a with
  | ⟨0, _⟩ => show win0_2.index t (0 : Fin 3) * 1 + 1 * z.val = z.val; omega
  | ⟨1, _⟩ => show win0_2.index t (1 : Fin 3) * 128 + 1 * r.val = r.val; omega
  | ⟨2, _⟩ => show win0_2.index t (2 : Fin 3) * 1024 + 1 * d.val = d.val; omega

theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)

theorem emb3 (t : Fin cfg0.N) (z : Fin 1) (r : Fin 128) (d : Fin 1024) :
    ((cfg0.win 3).blk t).view.emb (ix3 z r d : S1x128x1024.Idx) = (ix3 z r d : S1x128x1024.Idx) := by
  obtain ⟨e0, e1, e2⟩ := idx3 t
  funext a; apply Fin.ext
  match a with
  | ⟨0, _⟩ => show win0_3.index t (0 : Fin 3) * 1 + 1 * z.val = z.val; omega
  | ⟨1, _⟩ => show win0_3.index t (1 : Fin 3) * 128 + 1 * r.val = r.val; omega
  | ⟨2, _⟩ => show win0_3.index t (2 : Fin 3) * 1024 + 1 * d.val = d.val; omega

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (z : Fin 1) (r : Fin 128) (d : Fin 1024) :
    ((cfg0.win 7).blk t).view.emb (ix3 z r d : S1x128x1024.Idx) = (ix3 z r d : S1x128x1024.Idx) := by
  obtain ⟨e0, e1, e2⟩ := idx7 t
  funext a; apply Fin.ext
  match a with
  | ⟨0, _⟩ => show win0_7.index t (0 : Fin 3) * 1 + 1 * z.val = z.val; omega
  | ⟨1, _⟩ => show win0_7.index t (1 : Fin 3) * 128 + 1 * r.val = r.val; omega
  | ⟨2, _⟩ => show win0_7.index t (2 : Fin 3) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (r : Fin 1) (d : Fin 1024) :
    ((cfg0.win 4).blk t).view.emb (ix2 r d : S1x1024.Idx) = (ix2 r d : S1x1024.Idx) := by
  obtain ⟨e0, e1⟩ := idx4 t
  funext a; apply Fin.ext
  match a with
  | ⟨0, _⟩ => show win0_4.index t (0 : Fin 2) * 1 + 1 * r.val = r.val; omega
  | ⟨1, _⟩ => show win0_4.index t (1 : Fin 2) * 1024 + 1 * d.val = d.val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (r : Fin 1024) (d : Fin 5632) :
    ((cfg0.win 5).blk t).view.emb (ix2 r d : S1024x5632.Idx) = (ix2 r d : S1024x5632.Idx) := by
  obtain ⟨e0, e1⟩ := idx5 t
  funext a; apply Fin.ext
  match a with
  | ⟨0, _⟩ => show win0_5.index t (0 : Fin 2) * 1024 + 1 * r.val = r.val; omega
  | ⟨1, _⟩ => show win0_5.index t (1 : Fin 2) * 5632 + 1 * d.val = d.val; omega

theorem idx6 : ∀ t : Fin cfg0.N, win0_6.index t (0 : Fin 2) = 0 ∧ win0_6.index t (1 : Fin 2) = 0 :=
  (by decide +kernel : ∀ t : Fin grid0.N, _)

theorem emb6 (t : Fin cfg0.N) (r : Fin 2816) (d : Fin 1024) :
    ((cfg0.win 6).blk t).view.emb (ix2 r d : S2816x1024.Idx) = (ix2 r d : S2816x1024.Idx) := by
  obtain ⟨e0, e1⟩ := idx6 t
  funext a; apply Fin.ext
  match a with
  | ⟨0, _⟩ => show win0_6.index t (0 : Fin 2) * 2816 + 1 * r.val = r.val; omega
  | ⟨1, _⟩ => show win0_6.index t (1 : Fin 2) * 1024 + 1 * d.val = d.val; omega

/-! The arrays the host code prepares. -/

theorem main_v6_eq : V m c main_v6 = shapeCast S1x128x1024 (m ((c : Thread nD τ).loc main_arg0)) shapeCasts_S32x4x1024_S1x128x1024 := by
  show StableHlo.after hostOps0 _ _ = _
  after_results
  rfl

theorem main_v1_eq : V m c main_v1 = shapeCast S1x128x1024 (broadcastInDim S32x4x1024 ![0, 1, 2] bcast_S32x1x1024_S32x4x1024_0_1_2 (m ((c : Thread nD τ).loc main_arg1))) shapeCasts_S32x4x1024_S1x128x1024 := by
  show StableHlo.after hostOps0 _ _ = _
  after_results
  rfl

theorem main_v3_eq : V m c main_v3 = shapeCast S1x128x1024 (broadcastInDim S32x4x1024 ![0, 1, 2] bcast_S32x1x1024_S32x4x1024_0_1_2 (m ((c : Thread nD τ).loc main_arg2))) shapeCasts_S32x4x1024_S1x128x1024 := by
  show StableHlo.after hostOps0 _ _ = _
  after_results
  rfl

theorem main_v5_eq : V m c main_v5 = shapeCast S1x128x1024 (broadcastInDim S32x4x1024 ![0, 1, 2] bcast_S32x1x1024_S32x4x1024_0_1_2 (m ((c : Thread nD τ).loc main_arg3))) shapeCasts_S32x4x1024_S1x128x1024 := by
  show StableHlo.after hostOps0 _ _ = _
  after_results
  rfl

theorem main_v7_eq : V m c main_v7 = shapeCast S1x1024 (m ((c : Thread nD τ).loc main_arg4)) shapeCasts_S1024_S1x1024 := by
  show StableHlo.after hostOps0 _ _ = _
  after_results
  rfl

theorem main_v8_eq : V m c main_v8 = truncf (F := Ideal) .bf16 (m ((c : Thread nD τ).loc main_arg5)) bitsLt_bf16_f32 := by
  show StableHlo.after hostOps0 _ _ = _
  after_results

theorem main_v9_eq : V m c main_v9 = truncf (F := Ideal) .bf16 (m ((c : Thread nD τ).loc main_arg6)) bitsLt_bf16_f32 := by
  show StableHlo.after hostOps0 _ _ = _
  after_results

/-! A block's entries are the arguments'. -/

theorem blk0 (t : Fin cfg0.N) (r : Fin 128) (d : Fin 1024) :
    (iblk m c 0 t : S1x128x1024.Idx → EReal) (ix3 0 r d) = (m ((c : Thread nD τ).loc main_arg0) : S32x4x1024.Idx → EReal) (ix3 (grp r) (pos r) d) := by
  show V m c main_v6 (((cfg0.win 0).blk t).view.emb (ix3 0 r d : S1x128x1024.Idx)) = _
  rw [emb0, main_v6_eq]
  exact rows_apply (e := .f32) _ _ r d

theorem blk1 (t : Fin cfg0.N) (r : Fin 128) (d : Fin 1024) :
    (iblk m c 1 t : S1x128x1024.Idx → EReal) (ix3 0 r d) = (m ((c : Thread nD τ).loc main_arg1) : S32x1x1024.Idx → EReal) (ix3 (grp r) 0 d) := by
  show V m c main_v1 (((cfg0.win 1).blk t).view.emb (ix3 0 r d : S1x128x1024.Idx)) = _
  rw [emb1, main_v1_eq]
  exact mod_apply _ r d

theorem blk2 (t : Fin cfg0.N) (r : Fin 128) (d : Fin 1024) :
    (iblk m c 2 t : S1x128x1024.Idx → EReal) (ix3 0 r d) = (m ((c : Thread nD τ).loc main_arg2) : S32x1x1024.Idx → EReal) (ix3 (grp r) 0 d) := by
  show V m c main_v3 (((cfg0.win 2).blk t).view.emb (ix3 0 r d : S1x128x1024.Idx)) = _
  rw [emb2, main_v3_eq]
  exact mod_apply _ r d

theorem blk3 (t : Fin cfg0.N) (r : Fin 128) (d : Fin 1024) :
    (iblk m c 3 t : S1x128x1024.Idx → EReal) (ix3 0 r d) = (m ((c : Thread nD τ).loc main_arg3) : S32x1x1024.Idx → EReal) (ix3 (grp r) 0 d) := by
  show V m c main_v5 (((cfg0.win 3).blk t).view.emb (ix3 0 r d : S1x128x1024.Idx)) = _
  rw [emb3, main_v5_eq]
  exact mod_apply _ r d

theorem blk4 (t : Fin cfg0.N) (d : Fin 1024) :
    (iblk m c 4 t : S1x1024.Idx → EReal) (ix2 0 d) = (m ((c : Thread nD τ).loc main_arg4) : S1024.Idx → EReal) (ix1 d) := by
  show V m c main_v7 (((cfg0.win 4).blk t).view.emb (ix2 0 d : S1x1024.Idx)) = _
  rw [emb4, main_v7_eq]
  pointwise

theorem blk5 (t : Fin cfg0.N) (k : Fin 1024) (d : Fin 5632) :
    (iblk m c 5 t : S1024x5632.Idx → EReal) (ix2 k d) = (m ((c : Thread nD τ).loc main_arg5) : S1024x5632.Idx → EReal) (ix2 k d) := by
  show V m c main_v8 (((cfg0.win 5).blk t).view.emb (ix2 k d : S1024x5632.Idx)) = _
  rw [emb5, main_v8_eq]; rfl

theorem blk6 (t : Fin cfg0.N) (k : Fin 2816) (d : Fin 1024) :
    (iblk m c 6 t : S2816x1024.Idx → EReal) (ix2 k d) = (m ((c : Thread nD τ).loc main_arg6) : S2816x1024.Idx → EReal) (ix2 k d) := by
  show V m c main_v9 (((cfg0.win 6).blk t).view.emb (ix2 k d : S2816x1024.Idx)) = _
  rw [emb6, main_v9_eq]; rfl

/-- The residual's row. -/
def inRow (s : Fin 128) : Fin 1024 → EReal := fun k => (m ((c : Thread nD τ).loc main_arg0) : S32x4x1024.Idx → EReal) (ix3 (grp s) (pos s) k)

/-- The hidden row. -/
def hiddenRow (s : Fin 128) : Fin 1024 → EReal :=
  Row.hidden (inRow m c s) (fun k => (m ((c : Thread nD τ).loc main_arg4) : S1024.Idx → EReal) (ix1 k))
    (fun k => (m ((c : Thread nD τ).loc main_arg2) : S32x1x1024.Idx → EReal) (ix3 (grp s) 0 k)) (fun k => (m ((c : Thread nD τ).loc main_arg1) : S32x1x1024.Idx → EReal) (ix3 (grp s) 0 k))

/-- The result array as one function of the arguments. -/
def result : S1x128x1024.Idx → EReal := fun i =>
  fed (inRow m c (i 1)) (hiddenRow m c (i 1)) (fun k => (m ((c : Thread nD τ).loc main_arg3) : S32x1x1024.Idx → EReal) (ix3 (grp (i 1)) 0 k))
    (fun k f => (m ((c : Thread nD τ).loc main_arg5) : S1024x5632.Idx → EReal) (ix2 k f)) (fun f k => (m ((c : Thread nD τ).loc main_arg6) : S2816x1024.Idx → EReal) (ix2 f k)) (i 2)

/-- What the grid point writes back is that array's block. -/
theorem flushed_eq (t : Fin cfg0.N) :
    (dats m 0 c).flushed 7 t = ((cfg0.win 7).blk t).view.read (Elt Ideal) (result m c) := by
  rw [Value.flushed7]
  funext j
  obtain ⟨z, r, d, rfl⟩ : ∃ z r d, j = (ix3 z r d : S1x128x1024.Idx) := ⟨j 0, j 1, j 2, by funext a; match a with | ⟨0, _⟩ => rfl | ⟨1, _⟩ => rfl | ⟨2, _⟩ => rfl⟩
  obtain rfl : z = 0 := Subsingleton.elim _ _
  show Gen.out0_7 (iblk m c 0 t) (iblk m c 1 t) (iblk m c 2 t) (iblk m c 3 t) (iblk m c 4 t) (iblk m c 5 t) (iblk m c 6 t) (ix3 0 r d)
    = result m c (((cfg0.win 7).blk t).view.emb (ix3 0 r d : S1x128x1024.Idx))
  rw [emb7, SampleFirstRow.out_apply (X := _) (H := _) (hX := rfl) (hH := rfl)]
  simp only [blk0, blk1, blk2, blk3, blk4, blk5, blk6]
  rfl

/-- The grid's one point's block is the whole array. -/
theorem covered (i : S1x128x1024.Idx) :
    ∃ t : Fin cfg0.N, (cfg0.win 7).flush t = true ∧ i ∈ ((cfg0.win 7).blk t).view.set := by
  let t : Fin cfg0.N := ⟨0, by rw [show cfg0.N = 1 from N_0]; omega⟩
  refine ⟨t, flush0_7 t, ?_⟩
  have e : (ix3 (i 0) (i 1) (i 2) : S1x128x1024.Idx) = i := by
    funext a; match a with | ⟨0, _⟩ => rfl | ⟨1, _⟩ => rfl | ⟨2, _⟩ => rfl
  exact (congrArg (· ∈ ((cfg0.win 7).blk t).view.set) ((emb7 t (i 0) (i 1) (i 2)).trans e)).mp
    (((cfg0.win 7).blk t).view.emb_mem_set _)

/-- The result array after the run. -/
theorem final : (dats m 0 c).arrAt 7 cfg0.N = result m c :=
  (dats m 0 c).arrAt_eq_of_cover 7 (result m c) (fun t _ => flushed_eq m c t) covered

end Cert.SampleFirstArray

end
-- ==== Proof.SampleRefRow.lean ====
/-
  The sample's references read at an index: the same row function, of the argument arrays' rows.
-/
module

public import proofs.«01_k».proof.Proof.Row
public import proofs.«01_k».proof.Proof.Gen.SampleReferenceIdeal.Run
public import proofs.«01_k».proof.Proof.Gen.SampleFirstReferenceIdeal.Run

@[expose] public section

set_option maxRecDepth 16384

noncomputable section

namespace Cert.SampleRefRow

open Idealize.ShloMosaic Cert.SampleReferenceIdeal Cert.SampleReferenceIdeal.Gen Cert.Row Finset

/-- The residual after the attention's output projection. -/
def mixR (x a : FVec Ideal S32x4x1024 .f32) (gta : FVec Ideal S32x1x1024 .f32) (wo : FVec Ideal S1024x1024 .f32) : FVec Ideal S32x4x1024 .f32 :=
  addf x (mulf (broadcastInDim S32x4x1024 ![0, 1, 2] bcast_S32x1x1024_S32x4x1024_0_1_2 gta)
    (Host.dotGeneral dot_S32x4x1024_S1024x1024_S32x4x1024_2_0_01_1_n_n none a wo))

/-- The root-mean-square normalisation. -/
def normR (x : FVec Ideal S32x4x1024 .f32) (g : FVec Ideal S1024 .f32) : FVec Ideal S32x4x1024 .f32 :=
  mulf (mulf x (broadcastInDim S32x4x1024 ![0, 1, 2] bcast_S32x4x1_S32x4x1024_0_1_2
      (Host.rsqrt (addf (Host.divf (broadcastInDim S32x4x1 ![0, 1] bcast_S32x4_S32x4x1_0_1
          (Host.reduceAdd (mulf x x) (constant S_ .f32 0x00000000#32) reducesTo_S32x4x1024_S32x4_d2 h_S_))
          (broadcastInDim S32x4x1 ![] bcast_S_S32x4x1 (constant S_ .f32 0x44800000#32)))
        (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))

/-- The normalised rows with their scale and shift. -/
def hidR (x : FVec Ideal S32x4x1024 .f32) (g : FVec Ideal S1024 .f32) (sc sh : FVec Ideal S32x1x1024 .f32) : FVec Ideal S32x4x1024 .f32 :=
  addf (mulf (normR x g) (broadcastInDim S32x4x1024 ![0, 1, 2] bcast_S32x1x1024_S32x4x1024_0_1_2
      (addf (broadcastInDim S32x1x1024 ![] bcast_S_S32x1x1024 (constant S_ .f32 0x3F800000#32)) sc)))
    (broadcastInDim S32x4x1024 ![0, 1, 2] bcast_S32x1x1024_S32x4x1024_0_1_2 sh)

/-- The products with the joined gate and value weights. -/
def bothR (h : FVec Ideal S32x4x1024 .f32) (win : FVec Ideal S1024x5632 .f32) : FVec Ideal S32x4x5632 .f32 :=
  Host.dotGeneral dot_S32x4x1024_S1024x5632_S32x4x5632_2_0_01_1_n_n none h win

/-- The gated product. -/
def actR (u : FVec Ideal S32x4x5632 .f32) : FVec Ideal S32x4x2816 .f32 :=
  mulf (mulf (extractStridedSlice S32x4x2816 ![0, 0, 0] u slices_S32x4x5632_S32x4x2816_0_0_0)
      (Host.divf (broadcastInDim S32x4x2816 ![] bcast_S_S32x4x2816 (constant S_ .f32 0x3F800000#32))
        (addf (broadcastInDim S32x4x2816 ![] bcast_S_S32x4x2816 (constant S_ .f32 0x3F800000#32))
          (Host.exp (Host.negf (extractStridedSlice S32x4x2816 ![0, 0, 0] u slices_S32x4x5632_S32x4x2816_0_0_0))))))
    (extractStridedSlice S32x4x2816 ![0, 0, 2816] u slices_S32x4x5632_S32x4x2816_0_0_2816)

/-- The feed-forward added to the residual. -/
def fedR (x : FVec Ideal S32x4x1024 .f32) (u : FVec Ideal S32x4x2816 .f32) (gt : FVec Ideal S32x1x1024 .f32) (wout : FVec Ideal S2816x1024 .f32) :
    FVec Ideal S32x4x1024 .f32 :=
  addf x (mulf (broadcastInDim S32x4x1024 ![0, 1, 2] bcast_S32x1x1024_S32x4x1024_0_1_2 gt)
    (Host.dotGeneral dot_S32x4x2816_S2816x1024_S32x4x1024_2_0_01_1_n_n none u wout))

theorem mixR_apply (x a : FVec Ideal S32x4x1024 .f32) (gta : FVec Ideal S32x1x1024 .f32) (wo : FVec Ideal S1024x1024 .f32) (b : Fin 32) (r : Fin 4) (d : Fin 1024) :
    mixR x a gta wo (ix3 b r d) = mixed (fun k => x (ix3 b r k)) (fun k => a (ix3 b r k)) (fun k => gta (ix3 b 0 k)) (fun k e => wo (ix2 k e)) d := by
  unfold mixR mixed
  pointwise

theorem normR_apply (x : FVec Ideal S32x4x1024 .f32) (g : FVec Ideal S1024 .f32) (b : Fin 32) (r : Fin 4) (d : Fin 1024) :
    normR x g (ix3 b r d) = normed (fun k => x (ix3 b r k)) (fun k => g (ix1 k)) d := by
  unfold normR normed
  pointwise

theorem hidR_apply (x : FVec Ideal S32x4x1024 .f32) (g : FVec Ideal S1024 .f32) (sc sh : FVec Ideal S32x1x1024 .f32) (b : Fin 32) (r : Fin 4) (d : Fin 1024) :
    hidR x g sc sh (ix3 b r d) = Row.hidden (fun k => x (ix3 b r k)) (fun k => g (ix1 k)) (fun k => sc (ix3 b 0 k)) (fun k => sh (ix3 b 0 k)) d := by
  unfold hidR Row.hidden
  rw [← normR_apply x g b r d]
  generalize normR x g = y
  pointwise

theorem bothR_apply (h : FVec Ideal S32x4x1024 .f32) (win : FVec Ideal S1024x5632 .f32) (b : Fin 32) (r : Fin 4) (f : Fin 5632) :
    bothR h win (ix3 b r f) = ∑ k, h (ix3 b r k) * win (ix2 k f) := by
  unfold bothR
  pointwise

theorem actR_apply (u : FVec Ideal S32x4x5632 .f32) (b : Fin 32) (r : Fin 4) (f : Fin 2816) :
    actR u (ix3 b r f) = (u (ix3 b r ⟨f, by omega⟩) * Ideal.logistic (u (ix3 b r ⟨f, by omega⟩))) * u (ix3 b r ⟨2816 + f, by omega⟩) := by
  unfold actR Ideal.logistic
  pointwise

theorem fedR_apply (x : FVec Ideal S32x4x1024 .f32) (u : FVec Ideal S32x4x2816 .f32) (gt : FVec Ideal S32x1x1024 .f32) (wout : FVec Ideal S2816x1024 .f32)
    (b : Fin 32) (r : Fin 4) (d : Fin 1024) :
    fedR x u gt wout (ix3 b r d) = x (ix3 b r d) + gt (ix3 b 0 d) * ∑ f, u (ix3 b r f) * wout (ix2 f d) := by
  unfold fedR
  pointwise

/-- The feed-forward after hidden rows `h`, at a row. -/
theorem fed_apply (x h : FVec Ideal S32x4x1024 .f32) (gt : FVec Ideal S32x1x1024 .f32) (win : FVec Ideal S1024x5632 .f32) (wout : FVec Ideal S2816x1024 .f32)
    (b : Fin 32) (r : Fin 4) (d : Fin 1024) :
    fedR x (actR (bothR h win)) gt wout (ix3 b r d)
      = fed (fun k => x (ix3 b r k)) (fun k => h (ix3 b r k)) (fun k => gt (ix3 b 0 k)) (fun k f => win (ix2 k f)) (fun f k => wout (ix2 f k)) d := by
  rw [fedR_apply]
  simp only [actR_apply, bothR_apply]
  rfl

/-- The last layer's reference is the composition of these. -/
theorem res_eq (m : (ℓ : Loc nD τ sig) → Buf (Elt Ideal) ℓ) (c : Dev nD) :
    Value.res_out0 m c = shapeCast S1x128x1024 (normR (fedR (mixR (m ((c.tc : Thread nD τ).loc main_arg0)) (m ((c.tc : Thread nD τ).loc main_arg1)) (m ((c.tc : Thread nD τ).loc main_arg2)) (m ((c.tc : Thread nD τ).loc main_arg3)))
      (actR (bothR (hidR (mixR (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg7)) (m ((c.tc : Thread nD τ).loc main_arg5)) (m ((c.tc : Thread nD τ).loc main_arg4))) (m ((c.tc : Thread nD τ).loc main_arg8)))) (m ((c.tc : Thread nD τ).loc main_arg6)) (m ((c.tc : Thread nD τ).loc main_arg9))) (m ((c.tc : Thread nD τ).loc main_arg10))) shapeCasts_S32x4x1024_S1x128x1024 := rfl

end Cert.SampleRefRow

namespace Cert.SampleRefRow

open Idealize.ShloMosaic Cert.SampleFirstReferenceIdeal Cert.SampleFirstReferenceIdeal.Gen Cert.Row

/-- The first layer's reference, by the same functions. -/
theorem first_res_eq (m : (ℓ : Loc nD τ sig) → Buf (Elt Ideal) ℓ) (c : Dev nD) :
    Value.res_out0 m c = shapeCast S1x128x1024 (fedR (m ((c.tc : Thread nD τ).loc main_arg0)) (actR (bothR (hidR (m ((c.tc : Thread nD τ).loc main_arg0)) (m ((c.tc : Thread nD τ).loc main_arg4)) (m ((c.tc : Thread nD τ).loc main_arg2)) (m ((c.tc : Thread nD τ).loc main_arg1))) (m ((c.tc : Thread nD τ).loc main_arg5))))
      (m ((c.tc : Thread nD τ).loc main_arg3)) (m ((c.tc : Thread nD τ).loc main_arg6))) shapeCasts_S32x4x1024_S1x128x1024 := rfl

end Cert.SampleRefRow

end
-- ==== Proof.SampleAgree.lean ====
/-
  The sample's kernels' results are their references': the two claims on values.
-/
module

public import proofs.«01_k».proof.Defs
public import proofs.«01_k».proof.Proof.SampleArray
public import proofs.«01_k».proof.Proof.SampleFirstArray
public import proofs.«01_k».proof.Proof.SampleRefRow

@[expose] public section

set_option maxRecDepth 16384

noncomputable section

namespace Cert.SampleAgree

open Idealize.ShloMosaic Idealize.ShloMosaic.TcCoe Idealize.SL.Sem

/-- With the arguments agreeing, the reference's result is the kernel's. -/
theorem result_eq (m : (ℓ : Loc Cert.SampleIdeal.nD Cert.SampleIdeal.τ Cert.SampleIdeal.sig) → Buf (Elt Ideal) ℓ)
    (m' : (ℓ : Loc Cert.SampleReferenceIdeal.nD Cert.SampleReferenceIdeal.τ Cert.SampleReferenceIdeal.sig) → Buf (Elt Ideal) ℓ) (c : Dev Cert.SampleIdeal.nD)
    (h : m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)
      ∧ m' ((c.tc : Thread Cert.SampleReferenceIdeal.nD Cert.SampleReferenceIdeal.τ).loc Cert.SampleReferenceIdeal.main_arg10) = m ((c.tc : Thread Cert.SampleIdeal.nD Cert.SampleIdeal.τ).loc Cert.SampleIdeal.main_arg10)) :
    Cert.SampleReferenceIdeal.Value.res_out0 m' c = Cert.SampleArray.result m c := by
  obtain ⟨h0, h1, h2, h3, h4, h5, h6, h7, h8, h9, h10⟩ := h
  rw [Cert.SampleRefRow.res_eq, h0, h1, h2, h3, h4, h5, h6, h7, h8, h9, h10]
  funext i
  obtain ⟨z, r, d, rfl⟩ : ∃ z r d, i = (ix3 z r d : Cert.SampleIdeal.S1x128x1024.Idx) :=
    ⟨i 0, i 1, i 2, by funext a; match a with | ⟨0, _⟩ => rfl | ⟨1, _⟩ => rfl | ⟨2, _⟩ => rfl⟩
  obtain rfl : z = 0 := Subsingleton.elim _ _
  refine (Cert.SampleShape.rows_apply (e := .f32) _ _ r d).trans ?_
  rw [Cert.SampleRefRow.normR_apply]
  simp only [Cert.SampleRefRow.fed_apply, Cert.SampleRefRow.hidR_apply, Cert.SampleRefRow.mixR_apply]
  rfl

/-- Every run of the kernel and every run of the reference leave the same result. -/
theorem algebraic : Cert.algebraic_SampleIdeal_SampleReferenceIdeal := fun m g m' g' _ hag =>
  ⟨fun c => Cert.SampleArray.result m c,
    (θ_run _ _ _).mono (fun _ h c => ⟨(h c).1.trans (Cert.SampleArray.final m c), (h c).2⟩) (Cert.SampleIdeal.Value.run_blocks m g),
    (θ_run _ _ _).mono (fun _ h c => ⟨(h c).1.trans (result_eq m m' c (hag c)), (h c).2⟩) (Cert.SampleReferenceIdeal.Value.run m' g')⟩

/-- With the arguments agreeing, the reference's result is the kernel's. -/
theorem first_result_eq (m : (ℓ : Loc Cert.SampleFirstIdeal.nD Cert.SampleFirstIdeal.τ Cert.SampleFirstIdeal.sig) → Buf (Elt Ideal) ℓ)
    (m' : (ℓ : Loc Cert.SampleFirstReferenceIdeal.nD Cert.SampleFirstReferenceIdeal.τ Cert.SampleFirstReferenceIdeal.sig) → Buf (Elt Ideal) ℓ) (c : Dev Cert.SampleFirstIdeal.nD)
    (h : m' ((c.tc : Thread Cert.SampleFirstReferenceIdeal.nD Cert.SampleFirstReferenceIdeal.τ).loc Cert.SampleFirstReferenceIdeal.main_arg0) = m ((c.tc : Thread Cert.SampleFirstIdeal.nD Cert.SampleFirstIdeal.τ).loc Cert.SampleFirstIdeal.main_arg0)
      ∧ m' ((c.tc : Thread Cert.SampleFirstReferenceIdeal.nD Cert.SampleFirstReferenceIdeal.τ).loc Cert.SampleFirstReferenceIdeal.main_arg1) = m ((c.tc : Thread Cert.SampleFirstIdeal.nD Cert.SampleFirstIdeal.τ).loc Cert.SampleFirstIdeal.main_arg1)
      ∧ m' ((c.tc : Thread Cert.SampleFirstReferenceIdeal.nD Cert.SampleFirstReferenceIdeal.τ).loc Cert.SampleFirstReferenceIdeal.main_arg2) = m ((c.tc : Thread Cert.SampleFirstIdeal.nD Cert.SampleFirstIdeal.τ).loc Cert.SampleFirstIdeal.main_arg2)
      ∧ m' ((c.tc : Thread Cert.SampleFirstReferenceIdeal.nD Cert.SampleFirstReferenceIdeal.τ).loc Cert.SampleFirstReferenceIdeal.main_arg3) = m ((c.tc : Thread Cert.SampleFirstIdeal.nD Cert.SampleFirstIdeal.τ).loc Cert.SampleFirstIdeal.main_arg3)
      ∧ m' ((c.tc : Thread Cert.SampleFirstReferenceIdeal.nD Cert.SampleFirstReferenceIdeal.τ).loc Cert.SampleFirstReferenceIdeal.main_arg4) = m ((c.tc : Thread Cert.SampleFirstIdeal.nD Cert.SampleFirstIdeal.τ).loc Cert.SampleFirstIdeal.main_arg4)
      ∧ m' ((c.tc : Thread Cert.SampleFirstReferenceIdeal.nD Cert.SampleFirstReferenceIdeal.τ).loc Cert.SampleFirstReferenceIdeal.main_arg5) = m ((c.tc : Thread Cert.SampleFirstIdeal.nD Cert.SampleFirstIdeal.τ).loc Cert.SampleFirstIdeal.main_arg5)
      ∧ m' ((c.tc : Thread Cert.SampleFirstReferenceIdeal.nD Cert.SampleFirstReferenceIdeal.τ).loc Cert.SampleFirstReferenceIdeal.main_arg6) = m ((c.tc : Thread Cert.SampleFirstIdeal.nD Cert.SampleFirstIdeal.τ).loc Cert.SampleFirstIdeal.main_arg6)) :
    Cert.SampleFirstReferenceIdeal.Value.res_out0 m' c = Cert.SampleFirstArray.result m c := by
  obtain ⟨h0, h1, h2, h3, h4, h5, h6⟩ := h
  rw [Cert.SampleRefRow.first_res_eq, h0, h1, h2, h3, h4, h5, h6]
  funext i
  obtain ⟨z, r, d, rfl⟩ : ∃ z r d, i = (ix3 z r d : Cert.SampleFirstIdeal.S1x128x1024.Idx) :=
    ⟨i 0, i 1, i 2, by funext a; match a with | ⟨0, _⟩ => rfl | ⟨1, _⟩ => rfl | ⟨2, _⟩ => rfl⟩
  obtain rfl : z = 0 := Subsingleton.elim _ _
  refine (Cert.SampleShape.rows_apply (e := .f32) _ _ r d).trans ?_
  rw [Cert.SampleRefRow.fed_apply]
  simp only [Cert.SampleRefRow.hidR_apply]
  rfl

/-- Every run of the kernel and every run of the reference leave the same result. -/
theorem first_algebraic : Cert.algebraic_SampleFirstIdeal_SampleFirstReferenceIdeal := fun m g m' g' _ hag =>
  ⟨fun c => Cert.SampleFirstArray.result m c,
    (θ_run _ _ _).mono (fun _ h c => ⟨(h c).1.trans (Cert.SampleFirstArray.final m c), (h c).2⟩) (Cert.SampleFirstIdeal.Value.run_blocks m g),
    (θ_run _ _ _).mono (fun _ h c => ⟨(h c).1.trans (first_result_eq m m' c (hag c)), (h c).2⟩) (Cert.SampleFirstReferenceIdeal.Value.run m' g')⟩

end Cert.SampleAgree

end
-- ==== Proof.SampleProjectRow.lean ====
/-
  The sample's projections, the block of the kernel read at an index: one column of the row's product.
-/
module

public import proofs.«01_k».proof.Proof.Row
public import proofs.«01_k».proof.Proof.Gen.SampleProjectIdeal.Value

@[expose] public section

set_option maxRecDepth 16384

noncomputable section

namespace Cert.SampleProjectRow

open Idealize.ShloMosaic Cert.SampleProjectIdeal Cert.SampleProjectIdeal.Gen Cert.Row Finset

/-- The product of the normalised rows with the joined weights, read at an index. -/
theorem pay3_apply (x : Vec Ideal S1x128x1024 .f32) (g : Vec Ideal S1x1024 .f32) (sc sh : Vec Ideal S1x128x1024 .f32) (w : Vec Ideal S1024x2176 .bf16)
    (r : Fin 128) (f : Fin 2176) :
    k0_pay3 x g sc sh w (ix2 r f)
      = ∑ d, Row.hidden (fun k => x (ix3 0 r k)) (fun k => g (ix2 0 k)) (fun k => sc (ix3 0 r k)) (fun k => sh (ix3 0 r k)) d * w (ix2 d f) := by
  unfold k0_pay3 Row.hidden normed
  pointwise

theorem zeros3 : (![0, 0, 0] : Fin 3 → ℕ) = fun _ => 0 := by decide
theorem zeros2 : (![0, 0] : Fin 2 → ℕ) = fun _ => 0 := by decide

theorem ld_0 {e : EltTy} (v : Vec Ideal S1x128x1024 e) : View.ld v r0_0 = v := View.ld_unit_zero zeros3 _ v
theorem ld_1 {e : EltTy} (v : Vec Ideal S1x1024 e) : View.ld v r0_1 = v := View.ld_unit_zero zeros2 _ v
theorem ld_2 {e : EltTy} (v : Vec Ideal S1024x2176 e) : View.ld v r0_2 = v := View.ld_unit_zero zeros2 _ v

/-- One head's slice of the product, scaled. -/
def scaled (v : FVec Ideal S128x2176 .f32) : S1x16x128x64.Idx → EReal := fun y =>
  v (ix2 (y 2 : Fin 128) (⟨(y 1).val * 64 + (y 3).val, by have h1 : (y 1).val < 16 := (y 1).isLt; have h3 : (y 3).val < 64 := (y 3).isLt; omega⟩ : Fin 2176))
    * Ideal.ofBits .f32 0x3E38AA3B#32

theorem head_0 (v : FVec Ideal S128x2176 .f32) (r : Fin 128) (d : Fin 64) :
    k0_pay14 (k0_pay13 v) (ix4 0 0 r d) = v (ix2 r ⟨0 + d, by omega⟩) * Ideal.ofBits .f32 0x3E38AA3B#32 := by
  unfold k0_pay14 k0_pay13
  pointwise

theorem piece_0 (v : FVec Ideal S128x2176 .f32) (x : S1x1x128x64.Idx) : (k0_pay14 (k0_pay13 v)) x = scaled v (r0_8.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_0]
  unfold scaled
  refine congrArg (fun i => v i * Ideal.ofBits .f32 0x3E38AA3B#32) ?_
  funext a; apply Fin.ext
  match a with
  | ⟨0, _⟩ => show r.val = 0 + 1 * r.val; omega
  | ⟨1, _⟩ => show 0 + d.val = (0 + 1 * 0) * 64 + (0 + 1 * d.val); omega

theorem head_1 (v : FVec Ideal S128x2176 .f32) (r : Fin 128) (d : Fin 64) :
    k0_pay15 v (ix4 0 0 r d) = v (ix2 r ⟨64 + d, by omega⟩) * Ideal.ofBits .f32 0x3E38AA3B#32 := by
  unfold k0_pay15
  pointwise

theorem piece_1 (v : FVec Ideal S128x2176 .f32) (x : S1x1x128x64.Idx) : (k0_pay15 v) x = scaled v (r0_9.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_1]
  unfold scaled
  refine congrArg (fun i => v i * Ideal.ofBits .f32 0x3E38AA3B#32) ?_
  funext a; apply Fin.ext
  match a with
  | ⟨0, _⟩ => show r.val = 0 + 1 * r.val; omega
  | ⟨1, _⟩ => show 64 + d.val = (1 + 1 * 0) * 64 + (0 + 1 * d.val); omega

theorem head_2 (v : FVec Ideal S128x2176 .f32) (r : Fin 128) (d : Fin 64) :
    k0_pay16 v (ix4 0 0 r d) = v (ix2 r ⟨128 + d, by omega⟩) * Ideal.ofBits .f32 0x3E38AA3B#32 := by
  unfold k0_pay16
  pointwise

theorem piece_2 (v : FVec Ideal S128x2176 .f32) (x : S1x1x128x64.Idx) : (k0_pay16 v) x = scaled v (r0_10.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_2]
  unfold scaled
  refine congrArg (fun i => v i * Ideal.ofBits .f32 0x3E38AA3B#32) ?_
  funext a; apply Fin.ext
  match a with
  | ⟨0, _⟩ => show r.val = 0 + 1 * r.val; omega
  | ⟨1, _⟩ => show 128 + d.val = (2 + 1 * 0) * 64 + (0 + 1 * d.val); omega

theorem head_3 (v : FVec Ideal S128x2176 .f32) (r : Fin 128) (d : Fin 64) :
    k0_pay17 v (ix4 0 0 r d) = v (ix2 r ⟨192 + d, by omega⟩) * Ideal.ofBits .f32 0x3E38AA3B#32 := by
  unfold k0_pay17
  pointwise

theorem piece_3 (v : FVec Ideal S128x2176 .f32) (x : S1x1x128x64.Idx) : (k0_pay17 v) x = scaled v (r0_11.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_3]
  unfold scaled
  refine congrArg (fun i => v i * Ideal.ofBits .f32 0x3E38AA3B#32) ?_
  funext a; apply Fin.ext
  match a with
  | ⟨0, _⟩ => show r.val = 0 + 1 * r.val; omega
  | ⟨1, _⟩ => show 192 + d.val = (3 + 1 * 0) * 64 + (0 + 1 * d.val); omega

theorem head_4 (v : FVec Ideal S128x2176 .f32) (r : Fin 128) (d : Fin 64) :
    k0_pay18 v (ix4 0 0 r d) = v (ix2 r ⟨256 + d, by omega⟩) * Ideal.ofBits .f32 0x3E38AA3B#32 := by
  unfold k0_pay18
  pointwise

theorem piece_4 (v : FVec Ideal S128x2176 .f32) (x : S1x1x128x64.Idx) : (k0_pay18 v) x = scaled v (r0_12.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_4]
  unfold scaled
  refine congrArg (fun i => v i * Ideal.ofBits .f32 0x3E38AA3B#32) ?_
  funext a; apply Fin.ext
  match a with
  | ⟨0, _⟩ => show r.val = 0 + 1 * r.val; omega
  | ⟨1, _⟩ => show 256 + d.val = (4 + 1 * 0) * 64 + (0 + 1 * d.val); omega

theorem head_5 (v : FVec Ideal S128x2176 .f32) (r : Fin 128) (d : Fin 64) :
    k0_pay20 (k0_pay19 v) (ix4 0 0 r d) = v (ix2 r ⟨320 + d, by omega⟩) * Ideal.ofBits .f32 0x3E38AA3B#32 := by
  unfold k0_pay20 k0_pay19
  pointwise

theorem piece_5 (v : FVec Ideal S128x2176 .f32) (x : S1x1x128x64.Idx) : (k0_pay20 (k0_pay19 v)) x = scaled v (r0_13.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_5]
  unfold scaled
  refine congrArg (fun i => v i * Ideal.ofBits .f32 0x3E38AA3B#32) ?_
  funext a; apply Fin.ext
  match a with
  | ⟨0, _⟩ => show r.val = 0 + 1 * r.val; omega
  | ⟨1, _⟩ => show 320 + d.val = (5 + 1 * 0) * 64 + (0 + 1 * d.val); omega

theorem head_6 (v : FVec Ideal S128x2176 .f32) (r : Fin 128) (d : Fin 64) :
    k0_pay21 v (ix4 0 0 r d) = v (ix2 r ⟨384 + d, by omega⟩) * Ideal.ofBits .f32 0x3E38AA3B#32 := by
  unfold k0_pay21
  pointwise

theorem piece_6 (v : FVec Ideal S128x2176 .f32) (x : S1x1x128x64.Idx) : (k0_pay21 v) x = scaled v (r0_14.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_6]
  unfold scaled
  refine congrArg (fun i => v i * Ideal.ofBits .f32 0x3E38AA3B#32) ?_
  funext a; apply Fin.ext
  match a with
  | ⟨0, _⟩ => show r.val = 0 + 1 * r.val; omega
  | ⟨1, _⟩ => show 384 + d.val = (6 + 1 * 0) * 64 + (0 + 1 * d.val); omega

theorem head_7 (v : FVec Ideal S128x2176 .f32) (r : Fin 128) (d : Fin 64) :
    k0_pay22 v (ix4 0 0 r d) = v (ix2 r ⟨448 + d, by omega⟩) * Ideal.ofBits .f32 0x3E38AA3B#32 := by
  unfold k0_pay22
  pointwise

theorem piece_7 (v : FVec Ideal S128x2176 .f32) (x : S1x1x128x64.Idx) : (k0_pay22 v) x = scaled v (r0_15.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_7]
  unfold scaled
  refine congrArg (fun i => v i * Ideal.ofBits .f32 0x3E38AA3B#32) ?_
  funext a; apply Fin.ext
  match a with
  | ⟨0, _⟩ => show r.val = 0 + 1 * r.val; omega
  | ⟨1, _⟩ => show 448 + d.val = (7 + 1 * 0) * 64 + (0 + 1 * d.val); omega

theorem head_8 (v : FVec Ideal S128x2176 .f32) (r : Fin 128) (d : Fin 64) :
    k0_pay23 v (ix4 0 0 r d) = v (ix2 r ⟨512 + d, by omega⟩) * Ideal.ofBits .f32 0x3E38AA3B#32 := by
  unfold k0_pay23
  pointwise

theorem piece_8 (v : FVec Ideal S128x2176 .f32) (x : S1x1x128x64.Idx) : (k0_pay23 v) x = scaled v (r0_16.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_8]
  unfold scaled
  refine congrArg (fun i => v i * Ideal.ofBits .f32 0x3E38AA3B#32) ?_
  funext a; apply Fin.ext
  match a with
  | ⟨0, _⟩ => show r.val = 0 + 1 * r.val; omega
  | ⟨1, _⟩ => show 512 + d.val = (8 + 1 * 0) * 64 + (0 + 1 * d.val); omega

theorem head_9 (v : FVec Ideal S128x2176 .f32) (r : Fin 128) (d : Fin 64) :
    k0_pay25 (k0_pay24 v) (ix4 0 0 r d) = v (ix2 r ⟨576 + d, by omega⟩) * Ideal.ofBits .f32 0x3E38AA3B#32 := by
  unfold k0_pay25 k0_pay24
  pointwise

theorem piece_9 (v : FVec Ideal S128x2176 .f32) (x : S1x1x128x64.Idx) : (k0_pay25 (k0_pay24 v)) x = scaled v (r0_17.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_9]
  unfold scaled
  refine congrArg (fun i => v i * Ideal.ofBits .f32 0x3E38AA3B#32) ?_
  funext a; apply Fin.ext
  match a with
  | ⟨0, _⟩ => show r.val = 0 + 1 * r.val; omega
  | ⟨1, _⟩ => show 576 + d.val = (9 + 1 * 0) * 64 + (0 + 1 * d.val); omega

theorem head_10 (v : FVec Ideal S128x2176 .f32) (r : Fin 128) (d : Fin 64) :
    k0_pay26 v (ix4 0 0 r d) = v (ix2 r ⟨640 + d, by omega⟩) * Ideal.ofBits .f32 0x3E38AA3B#32 := by
  unfold k0_pay26
  pointwise

theorem piece_10 (v : FVec Ideal S128x2176 .f32) (x : S1x1x128x64.Idx) : (k0_pay26 v) x = scaled v (r0_18.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_10]
  unfold scaled
  refine congrArg (fun i => v i * Ideal.ofBits .f32 0x3E38AA3B#32) ?_
  funext a; apply Fin.ext
  match a with
  | ⟨0, _⟩ => show r.val = 0 + 1 * r.val; omega
  | ⟨1, _⟩ => show 640 + d.val = (10 + 1 * 0) * 64 + (0 + 1 * d.val); omega

theorem head_11 (v : FVec Ideal S128x2176 .f32) (r : Fin 128) (d : Fin 64) :
    k0_pay27 v (ix4 0 0 r d) = v (ix2 r ⟨704 + d, by omega⟩) * Ideal.ofBits .f32 0x3E38AA3B#32 := by
  unfold k0_pay27
  pointwise

theorem piece_11 (v : FVec Ideal S128x2176 .f32) (x : S1x1x128x64.Idx) : (k0_pay27 v) x = scaled v (r0_19.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_11]
  unfold scaled
  refine congrArg (fun i => v i * Ideal.ofBits .f32 0x3E38AA3B#32) ?_
  funext a; apply Fin.ext
  match a with
  | ⟨0, _⟩ => show r.val = 0 + 1 * r.val; omega
  | ⟨1, _⟩ => show 704 + d.val = (11 + 1 * 0) * 64 + (0 + 1 * d.val); omega

theorem head_12 (v : FVec Ideal S128x2176 .f32) (r : Fin 128) (d : Fin 64) :
    k0_pay28 v (ix4 0 0 r d) = v (ix2 r ⟨768 + d, by omega⟩) * Ideal.ofBits .f32 0x3E38AA3B#32 := by
  unfold k0_pay28
  pointwise

theorem piece_12 (v : FVec Ideal S128x2176 .f32) (x : S1x1x128x64.Idx) : (k0_pay28 v) x = scaled v (r0_20.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_12]
  unfold scaled
  refine congrArg (fun i => v i * Ideal.ofBits .f32 0x3E38AA3B#32) ?_
  funext a; apply Fin.ext
  match a with
  | ⟨0, _⟩ => show r.val = 0 + 1 * r.val; omega
  | ⟨1, _⟩ => show 768 + d.val = (12 + 1 * 0) * 64 + (0 + 1 * d.val); omega

theorem head_13 (v : FVec Ideal S128x2176 .f32) (r : Fin 128) (d : Fin 64) :
    k0_pay29 v (ix4 0 0 r d) = v (ix2 r ⟨832 + d, by omega⟩) * Ideal.ofBits .f32 0x3E38AA3B#32 := by
  unfold k0_pay29
  pointwise

theorem piece_13 (v : FVec Ideal S128x2176 .f32) (x : S1x1x128x64.Idx) : (k0_pay29 v) x = scaled v (r0_21.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_13]
  unfold scaled
  refine congrArg (fun i => v i * Ideal.ofBits .f32 0x3E38AA3B#32) ?_
  funext a; apply Fin.ext
  match a with
  | ⟨0, _⟩ => show r.val = 0 + 1 * r.val; omega
  | ⟨1, _⟩ => show 832 + d.val = (13 + 1 * 0) * 64 + (0 + 1 * d.val); omega

theorem head_14 (v : FVec Ideal S128x2176 .f32) (r : Fin 128) (d : Fin 64) :
    k0_pay31 (k0_pay30 v) (ix4 0 0 r d) = v (ix2 r ⟨896 + d, by omega⟩) * Ideal.ofBits .f32 0x3E38AA3B#32 := by
  unfold k0_pay31 k0_pay30
  pointwise

theorem piece_14 (v : FVec Ideal S128x2176 .f32) (x : S1x1x128x64.Idx) : (k0_pay31 (k0_pay30 v)) x = scaled v (r0_22.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_14]
  unfold scaled
  refine congrArg (fun i => v i * Ideal.ofBits .f32 0x3E38AA3B#32) ?_
  funext a; apply Fin.ext
  match a with
  | ⟨0, _⟩ => show r.val = 0 + 1 * r.val; omega
  | ⟨1, _⟩ => show 896 + d.val = (14 + 1 * 0) * 64 + (0 + 1 * d.val); omega

theorem head_15 (v : FVec Ideal S128x2176 .f32) (r : Fin 128) (d : Fin 64) :
    k0_pay32 v (ix4 0 0 r d) = v (ix2 r ⟨960 + d, by omega⟩) * Ideal.ofBits .f32 0x3E38AA3B#32 := by
  unfold k0_pay32
  pointwise

theorem piece_15 (v : FVec Ideal S128x2176 .f32) (x : S1x1x128x64.Idx) : (k0_pay32 v) x = scaled v (r0_23.emb x) := by
  obtain ⟨z, z', r, d, rfl⟩ : ∃ z z' r d, x = (ix4 z z' r d : S1x1x128x64.Idx) := ⟨x 0, x 1, x 2, x 3, by funext a; match a with | ⟨0, _⟩ => rfl | ⟨1, _⟩ => rfl | ⟨2, _⟩ => rfl | ⟨3, _⟩ => rfl⟩
  obtain rfl : z = 0 := Subsingleton.elim _ _
  obtain rfl : z' = 0 := Subsingleton.elim _ _
  rw [head_15]
  unfold scaled
  refine congrArg (fun i => v i * Ideal.ofBits .f32 0x3E38AA3B#32) ?_
  funext a; apply Fin.ext
  match a with
  | ⟨0, _⟩ => show r.val = 0 + 1 * r.val; omega
  | ⟨1, _⟩ => show 960 + d.val = (15 + 1 * 0) * 64 + (0 + 1 * d.val); omega

/-- The sixteen heads' stores together. -/
theorem canon9 (v : FVec Ideal S128x2176 .f32) (y : S1x16x128x64.Idx) :
    (View.canon [⟨r0_23, k0_pay32 v⟩, ⟨r0_22, k0_pay31 (k0_pay30 v)⟩, ⟨r0_21, k0_pay29 v⟩, ⟨r0_20, k0_pay28 v⟩, ⟨r0_19, k0_pay27 v⟩, ⟨r0_18, k0_pay26 v⟩, ⟨r0_17, k0_pay25 (k0_pay24 v)⟩, ⟨r0_16, k0_pay23 v⟩, ⟨r0_15, k0_pay22 v⟩, ⟨r0_14, k0_pay21 v⟩, ⟨r0_13, k0_pay20 (k0_pay19 v)⟩, ⟨r0_12, k0_pay18 v⟩, ⟨r0_11, k0_pay17 v⟩, ⟨r0_10, k0_pay16 v⟩, ⟨r0_9, k0_pay15 v⟩, ⟨r0_8, k0_pay14 (k0_pay13 v)⟩] : Vec Ideal S1x16x128x64 .bf16) y = scaled v y := by
  refine View.canon_apply_of_pieces (Val := Elt Ideal) (scaled v) _ ?_ y (cover0_9 _ _ _ _ _ _ _ _ _ _ _ _ _ _ _ _ y)
  intro pc hpc
  rcases List.mem_cons.mp hpc with rfl | hpc
  · exact fun x => piece_15 v x
  rcases List.mem_cons.mp hpc with rfl | hpc
  · exact fun x => piece_14 v x
  rcases List.mem_cons.mp hpc with rfl | hpc
  · exact fun x => piece_13 v x
  rcases List.mem_cons.mp hpc with rfl | hpc
  · exact fun x => piece_12 v x
  rcases List.mem_cons.mp hpc with rfl | hpc
  · exact fun x => piece_11 v x
  rcases List.mem_cons.mp hpc with rfl | hpc
  · exact fun x => piece_10 v x
  rcases List.mem_cons.mp hpc with rfl | hpc
  · exact fun x => piece_9 v x
  rcases List.mem_cons.mp hpc with rfl | hpc
  · exact fun x => piece_8 v x
  rcases List.mem_cons.mp hpc with rfl | hpc
  · exact fun x => piece_7 v x
  rcases List.mem_cons.mp hpc with rfl | hpc
  · exact fun x => piece_6 v x
  rcases List.mem_cons.mp hpc with rfl | hpc
  · exact fun x => piece_5 v x
  rcases List.mem_cons.mp hpc with rfl | hpc
  · exact fun x => piece_4 v x
  rcases List.mem_cons.mp hpc with rfl | hpc
  · exact fun x => piece_3 v x
  rcases List.mem_cons.mp hpc with rfl | hpc
  · exact fun x => piece_2 v x
  rcases List.mem_cons.mp hpc with rfl | hpc
  · exact fun x => piece_1 v x
  rcases List.mem_cons.mp hpc with rfl | hpc
  · exact fun x => piece_0 v x
  nomatch hpc

/-! The blocks the body leaves. -/

variable (x : Vec Ideal S1x128x1024 .f32) (sh sc : Vec Ideal S1x128x1024 .f32) (g : Vec Ideal S1x1024 .f32) (w : Vec Ideal S1024x2176 .bf16)

theorem out5_apply (e : Fin 256) (r : Fin 128) :
    out0_5 x sh sc g w (ix3 0 e r) = k0_pay3 x g sc sh w (ix2 r ⟨e.val + 1024, by omega⟩) := by
  unfold_out out0_5
  rw [ld_0, ld_1, ld_0, ld_0, ld_2]
  refine (Value.canon5_eq x g sc sh w _).trans ?_
  refine congrArg (k0_pay3 x g sc sh w) ?_
  funext a
  match a with | ⟨0, _⟩ => rfl | ⟨1, _⟩ => rfl

theorem out6_apply (e : Fin 256) (r : Fin 128) :
    out0_6 x sh sc g w (ix3 0 e r) = k0_pay3 x g sc sh w (ix2 r ⟨e.val + 1280, by omega⟩) := by
  unfold_out out0_6
  rw [ld_0, ld_1, ld_0, ld_0, ld_2]
  refine (Value.canon6_eq x g sc sh w _).trans ?_
  refine congrArg (k0_pay3 x g sc sh w) ?_
  funext a
  match a with | ⟨0, _⟩ => rfl | ⟨1, _⟩ => rfl

theorem out7_apply (e : Fin 64) (r : Fin 128) :
    out0_7 x sh sc g w (ix3 0 e r) = k0_pay3 x g sc sh w (ix2 r ⟨e.val + 2048, by omega⟩) := by
  unfold_out out0_7
  rw [ld_0, ld_1, ld_0, ld_0, ld_2]
  refine (Value.canon7_eq x g sc sh w _).trans ?_
  refine congrArg (k0_pay3 x g sc sh w) ?_
  funext a
  match a with | ⟨0, _⟩ => rfl | ⟨1, _⟩ => rfl

theorem out8_apply (e : Fin 8) (r : Fin 128) :
    out0_8 x sh sc g w (ix3 0 e r) = k0_pay3 x g sc sh w (ix2 r ⟨e.val + 2112, by omega⟩) * Ideal.ofBits .f32 0x3D3504F3#32 := by
  unfold_out out0_8
  rw [ld_0, ld_1, ld_0, ld_0, ld_2]
  refine (Value.canon8_eq x g sc sh w _).trans ?_
  refine congrArg (fun i => k0_pay3 x g sc sh w i * Ideal.ofBits .f32 0x3D3504F3#32) ?_
  funext a
  match a with | ⟨0, _⟩ => rfl | ⟨1, _⟩ => rfl

theorem out9_apply (h : Fin 16) (r : Fin 128) (d : Fin 64) :
    out0_9 x sh sc g w (ix4 0 h r d) = k0_pay3 x g sc sh w (ix2 r ⟨h.val * 64 + d.val, by omega⟩) * Ideal.ofBits .f32 0x3E38AA3B#32 := by
  unfold_out out0_9
  rw [ld_0, ld_1, ld_0, ld_0, ld_2]
  exact canon9 (k0_pay3 x g sc sh w) _

theorem out10_apply (h : Fin 8) (r : Fin 128) (d : Fin 64) :
    out0_10 x sh sc g w (ix4 0 h r d) = k0_pay3 x g sc sh w (ix2 r ⟨h.val * 64 + d.val + 1536, by omega⟩) := by
  unfold_out out0_10
  rw [ld_0, ld_1, ld_0, ld_0, ld_2]
  refine (Value.canon10_eq x g sc sh w _).trans ?_
  refine congrArg (k0_pay3 x g sc sh w) ?_
  funext a
  match a with | ⟨0, _⟩ => rfl | ⟨1, _⟩ => rfl

end Cert.SampleProjectRow

end
-- ==== Proof.SampleProjectArray.lean ====
/-
  The sample's projections: the kernel's result arrays after the run, each as one function of the argument arrays.
-/
module

public import proofs.«01_k».proof.Proof.SampleShape
public import proofs.«01_k».proof.Proof.SampleProjectRow
public import Idealize.ShloMosaic.Lib.Pipeline.Value

@[expose] public section

set_option maxRecDepth 16384

noncomputable section

namespace Cert.SampleProjectArray

open Idealize.ShloMosaic Idealize.ShloMosaic.TcCoe Cert.SampleProjectIdeal Cert.SampleProjectIdeal.Gen Cert.Row Cert.SampleShape

variable (m : (ℓ : Loc nD τ sig) → Buf (Elt Ideal) ℓ) (c : Dev nD)

theorem idx0 : ∀ t : Fin cfg0.N, win0_0.index t (0 : Fin 3) = 0 ∧ win0_0.index t (1 : Fin 3) = 0 ∧ win0_0.index t (2 : Fin 3) = 0 :=
  (by decide +kernel : ∀ t : Fin grid0.N, _)

theorem emb0 (t : Fin cfg0.N) (z : Fin 1) (r : Fin 128) (d : Fin 1024) :
    ((cfg0.win 0).blk t).view.emb (ix3 z r d : S1x128x1024.Idx) = (ix3 z r d : S1x128x1024.Idx) := by
  obtain ⟨e0, e1, e2⟩ := idx0 t
  funext a; apply Fin.ext
  match a with
  | ⟨0, _⟩ => show win0_0.index t (0 : Fin 3) * 1 + 1 * z.val = z.val; omega
  | ⟨1, _⟩ => show win0_0.index t (1 : Fin 3) * 128 + 1 * r.val = r.val; omega
  | ⟨2, _⟩ => show win0_0.index t (2 : Fin 3) * 1024 + 1 * d.val = d.val; omega

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem emb1 (t : Fin cfg0.N) (z : Fin 1) (r : Fin 128) (d : Fin 1024) :
    ((cfg0.win 1).blk t).view.emb (ix3 z r d : S1x128x1024.Idx) = (ix3 z r d : S1x128x1024.Idx) := by
  obtain ⟨e0, e1, e2⟩ := idx1 t
  funext a; apply Fin.ext
  match a with
  | ⟨0, _⟩ => show win0_1.index t (0 : Fin 3) * 1 + 1 * z.val = z.val; omega
  | ⟨1, _⟩ => show win0_1.index t (1 : Fin 3) * 128 + 1 * r.val = r.val; omega
  | ⟨2, _⟩ => show win0_1.index t (2 : Fin 3) * 1024 + 1 * d.val = d.val; omega

theorem idx2 : ∀ t : Fin cfg0.N, win0_2.index t (0 : Fin 3) = 0 ∧ win0_2.index t (1 : Fin 3) = 0 ∧ win0_2.index t (2 : Fin 3) = 0 :=
  (by decide +kernel : ∀ t : Fin grid0.N, _)

theorem emb2 (t : Fin cfg0.N) (z : Fin 1) (r : Fin 128) (d : Fin 1024) :
    ((cfg0.win 2).blk t).view.emb (ix3 z r d : S1x128x1024.Idx) = (ix3 z r d : S1x128x1024.Idx) := by
  obtain ⟨e0, e1, e2⟩ := idx2 t
  funext a; apply Fin.ext
  match a with
  | ⟨0, _⟩ => show win0_2.index t (0 : Fin 3) * 1 + 1 * z.val = z.val; omega
  | ⟨1, _⟩ => show win0_2.index t (1 : Fin 3) * 128 + 1 * r.val = r.val; omega
  | ⟨2, _⟩ => show win0_2.index t (2 : Fin 3) * 1024 + 1 * d.val = d.val; omega

theorem idx3 : ∀ t : Fin cfg0.N, win0_3.index t (0 : Fin 2) = 0 ∧ win0_3.index t (1 : Fin 2) = 0 :=
  (by decide +kernel : ∀ t : Fin grid0.N, _)

theorem emb3 (t : Fin cfg0.N) (r : Fin 1) (d : Fin 1024) :
    ((cfg0.win 3).blk t).view.emb (ix2 r d : S1x1024.Idx) = (ix2 r d : S1x1024.Idx) := by
  obtain ⟨e0, e1⟩ := idx3 t
  funext a; apply Fin.ext
  match a with
  | ⟨0, _⟩ => show win0_3.index t (0 : Fin 2) * 1 + 1 * r.val = r.val; omega
  | ⟨1, _⟩ => show win0_3.index t (1 : Fin 2) * 1024 + 1 * d.val = d.val; omega

theorem idx4 : ∀ t : Fin cfg0.N, win0_4.index t (0 : Fin 2) = 0 ∧ win0_4.index t (1 : Fin 2) = 0 :=
  (by decide +kernel : ∀ t : Fin grid0.N, _)

theorem emb4 (t : Fin cfg0.N) (r : Fin 1024) (d : Fin 2176) :
    ((cfg0.win 4).blk t).view.emb (ix2 r d : S1024x2176.Idx) = (ix2 r d : S1024x2176.Idx) := by
  obtain ⟨e0, e1⟩ := idx4 t
  funext a; apply Fin.ext
  match a with
  | ⟨0, _⟩ => show win0_4.index t (0 : Fin 2) * 1024 + 1 * r.val = r.val; omega
  | ⟨1, _⟩ => show win0_4.index t (1 : Fin 2) * 2176 + 1 * d.val = d.val; omega

/-! The arrays the host code prepares. -/

/-- The weights' columns made up to a whole number of lanes. -/
def padded (w : FVec Ideal S1024x2120 .f32) : FVec Ideal S1024x2176 .f32 :=
  pad S1024x2176 ![0, 0] ![0, 56] ![0, 0] w (constant S_ .f32 0x00000000#32) pads_S1024x2120_S1024x2176_000_0560 h_S_

theorem padded_apply (w : FVec Ideal S1024x2120 .f32) (k : Fin 1024) (f : Fin 2120) : padded w (ix2 k ⟨f.val, by omega⟩) = w (ix2 k f) := by
  unfold padded
  pointwise

theorem main_v1_eq : V m c main_v1 = truncf (F := Ideal) .bf16 (padded (m ((c : Thread nD τ).loc main_arg4))) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem main_v6_eq : V m c main_v6 = shapeCast S1x128x1024 (m ((c : Thread nD τ).loc main_arg0)) shapeCasts_S32x4x1024_S1x128x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem main_v3_eq : V m c main_v3 = shapeCast S1x128x1024 (broadcastInDim S32x4x1024 ![0, 1, 2] bcast_S32x1x1024_S32x4x1024_0_1_2 (m ((c : Thread nD τ).loc main_arg1))) shapeCasts_S32x4x1024_S1x128x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem main_v5_eq : V m c main_v5 = shapeCast S1x128x1024 (broadcastInDim S32x4x1024 ![0, 1, 2] bcast_S32x1x1024_S32x4x1024_0_1_2 (m ((c : Thread nD τ).loc main_arg2))) shapeCasts_S32x4x1024_S1x128x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

theorem main_v7_eq : V m c main_v7 = shapeCast S1x1024 (m ((c : Thread nD τ).loc main_arg3)) shapeCasts_S1024_S1x1024 := by
  show StableHlo.after (List.flatten [hostOps0, hostOps0_1, hostOps0_2]) _ _ = _
  simp only [hostOps0, hostOps0_1, hostOps0_2, List.flatten_cons, List.flatten_nil, List.append_nil, List.cons_append, List.nil_append]
  after_results
  rfl

/-! A block's entries are the arguments'. -/

theorem blk0 (t : Fin cfg0.N) (r : Fin 128) (d : Fin 1024) :
    (iblk m c 0 t : S1x128x1024.Idx → EReal) (ix3 0 r d) = (m ((c : Thread nD τ).loc main_arg0) : S32x4x1024.Idx → EReal) (ix3 (grp r) (pos r) d) := by
  show V m c main_v6 (((cfg0.win 0).blk t).view.emb (ix3 0 r d : S1x128x1024.Idx)) = _
  rw [emb0, main_v6_eq]
  exact rows_apply (e := .f32) _ _ r d

theorem blk1 (t : Fin cfg0.N) (r : Fin 128) (d : Fin 1024) :
    (iblk m c 1 t : S1x128x1024.Idx → EReal) (ix3 0 r d) = (m ((c : Thread nD τ).loc main_arg1) : S32x1x1024.Idx → EReal) (ix3 (grp r) 0 d) := by
  show V m c main_v3 (((cfg0.win 1).blk t).view.emb (ix3 0 r d : S1x128x1024.Idx)) = _
  rw [emb1, main_v3_eq]
  exact mod_apply _ r d

theorem blk2 (t : Fin cfg0.N) (r : Fin 128) (d : Fin 1024) :
    (iblk m c 2 t : S1x128x1024.Idx → EReal) (ix3 0 r d) = (m ((c : Thread nD τ).loc main_arg2) : S32x1x1024.Idx → EReal) (ix3 (grp r) 0 d) := by
  show V m c main_v5 (((cfg0.win 2).blk t).view.emb (ix3 0 r d : S1x128x1024.Idx)) = _
  rw [emb2, main_v5_eq]
  exact mod_apply _ r d

theorem blk3 (t : Fin cfg0.N) (d : Fin 1024) :
    (iblk m c 3 t : S1x1024.Idx → EReal) (ix2 0 d) = (m ((c : Thread nD τ).loc main_arg3) : S1024.Idx → EReal) (ix1 d) := by
  show V m c main_v7 (((cfg0.win 3).blk t).view.emb (ix2 0 d : S1x1024.Idx)) = _
  rw [emb3, main_v7_eq]
  pointwise

theorem blk4 (t : Fin cfg0.N) (k : Fin 1024) (f : Fin 2120) :
    (iblk m c 4 t : S1024x2176.Idx → EReal) (ix2 k ⟨f.val, by omega⟩) = (m ((c : Thread nD τ).loc main_arg4) : S1024x2120.Idx → EReal) (ix2 k f) := by
  show V m c main_v1 (((cfg0.win 4).blk t).view.emb (ix2 k ⟨f.val, by omega⟩ : S1024x2176.Idx)) = _
  rw [emb4, main_v1_eq]
  exact padded_apply _ k f

/-- A column of the product of a normalised row with the joined weights. -/
def column (s : Fin 128) (f : Fin 2120) : EReal :=
  ∑ d, Row.hidden (fun k => (m ((c : Thread nD τ).loc main_arg0) : S32x4x1024.Idx → EReal) (ix3 (grp s) (pos s) k)) (fun k => (m ((c : Thread nD τ).loc main_arg3) : S1024.Idx → EReal) (ix1 k))
    (fun k => (m ((c : Thread nD τ).loc main_arg2) : S32x1x1024.Idx → EReal) (ix3 (grp s) 0 k)) (fun k => (m ((c : Thread nD τ).loc main_arg1) : S32x1x1024.Idx → EReal) (ix3 (grp s) 0 k)) d
    * (m ((c : Thread nD τ).loc main_arg4) : S1024x2120.Idx → EReal) (ix2 d f)

theorem column_eq (t : Fin cfg0.N) (r : Fin 128) (f : Fin 2120) :
    k0_pay3 (iblk m c 0 t) (iblk m c 3 t) (iblk m c 2 t) (iblk m c 1 t) (iblk m c 4 t) (ix2 r (⟨f.val, by omega⟩ : Fin 2176)) = column m c r f := by
  rw [SampleProjectRow.pay3_apply]
  simp only [blk0, blk1, blk2, blk3, blk4]
  rfl

/-! The keys. -/

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

theorem emb5 (t : Fin cfg0.N) (z : Fin 1) (r : Fin 256) (d : Fin 128) :
    ((cfg0.win 5).blk t).view.emb (ix3 z r d : S1x256x128.Idx) = (ix3 z r d : S1x256x128.Idx) := by
  obtain ⟨e0, e1, e2⟩ := idx5 t
  funext a; apply Fin.ext
  match a with
  | ⟨0, _⟩ => show win0_5.index t (0 : Fin 3) * 1 + 1 * z.val = z.val; omega
  | ⟨1, _⟩ => show win0_5.index t (1 : Fin 3) * 256 + 1 * r.val = r.val; omega
  | ⟨2, _⟩ => show win0_5.index t (2 : Fin 3) * 128 + 1 * d.val = d.val; omega

def result5 : S1x256x128.Idx → EReal := fun i =>
  column m c (i 2) ⟨(i 1).val + 1024, by have h : (i 1).val < 256 := (i 1).isLt; omega⟩

theorem flushed_eq5 (t : Fin cfg0.N) :
    (dats m 0 c).flushed 5 t = ((cfg0.win 5).blk t).view.read (Elt Ideal) (result5 m c) := by
  rw [Value.flushed5]
  funext j
  obtain ⟨z, e, r, rfl⟩ : ∃ z e r, j = (ix3 z e r : S1x256x128.Idx) := ⟨j 0, j 1, j 2, by funext a; match a with | ⟨0, _⟩ => rfl | ⟨1, _⟩ => rfl | ⟨2, _⟩ => rfl⟩
  obtain rfl : z = 0 := Subsingleton.elim _ _
  show Gen.out0_5 (iblk m c 0 t) (iblk m c 1 t) (iblk m c 2 t) (iblk m c 3 t) (iblk m c 4 t) (ix3 0 e r)
    = result5 m c (((cfg0.win 5).blk t).view.emb (ix3 0 e r : S1x256x128.Idx))
  rw [emb5, SampleProjectRow.out5_apply]
  exact column_eq m c t r ⟨e.val + 1024, by omega⟩

/-- The grid's one point's block is the whole array. -/
theorem covered5 (i : S1x256x128.Idx) :
    ∃ t : Fin cfg0.N, (cfg0.win 5).flush t = true ∧ i ∈ ((cfg0.win 5).blk t).view.set := by
  let t : Fin cfg0.N := ⟨0, by rw [show cfg0.N = 1 from N_0]; omega⟩
  refine ⟨t, flush0_5 t, ?_⟩
  have e : (ix3 (i 0) (i 1) (i 2) : S1x256x128.Idx) = i := by
    funext a; match a with | ⟨0, _⟩ => rfl | ⟨1, _⟩ => rfl | ⟨2, _⟩ => rfl
  exact (congrArg (· ∈ ((cfg0.win 5).blk t).view.set) ((emb5 t (i 0) (i 1) (i 2)).trans e)).mp
    (((cfg0.win 5).blk t).view.emb_mem_set _)

/-- The result array after the run. -/
theorem final5 : (dats m 0 c).arrAt 5 cfg0.N = result5 m c :=
  (dats m 0 c).arrAt_eq_of_cover 5 (result5 m c) (fun t _ => flushed_eq5 m c t) covered5

/-! The values. -/

theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)

theorem emb6 (t : Fin cfg0.N) (z : Fin 1) (r : Fin 256) (d : Fin 128) :
    ((cfg0.win 6).blk t).view.emb (ix3 z r d : S1x256x128.Idx) = (ix3 z r d : S1x256x128.Idx) := by
  obtain ⟨e0, e1, e2⟩ := idx6 t
  funext a; apply Fin.ext
  match a with
  | ⟨0, _⟩ => show win0_6.index t (0 : Fin 3) * 1 + 1 * z.val = z.val; omega
  | ⟨1, _⟩ => show win0_6.index t (1 : Fin 3) * 256 + 1 * r.val = r.val; omega
  | ⟨2, _⟩ => show win0_6.index t (2 : Fin 3) * 128 + 1 * d.val = d.val; omega

def result6 : S1x256x128.Idx → EReal := fun i =>
  column m c (i 2) ⟨(i 1).val + 1280, by have h : (i 1).val < 256 := (i 1).isLt; omega⟩

theorem flushed_eq6 (t : Fin cfg0.N) :
    (dats m 0 c).flushed 6 t = ((cfg0.win 6).blk t).view.read (Elt Ideal) (result6 m c) := by
  rw [Value.flushed6]
  funext j
  obtain ⟨z, e, r, rfl⟩ : ∃ z e r, j = (ix3 z e r : S1x256x128.Idx) := ⟨j 0, j 1, j 2, by funext a; match a with | ⟨0, _⟩ => rfl | ⟨1, _⟩ => rfl | ⟨2, _⟩ => rfl⟩
  obtain rfl : z = 0 := Subsingleton.elim _ _
  show Gen.out0_6 (iblk m c 0 t) (iblk m c 1 t) (iblk m c 2 t) (iblk m c 3 t) (iblk m c 4 t) (ix3 0 e r)
    = result6 m c (((cfg0.win 6).blk t).view.emb (ix3 0 e r : S1x256x128.Idx))
  rw [emb6, SampleProjectRow.out6_apply]
  exact column_eq m c t r ⟨e.val + 1280, by omega⟩

/-- The grid's one point's block is the whole array. -/
theorem covered6 (i : S1x256x128.Idx) :
    ∃ t : Fin cfg0.N, (cfg0.win 6).flush t = true ∧ i ∈ ((cfg0.win 6).blk t).view.set := by
  let t : Fin cfg0.N := ⟨0, by rw [show cfg0.N = 1 from N_0]; omega⟩
  refine ⟨t, flush0_6 t, ?_⟩
  have e : (ix3 (i 0) (i 1) (i 2) : S1x256x128.Idx) = i := by
    funext a; match a with | ⟨0, _⟩ => rfl | ⟨1, _⟩ => rfl | ⟨2, _⟩ => rfl
  exact (congrArg (· ∈ ((cfg0.win 6).blk t).view.set) ((emb6 t (i 0) (i 1) (i 2)).trans e)).mp
    (((cfg0.win 6).blk t).view.emb_mem_set _)

/-- The result array after the run. -/
theorem final6 : (dats m 0 c).arrAt 6 cfg0.N = result6 m c :=
  (dats m 0 c).arrAt_eq_of_cover 6 (result6 m c) (fun t _ => flushed_eq6 m c t) covered6

/-! The indexer's keys. -/

theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)

theorem emb7 (t : Fin cfg0.N) (z : Fin 1) (r : Fin 64) (d : Fin 128) :
    ((cfg0.win 7).blk t).view.emb (ix3 z r d : S1x64x128.Idx) = (ix3 z r d : S1x64x128.Idx) := by
  obtain ⟨e0, e1, e2⟩ := idx7 t
  funext a; apply Fin.ext
  match a with
  | ⟨0, _⟩ => show win0_7.index t (0 : Fin 3) * 1 + 1 * z.val = z.val; omega
  | ⟨1, _⟩ => show win0_7.index t (1 : Fin 3) * 64 + 1 * r.val = r.val; omega
  | ⟨2, _⟩ => show win0_7.index t (2 : Fin 3) * 128 + 1 * d.val = d.val; omega

def result7 : S1x64x128.Idx → EReal := fun i =>
  column m c (i 2) ⟨(i 1).val + 2048, by have h : (i 1).val < 64 := (i 1).isLt; omega⟩

theorem flushed_eq7 (t : Fin cfg0.N) :
    (dats m 0 c).flushed 7 t = ((cfg0.win 7).blk t).view.read (Elt Ideal) (result7 m c) := by
  rw [Value.flushed7]
  funext j
  obtain ⟨z, e, r, rfl⟩ : ∃ z e r, j = (ix3 z e r : S1x64x128.Idx) := ⟨j 0, j 1, j 2, by funext a; match a with | ⟨0, _⟩ => rfl | ⟨1, _⟩ => rfl | ⟨2, _⟩ => rfl⟩
  obtain rfl : z = 0 := Subsingleton.elim _ _
  show Gen.out0_7 (iblk m c 0 t) (iblk m c 1 t) (iblk m c 2 t) (iblk m c 3 t) (iblk m c 4 t) (ix3 0 e r)
    = result7 m c (((cfg0.win 7).blk t).view.emb (ix3 0 e r : S1x64x128.Idx))
  rw [emb7, SampleProjectRow.out7_apply]
  exact column_eq m c t r ⟨e.val + 2048, by omega⟩

/-- The grid's one point's block is the whole array. -/
theorem covered7 (i : S1x64x128.Idx) :
    ∃ t : Fin cfg0.N, (cfg0.win 7).flush t = true ∧ i ∈ ((cfg0.win 7).blk t).view.set := by
  let t : Fin cfg0.N := ⟨0, by rw [show cfg0.N = 1 from N_0]; omega⟩
  refine ⟨t, flush0_7 t, ?_⟩
  have e : (ix3 (i 0) (i 1) (i 2) : S1x64x128.Idx) = i := by
    funext a; match a with | ⟨0, _⟩ => rfl | ⟨1, _⟩ => rfl | ⟨2, _⟩ => rfl
  exact (congrArg (· ∈ ((cfg0.win 7).blk t).view.set) ((emb7 t (i 0) (i 1) (i 2)).trans e)).mp
    (((cfg0.win 7).blk t).view.emb_mem_set _)

/-- The result array after the run. -/
theorem final7 : (dats m 0 c).arrAt 7 cfg0.N = result7 m c :=
  (dats m 0 c).arrAt_eq_of_cover 7 (result7 m c) (fun t _ => flushed_eq7 m c t) covered7

/-! The indexer's weights. -/

theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)

theorem emb8 (t : Fin cfg0.N) (z : Fin 1) (r : Fin 8) (d : Fin 128) :
    ((cfg0.win 8).blk t).view.emb (ix3 z r d : S1x8x128.Idx) = (ix3 z r d : S1x8x128.Idx) := by
  obtain ⟨e0, e1, e2⟩ := idx8 t
  funext a; apply Fin.ext
  match a with
  | ⟨0, _⟩ => show win0_8.index t (0 : Fin 3) * 1 + 1 * z.val = z.val; omega
  | ⟨1, _⟩ => show win0_8.index t (1 : Fin 3) * 8 + 1 * r.val = r.val; omega
  | ⟨2, _⟩ => show win0_8.index t (2 : Fin 3) * 128 + 1 * d.val = d.val; omega

def result8 : S1x8x128.Idx → EReal := fun i =>
  column m c (i 2) ⟨(i 1).val + 2112, by have h : (i 1).val < 8 := (i 1).isLt; omega⟩ * Ideal.ofBits .f32 0x3D3504F3#32

theorem flushed_eq8 (t : Fin cfg0.N) :
    (dats m 0 c).flushed 8 t = ((cfg0.win 8).blk t).view.read (Elt Ideal) (result8 m c) := by
  rw [Value.flushed8]
  funext j
  obtain ⟨z, e, r, rfl⟩ : ∃ z e r, j = (ix3 z e r : S1x8x128.Idx) := ⟨j 0, j 1, j 2, by funext a; match a with | ⟨0, _⟩ => rfl | ⟨1, _⟩ => rfl | ⟨2, _⟩ => rfl⟩
  obtain rfl : z = 0 := Subsingleton.elim _ _
  show Gen.out0_8 (iblk m c 0 t) (iblk m c 1 t) (iblk m c 2 t) (iblk m c 3 t) (iblk m c 4 t) (ix3 0 e r)
    = result8 m c (((cfg0.win 8).blk t).view.emb (ix3 0 e r : S1x8x128.Idx))
  rw [emb8, SampleProjectRow.out8_apply]
  exact congrArg (· * Ideal.ofBits .f32 0x3D3504F3#32) (column_eq m c t r ⟨e.val + 2112, by omega⟩)

/-- The grid's one point's block is the whole array. -/
theorem covered8 (i : S1x8x128.Idx) :
    ∃ t : Fin cfg0.N, (cfg0.win 8).flush t = true ∧ i ∈ ((cfg0.win 8).blk t).view.set := by
  let t : Fin cfg0.N := ⟨0, by rw [show cfg0.N = 1 from N_0]; omega⟩
  refine ⟨t, flush0_8 t, ?_⟩
  have e : (ix3 (i 0) (i 1) (i 2) : S1x8x128.Idx) = i := by
    funext a; match a with | ⟨0, _⟩ => rfl | ⟨1, _⟩ => rfl | ⟨2, _⟩ => rfl
  exact (congrArg (· ∈ ((cfg0.win 8).blk t).view.set) ((emb8 t (i 0) (i 1) (i 2)).trans e)).mp
    (((cfg0.win 8).blk t).view.emb_mem_set _)

/-- The result array after the run. -/
theorem final8 : (dats m 0 c).arrAt 8 cfg0.N = result8 m c :=
  (dats m 0 c).arrAt_eq_of_cover 8 (result8 m c) (fun t _ => flushed_eq8 m c t) covered8

/-! The queries. -/

theorem idx9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

theorem emb9 (t : Fin cfg0.N) (z : Fin 1) (r : Fin 16) (d : Fin 128) (e : Fin 64) :
    ((cfg0.win 9).blk t).view.emb (ix4 z r d e : S1x16x128x64.Idx) = (ix4 z r d e : S1x16x128x64.Idx) := by
  obtain ⟨e0, e1, e2, e3⟩ := idx9 t
  funext a; apply Fin.ext
  match a with
  | ⟨0, _⟩ => show win0_9.index t (0 : Fin 4) * 1 + 1 * z.val = z.val; omega
  | ⟨1, _⟩ => show win0_9.index t (1 : Fin 4) * 16 + 1 * r.val = r.val; omega
  | ⟨2, _⟩ => show win0_9.index t (2 : Fin 4) * 128 + 1 * d.val = d.val; omega
  | ⟨3, _⟩ => show win0_9.index t (3 : Fin 4) * 64 + 1 * e.val = e.val; omega

def result9 : S1x16x128x64.Idx → EReal := fun i =>
  column m c (i 2) ⟨(i 1).val * 64 + (i 3).val, by have h : (i 1).val < 16 := (i 1).isLt; have h' : (i 3).val < 64 := (i 3).isLt; omega⟩ * Ideal.ofBits .f32 0x3E38AA3B#32

theorem flushed_eq9 (t : Fin cfg0.N) :
    (dats m 0 c).flushed 9 t = ((cfg0.win 9).blk t).view.read (Elt Ideal) (result9 m c) := by
  rw [Value.flushed9]
  funext j
  obtain ⟨z, h, r, d, rfl⟩ : ∃ z h r d, j = (ix4 z h r d : S1x16x128x64.Idx) := ⟨j 0, j 1, j 2, j 3, by funext a; match a with | ⟨0, _⟩ => rfl | ⟨1, _⟩ => rfl | ⟨2, _⟩ => rfl | ⟨3, _⟩ => rfl⟩
  obtain rfl : z = 0 := Subsingleton.elim _ _
  show Gen.out0_9 (iblk m c 0 t) (iblk m c 1 t) (iblk m c 2 t) (iblk m c 3 t) (iblk m c 4 t) (ix4 0 h r d)
    = result9 m c (((cfg0.win 9).blk t).view.emb (ix4 0 h r d : S1x16x128x64.Idx))
  rw [emb9, SampleProjectRow.out9_apply]
  exact congrArg (· * Ideal.ofBits .f32 0x3E38AA3B#32) (column_eq m c t r ⟨h.val * 64 + d.val, by omega⟩)

/-- The grid's one point's block is the whole array. -/
theorem covered9 (i : S1x16x128x64.Idx) :
    ∃ t : Fin cfg0.N, (cfg0.win 9).flush t = true ∧ i ∈ ((cfg0.win 9).blk t).view.set := by
  let t : Fin cfg0.N := ⟨0, by rw [show cfg0.N = 1 from N_0]; omega⟩
  refine ⟨t, flush0_9 t, ?_⟩
  have e : (ix4 (i 0) (i 1) (i 2) (i 3) : S1x16x128x64.Idx) = i := by
    funext a; match a with | ⟨0, _⟩ => rfl | ⟨1, _⟩ => rfl | ⟨2, _⟩ => rfl | ⟨3, _⟩ => rfl
  exact (congrArg (· ∈ ((cfg0.win 9).blk t).view.set) ((emb9 t (i 0) (i 1) (i 2) (i 3)).trans e)).mp
    (((cfg0.win 9).blk t).view.emb_mem_set _)

/-- The result array after the run. -/
theorem final9 : (dats m 0 c).arrAt 9 cfg0.N = result9 m c :=
  (dats m 0 c).arrAt_eq_of_cover 9 (result9 m c) (fun t _ => flushed_eq9 m c t) covered9

/-! The indexer's queries. -/

theorem idx10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

theorem emb10 (t : Fin cfg0.N) (z : Fin 1) (r : Fin 8) (d : Fin 128) (e : Fin 64) :
    ((cfg0.win 10).blk t).view.emb (ix4 z r d e : S1x8x128x64.Idx) = (ix4 z r d e : S1x8x128x64.Idx) := by
  obtain ⟨e0, e1, e2, e3⟩ := idx10 t
  funext a; apply Fin.ext
  match a with
  | ⟨0, _⟩ => show win0_10.index t (0 : Fin 4) * 1 + 1 * z.val = z.val; omega
  | ⟨1, _⟩ => show win0_10.index t (1 : Fin 4) * 8 + 1 * r.val = r.val; omega
  | ⟨2, _⟩ => show win0_10.index t (2 : Fin 4) * 128 + 1 * d.val = d.val; omega
  | ⟨3, _⟩ => show win0_10.index t (3 : Fin 4) * 64 + 1 * e.val = e.val; omega

def result10 : S1x8x128x64.Idx → EReal := fun i =>
  column m c (i 2) ⟨(i 1).val * 64 + (i 3).val + 1536, by have h : (i 1).val < 8 := (i 1).isLt; have h' : (i 3).val < 64 := (i 3).isLt; omega⟩

theorem flushed_eq10 (t : Fin cfg0.N) :
    (dats m 0 c).flushed 10 t = ((cfg0.win 10).blk t).view.read (Elt Ideal) (result10 m c) := by
  rw [Value.flushed10]
  funext j
  obtain ⟨z, h, r, d, rfl⟩ : ∃ z h r d, j = (ix4 z h r d : S1x8x128x64.Idx) := ⟨j 0, j 1, j 2, j 3, by funext a; match a with | ⟨0, _⟩ => rfl | ⟨1, _⟩ => rfl | ⟨2, _⟩ => rfl | ⟨3, _⟩ => rfl⟩
  obtain rfl : z = 0 := Subsingleton.elim _ _
  show Gen.out0_10 (iblk m c 0 t) (iblk m c 1 t) (iblk m c 2 t) (iblk m c 3 t) (iblk m c 4 t) (ix4 0 h r d)
    = result10 m c (((cfg0.win 10).blk t).view.emb (ix4 0 h r d : S1x8x128x64.Idx))
  rw [emb10, SampleProjectRow.out10_apply]
  exact column_eq m c t r ⟨h.val * 64 + d.val + 1536, by omega⟩

/-- The grid's one point's block is the whole array. -/
theorem covered10 (i : S1x8x128x64.Idx) :
    ∃ t : Fin cfg0.N, (cfg0.win 10).flush t = true ∧ i ∈ ((cfg0.win 10).blk t).view.set := by
  let t : Fin cfg0.N := ⟨0, by rw [show cfg0.N = 1 from N_0]; omega⟩
  refine ⟨t, flush0_10 t, ?_⟩
  have e : (ix4 (i 0) (i 1) (i 2) (i 3) : S1x8x128x64.Idx) = i := by
    funext a; match a with | ⟨0, _⟩ => rfl | ⟨1, _⟩ => rfl | ⟨2, _⟩ => rfl | ⟨3, _⟩ => rfl
  exact (congrArg (· ∈ ((cfg0.win 10).blk t).view.set) ((emb10 t (i 0) (i 1) (i 2) (i 3)).trans e)).mp
    (((cfg0.win 10).blk t).view.emb_mem_set _)

/-- The result array after the run. -/
theorem final10 : (dats m 0 c).arrAt 10 cfg0.N = result10 m c :=
  (dats m 0 c).arrAt_eq_of_cover 10 (result10 m c) (fun t _ => flushed_eq10 m c t) covered10

end Cert.SampleProjectArray

end
-- ==== Proof.SampleProjectRefRow.lean ====
/-
  The sample's projections' reference, read at an index: columns of the same product, of the argument arrays' rows.
-/
module

public import proofs.«01_k».proof.Proof.SampleRefRow
public import proofs.«01_k».proof.Proof.SampleShape
public import proofs.«01_k».proof.Proof.Gen.SampleProjectReferenceIdeal.Run

@[expose] public section

set_option maxRecDepth 16384

noncomputable section

namespace Cert.SampleProjectRefRow

open Idealize.ShloMosaic Cert.SampleProjectReferenceIdeal Cert.SampleProjectReferenceIdeal.Gen Cert.Row Cert.SampleShape Finset

/-- The product of the normalised rows with the joined weights. -/
def prodR (h : FVec Ideal S32x4x1024 .f32) (w : FVec Ideal S1024x2120 .f32) : FVec Ideal S32x4x2120 .f32 :=
  Host.dotGeneral dot_S32x4x1024_S1024x2120_S32x4x2120_2_0_01_1_n_n none h w

def keysR (p : FVec Ideal S32x4x2120 .f32) : FVec Ideal S1x256x128 .f32 :=
  transpose S1x256x128 [0, 2, 1] (shapeCast S1x128x256 (shapeCast S32x4x4x64 (extractStridedSlice S32x4x256 ![0, 0, 1024] p slices_S32x4x2120_S32x4x256_0_0_1024)
    shapeCasts_S32x4x256_S32x4x4x64) shapeCasts_S32x4x4x64_S1x128x256) transposes_S1x128x256_S1x256x128_0_2_1

def valuesR (p : FVec Ideal S32x4x2120 .f32) : FVec Ideal S1x256x128 .f32 :=
  transpose S1x256x128 [0, 2, 1] (shapeCast S1x128x256 (shapeCast S32x4x4x64 (extractStridedSlice S32x4x256 ![0, 0, 1280] p slices_S32x4x2120_S32x4x256_0_0_1280)
    shapeCasts_S32x4x256_S32x4x4x64) shapeCasts_S32x4x4x64_S1x128x256) transposes_S1x128x256_S1x256x128_0_2_1

def ikeysR (p : FVec Ideal S32x4x2120 .f32) : FVec Ideal S1x64x128 .f32 :=
  transpose S1x64x128 [0, 2, 1] (shapeCast S1x128x64 (extractStridedSlice S32x4x64 ![0, 0, 2048] p slices_S32x4x2120_S32x4x64_0_0_2048) shapeCasts_S32x4x64_S1x128x64) transposes_S1x128x64_S1x64x128_0_2_1

def iweightsR (p : FVec Ideal S32x4x2120 .f32) : FVec Ideal S1x8x128 .f32 :=
  transpose S1x8x128 [0, 2, 1] (shapeCast S1x128x8 (mulf (extractStridedSlice S32x4x8 ![0, 0, 2112] p slices_S32x4x2120_S32x4x8_0_0_2112)
    (broadcastInDim S32x4x8 ![] bcast_S_S32x4x8 (constant S_ .f32 0x3D3504F3#32))) shapeCasts_S32x4x8_S1x128x8) transposes_S1x128x8_S1x8x128_0_2_1

def queriesR (p : FVec Ideal S32x4x2120 .f32) : FVec Ideal S1x16x128x64 .bf16 :=
  truncf .bf16 (transpose S1x16x128x64 [0, 2, 1, 3] (mulf (shapeCast S1x128x16x64 (shapeCast S32x4x4x4x64 (extractStridedSlice S32x4x1024 ![0, 0, 0] p slices_S32x4x2120_S32x4x1024_0_0_0)
    shapeCasts_S32x4x1024_S32x4x4x4x64) shapeCasts_S32x4x4x4x64_S1x128x16x64)
    (broadcastInDim S1x128x16x64 ![] bcast_S_S1x128x16x64 (constant S_ .f32 0x3E38AA3B#32))) transposes_S1x128x16x64_S1x16x128x64_0_2_1_3) bitsLt_bf16_f32

def iqueriesR (p : FVec Ideal S32x4x2120 .f32) : FVec Ideal S1x8x128x64 .bf16 :=
  truncf .bf16 (transpose S1x8x128x64 [0, 2, 1, 3] (shapeCast S1x128x8x64 (shapeCast S32x4x8x64 (extractStridedSlice S32x4x512 ![0, 0, 1536] p slices_S32x4x2120_S32x4x512_0_0_1536)
    shapeCasts_S32x4x512_S32x4x8x64) shapeCasts_S32x4x8x64_S1x128x8x64) transposes_S1x128x8x64_S1x8x128x64_0_2_1_3) bitsLt_bf16_f32

theorem prodR_apply (h : FVec Ideal S32x4x1024 .f32) (w : FVec Ideal S1024x2120 .f32) (b : Fin 32) (s : Fin 4) (f : Fin 2120) :
    prodR h w (ix3 b s f) = ∑ k, h (ix3 b s k) * w (ix2 k f) := by
  unfold prodR
  pointwise

theorem keysR_apply (p : FVec Ideal S32x4x2120 .f32) (e : Fin 256) (s : Fin 128) :
    keysR p (ix3 0 e s) = p (ix3 (grp s) (pos s) ⟨e.val + 1024, by omega⟩) := by
  unfold keysR
  pointwise
  exact congrArg (fun i => p (ix3 (grp s) (pos s) i)) (Fin.ext (Nat.add_comm _ _))

theorem valuesR_apply (p : FVec Ideal S32x4x2120 .f32) (e : Fin 256) (s : Fin 128) :
    valuesR p (ix3 0 e s) = p (ix3 (grp s) (pos s) ⟨e.val + 1280, by omega⟩) := by
  unfold valuesR
  pointwise
  exact congrArg (fun i => p (ix3 (grp s) (pos s) i)) (Fin.ext (Nat.add_comm _ _))

theorem ikeysR_apply (p : FVec Ideal S32x4x2120 .f32) (e : Fin 64) (s : Fin 128) :
    ikeysR p (ix3 0 e s) = p (ix3 (grp s) (pos s) ⟨e.val + 2048, by omega⟩) := by
  unfold ikeysR
  pointwise
  exact congrArg (fun i => p (ix3 (grp s) (pos s) i)) (Fin.ext (Nat.add_comm _ _))

theorem iweightsR_apply (p : FVec Ideal S32x4x2120 .f32) (e : Fin 8) (s : Fin 128) :
    iweightsR p (ix3 0 e s) = p (ix3 (grp s) (pos s) ⟨e.val + 2112, by omega⟩) * Ideal.ofBits .f32 0x3D3504F3#32 := by
  unfold iweightsR
  pointwise
  exact congrArg (fun i => p (ix3 (grp s) (pos s) i) * Ideal.ofBits .f32 0x3D3504F3#32) (Fin.ext (Nat.add_comm _ _))

theorem queriesR_apply (p : FVec Ideal S32x4x2120 .f32) (h : Fin 16) (s : Fin 128) (d : Fin 64) :
    queriesR p (ix4 0 h s d) = p (ix3 (grp s) (pos s) ⟨h.val * 64 + d.val, by omega⟩) * Ideal.ofBits .f32 0x3E38AA3B#32 := by
  unfold queriesR
  pointwise
  rfl

theorem iqueriesR_apply (p : FVec Ideal S32x4x2120 .f32) (h : Fin 8) (s : Fin 128) (d : Fin 64) :
    iqueriesR p (ix4 0 h s d) = p (ix3 (grp s) (pos s) ⟨h.val * 64 + d.val + 1536, by omega⟩) := by
  unfold iqueriesR
  pointwise
  exact congrArg (fun i => p (ix3 (grp s) (pos s) i)) (Fin.ext (Nat.add_comm _ _))

end Cert.SampleProjectRefRow

end
-- ==== Proof.SampleProjectAgree.lean ====
/-
  The sample's projections' kernel leaves what their reference leaves: the claim on values.
-/
module

public import proofs.«01_k».proof.Defs
public import proofs.«01_k».proof.Proof.SampleProjectArray
public import proofs.«01_k».proof.Proof.SampleProjectRefRow

@[expose] public section

set_option maxRecDepth 16384

noncomputable section

namespace Cert.SampleProjectAgree

open Idealize.ShloMosaic Idealize.ShloMosaic.TcCoe Idealize.SL.Sem

variable (m : (ℓ : Loc Cert.SampleProjectIdeal.nD Cert.SampleProjectIdeal.τ Cert.SampleProjectIdeal.sig) → Buf (Elt Ideal) ℓ)
  (m' : (ℓ : Loc Cert.SampleProjectReferenceIdeal.nD Cert.SampleProjectReferenceIdeal.τ Cert.SampleProjectReferenceIdeal.sig) → Buf (Elt Ideal) ℓ) (c : Dev Cert.SampleProjectIdeal.nD)

/-- The two programs' arguments agree on a device. -/
abbrev Same : Prop :=
      m' ((c.tc : Thread Cert.SampleProjectReferenceIdeal.nD Cert.SampleProjectReferenceIdeal.τ).loc Cert.SampleProjectReferenceIdeal.main_arg0) = m ((c.tc : Thread Cert.SampleProjectIdeal.nD Cert.SampleProjectIdeal.τ).loc Cert.SampleProjectIdeal.main_arg0)
      ∧ m' ((c.tc : Thread Cert.SampleProjectReferenceIdeal.nD Cert.SampleProjectReferenceIdeal.τ).loc Cert.SampleProjectReferenceIdeal.main_arg1) = m ((c.tc : Thread Cert.SampleProjectIdeal.nD Cert.SampleProjectIdeal.τ).loc Cert.SampleProjectIdeal.main_arg1)
      ∧ m' ((c.tc : Thread Cert.SampleProjectReferenceIdeal.nD Cert.SampleProjectReferenceIdeal.τ).loc Cert.SampleProjectReferenceIdeal.main_arg2) = m ((c.tc : Thread Cert.SampleProjectIdeal.nD Cert.SampleProjectIdeal.τ).loc Cert.SampleProjectIdeal.main_arg2)
      ∧ m' ((c.tc : Thread Cert.SampleProjectReferenceIdeal.nD Cert.SampleProjectReferenceIdeal.τ).loc Cert.SampleProjectReferenceIdeal.main_arg3) = m ((c.tc : Thread Cert.SampleProjectIdeal.nD Cert.SampleProjectIdeal.τ).loc Cert.SampleProjectIdeal.main_arg3)
      ∧ m' ((c.tc : Thread Cert.SampleProjectReferenceIdeal.nD Cert.SampleProjectReferenceIdeal.τ).loc Cert.SampleProjectReferenceIdeal.main_arg4) = m ((c.tc : Thread Cert.SampleProjectIdeal.nD Cert.SampleProjectIdeal.τ).loc Cert.SampleProjectIdeal.main_arg4)

/-- The reference's product. -/
def product : FVec Ideal Cert.SampleProjectReferenceIdeal.S32x4x2120 .f32 :=
  Cert.SampleProjectRefRow.prodR (Cert.SampleRefRow.hidR (m' ((c.tc : Thread Cert.SampleProjectReferenceIdeal.nD Cert.SampleProjectReferenceIdeal.τ).loc Cert.SampleProjectReferenceIdeal.main_arg0)) (m' ((c.tc : Thread Cert.SampleProjectReferenceIdeal.nD Cert.SampleProjectReferenceIdeal.τ).loc Cert.SampleProjectReferenceIdeal.main_arg3))
    (m' ((c.tc : Thread Cert.SampleProjectReferenceIdeal.nD Cert.SampleProjectReferenceIdeal.τ).loc Cert.SampleProjectReferenceIdeal.main_arg2)) (m' ((c.tc : Thread Cert.SampleProjectReferenceIdeal.nD Cert.SampleProjectReferenceIdeal.τ).loc Cert.SampleProjectReferenceIdeal.main_arg1))) (m' ((c.tc : Thread Cert.SampleProjectReferenceIdeal.nD Cert.SampleProjectReferenceIdeal.τ).loc Cert.SampleProjectReferenceIdeal.main_arg4))

/-- With the arguments agreeing, a column of the reference's product is the kernel's. -/
theorem product_eq (h : Same m m' c) (s : Fin 128) (f : Fin 2120) :
    product m' c (ix3 (Cert.SampleShape.grp s) (Cert.SampleShape.pos s) f) = Cert.SampleProjectArray.column m c s f := by
  obtain ⟨h0, h1, h2, h3, h4⟩ := h
  unfold product
  rw [h0, h1, h2, h3, h4, Cert.SampleProjectRefRow.prodR_apply]
  simp only [Cert.SampleRefRow.hidR_apply]
  rfl

theorem keys_eq (h : Same m m' c) : Cert.SampleProjectRefRow.keysR (product m' c) = Cert.SampleProjectArray.result5 m c := by
  funext i
  obtain ⟨b, e, s, rfl⟩ : ∃ b e s, i = (ix3 b e s : Cert.SampleProjectIdeal.S1x256x128.Idx) := ⟨i 0, i 1, i 2, by funext a; match a with | ⟨0, _⟩ => rfl | ⟨1, _⟩ => rfl | ⟨2, _⟩ => rfl⟩
  obtain rfl : b = 0 := Subsingleton.elim _ _
  rw [Cert.SampleProjectRefRow.keysR_apply, product_eq m m' c h]
  rfl

theorem values_eq (h : Same m m' c) : Cert.SampleProjectRefRow.valuesR (product m' c) = Cert.SampleProjectArray.result6 m c := by
  funext i
  obtain ⟨b, e, s, rfl⟩ : ∃ b e s, i = (ix3 b e s : Cert.SampleProjectIdeal.S1x256x128.Idx) := ⟨i 0, i 1, i 2, by funext a; match a with | ⟨0, _⟩ => rfl | ⟨1, _⟩ => rfl | ⟨2, _⟩ => rfl⟩
  obtain rfl : b = 0 := Subsingleton.elim _ _
  rw [Cert.SampleProjectRefRow.valuesR_apply, product_eq m m' c h]
  rfl

theorem ikeys_eq (h : Same m m' c) : Cert.SampleProjectRefRow.ikeysR (product m' c) = Cert.SampleProjectArray.result7 m c := by
  funext i
  obtain ⟨b, e, s, rfl⟩ : ∃ b e s, i = (ix3 b e s : Cert.SampleProjectIdeal.S1x64x128.Idx) := ⟨i 0, i 1, i 2, by funext a; match a with | ⟨0, _⟩ => rfl | ⟨1, _⟩ => rfl | ⟨2, _⟩ => rfl⟩
  obtain rfl : b = 0 := Subsingleton.elim _ _
  rw [Cert.SampleProjectRefRow.ikeysR_apply, product_eq m m' c h]
  rfl

theorem iweights_eq (h : Same m m' c) : Cert.SampleProjectRefRow.iweightsR (product m' c) = Cert.SampleProjectArray.result8 m c := by
  funext i
  obtain ⟨b, e, s, rfl⟩ : ∃ b e s, i = (ix3 b e s : Cert.SampleProjectIdeal.S1x8x128.Idx) := ⟨i 0, i 1, i 2, by funext a; match a with | ⟨0, _⟩ => rfl | ⟨1, _⟩ => rfl | ⟨2, _⟩ => rfl⟩
  obtain rfl : b = 0 := Subsingleton.elim _ _
  rw [Cert.SampleProjectRefRow.iweightsR_apply, product_eq m m' c h]
  rfl

theorem queries_eq (h : Same m m' c) : Cert.SampleProjectRefRow.queriesR (product m' c) = Cert.SampleProjectArray.result9 m c := by
  funext i
  obtain ⟨b, a, s, d, rfl⟩ : ∃ b h s d, i = (ix4 b h s d : Cert.SampleProjectIdeal.S1x16x128x64.Idx) := ⟨i 0, i 1, i 2, i 3, by funext a; match a with | ⟨0, _⟩ => rfl | ⟨1, _⟩ => rfl | ⟨2, _⟩ => rfl | ⟨3, _⟩ => rfl⟩
  obtain rfl : b = 0 := Subsingleton.elim _ _
  rw [Cert.SampleProjectRefRow.queriesR_apply, product_eq m m' c h]
  rfl

theorem iqueries_eq (h : Same m m' c) : Cert.SampleProjectRefRow.iqueriesR (product m' c) = Cert.SampleProjectArray.result10 m c := by
  funext i
  obtain ⟨b, a, s, d, rfl⟩ : ∃ b h s d, i = (ix4 b h s d : Cert.SampleProjectIdeal.S1x8x128x64.Idx) := ⟨i 0, i 1, i 2, i 3, by funext a; match a with | ⟨0, _⟩ => rfl | ⟨1, _⟩ => rfl | ⟨2, _⟩ => rfl | ⟨3, _⟩ => rfl⟩
  obtain rfl : b = 0 := Subsingleton.elim _ _
  rw [Cert.SampleProjectRefRow.iqueriesR_apply, product_eq m m' c h]
  rfl

/-- Every run of the kernel and every run of the reference leave the same results. -/
theorem algebraic : Cert.algebraic_SampleProjectIdeal_SampleProjectReferenceIdeal := fun m g m' g' _ hag =>
  ⟨fun c => Cert.SampleProjectArray.result5 m c, fun c => Cert.SampleProjectArray.result6 m c, fun c => Cert.SampleProjectArray.result7 m c, fun c => Cert.SampleProjectArray.result8 m c, fun c => Cert.SampleProjectArray.result9 m c, fun c => Cert.SampleProjectArray.result10 m c,
    (θ_run _ _ _).mono (fun _ h c => ⟨
        (h c).1.trans (Cert.SampleProjectArray.final5 m c),
        (h c).2.1.trans (Cert.SampleProjectArray.final6 m c),
        (h c).2.2.1.trans (Cert.SampleProjectArray.final7 m c),
        (h c).2.2.2.1.trans (Cert.SampleProjectArray.final8 m c),
        (h c).2.2.2.2.1.trans (Cert.SampleProjectArray.final9 m c),
        (h c).2.2.2.2.2.1.trans (Cert.SampleProjectArray.final10 m c),
        (h c).2.2.2.2.2.2.2.2.2⟩) (Cert.SampleProjectIdeal.Value.run_blocks m g),
    (θ_run _ _ _).mono (fun _ h c => ⟨
        (h c).1.trans (keys_eq m m' c (hag c)),
        (h c).2.1.trans (values_eq m m' c (hag c)),
        (h c).2.2.1.trans (ikeys_eq m m' c (hag c)),
        (h c).2.2.2.1.trans (iweights_eq m m' c (hag c)),
        (h c).2.2.2.2.1.trans (queries_eq m m' c (hag c)),
        (h c).2.2.2.2.2.1.trans (iqueries_eq m m' c (hag c)),
        (h c).2.2.2.2.2.2⟩) (Cert.SampleProjectReferenceIdeal.Value.run m' g')⟩

end Cert.SampleProjectAgree

end
-- ==== Proof.SamplePoolRow.lean ====
/-
  The sample's pool call: the state block that a grid point writes back, read at a row.
-/
module

public import proofs.«01_k».proof.Proof.Row
public import proofs.«01_k».proof.Proof.Gen.SamplePoolIdeal.Value
public import Idealize.ShloMosaic.Lib.WholeRead
public import Idealize.ShloMosaic.Lib.WritesUnit

@[expose] public section

set_option maxRecDepth 16384

noncomputable section

namespace Cert.SamplePoolRow

open Idealize.ShloMosaic Idealize.ShloMosaic.TcCoe Cert.SamplePoolIdeal Cert.SamplePoolIdeal.Gen Cert.Row

theorem pay6_apply (x : Vec Ideal S1x16x1024 .f32) (r : Fin 16) (d : Fin 1024) : k0_pay6 x (ix2 r d) = x (ix3 0 r d) := by
  unfold k0_pay6
  pointwise

theorem pay7_apply (x : Vec Ideal S1x8x1024 .f32) (r : Fin 8) (d : Fin 1024) : k0_pay7 x (ix2 r d) = x (ix3 0 r d) := by
  unfold k0_pay7
  pointwise

theorem pay8_apply (x : Vec Ideal S1x8x1024 .f32) (g : Vec Ideal S1x1024 .f32) (sc sh : Vec Ideal S1x1x1024 .f32) (r : Fin 8) (d : Fin 1024) :
    k0_pay8 x g sc sh (ix2 r d)
      = Row.hidden (fun k => x (ix3 0 r k)) (fun k => g (ix2 0 k)) (fun k => sc (ix3 0 0 k)) (fun k => sh (ix3 0 0 k)) d := by
  rw [show (fun k => x (ix3 0 r k)) = fun k => k0_pay7 x (ix2 r k) from funext fun k => (pay7_apply x r k).symm]
  unfold k0_pay8 Row.hidden normed
  generalize k0_pay7 x = y
  pointwise

theorem pay9_apply (x : Vec Ideal S1x8x1024 .f32) (g : Vec Ideal S1x1024 .f32) (sc sh : Vec Ideal S1x1x1024 .f32) (r : Fin 8) (d : Fin 1024) :
    k0_pay9 x g sc sh (ix2 r d)
      = Row.hidden (fun k => x (ix3 0 r k)) (fun k => g (ix2 0 k)) (fun k => sc (ix3 0 0 k)) (fun k => sh (ix3 0 0 k)) d := by
  rw [← pay8_apply]
  unfold k0_pay9
  generalize k0_pay8 x g sc sh = y
  pointwise

theorem pay20_apply (x : Vec Ideal S15x1024 .f32) (s : Fin 15) (d : Fin 1024) : k0_pay20 x (ix3 0 s d) = x (ix2 s d) := by
  unfold k0_pay20
  pointwise

theorem zeros3 : (![0, 0, 0] : Fin 3 → ℕ) = fun _ => 0 := by decide
theorem zeros2 : (![0, 0] : Fin 2 → ℕ) = fun _ => 0 := by decide

/-- A load of a whole memref's every element reads what the memref holds. -/
theorem load_whole {sig : RefSig} {κ : Kind} {cs : Space} {s : Shape} {e : EltTy} {mr : Memref sig κ cs s e} (h : mr.IsWhole) (X : s.Idx → Elt Ideal e)
    {off : Fin s.rank → ℕ} (h0 : off = fun _ => 0) (inb : ∀ a, off a + s.size a ≤ s.size a) :
    View.readAt (Elt Ideal) mr.view (Rect.unit off s.size inb).toLoadRect (h.unread X) = X := by
  subst h0
  funext x
  rw [h.readAt_unread]
  exact congrArg X (by funext a; apply Fin.ext; show 0 + 1 * (x a).val = (x a).val; omega)

/-- Fifteen rows from row 13 on, of a scratch that holds its halo in rows 8 to 23 and the call's rows from 24 on. -/
theorem state_read {sig : RefSig} {κ : Kind} {cs : Space} (v : View sig κ cs S32x1024 .f32) (y : Vec Ideal S8x1024 .f32) (p : Vec Ideal S16x1024 .f32) (z : Vec Ideal S8x1024 .f32)
    (s : Fin 15) (d : Fin 1024) :
    (v.readCov [⟨Rect.unit ![24, 0] S8x1024.size inb_S32x1024_S8x1024_24_0, y⟩, ⟨Rect.unit ![8, 0] S16x1024.size inb_S32x1024_S16x1024_8_0, p⟩,
        ⟨Rect.unit ![0, 0] S8x1024.size inb_S32x1024_S8x1024_0_0, z⟩] (Rect.unit (s := S32x1024) ![13, 0] S15x1024.size inb_S32x1024_S15x1024_13_0).toLoadRect : Vec Ideal S15x1024 .f32) (ix2 s d)
      = if h : s.val < 11 then p (ix2 ⟨5 + s, by omega⟩ d) else y (ix2 ⟨s - 11, by omega⟩ d) := by
  show View.read (Elt Ideal) _ (View.writes _ _ _ _) ((Rect.unit (s := S32x1024) ![13, 0] S15x1024.size inb_S32x1024_S15x1024_13_0).emb (ix2 s d)) = _
  split
  · rename_i h
    refine (View.read_writes_cons_rows_of_not_mem (o := 24) (W := 8) (hoff := rfl) (hW := rfl) (h := .inl (by show 13 + 1 * s.val < 24; omega)) ..).trans ?_
    exact View.read_writes_cons_rows_of_mem (o := 8) (x := ix2 ⟨5 + s, by omega⟩ d) (hoff := rfl) (hx0 := by show 13 + 1 * s.val = 8 + (5 + s.val); omega)
      (hx1 := by show 0 + 1 * d.val = d.val; omega) ..
  · rename_i h
    exact View.read_writes_cons_rows_of_mem (o := 24) (x := ix2 ⟨s - 11, by omega⟩ d) (hoff := rfl) (hx0 := by show 13 + 1 * s.val = 24 + (s.val - 11); omega)
      (hx1 := by show 0 + 1 * d.val = d.val; omega) ..

/-- The state block the body leaves: a row of the prefix block, or from the twelfth on a normalised and modulated row of the call's own. -/
theorem out_apply (c : Dev nD) (i : grid0.Coords) (arg2 : Memref sig .tc .vmem S1x8x1024 .f32) (harg2 : arg2.IsWhole) (arg3 : Memref sig .tc .vmem S1x16x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x8x1024 .f32) (harg10 : arg10.IsWhole) (arg11 : Memref sig .tc .vmem S1x15x1024 .f32) (harg11 : arg11.IsWhole) (arg12 : Memref sig .tc .vmem S32x1024 .f32) (harg12 : arg12.IsWhole) (arg13 : Memref sig .tc .vmem S32x1024 .f32) (harg13 : arg13.IsWhole) (arg14 : Memref sig .tc .vmem S32x1024 .f32) (harg14 : arg14.IsWhole) (arg15 : Memref sig .tc .vmem S32x1024 .f32) (harg15 : arg15.IsWhole) (hc0 : cond0_0 i)
    (x0 : Vec Ideal S1x8x1024 .f32) (x1 : Vec Ideal S1x16x1024 .f32) (x2 : Vec Ideal S1x1x1024 .f32) (x3 : Vec Ideal S1x1x1024 .f32) (x4 : Vec Ideal S1x1x1024 .f32) (x5 : Vec Ideal S1x1024 .f32) (x6 : Vec Ideal S4x256x256 .bf16) (x7 : Vec Ideal S1x1024 .f32)
    (s : Fin 15) (d : Fin 1024) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 (ix3 0 s d)
      = if h : s.val < 11 then x1 (ix3 0 ⟨5 + s, by omega⟩ d)
        else Row.hidden (fun k => x0 (ix3 0 ⟨s - 11, by omega⟩ k)) (fun k => x5 (ix2 0 k)) (fun k => x3 (ix3 0 0 k)) (fun k => x2 (ix3 0 0 k)) d := by
  unfold out0_A_9 kernelRun0_A
  dsimp only
  unfold kernelRun0_A.sl.v134
  unfold kernelRun0_A.sl.HS0_3
  rw [load_whole (s := S1x8x1024) _ x0 zeros3, load_whole (s := S1x1024) _ x5 zeros2, load_whole (s := S1x1x1024) _ x3 zeros3, load_whole (s := S1x1x1024) _ x2 zeros3, load_whole (s := S1x16x1024) _ x1 zeros3]
  rw [View.read_writes_junk_eq_canon, View.canon_unit_zero zeros3, pay20_apply]
  refine (state_read _ _ _ _ s d).trans ?_
  simp only [pay6_apply, pay9_apply]

end Cert.SamplePoolRow

end
-- ==== Proof.SamplePoolArray.lean ====
/-
  The sample's pool call: the state array after the run, as one function of the argument arrays.
-/
module

public import proofs.«01_k».proof.Proof.SamplePoolRow
public import Idealize.ShloMosaic.Lib.KernelVsHost
public import Idealize.ShloMosaic.Lib.Pipeline.Value

@[expose] public section

set_option maxRecDepth 16384

noncomputable section

namespace Cert.SamplePoolArray

open Idealize.ShloMosaic Idealize.ShloMosaic.TcCoe Cert.SamplePoolIdeal Cert.SamplePoolIdeal.Gen Cert.Row

variable (m : (ℓ : Loc nD τ sig) → Buf (Elt Ideal) ℓ) (c : Dev nD)

/-- The sequence that a grid point works on. -/
def seqOf (t : Fin cfg0.N) : Fin 32 := ⟨t.val, lt_of_lt_of_eq t.isLt N_0⟩

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem emb0 (t : Fin cfg0.N) (r : Fin 8) (d : Fin 1024) :
    ((cfg0.win 0).blk t).view.emb (ix3 0 r d : S1x8x1024.Idx) = (ix3 (seqOf t) r d : S32x8x1024.Idx) := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 8 + 1 * r.val = r.val; omega
  | ⟨2, _⟩ => show win0_0.index t (2 : Fin 3) * 1024 + 1 * d.val = d.val; omega

theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)

theorem emb1 (t : Fin cfg0.N) (r : Fin 16) (d : Fin 1024) :
    ((cfg0.win 1).blk t).view.emb (ix3 0 r d : S1x16x1024.Idx) = (ix3 (seqOf t) r d : S32x16x1024.Idx) := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 16 + 1 * r.val = r.val; omega
  | ⟨2, _⟩ => show win0_1.index t (2 : Fin 3) * 1024 + 1 * d.val = d.val; omega

theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)

theorem emb2 (t : Fin cfg0.N) (r : Fin 1) (d : Fin 1024) :
    ((cfg0.win 2).blk t).view.emb (ix3 0 r d : S1x1x1024.Idx) = (ix3 (seqOf t) r d : S32x1x1024.Idx) := by
  obtain ⟨e0, e1, e2⟩ := idx2 t
  funext a; apply Fin.ext
  match a with
  | ⟨0, _⟩ => show win0_2.index t (0 : Fin 3) * 1 + 1 * 0 = t.val; omega
  | ⟨1, _⟩ => show win0_2.index t (1 : Fin 3) * 1 + 1 * r.val = r.val; omega
  | ⟨2, _⟩ => show win0_2.index t (2 : Fin 3) * 1024 + 1 * d.val = d.val; omega

theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

theorem emb3 (t : Fin cfg0.N) (r : Fin 1) (d : Fin 1024) :
    ((cfg0.win 3).blk t).view.emb (ix3 0 r d : S1x1x1024.Idx) = (ix3 (seqOf t) r d : S32x1x1024.Idx) := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 1 + 1 * r.val = r.val; omega
  | ⟨2, _⟩ => show win0_3.index t (2 : Fin 3) * 1024 + 1 * d.val = d.val; omega

theorem idx9 : ∀ t : Fin cfg0.N, win0_9.index t (0 : Fin 3) = t.val ∧ win0_9.index t (1 : Fin 3) = 0 ∧ win0_9.index t (2 : Fin 3) = 0 :=
  (by decide +kernel : ∀ t : Fin grid0.N, _)

theorem emb9 (t : Fin cfg0.N) (r : Fin 15) (d : Fin 1024) :
    ((cfg0.win 9).blk t).view.emb (ix3 0 r d : S1x15x1024.Idx) = (ix3 (seqOf t) r d : S32x15x1024.Idx) := by
  obtain ⟨e0, e1, e2⟩ := idx9 t
  funext a; apply Fin.ext
  match a with
  | ⟨0, _⟩ => show win0_9.index t (0 : Fin 3) * 1 + 1 * 0 = t.val; omega
  | ⟨1, _⟩ => show win0_9.index t (1 : Fin 3) * 15 + 1 * r.val = r.val; omega
  | ⟨2, _⟩ => show win0_9.index t (2 : Fin 3) * 1024 + 1 * d.val = d.val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (r : Fin 1) (d : Fin 1024) :
    ((cfg0.win 5).blk t).view.emb (ix2 r d : S1x1024.Idx) = (ix2 r d : S1x1024.Idx) := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1024 + 1 * d.val = d.val; omega

/-! The arrays the host code prepares. -/

theorem main_v1_eq : V m c main_v1 = pad S32x8x1024 ![0, 0, 0] ![0, 4, 0] ![0, 0, 0] (m ((c : Thread nD τ).loc main_arg0)) (constant (F := Ideal) S_ .f32 0x00000000#32)
    pads_S32x4x1024_S32x8x1024_000_040_000 h_S_ := by
  rfl

theorem main_v0_eq : V m c main_v0 = pad S32x16x1024 ![0, 1, 0] ![0, 0, 0] ![0, 0, 0] (m ((c : Thread nD τ).loc main_arg1)) (sitofp (F := Ideal) .f32 (constantI S_ 32 0#32))
    pads_S32x15x1024_S32x16x1024_000_100_000 h_S_ := by
  rfl

theorem main_v2_eq : V m c main_v2 = shapeCast S1x1024 (m ((c : Thread nD τ).loc main_arg5)) shapeCasts_S1024_S1x1024 := by
  rfl

/-! A block's entries are the arguments'. -/

theorem blk0 (t : Fin cfg0.N) (r : Fin 8) (h : r.val < 4) (d : Fin 1024) :
    (iblk m c 0 t : S1x8x1024.Idx → EReal) (ix3 0 r d) = (m ((c : Thread nD τ).loc main_arg0) : S32x4x1024.Idx → EReal) (ix3 (seqOf t) ⟨r, h⟩ d) := by
  show V m c main_v1 (((cfg0.win 0).blk t).view.emb (ix3 0 r d : S1x8x1024.Idx)) = _
  rw [emb0, main_v1_eq]
  refine pad_apply_of_inside _ _ _ _ _ _ _ _ _ fun a => ?_
  match a with
  | ⟨0, _⟩ => show t.val = 0 + t.val * (0 + 1); omega
  | ⟨1, _⟩ => show r.val = 0 + r.val * (0 + 1); omega
  | ⟨2, _⟩ => show d.val = 0 + d.val * (0 + 1); omega

theorem blk1 (t : Fin cfg0.N) (r : Fin 16) (k : Fin 15) (h : r.val = 1 + k.val) (d : Fin 1024) :
    (iblk m c 1 t : S1x16x1024.Idx → EReal) (ix3 0 r d) = (m ((c : Thread nD τ).loc main_arg1) : S32x15x1024.Idx → EReal) (ix3 (seqOf t) k d) := by
  show V m c main_v0 (((cfg0.win 1).blk t).view.emb (ix3 0 r d : S1x16x1024.Idx)) = _
  rw [emb1, main_v0_eq]
  refine pad_apply_of_inside _ _ _ _ _ _ _ _ _ fun a => ?_
  match a with
  | ⟨0, _⟩ => show t.val = 0 + t.val * (0 + 1); omega
  | ⟨1, _⟩ => show r.val = 1 + k.val * (0 + 1); omega
  | ⟨2, _⟩ => show d.val = 0 + d.val * (0 + 1); omega

theorem blk2 (t : Fin cfg0.N) (d : Fin 1024) :
    (iblk m c 2 t : S1x1x1024.Idx → EReal) (ix3 0 0 d) = (m ((c : Thread nD τ).loc main_arg2) : S32x1x1024.Idx → EReal) (ix3 (seqOf t) 0 d) := by
  show V m c main_arg2 (((cfg0.win 2).blk t).view.emb (ix3 0 0 d : S1x1x1024.Idx)) = _
  rw [emb2]; rfl

theorem blk3 (t : Fin cfg0.N) (d : Fin 1024) :
    (iblk m c 3 t : S1x1x1024.Idx → EReal) (ix3 0 0 d) = (m ((c : Thread nD τ).loc main_arg3) : S32x1x1024.Idx → EReal) (ix3 (seqOf t) 0 d) := by
  show V m c main_arg3 (((cfg0.win 3).blk t).view.emb (ix3 0 0 d : S1x1x1024.Idx)) = _
  rw [emb3]; rfl

theorem blk5 (t : Fin cfg0.N) (d : Fin 1024) :
    (iblk m c 5 t : S1x1024.Idx → EReal) (ix2 0 d) = (m ((c : Thread nD τ).loc main_arg5) : S1024.Idx → EReal) (ix1 d) := by
  show V m c main_v2 (((cfg0.win 5).blk t).view.emb (ix2 0 d : S1x1024.Idx)) = _
  rw [emb5, main_v2_eq]
  pointwise

/-- A state row: a row of the prefix, or from the twelfth on a normalised and modulated row of the call's own. -/
def stateRow (b : Fin 32) (s : Fin 15) (d : Fin 1024) : EReal :=
  if h : s.val < 11 then (m ((c : Thread nD τ).loc main_arg1) : S32x15x1024.Idx → EReal) (ix3 b ⟨4 + s, by omega⟩ d)
  else Row.hidden (fun k => (m ((c : Thread nD τ).loc main_arg0) : S32x4x1024.Idx → EReal) (ix3 b ⟨s - 11, by omega⟩ k))
    (fun k => (m ((c : Thread nD τ).loc main_arg5) : S1024.Idx → EReal) (ix1 k))
    (fun k => (m ((c : Thread nD τ).loc main_arg3) : S32x1x1024.Idx → EReal) (ix3 b 0 k)) (fun k => (m ((c : Thread nD τ).loc main_arg2) : S32x1x1024.Idx → EReal) (ix3 b 0 k)) d

/-- The state array as one function of the arguments. -/
def result : S32x15x1024.Idx → EReal := fun i => stateRow m c (i 0) (i 1) (i 2)

/-- What a grid point writes back is that array's block. -/
theorem flushed_eq (t : Fin cfg0.N) :
    (dats m 0 c).flushed 9 t = ((cfg0.win 9).blk t).view.read (Elt Ideal) (result m c) := by
  rw [Value.flushed9_A]
  funext j
  obtain ⟨z, r, d, rfl⟩ : ∃ z r d, j = (ix3 z r d : S1x15x1024.Idx) := ⟨j 0, j 1, j 2, by funext a; match a with | ⟨0, _⟩ => rfl | ⟨1, _⟩ => rfl | ⟨2, _⟩ => rfl⟩
  obtain rfl : z = 0 := Subsingleton.elim _ _
  show out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) scM0_1 (Memref.isWhole_whole _) scM0_2 (Memref.isWhole_whole _) scM0_3 (Memref.isWhole_whole _) (hcond0_0 t) (iblk m c 0 t) (iblk m c 1 t) (iblk m c 2 t) (iblk m c 3 t) (iblk m c 4 t) (iblk m c 5 t) (iblk m c 6 t) (iblk m c 7 t) (ix3 0 r d)
    = result m c (((cfg0.win 9).blk t).view.emb (ix3 0 r d : S1x15x1024.Idx))
  rw [emb9, SamplePoolRow.out_apply]
  show _ = stateRow m c (seqOf t) r d
  unfold stateRow
  split
  · exact blk1 m c t _ _ (by show 5 + r.val = 1 + (4 + r.val); omega) d
  · simp only [blk2, blk3, blk5]
    refine congrArg (fun X => Row.hidden X _ _ _ d) (funext fun k => ?_)
    exact blk0 m c t _ (by show r.val - 11 < 4; omega) k

/-- Every element of the array is in some point's block. -/
theorem covered (i : S32x15x1024.Idx) :
    ∃ t : Fin cfg0.N, (cfg0.win 9).flush t = true ∧ i ∈ ((cfg0.win 9).blk t).view.set := by
  let t : Fin cfg0.N := ⟨(i 0).val, by rw [show cfg0.N = 32 from N_0]; exact (i 0).isLt⟩
  refine ⟨t, flush0_9 t, ?_⟩
  have e : (ix3 (seqOf t) (i 1) (i 2) : S32x15x1024.Idx) = i := by
    funext a; match a with | ⟨0, _⟩ => rfl | ⟨1, _⟩ => rfl | ⟨2, _⟩ => rfl
  exact (congrArg (· ∈ ((cfg0.win 9).blk t).view.set) ((emb9 t (i 1) (i 2)).trans e)).mp
    (((cfg0.win 9).blk t).view.emb_mem_set _)

/-- The state array after the run. -/
theorem final : (dats m 0 c).arrAt 9 cfg0.N = result m c :=
  (dats m 0 c).arrAt_eq_of_cover 9 (result m c) (fun t _ => flushed_eq m c t) covered

end Cert.SamplePoolArray

end
-- ==== Proof.SamplePoolRefRow.lean ====
/-
  The sample's pool reference read at an index: the last rows of the prefix and of the call's own rows.
-/
module

public import proofs.«01_k».proof.Proof.SampleRefRow
public import proofs.«01_k».proof.Proof.Gen.SamplePoolReferenceIdeal.Run
public import Idealize.ShloMosaic.Lib.KernelVsHost

@[expose] public section

set_option maxRecDepth 16384

noncomputable section

namespace Cert.SamplePoolRefRow

open Idealize.ShloMosaic Cert.SamplePoolReferenceIdeal Cert.SamplePoolReferenceIdeal.Gen Cert.Row

/-- The last fifteen rows of the prefix and the call's rows, joined. -/
def stateR (p : FVec Ideal S32x15x1024 .f32) (h : FVec Ideal S32x4x1024 .f32) : FVec Ideal S32x15x1024 .f32 :=
  extractStridedSlice S32x15x1024 ![0, 4, 0] (concatenate S32x19x1024 1 [⟨S32x15x1024, p⟩, ⟨S32x4x1024, h⟩] concatenates_S32x15x1024_S32x4x1024_S32x19x1024_d1)
    slices_S32x19x1024_S32x15x1024_0_4_0

theorem stateR_apply (p : FVec Ideal S32x15x1024 .f32) (h : FVec Ideal S32x4x1024 .f32) (b : Fin 32) (s : Fin 15) (d : Fin 1024) :
    stateR p h (ix3 b s d) = if q : s.val < 11 then p (ix3 b ⟨4 + s, by omega⟩ d) else h (ix3 b ⟨s - 11, by omega⟩ d) := by
  unfold stateR
  pointwise
  by_cases q : s.val < 11
  · rw [dif_pos q, dif_pos (by omega)]
  · rw [dif_neg q, dif_neg (by omega)]
    exact congrArg (fun r => h (ix3 b r d)) (Fin.ext (by show 4 + s.val - 15 = s.val - 11; omega))

end Cert.SamplePoolRefRow

end
-- ==== Proof.SamplePoolAgree.lean ====
/-
  The sample's pool call's state is its reference's: the claim on values.
-/
module

public import proofs.«01_k».proof.Defs
public import proofs.«01_k».proof.Proof.SamplePoolArray
public import proofs.«01_k».proof.Proof.SamplePoolRefRow

@[expose] public section

set_option maxRecDepth 16384

noncomputable section

namespace Cert.SamplePoolAgree

open Idealize.ShloMosaic Idealize.ShloMosaic.TcCoe Idealize.SL.Sem

/-- With the arguments agreeing, the reference's result is the kernel's. -/
theorem result_eq (m : (ℓ : Loc Cert.SamplePoolIdeal.nD Cert.SamplePoolIdeal.τ Cert.SamplePoolIdeal.sig) → Buf (Elt Ideal) ℓ)
    (m' : (ℓ : Loc Cert.SamplePoolReferenceIdeal.nD Cert.SamplePoolReferenceIdeal.τ Cert.SamplePoolReferenceIdeal.sig) → Buf (Elt Ideal) ℓ) (c : Dev Cert.SamplePoolIdeal.nD)
    (h : m' ((c.tc : Thread Cert.SamplePoolReferenceIdeal.nD Cert.SamplePoolReferenceIdeal.τ).loc Cert.SamplePoolReferenceIdeal.main_arg0) = m ((c.tc : Thread Cert.SamplePoolIdeal.nD Cert.SamplePoolIdeal.τ).loc Cert.SamplePoolIdeal.main_arg0)
      ∧ m' ((c.tc : Thread Cert.SamplePoolReferenceIdeal.nD Cert.SamplePoolReferenceIdeal.τ).loc Cert.SamplePoolReferenceIdeal.main_arg1) = m ((c.tc : Thread Cert.SamplePoolIdeal.nD Cert.SamplePoolIdeal.τ).loc Cert.SamplePoolIdeal.main_arg1)
      ∧ m' ((c.tc : Thread Cert.SamplePoolReferenceIdeal.nD Cert.SamplePoolReferenceIdeal.τ).loc Cert.SamplePoolReferenceIdeal.main_arg2) = m ((c.tc : Thread Cert.SamplePoolIdeal.nD Cert.SamplePoolIdeal.τ).loc Cert.SamplePoolIdeal.main_arg2)
      ∧ m' ((c.tc : Thread Cert.SamplePoolReferenceIdeal.nD Cert.SamplePoolReferenceIdeal.τ).loc Cert.SamplePoolReferenceIdeal.main_arg3) = m ((c.tc : Thread Cert.SamplePoolIdeal.nD Cert.SamplePoolIdeal.τ).loc Cert.SamplePoolIdeal.main_arg3)
      ∧ m' ((c.tc : Thread Cert.SamplePoolReferenceIdeal.nD Cert.SamplePoolReferenceIdeal.τ).loc Cert.SamplePoolReferenceIdeal.main_arg4) = m ((c.tc : Thread Cert.SamplePoolIdeal.nD Cert.SamplePoolIdeal.τ).loc Cert.SamplePoolIdeal.main_arg4)
      ∧ m' ((c.tc : Thread Cert.SamplePoolReferenceIdeal.nD Cert.SamplePoolReferenceIdeal.τ).loc Cert.SamplePoolReferenceIdeal.main_arg5) = m ((c.tc : Thread Cert.SamplePoolIdeal.nD Cert.SamplePoolIdeal.τ).loc Cert.SamplePoolIdeal.main_arg5)
      ∧ m' ((c.tc : Thread Cert.SamplePoolReferenceIdeal.nD Cert.SamplePoolReferenceIdeal.τ).loc Cert.SamplePoolReferenceIdeal.main_arg6) = m ((c.tc : Thread Cert.SamplePoolIdeal.nD Cert.SamplePoolIdeal.τ).loc Cert.SamplePoolIdeal.main_arg6)
      ∧ m' ((c.tc : Thread Cert.SamplePoolReferenceIdeal.nD Cert.SamplePoolReferenceIdeal.τ).loc Cert.SamplePoolReferenceIdeal.main_arg7) = m ((c.tc : Thread Cert.SamplePoolIdeal.nD Cert.SamplePoolIdeal.τ).loc Cert.SamplePoolIdeal.main_arg7)) :
    SamplePoolRefRow.stateR (m' ((c.tc : Thread Cert.SamplePoolReferenceIdeal.nD Cert.SamplePoolReferenceIdeal.τ).loc Cert.SamplePoolReferenceIdeal.main_arg1))
        (SampleRefRow.hidR (m' ((c.tc : Thread Cert.SamplePoolReferenceIdeal.nD Cert.SamplePoolReferenceIdeal.τ).loc Cert.SamplePoolReferenceIdeal.main_arg0)) (m' ((c.tc : Thread Cert.SamplePoolReferenceIdeal.nD Cert.SamplePoolReferenceIdeal.τ).loc Cert.SamplePoolReferenceIdeal.main_arg5))
          (m' ((c.tc : Thread Cert.SamplePoolReferenceIdeal.nD Cert.SamplePoolReferenceIdeal.τ).loc Cert.SamplePoolReferenceIdeal.main_arg3)) (m' ((c.tc : Thread Cert.SamplePoolReferenceIdeal.nD Cert.SamplePoolReferenceIdeal.τ).loc Cert.SamplePoolReferenceIdeal.main_arg2)))
      = Cert.SamplePoolArray.result m c := by
  obtain ⟨h0, h1, h2, h3, h4, h5, h6, h7⟩ := h
  rw [h0, h1, h2, h3, h5]
  funext i
  obtain ⟨b, s, d, rfl⟩ : ∃ b s d, i = (ix3 b s d : Cert.SamplePoolIdeal.S32x15x1024.Idx) :=
    ⟨i 0, i 1, i 2, by funext a; match a with | ⟨0, _⟩ => rfl | ⟨1, _⟩ => rfl | ⟨2, _⟩ => rfl⟩
  rw [SamplePoolRefRow.stateR_apply]
  simp only [SampleRefRow.hidR_apply]
  rfl

/-- Every run of the kernel and every run of the reference leave the same state. -/
theorem algebraic : Cert.algebraic_SamplePoolIdeal_SamplePoolReferenceIdeal := fun m g m' g' _ hag =>
  ⟨fun c => Cert.SamplePoolArray.result m c,
    (θ_run _ _ _).mono (fun _ h c => ⟨(h c).2.1.trans (Cert.SamplePoolArray.final m c), (h c).2.2⟩) (Cert.SamplePoolIdeal.Value.run_blocks m g),
    (θ_run _ _ _).mono (fun _ h c => ⟨(h c).1.trans (result_eq m m' c (hag c)), (h c).2⟩) (Cert.SamplePoolReferenceIdeal.Value.run m' g')⟩

end Cert.SamplePoolAgree

end
-- ==== Proof.PoolRun.lean ====
/-
  The prompt's pool call: the body at a grid point, over any floats, and the run of the whole call.
-/
module

public import proofs.«01_k».proof.Proof.Gen.PoolIdeal.Skeleton
public import proofs.«01_k».proof.Proof.Gen.PoolIdeal.Launch
public import proofs.«01_k».proof.Proof.Gen.PoolIdeal.Points
public import proofs.«01_k».proof.Proof.Row
public import Idealize.ShloMosaic.Lib.Exec
public import Idealize.ShloMosaic.Lib.Pipeline.Frame
public import Idealize.ShloMosaic.Lib.Pipeline.FrameBody
public import Idealize.ShloMosaic.Lib.Tactic
public import Idealize.ShloMosaic.Lib.WordCmp
public import Idealize.ShloMosaic.Lib.WholeRead
public import Idealize.ShloMosaic.Lib.WritesUnit

@[expose] public section

set_option maxRecDepth 16384

noncomputable section

namespace Cert.PoolRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.PoolIdeal Cert.PoolIdeal.Gen

variable {F : FTy → Type} [FloatOps F]

local notation "𝕄" => MT nD τ sig Unit (Elt F) ℕ (UR sig nD τ) ℕ

/-- A point starts its sequence: the condition under which the body clears its scratch. -/
abbrev Starts (i : grid0.Coords) : Prop := (Scalar.cmpi .ne (Scalar.extui (Scalar.cmpi .eq (BitVec.ofNat 32 (i 1).val) 0#32)) 0#32) = 1#1

/-- The state block that a point leaves: the last fifteen of the tile's normalised and modulated rows. -/
def stateOut (x : Vec F S1x512x1024 .f32) (g : Vec F S1x1024 .f32) (sc sh : Vec F S1x1x1024 .f32) : Vec F S1x15x1024 .f32 :=
  k0_pay20 fun j => k0_pay9 x g sc sh (ix2 ⟨497 + (j 0).val, by have : (j 0).val < 15 := (j 0).isLt; omega⟩ (j 1))

theorem zeros3 : (![0, 0, 0] : Fin 3 → ℕ) = fun _ => 0 := by decide
theorem zeros2 : (![0, 0] : Fin 2 → ℕ) = fun _ => 0 := by decide

/-- A load of all of a whole memref reads what the memref holds. -/
theorem load_whole {sig : RefSig} {κ : Kind} {cs : Space} {s : Shape} {e : EltTy} {mr : Memref sig κ cs s e} (h : mr.IsWhole) (X : s.Idx → Elt F e)
    {off : Fin s.rank → ℕ} (h0 : off = fun _ => 0) (inb : ∀ a, off a + s.size a ≤ s.size a) :
    View.readAt (Elt F) mr.view (Rect.unit off s.size inb).toLoadRect (h.unread X) = X := by
  subst h0
  funext x
  rw [h.readAt_unread]
  exact congrArg X (by funext a; apply Fin.ext; show 0 + 1 * (x a).val = (x a).val; omega)

/-- A store over all of a buffer leaves what it stored. -/
theorem store_whole {sig : RefSig} {κ : Kind} {cs : Space} {s : Shape} {e : EltTy} (v : View sig κ cs s e) (f : v.ty.Contents (Elt F)) (X : s.Idx → Elt F e)
    (off : Fin s.rank → ℕ) (h0 : off = fun _ => 0) (inb : ∀ a, off a + s.size a ≤ s.size a) :
    v.read (Elt F) (v.writes (Elt F) f [⟨Rect.unit off s.size inb, X⟩]) = X := by
  subst h0
  funext y
  refine Eq.trans ?_ (View.read_writes_cons_emb v f (Rect.unit (fun _ => 0) s.size inb) X [] y)
  exact congrArg _ (by funext a; apply Fin.ext; show (y a).val = 0 + 1 * (y a).val; omega)

/-- Rows 521 to 535 of a scratch whose last write was the tile's rows at 24 on. -/
theorem tail_read {sig : RefSig} {κ : Kind} {cs : Space} (v : View sig κ cs S536x1024 .f32) (y : Vec F S512x1024 .f32) (L : List (View.Piece (Elt F) S536x1024 .f32)) :
    (v.readCov (⟨Rect.unit ![24, 0] S512x1024.size inb_S536x1024_S512x1024_24_0, y⟩ :: L) (Rect.unit (s := S536x1024) ![521, 0] S15x1024.size inb_S536x1024_S15x1024_521_0).toLoadRect : Vec F S15x1024 .f32)
      = fun j => y (ix2 ⟨497 + (j 0).val, by have : (j 0).val < 15 := (j 0).isLt; omega⟩ (j 1)) := by
  funext j
  show View.read (Elt F) _ (View.writes _ _ _ _) ((Rect.unit (s := S536x1024) ![521, 0] S15x1024.size inb_S536x1024_S15x1024_521_0).emb j) = _
  exact View.read_writes_cons_rows_of_mem (o := 24) (x := ix2 ⟨497 + (j 0).val, by have : (j 0).val < 15 := (j 0).isLt; omega⟩ (j 1)) (hoff := rfl)
    (hx0 := by show 521 + 1 * (j 0).val = 24 + (497 + (j 0).val); omega) (hx1 := by show 0 + 1 * (j 1).val = (j 1).val; omega) ..

set_option maxHeartbeats 1000000 in
/-- At a point that starts its sequence. -/
theorem run_start (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x15x1024 .f32) (harg11 : arg11.IsWhole) (arg12 : Memref sig .tc .vmem S536x1024 .f32) (harg12 : arg12.IsWhole) (arg13 : Memref sig .tc .vmem S536x1024 .f32) (harg13 : arg13.IsWhole) (arg14 : Memref sig .tc .vmem S536x1024 .f32) (harg14 : arg14.IsWhole) (arg15 : Memref sig .tc .vmem S536x1024 .f32) (harg15 : arg15.IsWhole)
    (hc : Starts i) (x0 : Vec F S1x512x1024 .f32) (x1 : Vec F S1x16x1024 .f32) (x2 : Vec F S1x1x1024 .f32) (x3 : Vec F S1x1x1024 .f32) (x4 : Vec F S1x1x1024 .f32) (x5 : Vec F S1x1024 .f32) (x6 : Vec F S4x256x256 .bf16) (x7 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare (stateOut x0 x5 x3 x2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_pool_layer i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_pool_layer_eq_skeleton]; unfold cc0_pool_layer_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; isplitr; swap; · iexact H9
    ipureintro
    unfold run_start.sl.v134
    unfold run_start.sl.HS0_3
    rw [load_whole (s := S1x512x1024) _ x0 zeros3, load_whole (s := S1x1024) _ x5 zeros2, load_whole (s := S1x1x1024) _ x3 zeros3, load_whole (s := S1x1x1024) _ x2 zeros3]
    exact (store_whole _ _ _ _ zeros3 _).trans (congrArg k0_pay20 (tail_read _ _ _))
  isplitl [HS0]
  · iexists _; iexists _; isplitr; swap; · iexact HS0
    ipureintro; rfl
  isplitl [HS1]
  · iexists _; iexists _; isplitr; swap; · iexact HS1
    ipureintro; rfl
  isplitl [HS2]
  · iexists _; iexists _; isplitr; swap; · iexact HS2
    ipureintro; rfl
  iexists _; iexists _; isplitr; swap; · iexact HS3
  ipureintro; rfl

set_option maxHeartbeats 1000000 in
/-- At any other point. -/
theorem run_next (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x15x1024 .f32) (harg11 : arg11.IsWhole) (arg12 : Memref sig .tc .vmem S536x1024 .f32) (harg12 : arg12.IsWhole) (arg13 : Memref sig .tc .vmem S536x1024 .f32) (harg13 : arg13.IsWhole) (arg14 : Memref sig .tc .vmem S536x1024 .f32) (harg14 : arg14.IsWhole) (arg15 : Memref sig .tc .vmem S536x1024 .f32) (harg15 : arg15.IsWhole)
    (hc : ¬ Starts i) (x0 : Vec F S1x512x1024 .f32) (x1 : Vec F S1x16x1024 .f32) (x2 : Vec F S1x1x1024 .f32) (x3 : Vec F S1x1x1024 .f32) (x4 : Vec F S1x1x1024 .f32) (x5 : Vec F S1x1024 .f32) (x6 : Vec F S4x256x256 .bf16) (x7 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare (stateOut x0 x5 x3 x2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_pool_layer i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_pool_layer_eq_skeleton]; unfold cc0_pool_layer_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
  sl_exec (disch := first | sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; iexists _; isplitr; swap; · iexact H8
    ipureintro; rfl
  isplitl [H9]
  · iexists _; isplitr; swap; · iexact H9
    ipureintro
    unfold run_next.sl.v134
    unfold run_next.sl.HS0_1
    rw [load_whole (s := S1x512x1024) _ x0 zeros3, load_whole (s := S1x1024) _ x5 zeros2, load_whole (s := S1x1x1024) _ x3 zeros3, load_whole (s := S1x1x1024) _ x2 zeros3]
    exact (store_whole _ _ _ _ zeros3 _).trans (congrArg k0_pay20 (tail_read _ _ _))
  isplitl [HS0]
  · iexists _; iexists _; isplitr; swap; · iexact HS0
    ipureintro; rfl
  isplitl [HS1]
  · iexists _; iexists _; isplitr; swap; · iexact HS1
    ipureintro; rfl
  isplitl [HS2]
  · iexists _; iexists _; isplitr; swap; · iexact HS2
    ipureintro; rfl
  iexists _; iexists _; isplitr; swap; · iexact HS3
  ipureintro; rfl

end Cert.PoolRun

end
-- ==== Proof.PoolFrame.lean ====
/-
  The prompt's pool call: its run over any floats. The state's array is named, and nothing is said of the residual's.
-/
module

public import proofs.«01_k».proof.Proof.PoolRun

@[expose] public section

set_option maxRecDepth 16384

noncomputable section

namespace Cert.PoolFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.PoolIdeal Cert.PoolIdeal.Gen Cert.PoolRun

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core's buffers hold when the call is entered. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl

/-- A window's block at a point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state block after a point. -/
def left (c : Dev nD) (t : Fin cfg0.N) : Vec F S1x15x1024 .f32 := stateOut (iblk m c 0 t) (iblk m c 5 t) (iblk m c 3 t) (iblk m c 2 t)

/-- The pipeline's data: each input's buffer keeps its block, the state's holds the tile's last rows; the residual's entry is not read. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 0 t
    | ⟨9, _⟩ => left m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after9 (c : Dev nD) (t : Fin cfg0.N) : (dats m 0 c).after 9 t = left m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)

/-- Each window's current buffer. -/
abbrev ms0 (t : Fin cfg0.N) : Memref sig .tc .vmem S1x512x1024 .f32 := win0_0.stage (cfg0.slots t 0)
abbrev ms1 (t : Fin cfg0.N) : Memref sig .tc .vmem S1x16x1024 .f32 := win0_1.stage (cfg0.slots t 1)
abbrev ms2 (t : Fin cfg0.N) : Memref sig .tc .vmem S1x1x1024 .f32 := win0_2.stage (cfg0.slots t 2)
abbrev ms3 (t : Fin cfg0.N) : Memref sig .tc .vmem S1x1x1024 .f32 := win0_3.stage (cfg0.slots t 3)
abbrev ms4 (t : Fin cfg0.N) : Memref sig .tc .vmem S1x1x1024 .f32 := win0_4.stage (cfg0.slots t 4)
abbrev ms5 (t : Fin cfg0.N) : Memref sig .tc .vmem S1x1024 .f32 := win0_5.stage (cfg0.slots t 5)
abbrev ms6 (t : Fin cfg0.N) : Memref sig .tc .vmem S4x256x256 .bf16 := win0_6.stage (cfg0.slots t 6)
abbrev ms7 (t : Fin cfg0.N) : Memref sig .tc .vmem S1x1024 .f32 := win0_7.stage (cfg0.slots t 7)
abbrev ms8 (t : Fin cfg0.N) : Memref sig .tc .vmem S1x512x1024 .f32 := win0_8.stage (cfg0.slots t 8)
abbrev ms9 (t : Fin cfg0.N) : Memref sig .tc .vmem S1x15x1024 .f32 := win0_9.stage (cfg0.slots t 9)
abbrev sc0 : Memref sig .tc .vmem S536x1024 .f32 := Memref.whole cc0_scratch0
abbrev sc1 : Memref sig .tc .vmem S536x1024 .f32 := Memref.whole cc0_scratch1
abbrev sc2 : Memref sig .tc .vmem S536x1024 .f32 := Memref.whole cc0_scratch2
abbrev sc3 : Memref sig .tc .vmem S536x1024 .f32 := Memref.whole cc0_scratch3

/-- The scratch as memrefs, at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The window whose contents no claim reads: the residual's. -/
def fgt (w : Fin 10) : Bool := match w with
  | ⟨8, _⟩ => true
  | _ => false

/-- What the body is called with, window by window. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ X, owns (c : Thread nD τ) (ms8 t) fullShare X)
    ∗ (∃ d, owns (c : Thread nD τ) (ms9 t) fullShare ((dats m 0 c).before 9 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ (∃ X, owns (c : Thread nD τ) (ms8 t) fullShare X)
    ∗ owns (c : Thread nD τ) (ms9 t) fullShare ((dats m 0 c).after 9 t))

/-- The body at a grid point, whatever the scratch holds. -/
theorem body_run (c : Dev nD) (i : grid0.Coords) (arg2 : Memref sig .tc .vmem S1x512x1024 .f32) (harg2 : arg2.IsWhole) (arg3 : Memref sig .tc .vmem S1x16x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x512x1024 .f32) (harg10 : arg10.IsWhole) (arg11 : Memref sig .tc .vmem S1x15x1024 .f32) (harg11 : arg11.IsWhole) (arg12 : Memref sig .tc .vmem S536x1024 .f32) (harg12 : arg12.IsWhole) (arg13 : Memref sig .tc .vmem S536x1024 .f32) (harg13 : arg13.IsWhole) (arg14 : Memref sig .tc .vmem S536x1024 .f32) (harg14 : arg14.IsWhole) (arg15 : Memref sig .tc .vmem S536x1024 .f32) (harg15 : arg15.IsWhole)
    (x0 : Vec F S1x512x1024 .f32) (x1 : Vec F S1x16x1024 .f32) (x2 : Vec F S1x1x1024 .f32) (x3 : Vec F S1x1x1024 .f32) (x4 : Vec F S1x1x1024 .f32) (x5 : Vec F S1x1024 .f32) (x6 : Vec F S4x256x256 .bf16) (x7 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare (stateOut x0 x5 x3 x2) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_pool_layer i arg2 harg2 arg3 harg3 arg4 harg4 arg5 harg5 arg6 harg6 arg7 harg7 arg8 harg8 arg9 harg9 arg10 harg10 arg11 harg11 arg12 harg12 arg13 harg13 arg14 harg14 arg15 harg15) K := by
  by_cases hc : Starts i
  · exact run_start c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 E K
  · exact run_next c i arg2 harg2 arg3 harg3 arg4 harg4 arg5 harg5 arg6 harg6 arg7 harg7 arg8 harg8 arg9 harg9 arg10 harg10 arg11 harg11 arg12 harg12 arg13 harg13 arg14 harg14 arg15 harg15 hc x0 x1 x2 x3 x4 x5 x6 x7 E K

set_option maxHeartbeats 1200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after9]
  rw [show (dats m 0 c).Φ t.castSucc = Pipeline.ΦA spec0 c from rfl, PhiA_eq]
  unfold left
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, H8, ⟨%d9, H9⟩⟩
  iapply (body_run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  iintro ⟨H0, H1, H2, H3, H4, H5, H6, H7, H8, H9, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, body_row]
  exact triple_restated (sound_body m c t) rfl .rfl fun _ => .rfl

set_option backward.isDefEq.respectTransparency.types false in
/-- The run: every array as the data says, the residual's at anything, and every counter at zero. -/
theorem run_forget : θ_run defs (onTc (τ := τ) (main (F := F))) (s₀ m ρ)
    (fun r => (Pipeline.RDat.FramePost cfg0 (fun c => (dats m 0 c).toRForget fgt) (V m)) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run read at the state's array and at the arguments. -/
theorem run : θ_run defs (onTc (τ := τ) (main (F := F))) ⟨m, fun _ => 0, ρ⟩ (fun r => (∀ c : Dev nD,
      r.2.mem ((c.tc : Thread nD τ).loc main_v4_1) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((dats m 0 c).toRForget_arrAt_iff (w := 9) (fgt := fgt) rfl cfg0.N _).mp ((h.1 c).1 9),
      (h.1.arr_in c 0 rfl).trans ((A_eq m c 0).trans (V_main_arg0 m c)),
      (h.1.arr_in c 2 rfl).trans ((A_eq m c 2).trans (V_main_arg1 m c)),
      (h.1.arr_in c 3 rfl).trans ((A_eq m c 3).trans (V_main_arg2 m c)),
      (h.1.arr_in c 4 rfl).trans ((A_eq m c 4).trans (V_main_arg3 m c)),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c)⟩, h.2⟩) (run_forget m ρ)

end Cert.PoolFrame

end
-- ==== Proof.PoolRow.lean ====
/-
  The prompt's pool call: a point's state block read at a row.
-/
module

public import proofs.«01_k».proof.Proof.PoolFrame

@[expose] public section

set_option maxRecDepth 16384

noncomputable section

namespace Cert.PoolRow

open Idealize.ShloMosaic Idealize.ShloMosaic.TcCoe Cert.PoolIdeal Cert.PoolIdeal.Gen Cert.Row

theorem pay7_apply (x : Vec Ideal S1x512x1024 .f32) (r : Fin 512) (d : Fin 1024) : k0_pay7 x (ix2 r d) = x (ix3 0 r d) := by
  unfold k0_pay7
  pointwise

theorem pay8_apply (x : Vec Ideal S1x512x1024 .f32) (g : Vec Ideal S1x1024 .f32) (sc sh : Vec Ideal S1x1x1024 .f32) (r : Fin 512) (d : Fin 1024) :
    k0_pay8 x g sc sh (ix2 r d)
      = Row.hidden (fun k => x (ix3 0 r k)) (fun k => g (ix2 0 k)) (fun k => sc (ix3 0 0 k)) (fun k => sh (ix3 0 0 k)) d := by
  rw [show (fun k => x (ix3 0 r k)) = fun k => k0_pay7 x (ix2 r k) from funext fun k => (pay7_apply x r k).symm]
  unfold k0_pay8 Row.hidden normed
  generalize k0_pay7 x = y
  pointwise

theorem pay9_apply (x : Vec Ideal S1x512x1024 .f32) (g : Vec Ideal S1x1024 .f32) (sc sh : Vec Ideal S1x1x1024 .f32) (r : Fin 512) (d : Fin 1024) :
    k0_pay9 x g sc sh (ix2 r d)
      = Row.hidden (fun k => x (ix3 0 r k)) (fun k => g (ix2 0 k)) (fun k => sc (ix3 0 0 k)) (fun k => sh (ix3 0 0 k)) d := by
  rw [← pay8_apply]
  unfold k0_pay9
  generalize k0_pay8 x g sc sh = y
  pointwise

theorem pay20_apply (x : Vec Ideal S15x1024 .f32) (s : Fin 15) (d : Fin 1024) : k0_pay20 x (ix3 0 s d) = x (ix2 s d) := by
  unfold k0_pay20
  pointwise

/-- The state block after a point, at a row: the tile's row from 497 on, normalised and modulated. -/
theorem state_apply (x : Vec Ideal S1x512x1024 .f32) (g : Vec Ideal S1x1024 .f32) (sc sh : Vec Ideal S1x1x1024 .f32) (s : Fin 15) (d : Fin 1024) :
    PoolRun.stateOut x g sc sh (ix3 0 s d)
      = Row.hidden (fun k => x (ix3 0 ⟨497 + s, by omega⟩ k)) (fun k => g (ix2 0 k)) (fun k => sc (ix3 0 0 k)) (fun k => sh (ix3 0 0 k)) d := by
  unfold PoolRun.stateOut
  rw [pay20_apply]
  exact pay9_apply x g sc sh ⟨497 + s, by omega⟩ d

end Cert.PoolRow

end
-- ==== Proof.PoolArray.lean ====
/-
  The prompt's pool call: the state array after the run, as one function of the argument arrays.
-/
module

public import proofs.«01_k».proof.Proof.PoolRow
public import Idealize.ShloMosaic.Lib.KernelVsHost
public import Idealize.ShloMosaic.Lib.Pipeline.Value

@[expose] public section

set_option maxRecDepth 16384

noncomputable section

namespace Cert.PoolArray

open Idealize.ShloMosaic Idealize.ShloMosaic.TcCoe Cert.PoolIdeal Cert.PoolIdeal.Gen Cert.PoolFrame Cert.Row
open Idealize.ShloMosaic.Pipeline (Dat)

variable (m : (ℓ : Loc nD τ sig) → Buf (Elt Ideal) ℓ) (c : Dev nD)

/-- The sequence that a grid point works on. -/
def seqOf (t : Fin cfg0.N) : Fin 2 := ⟨t.val / 16, by have := lt_of_lt_of_eq t.isLt N_0; omega⟩

/-- The array's row at a row of a grid point's tile. -/
def rowOf (t : Fin cfg0.N) (r : Fin 512) : Fin 8192 := ⟨512 * (t.val % 16) + r.val, by omega⟩

theorem idx0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)

theorem emb0 (t : Fin cfg0.N) (r : Fin 512) (d : Fin 1024) :
    ((cfg0.win 0).blk t).view.emb (ix3 0 r d : S1x512x1024.Idx) = (ix3 (seqOf t) (rowOf t r) d : S2x8192x1024.Idx) := by
  obtain ⟨e0, e1, e2⟩ := idx0 t
  funext a; apply Fin.ext
  match a with
  | ⟨0, _⟩ => show win0_0.index t (0 : Fin 3) * 1 + 1 * 0 = t.val / 16; omega
  | ⟨1, _⟩ => show win0_0.index t (1 : Fin 3) * 512 + 1 * r.val = 512 * (t.val % 16) + r.val; omega
  | ⟨2, _⟩ => show win0_0.index t (2 : Fin 3) * 1024 + 1 * d.val = d.val; omega

theorem idx2 : ∀ t : Fin cfg0.N, win0_2.index t (0 : Fin 3) = t.val / 16 ∧ win0_2.index t (1 : Fin 3) = 0 ∧ win0_2.index t (2 : Fin 3) = 0 :=
  (by decide +kernel : ∀ t : Fin grid0.N, _)

theorem emb2 (t : Fin cfg0.N) (r : Fin 1) (d : Fin 1024) :
    ((cfg0.win 2).blk t).view.emb (ix3 0 r d : S1x1x1024.Idx) = (ix3 (seqOf t) r d : S2x1x1024.Idx) := by
  obtain ⟨e0, e1, e2⟩ := idx2 t
  funext a; apply Fin.ext
  match a with
  | ⟨0, _⟩ => show win0_2.index t (0 : Fin 3) * 1 + 1 * 0 = t.val / 16; omega
  | ⟨1, _⟩ => show win0_2.index t (1 : Fin 3) * 1 + 1 * r.val = r.val; omega
  | ⟨2, _⟩ => show win0_2.index t (2 : Fin 3) * 1024 + 1 * d.val = d.val; omega

theorem idx3 : ∀ t : Fin cfg0.N, win0_3.index t (0 : Fin 3) = t.val / 16 ∧ win0_3.index t (1 : Fin 3) = 0 ∧ win0_3.index t (2 : Fin 3) = 0 :=
  (by decide +kernel : ∀ t : Fin grid0.N, _)

theorem emb3 (t : Fin cfg0.N) (r : Fin 1) (d : Fin 1024) :
    ((cfg0.win 3).blk t).view.emb (ix3 0 r d : S1x1x1024.Idx) = (ix3 (seqOf t) r d : S2x1x1024.Idx) := by
  obtain ⟨e0, e1, e2⟩ := idx3 t
  funext a; apply Fin.ext
  match a with
  | ⟨0, _⟩ => show win0_3.index t (0 : Fin 3) * 1 + 1 * 0 = t.val / 16; omega
  | ⟨1, _⟩ => show win0_3.index t (1 : Fin 3) * 1 + 1 * r.val = r.val; omega
  | ⟨2, _⟩ => show win0_3.index t (2 : Fin 3) * 1024 + 1 * d.val = d.val; omega

theorem idx9 : ∀ t : Fin cfg0.N, win0_9.index t (0 : Fin 3) = t.val / 16 ∧ win0_9.index t (1 : Fin 3) = 0 ∧ win0_9.index t (2 : Fin 3) = 0 :=
  (by decide +kernel : ∀ t : Fin grid0.N, _)

theorem emb9 (t : Fin cfg0.N) (r : Fin 15) (d : Fin 1024) :
    ((cfg0.win 9).blk t).view.emb (ix3 0 r d : S1x15x1024.Idx) = (ix3 (seqOf t) r d : S2x15x1024.Idx) := by
  obtain ⟨e0, e1, e2⟩ := idx9 t
  funext a; apply Fin.ext
  match a with
  | ⟨0, _⟩ => show win0_9.index t (0 : Fin 3) * 1 + 1 * 0 = t.val / 16; omega
  | ⟨1, _⟩ => show win0_9.index t (1 : Fin 3) * 15 + 1 * r.val = r.val; omega
  | ⟨2, _⟩ => show win0_9.index t (2 : Fin 3) * 1024 + 1 * d.val = d.val; omega

theorem idx5 : ∀ t : Fin cfg0.N, win0_5.index t (0 : Fin 2) = 0 ∧ win0_5.index t (1 : Fin 2) = 0 :=
  (by decide +kernel : ∀ t : Fin grid0.N, _)

theorem emb5 (t : Fin cfg0.N) (r : Fin 1) (d : Fin 1024) :
    ((cfg0.win 5).blk t).view.emb (ix2 r d : S1x1024.Idx) = (ix2 r d : S1x1024.Idx) := by
  obtain ⟨e0, e1⟩ := idx5 t
  funext a; apply Fin.ext
  match a with
  | ⟨0, _⟩ => show win0_5.index t (0 : Fin 2) * 1 + 1 * r.val = r.val; omega
  | ⟨1, _⟩ => show win0_5.index t (1 : Fin 2) * 1024 + 1 * d.val = d.val; omega

/-- The norm's weights as the host code prepares them. -/
theorem main_v1_eq : V m c main_v1 = shapeCast S1x1024 (m ((c : Thread nD τ).loc main_arg4)) shapeCasts_S1024_S1x1024 := by
  rfl

/-! A block's entries are the arguments'. -/

theorem blk0 (t : Fin cfg0.N) (r : Fin 512) (d : Fin 1024) :
    (iblk m c 0 t : S1x512x1024.Idx → EReal) (ix3 0 r d) = (m ((c : Thread nD τ).loc main_arg0) : S2x8192x1024.Idx → EReal) (ix3 (seqOf t) (rowOf t r) d) := by
  show V m c main_arg0 (((cfg0.win 0).blk t).view.emb (ix3 0 r d : S1x512x1024.Idx)) = _
  rw [emb0]; rfl

theorem blk2 (t : Fin cfg0.N) (d : Fin 1024) :
    (iblk m c 2 t : S1x1x1024.Idx → EReal) (ix3 0 0 d) = (m ((c : Thread nD τ).loc main_arg1) : S2x1x1024.Idx → EReal) (ix3 (seqOf t) 0 d) := by
  show V m c main_arg1 (((cfg0.win 2).blk t).view.emb (ix3 0 0 d : S1x1x1024.Idx)) = _
  rw [emb2]; rfl

theorem blk3 (t : Fin cfg0.N) (d : Fin 1024) :
    (iblk m c 3 t : S1x1x1024.Idx → EReal) (ix3 0 0 d) = (m ((c : Thread nD τ).loc main_arg2) : S2x1x1024.Idx → EReal) (ix3 (seqOf t) 0 d) := by
  show V m c main_arg2 (((cfg0.win 3).blk t).view.emb (ix3 0 0 d : S1x1x1024.Idx)) = _
  rw [emb3]; rfl

theorem blk5 (t : Fin cfg0.N) (d : Fin 1024) :
    (iblk m c 5 t : S1x1024.Idx → EReal) (ix2 0 d) = (m ((c : Thread nD τ).loc main_arg4) : S1024.Idx → EReal) (ix1 d) := by
  show V m c main_v1 (((cfg0.win 5).blk t).view.emb (ix2 0 d : S1x1024.Idx)) = _
  rw [emb5, main_v1_eq]
  pointwise

/-- A state row: one of a sequence's last fifteen rows, normalised and modulated. -/
def stateRow (b : Fin 2) (s : Fin 15) (d : Fin 1024) : EReal :=
  Row.hidden (fun k => (m ((c : Thread nD τ).loc main_arg0) : S2x8192x1024.Idx → EReal) (ix3 b ⟨8177 + s, by omega⟩ k))
    (fun k => (m ((c : Thread nD τ).loc main_arg4) : S1024.Idx → EReal) (ix1 k))
    (fun k => (m ((c : Thread nD τ).loc main_arg2) : S2x1x1024.Idx → EReal) (ix3 b 0 k)) (fun k => (m ((c : Thread nD τ).loc main_arg1) : S2x1x1024.Idx → EReal) (ix3 b 0 k)) d

/-- The state array as one function of the arguments. -/
def result : S2x15x1024.Idx → EReal := fun i => stateRow m c (i 0) (i 1) (i 2)

/-- At a sequence's last tile the state block is that array's. -/
theorem left_apply (t : Fin cfg0.N) (ht : t.val % 16 = 15) (s : Fin 15) (d : Fin 1024) :
    left m c t (ix3 0 s d) = stateRow m c (seqOf t) s d := by
  unfold left stateRow
  rw [PoolRow.state_apply]
  simp only [blk0, blk2, blk3, blk5]
  rw [show rowOf t ⟨497 + s.val, by omega⟩ = ⟨8177 + s.val, by omega⟩ from Fin.ext (by show 512 * (t.val % 16) + (497 + s.val) = 8177 + s.val; omega)]

/-- What a sequence's last grid point writes back is that array's block. -/
theorem flushed_eq (t : Fin cfg0.N) (hf : (cfg0.win 9).flush t = true) :
    (dats m 0 c).flushed 9 t = ((cfg0.win 9).blk t).view.read (Elt Ideal) (result m c) := by
  have ht := (flush0_9 t).mp hf
  show left m c t = _
  funext j
  obtain ⟨z, r, d, rfl⟩ : ∃ z r d, j = (ix3 z r d : S1x15x1024.Idx) := ⟨j 0, j 1, j 2, by funext a; match a with | ⟨0, _⟩ => rfl | ⟨1, _⟩ => rfl | ⟨2, _⟩ => rfl⟩
  obtain rfl : z = 0 := Subsingleton.elim _ _
  show left m c t (ix3 0 r d) = result m c (((cfg0.win 9).blk t).view.emb (ix3 0 r d : S1x15x1024.Idx))
  rw [emb9, left_apply m c t ht]
  rfl

/-- Every element of the array is in the block of some sequence's last point. -/
theorem covered (i : S2x15x1024.Idx) :
    ∃ t : Fin cfg0.N, (cfg0.win 9).flush t = true ∧ i ∈ ((cfg0.win 9).blk t).view.set := by
  have h0 : (i 0).val < 2 := (i 0).isLt
  let t : Fin cfg0.N := ⟨16 * (i 0).val + 15, by rw [show cfg0.N = 32 from N_0]; omega⟩
  refine ⟨t, (flush0_9 t).mpr (by show (16 * (i 0).val + 15) % 16 = 15; omega), ?_⟩
  have e0 : seqOf t = i 0 := Fin.ext (by show (16 * (i 0).val + 15) / 16 = (i 0).val; omega)
  have e : (ix3 (seqOf t) (i 1) (i 2) : S2x15x1024.Idx) = i := by
    rw [e0]; funext a; match a with | ⟨0, _⟩ => rfl | ⟨1, _⟩ => rfl | ⟨2, _⟩ => rfl
  exact (congrArg (· ∈ ((cfg0.win 9).blk t).view.set) ((emb9 t (i 1) (i 2)).trans e)).mp
    (((cfg0.win 9).blk t).view.emb_mem_set _)

/-- The state array after the run. -/
theorem final : (dats m 0 c).arrAt 9 cfg0.N = result m c :=
  (dats m 0 c).arrAt_eq_of_cover 9 (result m c) (fun t hf => flushed_eq m c t hf) covered

end Cert.PoolArray

end
-- ==== Proof.PoolAgree.lean ====
/-
  The prompt's pool call: its state is its reference's, and its frames.
-/
module

public import proofs.«01_k».proof.Defs
public import proofs.«01_k».proof.Proof.PoolArray
public import proofs.«01_k».proof.Proof.RefRow
public import proofs.«01_k».proof.Proof.Gen.Pool
public import proofs.«01_k».proof.Proof.Gen.PoolReferenceIdeal.Run
public import Idealize.ShloMosaic.Lib.KernelVsHost

@[expose] public section

set_option maxRecDepth 16384

noncomputable section

namespace Cert.PoolAgree

open Idealize.ShloMosaic Idealize.ShloMosaic.TcCoe Idealize.SL.Sem Cert.Row

section
open Cert.PoolReferenceIdeal Cert.PoolReferenceIdeal.Gen

/-- The last fifteen rows of a prefix of zeros and the sequence's rows, joined. -/
def stateR (h : FVec Ideal S2x8192x1024 .f32) : FVec Ideal S2x15x1024 .f32 :=
  extractStridedSlice S2x15x1024 ![0, 8192, 0] (concatenate S2x8207x1024 1 [⟨S2x15x1024, broadcastInDim S2x15x1024 ![] bcast_S_S2x15x1024 (constant S_ .f32 0x00000000#32)⟩, ⟨S2x8192x1024, h⟩]
    concatenates_S2x15x1024_S2x8192x1024_S2x8207x1024_d1) slices_S2x8207x1024_S2x15x1024_0_8192_0

theorem stateR_apply (h : FVec Ideal S2x8192x1024 .f32) (b : Fin 2) (s : Fin 15) (d : Fin 1024) :
    stateR h (ix3 b s d) = h (ix3 b ⟨8177 + s, by omega⟩ d) := by
  unfold stateR
  generalize (broadcastInDim S2x15x1024 ![] bcast_S_S2x15x1024 (constant S_ .f32 0x00000000#32) : FVec Ideal S2x15x1024 .f32) = z
  pointwise
  try rw [dif_neg (by omega)]
  try exact congrArg (fun r => h (ix3 b r d)) (Fin.ext (by show 8192 + s.val - 15 = 8177 + s.val; omega))

end

/-- With the arguments agreeing, the reference's result is the kernel's. -/
theorem result_eq (m : (ℓ : Loc Cert.PoolIdeal.nD Cert.PoolIdeal.τ Cert.PoolIdeal.sig) → Buf (Elt Ideal) ℓ)
    (m' : (ℓ : Loc Cert.PoolReferenceIdeal.nD Cert.PoolReferenceIdeal.τ Cert.PoolReferenceIdeal.sig) → Buf (Elt Ideal) ℓ) (c : Dev Cert.PoolIdeal.nD)
    (h : m' ((c.tc : Thread Cert.PoolReferenceIdeal.nD Cert.PoolReferenceIdeal.τ).loc Cert.PoolReferenceIdeal.main_arg0) = m ((c.tc : Thread Cert.PoolIdeal.nD Cert.PoolIdeal.τ).loc Cert.PoolIdeal.main_arg0)
      ∧ m' ((c.tc : Thread Cert.PoolReferenceIdeal.nD Cert.PoolReferenceIdeal.τ).loc Cert.PoolReferenceIdeal.main_arg1) = m ((c.tc : Thread Cert.PoolIdeal.nD Cert.PoolIdeal.τ).loc Cert.PoolIdeal.main_arg1)
      ∧ m' ((c.tc : Thread Cert.PoolReferenceIdeal.nD Cert.PoolReferenceIdeal.τ).loc Cert.PoolReferenceIdeal.main_arg2) = m ((c.tc : Thread Cert.PoolIdeal.nD Cert.PoolIdeal.τ).loc Cert.PoolIdeal.main_arg2)
      ∧ m' ((c.tc : Thread Cert.PoolReferenceIdeal.nD Cert.PoolReferenceIdeal.τ).loc Cert.PoolReferenceIdeal.main_arg3) = m ((c.tc : Thread Cert.PoolIdeal.nD Cert.PoolIdeal.τ).loc Cert.PoolIdeal.main_arg3)
      ∧ m' ((c.tc : Thread Cert.PoolReferenceIdeal.nD Cert.PoolReferenceIdeal.τ).loc Cert.PoolReferenceIdeal.main_arg4) = m ((c.tc : Thread Cert.PoolIdeal.nD Cert.PoolIdeal.τ).loc Cert.PoolIdeal.main_arg4)
      ∧ m' ((c.tc : Thread Cert.PoolReferenceIdeal.nD Cert.PoolReferenceIdeal.τ).loc Cert.PoolReferenceIdeal.main_arg5) = m ((c.tc : Thread Cert.PoolIdeal.nD Cert.PoolIdeal.τ).loc Cert.PoolIdeal.main_arg5)
      ∧ m' ((c.tc : Thread Cert.PoolReferenceIdeal.nD Cert.PoolReferenceIdeal.τ).loc Cert.PoolReferenceIdeal.main_arg6) = m ((c.tc : Thread Cert.PoolIdeal.nD Cert.PoolIdeal.τ).loc Cert.PoolIdeal.main_arg6)) :
    stateR (RefRow.hidR (m' ((c.tc : Thread Cert.PoolReferenceIdeal.nD Cert.PoolReferenceIdeal.τ).loc Cert.PoolReferenceIdeal.main_arg0)) (m' ((c.tc : Thread Cert.PoolReferenceIdeal.nD Cert.PoolReferenceIdeal.τ).loc Cert.PoolReferenceIdeal.main_arg4))
        (m' ((c.tc : Thread Cert.PoolReferenceIdeal.nD Cert.PoolReferenceIdeal.τ).loc Cert.PoolReferenceIdeal.main_arg2)) (m' ((c.tc : Thread Cert.PoolReferenceIdeal.nD Cert.PoolReferenceIdeal.τ).loc Cert.PoolReferenceIdeal.main_arg1)))
      = Cert.PoolArray.result m c := by
  obtain ⟨h0, h1, h2, h3, h4, h5, h6⟩ := h
  rw [h0, h1, h2, h4]
  funext i
  obtain ⟨b, s, d, rfl⟩ : ∃ b s d, i = (ix3 b s d : Cert.PoolIdeal.S2x15x1024.Idx) :=
    ⟨i 0, i 1, i 2, by funext a; match a with | ⟨0, _⟩ => rfl | ⟨1, _⟩ => rfl | ⟨2, _⟩ => rfl⟩
  exact (stateR_apply _ b s d).trans (RefRow.hidR_apply _ _ _ _ b _ d)

/-- Every run of the kernel and every run of the reference leave the same state. -/
theorem algebraic : Cert.algebraic_PoolIdeal_PoolReferenceIdeal := fun m g m' g' _ hag =>
  ⟨fun c => Cert.PoolArray.result m c,
    (θ_run _ _ _).mono (fun _ h c => ⟨(h.1 c).1.trans (Cert.PoolArray.final m c), (h.1 c).2⟩) (Cert.PoolFrame.run m g),
    (θ_run _ _ _).mono (fun _ h c => ⟨(h c).1.trans (result_eq m m' c (hag c)), (h c).2⟩) (Cert.PoolReferenceIdeal.Value.run m' g')⟩

/-- The run, over any floats, keeps the arguments and ends with every counter at zero. -/
theorem kept {F : FTy → Type} [FloatOps F] (m : (ℓ : Loc Cert.PoolIdeal.nD Cert.PoolIdeal.τ Cert.PoolIdeal.sig) → Buf (Elt F) ℓ) (ρ : Dev Cert.PoolIdeal.nD → PrngReg) :
    θ_run (Cert.PoolIdeal.defs (F := F)) (onTc (τ := Cert.PoolIdeal.τ) (Cert.PoolIdeal.main (F := F))) ⟨m, fun _ => 0, ρ⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3)
      ∧ r.2.mem ((c.tc : Thread Cert.PoolIdeal.nD Cert.PoolIdeal.τ).loc Cert.PoolIdeal.main_arg4) = m ((c.tc : Thread Cert.PoolIdeal.nD Cert.PoolIdeal.τ).loc Cert.PoolIdeal.main_arg4)
      ∧ r.2.mem ((c.tc : Thread Cert.PoolIdeal.nD Cert.PoolIdeal.τ).loc Cert.PoolIdeal.main_arg5) = m ((c.tc : Thread Cert.PoolIdeal.nD Cert.PoolIdeal.τ).loc Cert.PoolIdeal.main_arg5)
      ∧ r.2.mem ((c.tc : Thread Cert.PoolIdeal.nD Cert.PoolIdeal.τ).loc Cert.PoolIdeal.main_arg6) = m ((c.tc : Thread Cert.PoolIdeal.nD Cert.PoolIdeal.τ).loc Cert.PoolIdeal.main_arg6))
      ∧ r.2.sem = fun _ => 0) :=
  (θ_run Cert.PoolIdeal.defs _ _).mono (fun _ h => ⟨fun c => (h.1 c).2, h.2⟩) (Cert.PoolFrame.run (F := F) m ρ)

/-- The frame of the ideal program. -/
theorem frame_ideal : Cert.quiescent_PoolIdeal := fun m ρ _ => kept (F := Ideal) m ρ

/-- The two programs' body tables are the same. -/
theorem bodies_eq : Cert.PoolIdeal.defs₀ (F := Bits) = Cert.Pool.defs₀ (F := Bits) := by
  funext p l a
  cases p with
  | tc =>
    obtain ⟨l, hl⟩ := l
    cases l with
    | zero => rfl
    | succ n => exact absurd hl (Nat.not_lt.2 (Nat.le_add_left _ _))
  | scScalar _ => rfl
  | scVector _ _ => rfl

theorem tables_eq : Cert.PoolIdeal.defs (F := Bits) = Cert.Pool.defs (F := Bits) :=
  congrArg (Pipeline.defs Cert.PoolIdeal.pcfgs) bodies_eq

/-- The frame of the program itself, whose text is the same. -/
theorem frame : Cert.quiescent_Pool := fun m ρ _ => by
  have h := kept (F := Bits) m ρ
  rw [tables_eq] at h
  exact h

end Cert.PoolAgree

end
-- ==== Proof.ModRow.lean ====
/-
  The modulation, a block of the kernel read at an index: one column of a conditioning row's product.
-/
module

public import proofs.«01_k».proof.Proof.Gen.ModIdeal.Frame
public import Idealize.ShloMosaic.Lib.Pointwise
public import Idealize.ShloMosaic.Lib.ValueIdxCore

@[expose] public section

set_option maxRecDepth 16384

noncomputable section

namespace Cert.ModRow

open Idealize.ShloMosaic Cert.ModIdeal Cert.ModIdeal.Gen Finset

/-- One entry of the modulation: the conditioning row's silu against one column of the weights, with its bias. -/
def modded (x w : Fin 1024 → EReal) (b : EReal) : EReal := ∑ k, (x k * Ideal.logistic (x k)) * w k + b

theorem pay1_apply (x : Vec Ideal S40x1024 .f32) (w : Vec Ideal S1x1024x1536 .f32) (b : Vec Ideal S1x1x1536 .f32) (r : Fin 40) (e : Fin 1536) :
    k0_pay1 x w b (ix3 0 r e) = modded (fun k => x (ix2 r k)) (fun k => w (ix3 0 k e)) (b (ix3 0 0 e)) := by
  unfold k0_pay1 modded
  pointwise

theorem zeros3 : (![0, 0, 0] : Fin 3 → ℕ) = fun _ => 0 := by decide
theorem zeros2 : (![0, 0] : Fin 2 → ℕ) = fun _ => 0 := by decide

theorem ld_0 (v : Vec Ideal S40x1024 .f32) : View.ld v r0_0 = v := View.ld_unit_zero zeros2 _ v
theorem ld_1 (v : Vec Ideal S1x1024x1536 .f32) : View.ld v r0_1 = v := View.ld_unit_zero zeros3 _ v
theorem ld_2 (v : Vec Ideal S1x1x1536 .f32) : View.ld v r0_2 = v := View.ld_unit_zero zeros3 _ v

/-- The block the body leaves, read at an index. -/
theorem out_apply (x : Vec Ideal S40x1024 .f32) (w : Vec Ideal S1x1024x1536 .f32) (b : Vec Ideal S1x1x1536 .f32) (r : Fin 40) (e : Fin 1536) :
    out0_3 x w b (ix3 0 r e) = modded (fun k => x (ix2 r k)) (fun k => w (ix3 0 k e)) (b (ix3 0 0 e)) := by
  unfold out0_3
  rw [View.canon_unit_zero zeros3, ld_0, ld_1, ld_2, pay1_apply]

end Cert.ModRow

end
-- ==== Proof.ModArray.lean ====
/-
  The modulation: the two results after the run, as functions of the argument arrays.
-/
module

public import proofs.«01_k».proof.Proof.ModRow
public import Idealize.ShloMosaic.Lib.KernelVsHost
public import Idealize.ShloMosaic.Lib.Pipeline.Value

@[expose] public section

set_option maxRecDepth 16384

noncomputable section

namespace Cert.ModArray

open Idealize.ShloMosaic Idealize.ShloMosaic.TcCoe Cert.ModIdeal Cert.ModIdeal.Gen Cert.ModRow

variable (m : (ℓ : Loc nD τ sig) → Buf (Elt Ideal) ℓ) (c : Dev nD)

/-- The layer and sub-layer pair of a grid point. -/
def pairOf (t : Fin cfg0.N) : Fin 4 := ⟨t.val / 2, by have := lt_of_lt_of_eq t.isLt N_0; omega⟩

/-- The column of the weights at a column of a grid point's block. -/
def col (t : Fin cfg0.N) (e : Fin 1536) : Fin 3072 := ⟨t.val % 2 * 1536 + e.val, by omega⟩

theorem idx0 : ∀ t : Fin cfg0.N, win0_0.index t (0 : Fin 2) = 0 ∧ win0_0.index t (1 : Fin 2) = 0 :=
  (by decide +kernel : ∀ t : Fin grid0.N, _)

theorem emb0 (t : Fin cfg0.N) (r : Fin 40) (k : Fin 1024) :
    ((cfg0.win 0).blk t).view.emb (ix2 r k : S40x1024.Idx) = (ix2 r k : S40x1024.Idx) := by
  obtain ⟨e0, e1⟩ := idx0 t
  funext a; apply Fin.ext
  match a with
  | ⟨0, _⟩ => show win0_0.index t (0 : Fin 2) * 40 + 1 * r.val = r.val; omega
  | ⟨1, _⟩ => show win0_0.index t (1 : Fin 2) * 1024 + 1 * k.val = k.val; omega

theorem idx1 : ∀ t : Fin cfg0.N, win0_1.index t (0 : Fin 3) = t.val / 2 ∧ win0_1.index t (1 : Fin 3) = 0 ∧ win0_1.index t (2 : Fin 3) = t.val % 2 :=
  (by decide +kernel : ∀ t : Fin grid0.N, _)

theorem emb1 (t : Fin cfg0.N) (k : Fin 1024) (e : Fin 1536) :
    ((cfg0.win 1).blk t).view.emb (ix3 0 k e : S1x1024x1536.Idx) = (ix3 (pairOf t) k (col t e) : S4x1024x3072.Idx) := by
  obtain ⟨e0, e1, e2⟩ := idx1 t
  funext a; apply Fin.ext
  match a with
  | ⟨0, _⟩ => show win0_1.index t (0 : Fin 3) * 1 + 1 * 0 = t.val / 2; omega
  | ⟨1, _⟩ => show win0_1.index t (1 : Fin 3) * 1024 + 1 * k.val = k.val; omega
  | ⟨2, _⟩ => show win0_1.index t (2 : Fin 3) * 1536 + 1 * e.val = t.val % 2 * 1536 + e.val; omega

theorem idx2 : ∀ t : Fin cfg0.N, win0_2.index t (0 : Fin 3) = t.val / 2 ∧ win0_2.index t (1 : Fin 3) = 0 ∧ win0_2.index t (2 : Fin 3) = t.val % 2 :=
  (by decide +kernel : ∀ t : Fin grid0.N, _)

theorem emb2 (t : Fin cfg0.N) (e : Fin 1536) :
    ((cfg0.win 2).blk t).view.emb (ix3 0 0 e : S1x1x1536.Idx) = (ix3 (pairOf t) 0 (col t e) : S4x1x3072.Idx) := by
  obtain ⟨e0, e1, e2⟩ := idx2 t
  funext a; apply Fin.ext
  match a with
  | ⟨0, _⟩ => show win0_2.index t (0 : Fin 3) * 1 + 1 * 0 = t.val / 2; omega
  | ⟨1, _⟩ => show win0_2.index t (1 : Fin 3) * 1 + 1 * 0 = 0; omega
  | ⟨2, _⟩ => show win0_2.index t (2 : Fin 3) * 1536 + 1 * e.val = t.val % 2 * 1536 + e.val; omega

theorem idx3 : ∀ t : Fin cfg0.N, win0_3.index t (0 : Fin 3) = t.val / 2 ∧ win0_3.index t (1 : Fin 3) = 0 ∧ win0_3.index t (2 : Fin 3) = t.val % 2 :=
  (by decide +kernel : ∀ t : Fin grid0.N, _)

theorem emb3 (t : Fin cfg0.N) (r : Fin 40) (e : Fin 1536) :
    ((cfg0.win 3).blk t).view.emb (ix3 0 r e : S1x40x1536.Idx) = (ix3 (pairOf t) r (col t e) : S4x40x3072.Idx) := by
  obtain ⟨e0, e1, e2⟩ := idx3 t
  funext a; apply Fin.ext
  match a with
  | ⟨0, _⟩ => show win0_3.index t (0 : Fin 3) * 1 + 1 * 0 = t.val / 2; omega
  | ⟨1, _⟩ => show win0_3.index t (1 : Fin 3) * 40 + 1 * r.val = r.val; omega
  | ⟨2, _⟩ => show win0_3.index t (2 : Fin 3) * 1536 + 1 * e.val = t.val % 2 * 1536 + e.val; omega

/-! The arrays the host code prepares. -/

theorem main_v1_eq : V m c main_v1 = pad S40x1024 ![0, 0] ![6, 0] ![0, 0]
    (concatenate S34x1024 0 [⟨S2x1024, (m ((c : Thread nD τ).loc main_arg0) : FVec Ideal S2x1024 .f32)⟩, ⟨S32x1024, (m ((c : Thread nD τ).loc main_arg1) : FVec Ideal S32x1024 .f32)⟩]
      concatenates_S2x1024_S32x1024_S34x1024_d0) (constant (F := Ideal) S_ .f32 0x00000000#32)
    pads_S34x1024_S40x1024_060_000 h_S_ := by
  rfl

theorem main_v2_eq : V m c main_v2 = shapeCast S4x1024x3072 (m ((c : Thread nD τ).loc main_arg2)) shapeCasts_S2x2x1024x3072_S4x1024x3072 := by
  rfl

theorem main_v3_eq : V m c main_v3 = shapeCast S4x1x3072 (m ((c : Thread nD τ).loc main_arg3)) shapeCasts_S2x2x3072_S4x1x3072 := by
  rfl

/-- The layer of a pair. -/
def lay (l : Fin 4) : Fin 2 := ⟨l.val / 2, by omega⟩

/-- The sub-layer of a pair. -/
def sub (l : Fin 4) : Fin 2 := ⟨l.val % 2, by omega⟩

theorem weights_apply (v : FVec Ideal S2x2x1024x3072 .f32) (l : Fin 4) (k : Fin 1024) (e : Fin 3072) :
    shapeCast S4x1024x3072 v shapeCasts_S2x2x1024x3072_S4x1024x3072 (ix3 l k e) = v (ix4 (lay l) (sub l) k e) := by
  pointwise
  rfl

theorem bias_apply (v : FVec Ideal S2x2x3072 .f32) (l : Fin 4) (e : Fin 3072) :
    shapeCast S4x1x3072 v shapeCasts_S2x2x3072_S4x1x3072 (ix3 l 0 e) = v (ix3 (lay l) (sub l) e) := by
  pointwise
  rfl

theorem prompt_row (r : Fin 2) (k : Fin 1024) :
    (V m c main_v1 : S40x1024.Idx → EReal) (ix2 ⟨r.val, by omega⟩ k) = (m ((c : Thread nD τ).loc main_arg0) : S2x1024.Idx → EReal) (ix2 r k) := by
  rw [main_v1_eq]
  refine (pad_apply_of_inside _ _ _ _ _ _ _ _ (ix2 ⟨r.val, by omega⟩ k : S34x1024.Idx) fun a => ?_).trans ?_
  · match a with
    | ⟨0, _⟩ => show r.val = 0 + r.val * (0 + 1); omega
    | ⟨1, _⟩ => show k.val = 0 + k.val * (0 + 1); omega
  · refine concatenate_pair_apply_left (t := S34x1024) (s₁ := S2x1024) (s₂ := S32x1024) 0 _ _ _ _ rfl (ix2 r k : S2x1024.Idx) fun b => ?_
    match b with
    | ⟨0, _⟩ => rfl
    | ⟨1, _⟩ => rfl

theorem sample_row (r : Fin 32) (k : Fin 1024) :
    (V m c main_v1 : S40x1024.Idx → EReal) (ix2 ⟨2 + r.val, by omega⟩ k) = (m ((c : Thread nD τ).loc main_arg1) : S32x1024.Idx → EReal) (ix2 r k) := by
  rw [main_v1_eq]
  refine (pad_apply_of_inside _ _ _ _ _ _ _ _ (ix2 ⟨2 + r.val, by omega⟩ k : S34x1024.Idx) fun a => ?_).trans ?_
  · match a with
    | ⟨0, _⟩ => show 2 + r.val = 0 + (2 + r.val) * (0 + 1); omega
    | ⟨1, _⟩ => show k.val = 0 + k.val * (0 + 1); omega
  · pointwise

/-- The whole output array, over the padded conditioning rows. -/
def all : S4x40x3072.Idx → EReal := fun i =>
  modded (fun k => (V m c main_v1 : S40x1024.Idx → EReal) (ix2 (i 1) k)) (fun k => (V m c main_v2 : S4x1024x3072.Idx → EReal) (ix3 (i 0) k (i 2)))
    ((V m c main_v3 : S4x1x3072.Idx → EReal) (ix3 (i 0) 0 (i 2)))

/-- The modulation's entry for a conditioning row, a pair and a column, over the arguments. -/
def entry (x : Fin 1024 → EReal) (l : Fin 4) (e : Fin 3072) : EReal :=
  modded x (fun k => (m ((c : Thread nD τ).loc main_arg2) : S2x2x1024x3072.Idx → EReal) (ix4 (lay l) (sub l) k e))
    ((m ((c : Thread nD τ).loc main_arg3) : S2x2x3072.Idx → EReal) (ix3 (lay l) (sub l) e))

theorem all_apply (l : Fin 4) (r : Fin 40) (e : Fin 3072) :
    all m c (ix3 l r e) = entry m c (fun k => (V m c main_v1 : S40x1024.Idx → EReal) (ix2 r k)) l e := by
  show modded _ (fun k => (V m c main_v2 : S4x1024x3072.Idx → EReal) (ix3 l k e)) ((V m c main_v3 : S4x1x3072.Idx → EReal) (ix3 l 0 e)) = _
  rw [main_v2_eq, main_v3_eq]
  unfold entry
  exact congrArg₂ (modded _) (funext fun k => weights_apply _ l k e) (bias_apply _ l e)

theorem flushed3 (t : Fin cfg0.N) : (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

/-- The body's result for a grid point, read at an index. -/
theorem block_apply (t : Fin cfg0.N) (r : Fin 40) (e : Fin 1536) :
    out0_3 (iblk m c 0 t) (iblk m c 1 t) (iblk m c 2 t) (ix3 0 r e) = all m c (ix3 (pairOf t) r (col t e)) := by
  have h0 (k : Fin 1024) : (iblk m c 0 t : S40x1024.Idx → EReal) (ix2 r k) = (V m c main_v1 : S40x1024.Idx → EReal) (ix2 r k) := by
    show V m c main_v1 (((cfg0.win 0).blk t).view.emb (ix2 r k : S40x1024.Idx)) = _
    rw [emb0]
  have h1 (k : Fin 1024) : (iblk m c 1 t : S1x1024x1536.Idx → EReal) (ix3 0 k e) = (V m c main_v2 : S4x1024x3072.Idx → EReal) (ix3 (pairOf t) k (col t e)) := by
    show V m c main_v2 (((cfg0.win 1).blk t).view.emb (ix3 0 k e : S1x1024x1536.Idx)) = _
    rw [emb1]
  have h2 : (iblk m c 2 t : S1x1x1536.Idx → EReal) (ix3 0 0 e) = (V m c main_v3 : S4x1x3072.Idx → EReal) (ix3 (pairOf t) 0 (col t e)) := by
    show V m c main_v3 (((cfg0.win 2).blk t).view.emb (ix3 0 0 e : S1x1x1536.Idx)) = _
    rw [emb2]
  exact (out_apply _ _ _ r e).trans ((congr (congrArg₂ modded (funext h0) (funext h1)) h2))

/-- What a grid point writes back is that array's block. -/
theorem flushed_eq (t : Fin cfg0.N) :
    (dats m 0 c).flushed 3 t = ((cfg0.win 3).blk t).view.read (Elt Ideal) (all m c) := by
  rw [flushed3]
  funext j
  obtain ⟨z, r, e, rfl⟩ : ∃ z r e, j = (ix3 z r e : S1x40x1536.Idx) := ⟨j 0, j 1, j 2, by funext a; match a with | ⟨0, _⟩ => rfl | ⟨1, _⟩ => rfl | ⟨2, _⟩ => rfl⟩
  obtain rfl : z = 0 := Subsingleton.elim _ _
  show out0_3 (iblk m c 0 t) (iblk m c 1 t) (iblk m c 2 t) (ix3 0 r e) = all m c (((cfg0.win 3).blk t).view.emb (ix3 0 r e : S1x40x1536.Idx))
  rw [emb3]
  exact block_apply m c t r e

/-- Every element of the array is in some point's block. -/
theorem covered (i : S4x40x3072.Idx) :
    ∃ t : Fin cfg0.N, (cfg0.win 3).flush t = true ∧ i ∈ ((cfg0.win 3).blk t).view.set := by
  have h0 : (i 0).val < 4 := (i 0).isLt
  have h2 : (i 2).val < 3072 := (i 2).isLt
  let t : Fin cfg0.N := ⟨(i 0).val * 2 + (i 2).val / 1536, by rw [show cfg0.N = 8 from N_0]; omega⟩
  refine ⟨t, flush0_3 t, ?_⟩
  have e : (ix3 (pairOf t) (i 1) (col t ⟨(i 2).val % 1536, Nat.mod_lt _ (by decide)⟩) : S4x40x3072.Idx) = i := by
    funext a; apply Fin.ext
    match a with
    | ⟨0, _⟩ => show ((i 0).val * 2 + (i 2).val / 1536) / 2 = (i 0).val; omega
    | ⟨1, _⟩ => rfl
    | ⟨2, _⟩ => show ((i 0).val * 2 + (i 2).val / 1536) % 2 * 1536 + (i 2).val % 1536 = (i 2).val; omega
  exact (congrArg (· ∈ ((cfg0.win 3).blk t).view.set) ((emb3 t (i 1) ⟨(i 2).val % 1536, Nat.mod_lt _ (by decide)⟩).trans e)).mp
    (((cfg0.win 3).blk t).view.emb_mem_set _)

/-- The output array after the pipelined region. -/
theorem final : (dats m 0 c).arrAt 3 cfg0.N = all m c :=
  (dats m 0 c).arrAt_eq_of_cover 3 (all m c) (fun t _ => flushed_eq m c t) covered

/-- The array the region leaves, as the host code after it finds it. -/
theorem exit_v4 : Pipeline.withArrays (Val := Elt Ideal) (cfgs 0).spec c (V0 m c) (fun w => (dats m 0 c).arrAt w (cfgs 0).N) (Proc.devRef .tc main_v4) = all m c :=
  (Pipeline.withArrays_arr (cfgs 0).spec (by decide) c (V0 m c) (fun w => (dats m 0 c).arrAt w (cfgs 0).N) 3).trans (final m c)

/-- The prompt's modulation after the run. -/
def promptMod : S4x2x3072.Idx → EReal := fun i => entry m c (fun k => (m ((c : Thread nD τ).loc main_arg0) : S2x1024.Idx → EReal) (ix2 (i 1) k)) (i 0) (i 2)

/-- The sample's modulation after the run. -/
def sampleMod : S4x32x3072.Idx → EReal := fun i => entry m c (fun k => (m ((c : Thread nD τ).loc main_arg1) : S32x1024.Idx → EReal) (ix2 (i 1) k)) (i 0) (i 2)

theorem prompt_final : Pipeline.afterTail₀ cfgs (dats m) 0 (V0 m) [hostOps1] c main_v5 = promptMod m c := by
  have h : Pipeline.afterTail₀ cfgs (dats m) 0 (V0 m) [hostOps1] c main_v5 = extractStridedSlice S4x2x3072 ![0, 0, 0] (all m c) slices_S4x40x3072_S4x2x3072_0_0_0 := by
    rw [← exit_v4 m c]
    rfl
  rw [h]
  funext i
  obtain ⟨l, r, e, rfl⟩ : ∃ l r e, i = (ix3 l r e : S4x2x3072.Idx) := ⟨i 0, i 1, i 2, by funext a; match a with | ⟨0, _⟩ => rfl | ⟨1, _⟩ => rfl | ⟨2, _⟩ => rfl⟩
  have hs : extractStridedSlice S4x2x3072 ![0, 0, 0] (all m c) slices_S4x40x3072_S4x2x3072_0_0_0 (ix3 l r e) = all m c (ix3 l ⟨r.val, by omega⟩ e) := by
    generalize all m c = v
    pointwise
  rw [hs, all_apply]
  exact congrArg (fun x => entry m c x l e) (funext fun k => prompt_row m c r k)

theorem sample_final : Pipeline.afterTail₀ cfgs (dats m) 0 (V0 m) [hostOps1] c main_v6 = sampleMod m c := by
  have h : Pipeline.afterTail₀ cfgs (dats m) 0 (V0 m) [hostOps1] c main_v6 = extractStridedSlice S4x32x3072 ![0, 2, 0] (all m c) slices_S4x40x3072_S4x32x3072_0_2_0 := by
    rw [← exit_v4 m c]
    rfl
  rw [h]
  funext i
  obtain ⟨l, r, e, rfl⟩ : ∃ l r e, i = (ix3 l r e : S4x32x3072.Idx) := ⟨i 0, i 1, i 2, by funext a; match a with | ⟨0, _⟩ => rfl | ⟨1, _⟩ => rfl | ⟨2, _⟩ => rfl⟩
  have hs : extractStridedSlice S4x32x3072 ![0, 2, 0] (all m c) slices_S4x40x3072_S4x32x3072_0_2_0 (ix3 l r e) = all m c (ix3 l ⟨2 + r.val, by omega⟩ e) := by
    generalize all m c = v
    pointwise
  rw [hs, all_apply]
  exact congrArg (fun x => entry m c x l e) (funext fun k => sample_row m c r k)

end Cert.ModArray

end
-- ==== Proof.ModRefRow.lean ====
/-
  The reference's modulation read at an index.
-/
module

public import proofs.«01_k».proof.Proof.ModRow
public import proofs.«01_k».proof.Proof.Gen.ModReferenceIdeal.Run

@[expose] public section

set_option maxRecDepth 16384

noncomputable section

namespace Cert.ModRefRow

open Idealize.ShloMosaic Cert.ModReferenceIdeal Cert.ModReferenceIdeal.Gen Cert.ModRow Finset

/-- The layer of a pair. -/
def lay (l : Fin 4) : Fin 2 := ⟨l.val / 2, by omega⟩

/-- The sub-layer of a pair. -/
def sub (l : Fin 4) : Fin 2 := ⟨l.val % 2, by omega⟩

/-- The weights of layer 0, sub-layer 0. -/
def weights00 (w : FVec Ideal S2x2x1024x3072 .f32) : FVec Ideal S1024x3072 .f32 :=
  shapeCast _ (extractStridedSlice S1x1x1024x3072 ![0, 0, 0, 0] w slices_S2x2x1024x3072_S1x1x1024x3072_0_0_0_0) shapeCasts_S1x1x1024x3072_S1024x3072

theorem weights00_apply (w : FVec Ideal S2x2x1024x3072 .f32) (k : Fin 1024) (e : Fin 3072) : weights00 w (ix2 k e) = w (ix4 0 0 k e) := by
  unfold weights00
  pointwise

/-- The bias of layer 0, sub-layer 0. -/
def bias00 (b : FVec Ideal S2x2x3072 .f32) : FVec Ideal S3072 .f32 :=
  shapeCast _ (extractStridedSlice S1x1x3072 ![0, 0, 0] b slices_S2x2x3072_S1x1x3072_0_0_0) shapeCasts_S1x1x3072_S3072

theorem bias00_apply (b : FVec Ideal S2x2x3072 .f32) (e : Fin 3072) : bias00 b (ix1 e) = b (ix3 0 0 e) := by
  unfold bias00
  pointwise

/-- The weights of layer 0, sub-layer 1. -/
def weights01 (w : FVec Ideal S2x2x1024x3072 .f32) : FVec Ideal S1024x3072 .f32 :=
  shapeCast _ (extractStridedSlice S1x1x1024x3072 ![0, 1, 0, 0] w slices_S2x2x1024x3072_S1x1x1024x3072_0_1_0_0) shapeCasts_S1x1x1024x3072_S1024x3072

theorem weights01_apply (w : FVec Ideal S2x2x1024x3072 .f32) (k : Fin 1024) (e : Fin 3072) : weights01 w (ix2 k e) = w (ix4 0 1 k e) := by
  unfold weights01
  pointwise

/-- The bias of layer 0, sub-layer 1. -/
def bias01 (b : FVec Ideal S2x2x3072 .f32) : FVec Ideal S3072 .f32 :=
  shapeCast _ (extractStridedSlice S1x1x3072 ![0, 1, 0] b slices_S2x2x3072_S1x1x3072_0_1_0) shapeCasts_S1x1x3072_S3072

theorem bias01_apply (b : FVec Ideal S2x2x3072 .f32) (e : Fin 3072) : bias01 b (ix1 e) = b (ix3 0 1 e) := by
  unfold bias01
  pointwise

/-- The weights of layer 1, sub-layer 0. -/
def weights10 (w : FVec Ideal S2x2x1024x3072 .f32) : FVec Ideal S1024x3072 .f32 :=
  shapeCast _ (extractStridedSlice S1x1x1024x3072 ![1, 0, 0, 0] w slices_S2x2x1024x3072_S1x1x1024x3072_1_0_0_0) shapeCasts_S1x1x1024x3072_S1024x3072

theorem weights10_apply (w : FVec Ideal S2x2x1024x3072 .f32) (k : Fin 1024) (e : Fin 3072) : weights10 w (ix2 k e) = w (ix4 1 0 k e) := by
  unfold weights10
  pointwise

/-- The bias of layer 1, sub-layer 0. -/
def bias10 (b : FVec Ideal S2x2x3072 .f32) : FVec Ideal S3072 .f32 :=
  shapeCast _ (extractStridedSlice S1x1x3072 ![1, 0, 0] b slices_S2x2x3072_S1x1x3072_1_0_0) shapeCasts_S1x1x3072_S3072

theorem bias10_apply (b : FVec Ideal S2x2x3072 .f32) (e : Fin 3072) : bias10 b (ix1 e) = b (ix3 1 0 e) := by
  unfold bias10
  pointwise

/-- The weights of layer 1, sub-layer 1. -/
def weights11 (w : FVec Ideal S2x2x1024x3072 .f32) : FVec Ideal S1024x3072 .f32 :=
  shapeCast _ (extractStridedSlice S1x1x1024x3072 ![1, 1, 0, 0] w slices_S2x2x1024x3072_S1x1x1024x3072_1_1_0_0) shapeCasts_S1x1x1024x3072_S1024x3072

theorem weights11_apply (w : FVec Ideal S2x2x1024x3072 .f32) (k : Fin 1024) (e : Fin 3072) : weights11 w (ix2 k e) = w (ix4 1 1 k e) := by
  unfold weights11
  pointwise

/-- The bias of layer 1, sub-layer 1. -/
def bias11 (b : FVec Ideal S2x2x3072 .f32) : FVec Ideal S3072 .f32 :=
  shapeCast _ (extractStridedSlice S1x1x3072 ![1, 1, 0] b slices_S2x2x3072_S1x1x3072_1_1_0) shapeCasts_S1x1x3072_S3072

theorem bias11_apply (b : FVec Ideal S2x2x3072 .f32) (e : Fin 3072) : bias11 b (ix1 e) = b (ix3 1 1 e) := by
  unfold bias11
  pointwise

/-- One pair's modulation of the prompt conditioning rows. -/
def promptR (x : FVec Ideal S2x1024 .f32) (w : FVec Ideal S1024x3072 .f32) (b : FVec Ideal S3072 .f32) : FVec Ideal S1x2x3072 .f32 :=
  broadcastInDim S1x2x3072 ![1, 2] bcast_S2x3072_S1x2x3072_1_2
    (addf (Host.dotGeneral dot_S2x1024_S1024x3072_S2x3072_1_0_0_1_n_n none
        (mulf x (Host.divf (broadcastInDim S2x1024 ![] bcast_S_S2x1024 (constant S_ .f32 0x3F800000#32))
          (addf (broadcastInDim S2x1024 ![] bcast_S_S2x1024 (constant S_ .f32 0x3F800000#32)) (Host.exp (Host.negf x))))) w)
      (broadcastInDim S2x3072 ![0, 1] bcast_S1x3072_S2x3072_0_1 (broadcastInDim S1x3072 ![1] bcast_S3072_S1x3072_1 b)))

theorem promptR_apply (x : FVec Ideal S2x1024 .f32) (w : FVec Ideal S1024x3072 .f32) (b : FVec Ideal S3072 .f32) (r : Fin 2) (e : Fin 3072) :
    promptR x w b (ix3 0 r e) = modded (fun k => x (ix2 r k)) (fun k => w (ix2 k e)) (b (ix1 e)) := by
  unfold promptR modded Ideal.logistic
  pointwise

/-- The prompt modulation, the four pairs stacked. -/
def promptStack (x : FVec Ideal S2x1024 .f32) (w : FVec Ideal S2x2x1024x3072 .f32) (b : FVec Ideal S2x2x3072 .f32) : FVec Ideal S4x2x3072 .f32 :=
  concatenate S4x2x3072 0 [⟨S1x2x3072, promptR x (weights00 w) (bias00 b)⟩, ⟨S1x2x3072, promptR x (weights01 w) (bias01 b)⟩,
    ⟨S1x2x3072, promptR x (weights10 w) (bias10 b)⟩, ⟨S1x2x3072, promptR x (weights11 w) (bias11 b)⟩]
    concatenates_S1x2x3072_S1x2x3072_S1x2x3072_S1x2x3072_S4x2x3072_d0

theorem promptStack_pick (p0 p1 p2 p3 : FVec Ideal S1x2x3072 .f32) (l : Fin 4) (r : Fin 2) (e : Fin 3072) :
    concatenate S4x2x3072 0 [⟨S1x2x3072, p0⟩, ⟨S1x2x3072, p1⟩, ⟨S1x2x3072, p2⟩, ⟨S1x2x3072, p3⟩]
        concatenates_S1x2x3072_S1x2x3072_S1x2x3072_S1x2x3072_S4x2x3072_d0 (ix3 l r e)
      = (match l with | 0 => p0 | 1 => p1 | 2 => p2 | 3 => p3) (ix3 0 r e) := by
  match l with
  | 0 => pointwise
  | 1 => pointwise
  | 2 => pointwise
  | 3 => pointwise

theorem promptStack_apply (x : FVec Ideal S2x1024 .f32) (w : FVec Ideal S2x2x1024x3072 .f32) (b : FVec Ideal S2x2x3072 .f32) (l : Fin 4) (r : Fin 2) (e : Fin 3072) :
    promptStack x w b (ix3 l r e) = modded (fun k => x (ix2 r k)) (fun k => w (ix4 (lay l) (sub l) k e)) (b (ix3 (lay l) (sub l) e)) := by
  unfold promptStack
  rw [promptStack_pick]
  match l with
  | 0 => exact (promptR_apply _ _ _ r e).trans (congrArg₂ (modded _) (funext fun k => weights00_apply w k e) (bias00_apply b e))
  | 1 => exact (promptR_apply _ _ _ r e).trans (congrArg₂ (modded _) (funext fun k => weights01_apply w k e) (bias01_apply b e))
  | 2 => exact (promptR_apply _ _ _ r e).trans (congrArg₂ (modded _) (funext fun k => weights10_apply w k e) (bias10_apply b e))
  | 3 => exact (promptR_apply _ _ _ r e).trans (congrArg₂ (modded _) (funext fun k => weights11_apply w k e) (bias11_apply b e))

/-- One pair's modulation of the sample conditioning rows. -/
def sampleR (x : FVec Ideal S32x1024 .f32) (w : FVec Ideal S1024x3072 .f32) (b : FVec Ideal S3072 .f32) : FVec Ideal S1x32x3072 .f32 :=
  broadcastInDim S1x32x3072 ![1, 2] bcast_S32x3072_S1x32x3072_1_2
    (addf (Host.dotGeneral dot_S32x1024_S1024x3072_S32x3072_1_0_0_1_n_n none
        (mulf x (Host.divf (broadcastInDim S32x1024 ![] bcast_S_S32x1024 (constant S_ .f32 0x3F800000#32))
          (addf (broadcastInDim S32x1024 ![] bcast_S_S32x1024 (constant S_ .f32 0x3F800000#32)) (Host.exp (Host.negf x))))) w)
      (broadcastInDim S32x3072 ![0, 1] bcast_S1x3072_S32x3072_0_1 (broadcastInDim S1x3072 ![1] bcast_S3072_S1x3072_1 b)))

theorem sampleR_apply (x : FVec Ideal S32x1024 .f32) (w : FVec Ideal S1024x3072 .f32) (b : FVec Ideal S3072 .f32) (r : Fin 32) (e : Fin 3072) :
    sampleR x w b (ix3 0 r e) = modded (fun k => x (ix2 r k)) (fun k => w (ix2 k e)) (b (ix1 e)) := by
  unfold sampleR modded Ideal.logistic
  pointwise

/-- The sample modulation, the four pairs stacked. -/
def sampleStack (x : FVec Ideal S32x1024 .f32) (w : FVec Ideal S2x2x1024x3072 .f32) (b : FVec Ideal S2x2x3072 .f32) : FVec Ideal S4x32x3072 .f32 :=
  concatenate S4x32x3072 0 [⟨S1x32x3072, sampleR x (weights00 w) (bias00 b)⟩, ⟨S1x32x3072, sampleR x (weights01 w) (bias01 b)⟩,
    ⟨S1x32x3072, sampleR x (weights10 w) (bias10 b)⟩, ⟨S1x32x3072, sampleR x (weights11 w) (bias11 b)⟩]
    concatenates_S1x32x3072_S1x32x3072_S1x32x3072_S1x32x3072_S4x32x3072_d0

theorem sampleStack_pick (p0 p1 p2 p3 : FVec Ideal S1x32x3072 .f32) (l : Fin 4) (r : Fin 32) (e : Fin 3072) :
    concatenate S4x32x3072 0 [⟨S1x32x3072, p0⟩, ⟨S1x32x3072, p1⟩, ⟨S1x32x3072, p2⟩, ⟨S1x32x3072, p3⟩]
        concatenates_S1x32x3072_S1x32x3072_S1x32x3072_S1x32x3072_S4x32x3072_d0 (ix3 l r e)
      = (match l with | 0 => p0 | 1 => p1 | 2 => p2 | 3 => p3) (ix3 0 r e) := by
  match l with
  | 0 => pointwise
  | 1 => pointwise
  | 2 => pointwise
  | 3 => pointwise

theorem sampleStack_apply (x : FVec Ideal S32x1024 .f32) (w : FVec Ideal S2x2x1024x3072 .f32) (b : FVec Ideal S2x2x3072 .f32) (l : Fin 4) (r : Fin 32) (e : Fin 3072) :
    sampleStack x w b (ix3 l r e) = modded (fun k => x (ix2 r k)) (fun k => w (ix4 (lay l) (sub l) k e)) (b (ix3 (lay l) (sub l) e)) := by
  unfold sampleStack
  rw [sampleStack_pick]
  match l with
  | 0 => exact (sampleR_apply _ _ _ r e).trans (congrArg₂ (modded _) (funext fun k => weights00_apply w k e) (bias00_apply b e))
  | 1 => exact (sampleR_apply _ _ _ r e).trans (congrArg₂ (modded _) (funext fun k => weights01_apply w k e) (bias01_apply b e))
  | 2 => exact (sampleR_apply _ _ _ r e).trans (congrArg₂ (modded _) (funext fun k => weights10_apply w k e) (bias10_apply b e))
  | 3 => exact (sampleR_apply _ _ _ r e).trans (congrArg₂ (modded _) (funext fun k => weights11_apply w k e) (bias11_apply b e))

end Cert.ModRefRow

end
-- ==== Proof.ModAgree.lean ====
/-
  The modulation: every run of the kernel and every run of the reference leave the same two results.
-/
module

public import proofs.«01_k».proof.Defs
public import proofs.«01_k».proof.Proof.ModArray
public import proofs.«01_k».proof.Proof.ModRefRow

@[expose] public section

set_option maxRecDepth 16384

noncomputable section

namespace Cert.ModAgree

open Idealize.ShloMosaic Idealize.SL.Sem

/-- The reference's prompt modulation over the same arguments is the kernel's. -/
theorem prompt_eq (m : (ℓ : Loc Cert.ModIdeal.nD Cert.ModIdeal.τ Cert.ModIdeal.sig) → Buf (Elt Ideal) ℓ) (m' : (ℓ : Loc Cert.ModReferenceIdeal.nD Cert.ModReferenceIdeal.τ Cert.ModReferenceIdeal.sig) → Buf (Elt Ideal) ℓ) (c : Dev Cert.ModIdeal.nD)
    (h : m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) :
    ModRefRow.promptStack (m' ((c.tc : Thread Cert.ModReferenceIdeal.nD Cert.ModReferenceIdeal.τ).loc Cert.ModReferenceIdeal.main_arg0)) (m' ((c.tc : Thread Cert.ModReferenceIdeal.nD Cert.ModReferenceIdeal.τ).loc Cert.ModReferenceIdeal.main_arg2)) (m' ((c.tc : Thread Cert.ModReferenceIdeal.nD Cert.ModReferenceIdeal.τ).loc Cert.ModReferenceIdeal.main_arg3)) = Cert.ModArray.promptMod m c := by
  obtain ⟨h0, h1, h2, h3⟩ := h
  rw [h0, h2, h3]
  funext i
  obtain ⟨l, r, e, rfl⟩ : ∃ l r e, i = (ix3 l r e : Cert.ModIdeal.S4x2x3072.Idx) :=
    ⟨i 0, i 1, i 2, by funext a; match a with | ⟨0, _⟩ => rfl | ⟨1, _⟩ => rfl | ⟨2, _⟩ => rfl⟩
  exact ModRefRow.promptStack_apply _ _ _ l r e

/-- The reference's sample modulation over the same arguments is the kernel's. -/
theorem sample_eq (m : (ℓ : Loc Cert.ModIdeal.nD Cert.ModIdeal.τ Cert.ModIdeal.sig) → Buf (Elt Ideal) ℓ) (m' : (ℓ : Loc Cert.ModReferenceIdeal.nD Cert.ModReferenceIdeal.τ Cert.ModReferenceIdeal.sig) → Buf (Elt Ideal) ℓ) (c : Dev Cert.ModIdeal.nD)
    (h : m' ((c.tc : Thread Cert.ModReferenceIdeal.nD Cert.ModReferenceIdeal.τ).loc Cert.ModReferenceIdeal.main_arg0) = m ((c.tc : Thread Cert.ModIdeal.nD Cert.ModIdeal.τ).loc Cert.ModIdeal.main_arg0)
      ∧ m' ((c.tc : Thread Cert.ModReferenceIdeal.nD Cert.ModReferenceIdeal.τ).loc Cert.ModReferenceIdeal.main_arg1) = m ((c.tc : Thread Cert.ModIdeal.nD Cert.ModIdeal.τ).loc Cert.ModIdeal.main_arg1)
      ∧ m' ((c.tc : Thread Cert.ModReferenceIdeal.nD Cert.ModReferenceIdeal.τ).loc Cert.ModReferenceIdeal.main_arg2) = m ((c.tc : Thread Cert.ModIdeal.nD Cert.ModIdeal.τ).loc Cert.ModIdeal.main_arg2)
      ∧ m' ((c.tc : Thread Cert.ModReferenceIdeal.nD Cert.ModReferenceIdeal.τ).loc Cert.ModReferenceIdeal.main_arg3) = m ((c.tc : Thread Cert.ModIdeal.nD Cert.ModIdeal.τ).loc Cert.ModIdeal.main_arg3)) :
    ModRefRow.sampleStack (m' ((c.tc : Thread Cert.ModReferenceIdeal.nD Cert.ModReferenceIdeal.τ).loc Cert.ModReferenceIdeal.main_arg1)) (m' ((c.tc : Thread Cert.ModReferenceIdeal.nD Cert.ModReferenceIdeal.τ).loc Cert.ModReferenceIdeal.main_arg2)) (m' ((c.tc : Thread Cert.ModReferenceIdeal.nD Cert.ModReferenceIdeal.τ).loc Cert.ModReferenceIdeal.main_arg3)) = Cert.ModArray.sampleMod m c := by
  obtain ⟨h0, h1, h2, h3⟩ := h
  rw [h1, h2, h3]
  funext i
  obtain ⟨l, r, e, rfl⟩ : ∃ l r e, i = (ix3 l r e : Cert.ModIdeal.S4x32x3072.Idx) :=
    ⟨i 0, i 1, i 2, by funext a; match a with | ⟨0, _⟩ => rfl | ⟨1, _⟩ => rfl | ⟨2, _⟩ => rfl⟩
  exact ModRefRow.sampleStack_apply _ _ _ l r e

/-- Every run of the kernel ends with the two results and its arguments unchanged. -/
theorem run (m : (ℓ : Loc Cert.ModIdeal.nD Cert.ModIdeal.τ Cert.ModIdeal.sig) → Buf (Elt Ideal) ℓ) (g : Dev Cert.ModIdeal.nD → PrngReg) :
    θ_run (Cert.ModIdeal.defs (F := Ideal)) (onTc (τ := Cert.ModIdeal.τ) (Cert.ModIdeal.main (F := Ideal))) ⟨m, fun _ => 0, g⟩ (fun r => ∀ c : Dev Cert.ModIdeal.nD,
      r.2.mem ((c.tc : Thread Cert.ModIdeal.nD Cert.ModIdeal.τ).loc Cert.ModIdeal.main_v5) = Cert.ModArray.promptMod m c
      ∧ r.2.mem ((c.tc : Thread Cert.ModIdeal.nD Cert.ModIdeal.τ).loc Cert.ModIdeal.main_v6) = Cert.ModArray.sampleMod m c
      ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3)) :=
  (θ_run _ _ _).mono (fun _ h c =>
    ⟨((h c).2 Cert.ModIdeal.main_v5 (Pipeline.mem_restRefs_of Cert.ModIdeal.main_v5 (by decide) (by decide))).trans (Cert.ModArray.prompt_final m c),
      ((h c).2 Cert.ModIdeal.main_v6 (Pipeline.mem_restRefs_of Cert.ModIdeal.main_v6 (by decide) (by decide))).trans (Cert.ModArray.sample_final m c),
      ((h c).2 Cert.ModIdeal.main_arg0 (Pipeline.mem_restRefs_of Cert.ModIdeal.main_arg0 (by decide) (by decide))).trans (Cert.ModIdeal.Gen.W_main_arg0 m (Cert.ModIdeal.Gen.dats m) c),
      ((h c).2 Cert.ModIdeal.main_arg1 (Pipeline.mem_restRefs_of Cert.ModIdeal.main_arg1 (by decide) (by decide))).trans (Cert.ModIdeal.Gen.W_main_arg1 m (Cert.ModIdeal.Gen.dats m) c),
      ((h c).2 Cert.ModIdeal.main_arg2 (Pipeline.mem_restRefs_of Cert.ModIdeal.main_arg2 (by decide) (by decide))).trans (Cert.ModIdeal.Gen.W_main_arg2 m (Cert.ModIdeal.Gen.dats m) c),
      ((h c).2 Cert.ModIdeal.main_arg3 (Pipeline.mem_restRefs_of Cert.ModIdeal.main_arg3 (by decide) (by decide))).trans (Cert.ModIdeal.Gen.W_main_arg3 m (Cert.ModIdeal.Gen.dats m) c)⟩)
    (Cert.ModIdeal.Gen.run_main (F := Ideal) m g)

/-- Every run of the kernel and every run of the reference leave the same results. -/
theorem algebraic : Cert.algebraic_ModIdeal_ModReferenceIdeal := fun m g m' g' _ hag =>
  ⟨fun c => Cert.ModArray.promptMod m c, fun c => Cert.ModArray.sampleMod m c, run m g,
    (θ_run _ _ _).mono (fun _ h c => ⟨(h c).1.trans (prompt_eq m m' c (hag c)), (h c).2.1.trans (sample_eq m m' c (hag c)), (h c).2.2⟩) (Cert.ModReferenceIdeal.Value.run m' g')⟩

end Cert.ModAgree

end
-- ==== Proof.lean ====
/-
  The claims: the feed-forward, projection and pool calls and their references run and leave their arguments, and each call's result is
  its reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FirstKernel
public import proofs.«01_k».proof.Proof.Gen.FirstKernel.Skeleton
public import proofs.«01_k».proof.Proof.Gen.FirstKernel.Launch
public import proofs.«01_k».proof.Proof.Gen.FirstKernel.Points
public import proofs.«01_k».proof.Proof.Gen.FirstKernel.Frame
public import proofs.«01_k».proof.Proof.Gen.FirstKernelIdeal
public import proofs.«01_k».proof.Proof.Gen.FirstKernelIdeal.Skeleton
public import proofs.«01_k».proof.Proof.Gen.FirstKernelIdeal.Launch
public import proofs.«01_k».proof.Proof.Gen.FirstKernelIdeal.Points
public import proofs.«01_k».proof.Proof.Gen.FirstKernelIdeal.Frame
public import proofs.«01_k».proof.Proof.Gen.FirstKernelIdeal.Value
public import proofs.«01_k».proof.Proof.Gen.FirstReferenceIdeal
public import proofs.«01_k».proof.Proof.Gen.FirstReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.ProjectReferenceIdeal
public import proofs.«01_k».proof.Proof.Gen.ProjectReferenceIdeal.Run
public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.SampleIdeal.Value
public import proofs.«01_k».proof.Proof.Gen.SampleReferenceIdeal
public import proofs.«01_k».proof.Proof.Gen.SampleReferenceIdeal.Run
public import proofs.«01_k».proof.Proof.Gen.SampleFirst
public import proofs.«01_k».proof.Proof.Gen.SampleFirst.Skeleton
public import proofs.«01_k».proof.Proof.Gen.SampleFirst.Launch
public import proofs.«01_k».proof.Proof.Gen.SampleFirst.Points
public import proofs.«01_k».proof.Proof.Gen.SampleFirst.Frame
public import proofs.«01_k».proof.Proof.Gen.SampleFirstIdeal
public import proofs.«01_k».proof.Proof.Gen.SampleFirstIdeal.Skeleton
public import proofs.«01_k».proof.Proof.Gen.SampleFirstIdeal.Launch
public import proofs.«01_k».proof.Proof.Gen.SampleFirstIdeal.Points
public import proofs.«01_k».proof.Proof.Gen.SampleFirstIdeal.Frame
public import proofs.«01_k».proof.Proof.Gen.SampleFirstIdeal.Value
public import proofs.«01_k».proof.Proof.Gen.SampleFirstReferenceIdeal
public import proofs.«01_k».proof.Proof.Gen.SampleFirstReferenceIdeal.Run
public import proofs.«01_k».proof.Proof.Gen.SampleProject
public import proofs.«01_k».proof.Proof.Gen.SampleProject.Skeleton
public import proofs.«01_k».proof.Proof.Gen.SampleProject.Launch
public import proofs.«01_k».proof.Proof.Gen.SampleProject.Points
public import proofs.«01_k».proof.Proof.Gen.SampleProject.Frame
public import proofs.«01_k».proof.Proof.Gen.SampleProjectIdeal
public import proofs.«01_k».proof.Proof.Gen.SampleProjectIdeal.Skeleton
public import proofs.«01_k».proof.Proof.Gen.SampleProjectIdeal.Launch
public import proofs.«01_k».proof.Proof.Gen.SampleProjectIdeal.Points
public import proofs.«01_k».proof.Proof.Gen.SampleProjectIdeal.Frame
public import proofs.«01_k».proof.Proof.Gen.SampleProjectIdeal.Value
public import proofs.«01_k».proof.Proof.Gen.SampleProjectReferenceIdeal
public import proofs.«01_k».proof.Proof.Gen.SampleProjectReferenceIdeal.Run
public import proofs.«01_k».proof.Proof.Gen.SamplePool
public import proofs.«01_k».proof.Proof.Gen.SamplePool.Skeleton
public import proofs.«01_k».proof.Proof.Gen.SamplePool.Launch
public import proofs.«01_k».proof.Proof.Gen.SamplePool.Points
public import proofs.«01_k».proof.Proof.Gen.SamplePool.Frame
public import proofs.«01_k».proof.Proof.Gen.SamplePoolIdeal
public import proofs.«01_k».proof.Proof.Gen.SamplePoolIdeal.Skeleton
public import proofs.«01_k».proof.Proof.Gen.SamplePoolIdeal.Launch
public import proofs.«01_k».proof.Proof.Gen.SamplePoolIdeal.Points
public import proofs.«01_k».proof.Proof.Gen.SamplePoolIdeal.Frame
public import proofs.«01_k».proof.Proof.Gen.SamplePoolIdeal.Value
public import proofs.«01_k».proof.Proof.Gen.SamplePoolReferenceIdeal
public import proofs.«01_k».proof.Proof.Gen.SamplePoolReferenceIdeal.Run
public import proofs.«01_k».proof.Proof.Gen.Pool
public import proofs.«01_k».proof.Proof.Gen.Pool.Skeleton
public import proofs.«01_k».proof.Proof.Gen.Pool.Launch
public import proofs.«01_k».proof.Proof.Gen.Pool.Points
public import proofs.«01_k».proof.Proof.Gen.PoolIdeal
public import proofs.«01_k».proof.Proof.Gen.PoolIdeal.Skeleton
public import proofs.«01_k».proof.Proof.Gen.PoolIdeal.Launch
public import proofs.«01_k».proof.Proof.Gen.PoolIdeal.Points
public import proofs.«01_k».proof.Proof.Gen.PoolReferenceIdeal
public import proofs.«01_k».proof.Proof.Gen.PoolReferenceIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModReferenceIdeal
public import proofs.«01_k».proof.Proof.Gen.ModReferenceIdeal.Run
public import proofs.«01_k».proof.Proof.Agree
public import proofs.«01_k».proof.Proof.ProjectAgree
public import proofs.«01_k».proof.Proof.SampleAgree
public import proofs.«01_k».proof.Proof.SampleProjectAgree
public import proofs.«01_k».proof.Proof.SamplePoolAgree
public import proofs.«01_k».proof.Proof.PoolAgree
public import Idealize.ShloMosaic.Adequacy
public import proofs.«01_k».proof.Proof.ModAgree
public import Idealize.ShloMosaic.Init

@[expose] public section

noncomputable section

namespace Cert.Proof

open Idealize.ShloMosaic Idealize.SL.Sem Cert.Kernel

theorem frame_reference : Cert.quiescent_ReferenceIdeal := fun m ρ _ =>
  (θ_run _ _ _).mono (fun _ h => ⟨fun c => (h c).2, funext fun x => nomatch x⟩) (Cert.ReferenceIdeal.Value.run m ρ)

theorem frame_first_reference : Cert.quiescent_FirstReferenceIdeal := fun m ρ _ =>
  (θ_run _ _ _).mono (fun _ h => ⟨fun c => (h c).2, funext fun x => nomatch x⟩) (Cert.FirstReferenceIdeal.Value.run m ρ)

theorem frame_project_reference : Cert.quiescent_ProjectReferenceIdeal := fun m ρ _ =>
  (θ_run _ _ _).mono (fun _ h => ⟨fun c => (h c).2.2.2.2.2.2, funext fun x => nomatch x⟩) (Cert.ProjectReferenceIdeal.Value.run m ρ)

theorem frame_sample_reference : Cert.quiescent_SampleReferenceIdeal := fun m ρ _ =>
  (θ_run _ _ _).mono (fun _ h => ⟨fun c => (h c).2, funext fun x => nomatch x⟩) (Cert.SampleReferenceIdeal.Value.run m ρ)

theorem frame_sample_first_reference : Cert.quiescent_SampleFirstReferenceIdeal := fun m ρ _ =>
  (θ_run _ _ _).mono (fun _ h => ⟨fun c => (h c).2, funext fun x => nomatch x⟩) (Cert.SampleFirstReferenceIdeal.Value.run m ρ)

theorem frame_sample_project_reference : Cert.quiescent_SampleProjectReferenceIdeal := fun m ρ _ =>
  (θ_run _ _ _).mono (fun _ h => ⟨fun c => (h c).2.2.2.2.2.2, funext fun x => nomatch x⟩) (Cert.SampleProjectReferenceIdeal.Value.run m ρ)

theorem frame_sample_pool_reference : Cert.quiescent_SamplePoolReferenceIdeal := fun m ρ _ =>
  (θ_run _ _ _).mono (fun _ h => ⟨fun c => (h c).2, funext fun x => nomatch x⟩) (Cert.SamplePoolReferenceIdeal.Value.run m ρ)

theorem frame_pool_reference : Cert.quiescent_PoolReferenceIdeal := fun m ρ _ =>
  (θ_run _ _ _).mono (fun _ h => ⟨fun c => (h c).2, funext fun x => nomatch x⟩) (Cert.PoolReferenceIdeal.Value.run m ρ)

theorem frame_mod_reference : Cert.quiescent_ModReferenceIdeal := fun m ρ _ =>
  (θ_run _ _ _).mono (fun _ h => ⟨fun c => (h c).2.2, funext fun x => nomatch x⟩) (Cert.ModReferenceIdeal.Value.run m ρ)

theorem claim : Cert.Claim := ⟨Cert.Kernel.Gen.facts, Cert.KernelIdeal.Gen.facts, Cert.ReferenceIdeal.Gen.facts, Cert.FirstKernel.Gen.facts, Cert.FirstKernelIdeal.Gen.facts, Cert.FirstReferenceIdeal.Gen.facts,
  Cert.Project.Gen.facts, Cert.ProjectIdeal.Gen.facts, Cert.ProjectReferenceIdeal.Gen.facts,
  Cert.Sample.Gen.facts, Cert.SampleIdeal.Gen.facts, Cert.SampleReferenceIdeal.Gen.facts,
  Cert.SampleFirst.Gen.facts, Cert.SampleFirstIdeal.Gen.facts, Cert.SampleFirstReferenceIdeal.Gen.facts,
  Cert.SampleProject.Gen.facts, Cert.SampleProjectIdeal.Gen.facts, Cert.SampleProjectReferenceIdeal.Gen.facts,
  Cert.SamplePool.Gen.facts, Cert.SamplePoolIdeal.Gen.facts, Cert.SamplePoolReferenceIdeal.Gen.facts,
  Cert.Pool.Gen.facts, Cert.PoolIdeal.Gen.facts, Cert.PoolReferenceIdeal.Gen.facts,
  Cert.Mod.Gen.facts, Cert.ModIdeal.Gen.facts, Cert.ModReferenceIdeal.Gen.facts,
  fun m ρ _ => Cert.Kernel.Gen.frame m ρ, fun m ρ _ => Cert.KernelIdeal.Gen.frame m ρ, frame_reference,
  fun m ρ _ => Cert.FirstKernel.Gen.frame m ρ, fun m ρ _ => Cert.FirstKernelIdeal.Gen.frame m ρ, frame_first_reference,
  fun m ρ _ => Cert.Project.Gen.frame m ρ, fun m ρ _ => Cert.ProjectIdeal.Gen.frame m ρ, frame_project_reference,
  fun m ρ _ => Cert.Sample.Gen.frame m ρ, fun m ρ _ => Cert.SampleIdeal.Gen.frame m ρ, frame_sample_reference,
  fun m ρ _ => Cert.SampleFirst.Gen.frame m ρ, fun m ρ _ => Cert.SampleFirstIdeal.Gen.frame m ρ, frame_sample_first_reference,
  fun m ρ _ => Cert.SampleProject.Gen.frame m ρ, fun m ρ _ => Cert.SampleProjectIdeal.Gen.frame m ρ, frame_sample_project_reference,
  fun m ρ _ => Cert.SamplePool.Gen.frame m ρ, fun m ρ _ => Cert.SamplePoolIdeal.Gen.frame m ρ, frame_sample_pool_reference,
  Cert.PoolAgree.frame, Cert.PoolAgree.frame_ideal, frame_pool_reference,
  fun m ρ _ => Cert.Mod.Gen.frame m ρ, fun m ρ _ => Cert.ModIdeal.Gen.frame m ρ, frame_mod_reference,
  trivial, Cert.Agree.algebraic, trivial, Cert.Agree.first_algebraic, trivial, Cert.ProjectAgree.algebraic,
  trivial, Cert.SampleAgree.algebraic, trivial, Cert.SampleAgree.first_algebraic, trivial, Cert.SampleProjectAgree.algebraic,
  trivial, Cert.SamplePoolAgree.algebraic, trivial, Cert.PoolAgree.algebraic, trivial, Cert.ModAgree.algebraic⟩

end Cert.Proof

end
